-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DxnSgu (m : (ℓ : Loc Cert.DxnSgu.nD Cert.DxnSgu.τ Cert.DxnSgu.sig) → Buf (Elt Bits) ℓ) : Prop :=
  True

def Pre_DxnSguIdeal (m : (ℓ : Loc Cert.DxnSguIdeal.nD Cert.DxnSguIdeal.τ Cert.DxnSguIdeal.sig) → Buf (Elt Ideal) ℓ) : Prop :=
  True

def Pre_DxnSguRefIdeal (m : (ℓ : Loc Cert.DxnSguRefIdeal.nD Cert.DxnSguRefIdeal.τ Cert.DxnSguRefIdeal.sig) → Buf (Elt Ideal) ℓ) : Prop :=
  True

def Pre_DxnGate (m : (ℓ : Loc Cert.DxnGate.nD Cert.DxnGate.τ Cert.DxnGate.sig) → Buf (Elt Bits) ℓ) : Prop :=
  True

def Pre_DxnGateIdeal (m : (ℓ : Loc Cert.DxnGateIdeal.nD Cert.DxnGateIdeal.τ Cert.DxnGateIdeal.sig) → Buf (Elt Ideal) ℓ) : Prop :=
  True

def Pre_DxnGateRefIdeal (m : (ℓ : Loc Cert.DxnGateRefIdeal.nD Cert.DxnGateRefIdeal.τ Cert.DxnGateRefIdeal.sig) → Buf (Elt Ideal) ℓ) : Prop :=
  True

def Pre_DxnSsd (m : (ℓ : Loc Cert.DxnSsd.nD Cert.DxnSsd.τ Cert.DxnSsd.sig) → Buf (Elt Bits) ℓ) : Prop :=
  True

def Pre_DxnSsdIdeal (m : (ℓ : Loc Cert.DxnSsdIdeal.nD Cert.DxnSsdIdeal.τ Cert.DxnSsdIdeal.sig) → Buf (Elt Ideal) ℓ) : Prop :=
  True

def Pre_DxnSsdRefIdeal (m : (ℓ : Loc Cert.DxnSsdRefIdeal.nD Cert.DxnSsdRefIdeal.τ Cert.DxnSsdRefIdeal.sig) → Buf (Elt Ideal) ℓ) : Prop :=
  True

def Pre_DwSgu (m : (ℓ : Loc Cert.DwSgu.nD Cert.DwSgu.τ Cert.DwSgu.sig) → Buf (Elt Bits) ℓ) : Prop :=
  True

def Pre_DwSguIdeal (m : (ℓ : Loc Cert.DwSguIdeal.nD Cert.DwSguIdeal.τ Cert.DwSguIdeal.sig) → Buf (Elt Ideal) ℓ) : Prop :=
  True

def Pre_DwSguRefIdeal (m : (ℓ : Loc Cert.DwSguRefIdeal.nD Cert.DwSguRefIdeal.τ Cert.DwSguRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwSsd (m : (ℓ : Loc Cert.DwSsd.nD Cert.DwSsd.τ Cert.DwSsd.sig) → Buf (Elt Bits) ℓ) : Prop :=
  True

def Pre_DwSsdIdeal (m : (ℓ : Loc Cert.DwSsdIdeal.nD Cert.DwSsdIdeal.τ Cert.DwSsdIdeal.sig) → Buf (Elt Ideal) ℓ) : Prop :=
  True

def Pre_DwSsdRefIdeal (m : (ℓ : Loc Cert.DwSsdRefIdeal.nD Cert.DwSsdRefIdeal.τ Cert.DwSsdRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DxnSgu [hDxnSgu : Cert.DxnSgu.Facts] : Prop :=
  ∀ (m : (ℓ : Loc Cert.DxnSgu.nD Cert.DxnSgu.τ Cert.DxnSgu.sig) → Buf (Elt Bits) ℓ) (g : Dev Cert.DxnSgu.nD → PrngReg), Pre_DxnSgu m →
    θ_run (Cert.DxnSgu.defs (F := Bits)) (onTc (τ := Cert.DxnSgu.τ) (Cert.DxnSgu.main (F := Bits))) ⟨m, fun _ => 0, g⟩ (fun r => (∀ c : Dev Cert.DxnSgu.nD,
      r.2.mem ((c.tc : Thread Cert.DxnSgu.nD Cert.DxnSgu.τ).loc Cert.DxnSgu.main_arg0) = m ((c.tc : Thread Cert.DxnSgu.nD Cert.DxnSgu.τ).loc Cert.DxnSgu.main_arg0)
      ∧ r.2.mem ((c.tc : Thread Cert.DxnSgu.nD Cert.DxnSgu.τ).loc Cert.DxnSgu.main_arg1) = m ((c.tc : Thread Cert.DxnSgu.nD Cert.DxnSgu.τ).loc Cert.DxnSgu.main_arg1))
      ∧ r.2.sem = fun _ => 0)

def quiescent_DxnSguIdeal [hDxnSguIdeal : Cert.DxnSguIdeal.Facts] : Prop :=
  ∀ (m : (ℓ : Loc Cert.DxnSguIdeal.nD Cert.DxnSguIdeal.τ Cert.DxnSguIdeal.sig) → Buf (Elt Ideal) ℓ) (g : Dev Cert.DxnSguIdeal.nD → PrngReg), Pre_DxnSguIdeal m →
    θ_run (Cert.DxnSguIdeal.defs (F := Ideal)) (onTc (τ := Cert.DxnSguIdeal.τ) (Cert.DxnSguIdeal.main (F := Ideal))) ⟨m, fun _ => 0, g⟩ (fun r => (∀ c : Dev Cert.DxnSguIdeal.nD,
      r.2.mem ((c.tc : Thread Cert.DxnSguIdeal.nD Cert.DxnSguIdeal.τ).loc Cert.DxnSguIdeal.main_arg0) = m ((c.tc : Thread Cert.DxnSguIdeal.nD Cert.DxnSguIdeal.τ).loc Cert.DxnSguIdeal.main_arg0)
      ∧ r.2.mem ((c.tc : Thread Cert.DxnSguIdeal.nD Cert.DxnSguIdeal.τ).loc Cert.DxnSguIdeal.main_arg1) = m ((c.tc : Thread Cert.DxnSguIdeal.nD Cert.DxnSguIdeal.τ).loc Cert.DxnSguIdeal.main_arg1))
      ∧ r.2.sem = fun _ => 0)

def quiescent_DxnSguRefIdeal [hDxnSguRefIdeal : Cert.DxnSguRefIdeal.Facts] : Prop :=
  ∀ (m : (ℓ : Loc Cert.DxnSguRefIdeal.nD Cert.DxnSguRefIdeal.τ Cert.DxnSguRefIdeal.sig) → Buf (Elt Ideal) ℓ) (g : Dev Cert.DxnSguRefIdeal.nD → PrngReg), Pre_DxnSguRefIdeal m →
    θ_run (Cert.DxnSguRefIdeal.defs (F := Ideal)) (onTc (τ := Cert.DxnSguRefIdeal.τ) (Cert.DxnSguRefIdeal.main (F := Ideal))) ⟨m, fun _ => 0, g⟩ (fun r => (∀ c : Dev Cert.DxnSguRefIdeal.nD,
      r.2.mem ((c.tc : Thread Cert.DxnSguRefIdeal.nD Cert.DxnSguRefIdeal.τ).loc Cert.DxnSguRefIdeal.main_arg0) = m ((c.tc : Thread Cert.DxnSguRefIdeal.nD Cert.DxnSguRefIdeal.τ).loc Cert.DxnSguRefIdeal.main_arg0)
      ∧ r.2.mem ((c.tc : Thread Cert.DxnSguRefIdeal.nD Cert.DxnSguRefIdeal.τ).loc Cert.DxnSguRefIdeal.main_arg1) = m ((c.tc : Thread Cert.DxnSguRefIdeal.nD Cert.DxnSguRefIdeal.τ).loc Cert.DxnSguRefIdeal.main_arg1))
      ∧ r.2.sem = fun _ => 0)

def quiescent_DxnGate [hDxnGate : Cert.DxnGate.Facts] : Prop :=
  ∀ (m : (ℓ : Loc Cert.DxnGate.nD Cert.DxnGate.τ Cert.DxnGate.sig) → Buf (Elt Bits) ℓ) (g : Dev Cert.DxnGate.nD → PrngReg), Pre_DxnGate m →
    θ_run (Cert.DxnGate.defs (F := Bits)) (onTc (τ := Cert.DxnGate.τ) (Cert.DxnGate.main (F := Bits))) ⟨m, fun _ => 0, g⟩ (fun r => (∀ c : Dev Cert.DxnGate.nD,
      r.2.mem ((c.tc : Thread Cert.DxnGate.nD Cert.DxnGate.τ).loc Cert.DxnGate.main_arg0) = m ((c.tc : Thread Cert.DxnGate.nD Cert.DxnGate.τ).loc Cert.DxnGate.main_arg0)
      ∧ r.2.mem ((c.tc : Thread Cert.DxnGate.nD Cert.DxnGate.τ).loc Cert.DxnGate.main_arg1) = m ((c.tc : Thread Cert.DxnGate.nD Cert.DxnGate.τ).loc Cert.DxnGate.main_arg1)
      ∧ r.2.mem ((c.tc : Thread Cert.DxnGate.nD Cert.DxnGate.τ).loc Cert.DxnGate.main_arg2) = m ((c.tc : Thread Cert.DxnGate.nD Cert.DxnGate.τ).loc Cert.DxnGate.main_arg2))
      ∧ r.2.sem = fun _ => 0)

def quiescent_DxnGateIdeal [hDxnGateIdeal : Cert.DxnGateIdeal.Facts] : Prop :=
  ∀ (m : (ℓ : Loc Cert.DxnGateIdeal.nD Cert.DxnGateIdeal.τ Cert.DxnGateIdeal.sig) → Buf (Elt Ideal) ℓ) (g : Dev Cert.DxnGateIdeal.nD → PrngReg), Pre_DxnGateIdeal m →
    θ_run (Cert.DxnGateIdeal.defs (F := Ideal)) (onTc (τ := Cert.DxnGateIdeal.τ) (Cert.DxnGateIdeal.main (F := Ideal))) ⟨m, fun _ => 0, g⟩ (fun r => (∀ c : Dev Cert.DxnGateIdeal.nD,
      r.2.mem ((c.tc : Thread Cert.DxnGateIdeal.nD Cert.DxnGateIdeal.τ).loc Cert.DxnGateIdeal.main_arg0) = m ((c.tc : Thread Cert.DxnGateIdeal.nD Cert.DxnGateIdeal.τ).loc Cert.DxnGateIdeal.main_arg0)
      ∧ r.2.mem ((c.tc : Thread Cert.DxnGateIdeal.nD Cert.DxnGateIdeal.τ).loc Cert.DxnGateIdeal.main_arg1) = m ((c.tc : Thread Cert.DxnGateIdeal.nD Cert.DxnGateIdeal.τ).loc Cert.DxnGateIdeal.main_arg1)
      ∧ r.2.mem ((c.tc : Thread Cert.DxnGateIdeal.nD Cert.DxnGateIdeal.τ).loc Cert.DxnGateIdeal.main_arg2) = m ((c.tc : Thread Cert.DxnGateIdeal.nD Cert.DxnGateIdeal.τ).loc Cert.DxnGateIdeal.main_arg2))
      ∧ r.2.sem = fun _ => 0)

def quiescent_DxnGateRefIdeal [hDxnGateRefIdeal : Cert.DxnGateRefIdeal.Facts] : Prop :=
  ∀ (m : (ℓ : Loc Cert.DxnGateRefIdeal.nD Cert.DxnGateRefIdeal.τ Cert.DxnGateRefIdeal.sig) → Buf (Elt Ideal) ℓ) (g : Dev Cert.DxnGateRefIdeal.nD → PrngReg), Pre_DxnGateRefIdeal m →
    θ_run (Cert.DxnGateRefIdeal.defs (F := Ideal)) (onTc (τ := Cert.DxnGateRefIdeal.τ) (Cert.DxnGateRefIdeal.main (F := Ideal))) ⟨m, fun _ => 0, g⟩ (fun r => (∀ c : Dev Cert.DxnGateRefIdeal.nD,
      r.2.mem ((c.tc : Thread Cert.DxnGateRefIdeal.nD Cert.DxnGateRefIdeal.τ).loc Cert.DxnGateRefIdeal.main_arg0) = m ((c.tc : Thread Cert.DxnGateRefIdeal.nD Cert.DxnGateRefIdeal.τ).loc Cert.DxnGateRefIdeal.main_arg0)
      ∧ r.2.mem ((c.tc : Thread Cert.DxnGateRefIdeal.nD Cert.DxnGateRefIdeal.τ).loc Cert.DxnGateRefIdeal.main_arg1) = m ((c.tc : Thread Cert.DxnGateRefIdeal.nD Cert.DxnGateRefIdeal.τ).loc Cert.DxnGateRefIdeal.main_arg1)
      ∧ r.2.mem ((c.tc : Thread Cert.DxnGateRefIdeal.nD Cert.DxnGateRefIdeal.τ).loc Cert.DxnGateRefIdeal.main_arg2) = m ((c.tc : Thread Cert.DxnGateRefIdeal.nD Cert.DxnGateRefIdeal.τ).loc Cert.DxnGateRefIdeal.main_arg2))
      ∧ r.2.sem = fun _ => 0)

def quiescent_DxnSsd [hDxnSsd : Cert.DxnSsd.Facts] : Prop :=
  ∀ (m : (ℓ : Loc Cert.DxnSsd.nD Cert.DxnSsd.τ Cert.DxnSsd.sig) → Buf (Elt Bits) ℓ) (g : Dev Cert.DxnSsd.nD → PrngReg), Pre_DxnSsd m →
    θ_run (Cert.DxnSsd.defs (F := Bits)) (onTc (τ := Cert.DxnSsd.τ) (Cert.DxnSsd.main (F := Bits))) ⟨m, fun _ => 0, g⟩ (fun r => (∀ c : Dev Cert.DxnSsd.nD,
      r.2.mem ((c.tc : Thread Cert.DxnSsd.nD Cert.DxnSsd.τ).loc Cert.DxnSsd.main_arg0) = m ((c.tc : Thread Cert.DxnSsd.nD Cert.DxnSsd.τ).loc Cert.DxnSsd.main_arg0)
      ∧ r.2.mem ((c.tc : Thread Cert.DxnSsd.nD Cert.DxnSsd.τ).loc Cert.DxnSsd.main_arg1) = m ((c.tc : Thread Cert.DxnSsd.nD Cert.DxnSsd.τ).loc Cert.DxnSsd.main_arg1)
      ∧ r.2.mem ((c.tc : Thread Cert.DxnSsd.nD Cert.DxnSsd.τ).loc Cert.DxnSsd.main_arg2) = m ((c.tc : Thread Cert.DxnSsd.nD Cert.DxnSsd.τ).loc Cert.DxnSsd.main_arg2))
      ∧ r.2.sem = fun _ => 0)

def quiescent_DxnSsdIdeal [hDxnSsdIdeal : Cert.DxnSsdIdeal.Facts] : Prop :=
  ∀ (m : (ℓ : Loc Cert.DxnSsdIdeal.nD Cert.DxnSsdIdeal.τ Cert.DxnSsdIdeal.sig) → Buf (Elt Ideal) ℓ) (g : Dev Cert.DxnSsdIdeal.nD → PrngReg), Pre_DxnSsdIdeal m →
    θ_run (Cert.DxnSsdIdeal.defs (F := Ideal)) (onTc (τ := Cert.DxnSsdIdeal.τ) (Cert.DxnSsdIdeal.main (F := Ideal))) ⟨m, fun _ => 0, g⟩ (fun r => (∀ c : Dev Cert.DxnSsdIdeal.nD,
      r.2.mem ((c.tc : Thread Cert.DxnSsdIdeal.nD Cert.DxnSsdIdeal.τ).loc Cert.DxnSsdIdeal.main_arg0) = m ((c.tc : Thread Cert.DxnSsdIdeal.nD Cert.DxnSsdIdeal.τ).loc Cert.DxnSsdIdeal.main_arg0)
      ∧ r.2.mem ((c.tc : Thread Cert.DxnSsdIdeal.nD Cert.DxnSsdIdeal.τ).loc Cert.DxnSsdIdeal.main_arg1) = m ((c.tc : Thread Cert.DxnSsdIdeal.nD Cert.DxnSsdIdeal.τ).loc Cert.DxnSsdIdeal.main_arg1)
      ∧ r.2.mem ((c.tc : Thread Cert.DxnSsdIdeal.nD Cert.DxnSsdIdeal.τ).loc Cert.DxnSsdIdeal.main_arg2) = m ((c.tc : Thread Cert.DxnSsdIdeal.nD Cert.DxnSsdIdeal.τ).loc Cert.DxnSsdIdeal.main_arg2))
      ∧ r.2.sem = fun _ => 0)

def quiescent_DxnSsdRefIdeal [hDxnSsdRefIdeal : Cert.DxnSsdRefIdeal.Facts] : Prop :=
  ∀ (m : (ℓ : Loc Cert.DxnSsdRefIdeal.nD Cert.DxnSsdRefIdeal.τ Cert.DxnSsdRefIdeal.sig) → Buf (Elt Ideal) ℓ) (g : Dev Cert.DxnSsdRefIdeal.nD → PrngReg), Pre_DxnSsdRefIdeal m →
    θ_run (Cert.DxnSsdRefIdeal.defs (F := Ideal)) (onTc (τ := Cert.DxnSsdRefIdeal.τ) (Cert.DxnSsdRefIdeal.main (F := Ideal))) ⟨m, fun _ => 0, g⟩ (fun r => (∀ c : Dev Cert.DxnSsdRefIdeal.nD,
      r.2.mem ((c.tc : Thread Cert.DxnSsdRefIdeal.nD Cert.DxnSsdRefIdeal.τ).loc Cert.DxnSsdRefIdeal.main_arg0) = m ((c.tc : Thread Cert.DxnSsdRefIdeal.nD Cert.DxnSsdRefIdeal.τ).loc Cert.DxnSsdRefIdeal.main_arg0)
      ∧ r.2.mem ((c.tc : Thread Cert.DxnSsdRefIdeal.nD Cert.DxnSsdRefIdeal.τ).loc Cert.DxnSsdRefIdeal.main_arg1) = m ((c.tc : Thread Cert.DxnSsdRefIdeal.nD Cert.DxnSsdRefIdeal.τ).loc Cert.DxnSsdRefIdeal.main_arg1)
      ∧ r.2.mem ((c.tc : Thread Cert.DxnSsdRefIdeal.nD Cert.DxnSsdRefIdeal.τ).loc Cert.DxnSsdRefIdeal.main_arg2) = m ((c.tc : Thread Cert.DxnSsdRefIdeal.nD Cert.DxnSsdRefIdeal.τ).loc Cert.DxnSsdRefIdeal.main_arg2))
      ∧ r.2.sem = fun _ => 0)

def quiescent_DwSgu [hDwSgu : Cert.DwSgu.Facts] : Prop :=
  ∀ (m : (ℓ : Loc Cert.DwSgu.nD Cert.DwSgu.τ Cert.DwSgu.sig) → Buf (Elt Bits) ℓ) (g : Dev Cert.DwSgu.nD → PrngReg), Pre_DwSgu m →
    θ_run (Cert.DwSgu.defs (F := Bits)) (onTc (τ := Cert.DwSgu.τ) (Cert.DwSgu.main (F := Bits))) ⟨m, fun _ => 0, g⟩ (fun r => (∀ c : Dev Cert.DwSgu.nD,
      r.2.mem ((c.tc : Thread Cert.DwSgu.nD Cert.DwSgu.τ).loc Cert.DwSgu.main_arg0) = m ((c.tc : Thread Cert.DwSgu.nD Cert.DwSgu.τ).loc Cert.DwSgu.main_arg0)
      ∧ r.2.mem ((c.tc : Thread Cert.DwSgu.nD Cert.DwSgu.τ).loc Cert.DwSgu.main_arg1) = m ((c.tc : Thread Cert.DwSgu.nD Cert.DwSgu.τ).loc Cert.DwSgu.main_arg1))
      ∧ r.2.sem = fun _ => 0)

def quiescent_DwSguIdeal [hDwSguIdeal : Cert.DwSguIdeal.Facts] : Prop :=
  ∀ (m : (ℓ : Loc Cert.DwSguIdeal.nD Cert.DwSguIdeal.τ Cert.DwSguIdeal.sig) → Buf (Elt Ideal) ℓ) (g : Dev Cert.DwSguIdeal.nD → PrngReg), Pre_DwSguIdeal m →
    θ_run (Cert.DwSguIdeal.defs (F := Ideal)) (onTc (τ := Cert.DwSguIdeal.τ) (Cert.DwSguIdeal.main (F := Ideal))) ⟨m, fun _ => 0, g⟩ (fun r => (∀ c : Dev Cert.DwSguIdeal.nD,
      r.2.mem ((c.tc : Thread Cert.DwSguIdeal.nD Cert.DwSguIdeal.τ).loc Cert.DwSguIdeal.main_arg0) = m ((c.tc : Thread Cert.DwSguIdeal.nD Cert.DwSguIdeal.τ).loc Cert.DwSguIdeal.main_arg0)
      ∧ r.2.mem ((c.tc : Thread Cert.DwSguIdeal.nD Cert.DwSguIdeal.τ).loc Cert.DwSguIdeal.main_arg1) = m ((c.tc : Thread Cert.DwSguIdeal.nD Cert.DwSguIdeal.τ).loc Cert.DwSguIdeal.main_arg1))
      ∧ r.2.sem = fun _ => 0)

def quiescent_DwSguRefIdeal [hDwSguRefIdeal : Cert.DwSguRefIdeal.Facts] : Prop :=
  ∀ (m : (ℓ : Loc Cert.DwSguRefIdeal.nD Cert.DwSguRefIdeal.τ Cert.DwSguRefIdeal.sig) → Buf (Elt Ideal) ℓ) (g : Dev Cert.DwSguRefIdeal.nD → PrngReg), Pre_DwSguRefIdeal m →
    θ_run (Cert.DwSguRefIdeal.defs (F := Ideal)) (onTc (τ := Cert.DwSguRefIdeal.τ) (Cert.DwSguRefIdeal.main (F := Ideal))) ⟨m, fun _ => 0, g⟩ (fun r => (∀ c : Dev Cert.DwSguRefIdeal.nD,
      r.2.mem ((c.tc : Thread Cert.DwSguRefIdeal.nD Cert.DwSguRefIdeal.τ).loc Cert.DwSguRefIdeal.main_arg0) = m ((c.tc : Thread Cert.DwSguRefIdeal.nD Cert.DwSguRefIdeal.τ).loc Cert.DwSguRefIdeal.main_arg0)
      ∧ r.2.mem ((c.tc : Thread Cert.DwSguRefIdeal.nD Cert.DwSguRefIdeal.τ).loc Cert.DwSguRefIdeal.main_arg1) = m ((c.tc : Thread Cert.DwSguRefIdeal.nD Cert.DwSguRefIdeal.τ).loc Cert.DwSguRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwSsd [hDwSsd : Cert.DwSsd.Facts] : Prop :=
  ∀ (m : (ℓ : Loc Cert.DwSsd.nD Cert.DwSsd.τ Cert.DwSsd.sig) → Buf (Elt Bits) ℓ) (g : Dev Cert.DwSsd.nD → PrngReg), Pre_DwSsd m →
    θ_run (Cert.DwSsd.defs (F := Bits)) (onTc (τ := Cert.DwSsd.τ) (Cert.DwSsd.main (F := Bits))) ⟨m, fun _ => 0, g⟩ (fun r => (∀ c : Dev Cert.DwSsd.nD,
      r.2.mem ((c.tc : Thread Cert.DwSsd.nD Cert.DwSsd.τ).loc Cert.DwSsd.main_arg0) = m ((c.tc : Thread Cert.DwSsd.nD Cert.DwSsd.τ).loc Cert.DwSsd.main_arg0)
      ∧ r.2.mem ((c.tc : Thread Cert.DwSsd.nD Cert.DwSsd.τ).loc Cert.DwSsd.main_arg1) = m ((c.tc : Thread Cert.DwSsd.nD Cert.DwSsd.τ).loc Cert.DwSsd.main_arg1))
      ∧ r.2.sem = fun _ => 0)

def quiescent_DwSsdIdeal [hDwSsdIdeal : Cert.DwSsdIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg), Pre_DwSsdIdeal m →
    θ_run (Cert.DwSsdIdeal.defs (F := Ideal)) (onTc (τ := Cert.DwSsdIdeal.τ) (Cert.DwSsdIdeal.main (F := Ideal))) ⟨m, fun _ => 0, g⟩ (fun r => (∀ c : Dev Cert.DwSsdIdeal.nD,
      r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
      ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ r.2.sem = fun _ => 0)

def quiescent_DwSsdRefIdeal [hDwSsdRefIdeal : Cert.DwSsdRefIdeal.Facts] : Prop :=
  ∀ (m : (ℓ : Loc Cert.DwSsdRefIdeal.nD Cert.DwSsdRefIdeal.τ Cert.DwSsdRefIdeal.sig) → Buf (Elt Ideal) ℓ) (g : Dev Cert.DwSsdRefIdeal.nD → PrngReg), Pre_DwSsdRefIdeal m →
    θ_run (Cert.DwSsdRefIdeal.defs (F := Ideal)) (onTc (τ := Cert.DwSsdRefIdeal.τ) (Cert.DwSsdRefIdeal.main (F := Ideal))) ⟨m, fun _ => 0, g⟩ (fun r => (∀ c : Dev Cert.DwSsdRefIdeal.nD,
      r.2.mem ((c.tc : Thread Cert.DwSsdRefIdeal.nD Cert.DwSsdRefIdeal.τ).loc Cert.DwSsdRefIdeal.main_arg0) = m ((c.tc : Thread Cert.DwSsdRefIdeal.nD Cert.DwSsdRefIdeal.τ).loc Cert.DwSsdRefIdeal.main_arg0)
      ∧ r.2.mem ((c.tc : Thread Cert.DwSsdRefIdeal.nD Cert.DwSsdRefIdeal.τ).loc Cert.DwSsdRefIdeal.main_arg1) = m ((c.tc : Thread Cert.DwSsdRefIdeal.nD Cert.DwSsdRefIdeal.τ).loc Cert.DwSsdRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 2048, 1924]⟩ ⟨3, ![64, 2048, 1924]⟩ 0 8 c (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.block ⟨3, ![8, 256, 2048]⟩ ⟨3, ![64, 256, 2048]⟩ 0 8 c (m' (((0 : Dev Cert.ExchangeRefIdeal.nD).tc : Thread Cert.ExchangeRefIdeal.nD Cert.ExchangeRefIdeal.τ).loc Cert.ExchangeRefIdeal.main_arg1))) →
    ∃ (v0 : Buf (Elt Ideal) (((0 : Dev Cert.ExchangeRefIdeal.nD).tc : Thread Cert.ExchangeRefIdeal.nD Cert.ExchangeRefIdeal.τ).loc Cert.ExchangeRefIdeal.main_v2)) (v1 : Buf (Elt Ideal) (((0 : Dev Cert.ExchangeRefIdeal.nD).tc : Thread Cert.ExchangeRefIdeal.nD Cert.ExchangeRefIdeal.τ).loc Cert.ExchangeRefIdeal.main_v5)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![8, 2048, 1924]⟩ ⟨3, ![64, 2048, 1924]⟩ 0 8 c v0
          ∧ r.2.mem ((c.tc : Thread Cert.ExchangeIdeal.nD Cert.ExchangeIdeal.τ).loc Cert.ExchangeIdeal.main_v1_1) = Layout.block ⟨3, ![8, 256, 2048]⟩ ⟨3, ![64, 256, 2048]⟩ 0 8 c v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_v5) = v1
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![8, 2048, 1924]⟩ ⟨3, ![64, 2048, 1924]⟩ 0 8 c (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.block ⟨3, ![8, 256, 2048]⟩ ⟨3, ![64, 256, 2048]⟩ 0 8 c (m' (((0 : Dev Cert.ExchangeRef.nD).tc : Thread Cert.ExchangeRef.nD Cert.ExchangeRef.τ).loc Cert.ExchangeRef.main_arg1))) →
    ∃ (v0 : Buf (Elt Bits) (((0 : Dev Cert.ExchangeRef.nD).tc : Thread Cert.ExchangeRef.nD Cert.ExchangeRef.τ).loc Cert.ExchangeRef.main_v2)) (v1 : Buf (Elt Bits) (((0 : Dev Cert.ExchangeRef.nD).tc : Thread Cert.ExchangeRef.nD Cert.ExchangeRef.τ).loc Cert.ExchangeRef.main_v5)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![8, 2048, 1924]⟩ ⟨3, ![64, 2048, 1924]⟩ 0 8 c v0
          ∧ r.2.mem ((c.tc : Thread Cert.Exchange.nD Cert.Exchange.τ).loc Cert.Exchange.main_v1_1) = Layout.block ⟨3, ![8, 256, 2048]⟩ ⟨3, ![64, 256, 2048]⟩ 0 8 c v1
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_v5) = v1
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 1924]⟩ ⟨2, ![2048, 15392]⟩ 1 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![4, 384]⟩ ⟨2, ![4, 3072]⟩ 1 8 c (m' (((0 : Dev Cert.GatherRefIdeal.nD).tc : Thread Cert.GatherRefIdeal.nD Cert.GatherRefIdeal.τ).loc Cert.GatherRefIdeal.main_arg2))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v4)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![2048, 1924]⟩ ⟨2, ![2048, 15392]⟩ 1 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![4, 384]⟩ ⟨2, ![4, 3072]⟩ 1 8 c (m' (((0 : Dev Cert.GatherRef.nD).tc : Thread Cert.GatherRef.nD Cert.GatherRef.τ).loc Cert.GatherRef.main_arg2))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v4)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v4) = v2
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![2328, 128]⟩ ⟨2, ![18624, 128]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![2328, 128]⟩ ⟨2, ![18624, 128]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v40) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DxnSgu_DxnSguIdeal : Prop :=
  True

def algebraic_DxnSguIdeal_DxnSguRefIdeal [hDxnSguIdeal : Cert.DxnSguIdeal.Facts] [hDxnSguRefIdeal : Cert.DxnSguRefIdeal.Facts] : Prop :=
  ∀ (m : (ℓ : Loc Cert.DxnSguIdeal.nD Cert.DxnSguIdeal.τ Cert.DxnSguIdeal.sig) → Buf (Elt Ideal) ℓ) (g : Dev Cert.DxnSguIdeal.nD → PrngReg)
    (m' : (ℓ : Loc Cert.DxnSguRefIdeal.nD Cert.DxnSguRefIdeal.τ Cert.DxnSguRefIdeal.sig) → Buf (Elt Ideal) ℓ) (g' : Dev Cert.DxnSguRefIdeal.nD → PrngReg), Pre_DxnSguIdeal m →
    (∀ c : Dev Cert.DxnSguIdeal.nD,
      m' ((c.tc : Thread Cert.DxnSguRefIdeal.nD Cert.DxnSguRefIdeal.τ).loc Cert.DxnSguRefIdeal.main_arg0) = m ((c.tc : Thread Cert.DxnSguIdeal.nD Cert.DxnSguIdeal.τ).loc Cert.DxnSguIdeal.main_arg0)
      ∧ m' ((c.tc : Thread Cert.DxnSguRefIdeal.nD Cert.DxnSguRefIdeal.τ).loc Cert.DxnSguRefIdeal.main_arg1) = m ((c.tc : Thread Cert.DxnSguIdeal.nD Cert.DxnSguIdeal.τ).loc Cert.DxnSguIdeal.main_arg1)) →
    ∃ (v0 : (c : Dev Cert.DxnSguIdeal.nD) → Buf (Elt Ideal) ((c.tc : Thread Cert.DxnSguIdeal.nD Cert.DxnSguIdeal.τ).loc Cert.DxnSguIdeal.main_v0)),
      θ_run (Cert.DxnSguIdeal.defs (F := Ideal)) (onTc (τ := Cert.DxnSguIdeal.τ) (Cert.DxnSguIdeal.main (F := Ideal))) ⟨m, fun _ => 0, g⟩ (fun r => ∀ c : Dev Cert.DxnSguIdeal.nD,
          r.2.mem ((c.tc : Thread Cert.DxnSguIdeal.nD Cert.DxnSguIdeal.τ).loc Cert.DxnSguIdeal.main_v0) = v0 c
          ∧ r.2.mem ((c.tc : Thread Cert.DxnSguIdeal.nD Cert.DxnSguIdeal.τ).loc Cert.DxnSguIdeal.main_arg0) = m ((c.tc : Thread Cert.DxnSguIdeal.nD Cert.DxnSguIdeal.τ).loc Cert.DxnSguIdeal.main_arg0)
          ∧ r.2.mem ((c.tc : Thread Cert.DxnSguIdeal.nD Cert.DxnSguIdeal.τ).loc Cert.DxnSguIdeal.main_arg1) = m ((c.tc : Thread Cert.DxnSguIdeal.nD Cert.DxnSguIdeal.τ).loc Cert.DxnSguIdeal.main_arg1))
      ∧ θ_run (Cert.DxnSguRefIdeal.defs (F := Ideal)) (onTc (τ := Cert.DxnSguRefIdeal.τ) (Cert.DxnSguRefIdeal.main (F := Ideal))) ⟨m', fun _ => 0, g'⟩ (fun r => ∀ c : Dev Cert.DxnSguRefIdeal.nD,
          r.2.mem ((c.tc : Thread Cert.DxnSguRefIdeal.nD Cert.DxnSguRefIdeal.τ).loc Cert.DxnSguRefIdeal.main_v2) = v0 c
          ∧ r.2.mem ((c.tc : Thread Cert.DxnSguRefIdeal.nD Cert.DxnSguRefIdeal.τ).loc Cert.DxnSguRefIdeal.main_arg0) = m' ((c.tc : Thread Cert.DxnSguRefIdeal.nD Cert.DxnSguRefIdeal.τ).loc Cert.DxnSguRefIdeal.main_arg0)
          ∧ r.2.mem ((c.tc : Thread Cert.DxnSguRefIdeal.nD Cert.DxnSguRefIdeal.τ).loc Cert.DxnSguRefIdeal.main_arg1) = m' ((c.tc : Thread Cert.DxnSguRefIdeal.nD Cert.DxnSguRefIdeal.τ).loc Cert.DxnSguRefIdeal.main_arg1))

def preserves_DxnGate_DxnGateIdeal : Prop :=
  True

def algebraic_DxnGateIdeal_DxnGateRefIdeal [hDxnGateIdeal : Cert.DxnGateIdeal.Facts] [hDxnGateRefIdeal : Cert.DxnGateRefIdeal.Facts] : Prop :=
  ∀ (m : (ℓ : Loc Cert.DxnGateIdeal.nD Cert.DxnGateIdeal.τ Cert.DxnGateIdeal.sig) → Buf (Elt Ideal) ℓ) (g : Dev Cert.DxnGateIdeal.nD → PrngReg)
    (m' : (ℓ : Loc Cert.DxnGateRefIdeal.nD Cert.DxnGateRefIdeal.τ Cert.DxnGateRefIdeal.sig) → Buf (Elt Ideal) ℓ) (g' : Dev Cert.DxnGateRefIdeal.nD → PrngReg), Pre_DxnGateIdeal m →
    (∀ c : Dev Cert.DxnGateIdeal.nD,
      m' ((c.tc : Thread Cert.DxnGateRefIdeal.nD Cert.DxnGateRefIdeal.τ).loc Cert.DxnGateRefIdeal.main_arg0) = m ((c.tc : Thread Cert.DxnGateIdeal.nD Cert.DxnGateIdeal.τ).loc Cert.DxnGateIdeal.main_arg0)
      ∧ m' ((c.tc : Thread Cert.DxnGateRefIdeal.nD Cert.DxnGateRefIdeal.τ).loc Cert.DxnGateRefIdeal.main_arg1) = m ((c.tc : Thread Cert.DxnGateIdeal.nD Cert.DxnGateIdeal.τ).loc Cert.DxnGateIdeal.main_arg1)
      ∧ m' ((c.tc : Thread Cert.DxnGateRefIdeal.nD Cert.DxnGateRefIdeal.τ).loc Cert.DxnGateRefIdeal.main_arg2) = m ((c.tc : Thread Cert.DxnGateIdeal.nD Cert.DxnGateIdeal.τ).loc Cert.DxnGateIdeal.main_arg2)) →
    ∃ (v0 : (c : Dev Cert.DxnGateIdeal.nD) → Buf (Elt Ideal) ((c.tc : Thread Cert.DxnGateIdeal.nD Cert.DxnGateIdeal.τ).loc Cert.DxnGateIdeal.main_v0)),
      θ_run (Cert.DxnGateIdeal.defs (F := Ideal)) (onTc (τ := Cert.DxnGateIdeal.τ) (Cert.DxnGateIdeal.main (F := Ideal))) ⟨m, fun _ => 0, g⟩ (fun r => ∀ c : Dev Cert.DxnGateIdeal.nD,
          r.2.mem ((c.tc : Thread Cert.DxnGateIdeal.nD Cert.DxnGateIdeal.τ).loc Cert.DxnGateIdeal.main_v0) = v0 c
          ∧ r.2.mem ((c.tc : Thread Cert.DxnGateIdeal.nD Cert.DxnGateIdeal.τ).loc Cert.DxnGateIdeal.main_arg0) = m ((c.tc : Thread Cert.DxnGateIdeal.nD Cert.DxnGateIdeal.τ).loc Cert.DxnGateIdeal.main_arg0)
          ∧ r.2.mem ((c.tc : Thread Cert.DxnGateIdeal.nD Cert.DxnGateIdeal.τ).loc Cert.DxnGateIdeal.main_arg1) = m ((c.tc : Thread Cert.DxnGateIdeal.nD Cert.DxnGateIdeal.τ).loc Cert.DxnGateIdeal.main_arg1)
          ∧ r.2.mem ((c.tc : Thread Cert.DxnGateIdeal.nD Cert.DxnGateIdeal.τ).loc Cert.DxnGateIdeal.main_arg2) = m ((c.tc : Thread Cert.DxnGateIdeal.nD Cert.DxnGateIdeal.τ).loc Cert.DxnGateIdeal.main_arg2))
      ∧ θ_run (Cert.DxnGateRefIdeal.defs (F := Ideal)) (onTc (τ := Cert.DxnGateRefIdeal.τ) (Cert.DxnGateRefIdeal.main (F := Ideal))) ⟨m', fun _ => 0, g'⟩ (fun r => ∀ c : Dev Cert.DxnGateRefIdeal.nD,
          r.2.mem ((c.tc : Thread Cert.DxnGateRefIdeal.nD Cert.DxnGateRefIdeal.τ).loc Cert.DxnGateRefIdeal.main_v3) = v0 c
          ∧ r.2.mem ((c.tc : Thread Cert.DxnGateRefIdeal.nD Cert.DxnGateRefIdeal.τ).loc Cert.DxnGateRefIdeal.main_arg0) = m' ((c.tc : Thread Cert.DxnGateRefIdeal.nD Cert.DxnGateRefIdeal.τ).loc Cert.DxnGateRefIdeal.main_arg0)
          ∧ r.2.mem ((c.tc : Thread Cert.DxnGateRefIdeal.nD Cert.DxnGateRefIdeal.τ).loc Cert.DxnGateRefIdeal.main_arg1) = m' ((c.tc : Thread Cert.DxnGateRefIdeal.nD Cert.DxnGateRefIdeal.τ).loc Cert.DxnGateRefIdeal.main_arg1)
          ∧ r.2.mem ((c.tc : Thread Cert.DxnGateRefIdeal.nD Cert.DxnGateRefIdeal.τ).loc Cert.DxnGateRefIdeal.main_arg2) = m' ((c.tc : Thread Cert.DxnGateRefIdeal.nD Cert.DxnGateRefIdeal.τ).loc Cert.DxnGateRefIdeal.main_arg2))

def preserves_DxnSsd_DxnSsdIdeal : Prop :=
  True

def algebraic_DxnSsdIdeal_DxnSsdRefIdeal [hDxnSsdIdeal : Cert.DxnSsdIdeal.Facts] [hDxnSsdRefIdeal : Cert.DxnSsdRefIdeal.Facts] : Prop :=
  ∀ (m : (ℓ : Loc Cert.DxnSsdIdeal.nD Cert.DxnSsdIdeal.τ Cert.DxnSsdIdeal.sig) → Buf (Elt Ideal) ℓ) (g : Dev Cert.DxnSsdIdeal.nD → PrngReg)
    (m' : (ℓ : Loc Cert.DxnSsdRefIdeal.nD Cert.DxnSsdRefIdeal.τ Cert.DxnSsdRefIdeal.sig) → Buf (Elt Ideal) ℓ) (g' : Dev Cert.DxnSsdRefIdeal.nD → PrngReg), Pre_DxnSsdIdeal m →
    (∀ c : Dev Cert.DxnSsdIdeal.nD,
      m' ((c.tc : Thread Cert.DxnSsdRefIdeal.nD Cert.DxnSsdRefIdeal.τ).loc Cert.DxnSsdRefIdeal.main_arg0) = m ((c.tc : Thread Cert.DxnSsdIdeal.nD Cert.DxnSsdIdeal.τ).loc Cert.DxnSsdIdeal.main_arg0)
      ∧ m' ((c.tc : Thread Cert.DxnSsdRefIdeal.nD Cert.DxnSsdRefIdeal.τ).loc Cert.DxnSsdRefIdeal.main_arg1) = m ((c.tc : Thread Cert.DxnSsdIdeal.nD Cert.DxnSsdIdeal.τ).loc Cert.DxnSsdIdeal.main_arg1)
      ∧ m' ((c.tc : Thread Cert.DxnSsdRefIdeal.nD Cert.DxnSsdRefIdeal.τ).loc Cert.DxnSsdRefIdeal.main_arg2) = m ((c.tc : Thread Cert.DxnSsdIdeal.nD Cert.DxnSsdIdeal.τ).loc Cert.DxnSsdIdeal.main_arg2)) →
    ∃ (v0 : (c : Dev Cert.DxnSsdIdeal.nD) → Buf (Elt Ideal) ((c.tc : Thread Cert.DxnSsdIdeal.nD Cert.DxnSsdIdeal.τ).loc Cert.DxnSsdIdeal.main_v0)),
      θ_run (Cert.DxnSsdIdeal.defs (F := Ideal)) (onTc (τ := Cert.DxnSsdIdeal.τ) (Cert.DxnSsdIdeal.main (F := Ideal))) ⟨m, fun _ => 0, g⟩ (fun r => ∀ c : Dev Cert.DxnSsdIdeal.nD,
          r.2.mem ((c.tc : Thread Cert.DxnSsdIdeal.nD Cert.DxnSsdIdeal.τ).loc Cert.DxnSsdIdeal.main_v0) = v0 c
          ∧ r.2.mem ((c.tc : Thread Cert.DxnSsdIdeal.nD Cert.DxnSsdIdeal.τ).loc Cert.DxnSsdIdeal.main_arg0) = m ((c.tc : Thread Cert.DxnSsdIdeal.nD Cert.DxnSsdIdeal.τ).loc Cert.DxnSsdIdeal.main_arg0)
          ∧ r.2.mem ((c.tc : Thread Cert.DxnSsdIdeal.nD Cert.DxnSsdIdeal.τ).loc Cert.DxnSsdIdeal.main_arg1) = m ((c.tc : Thread Cert.DxnSsdIdeal.nD Cert.DxnSsdIdeal.τ).loc Cert.DxnSsdIdeal.main_arg1)
          ∧ r.2.mem ((c.tc : Thread Cert.DxnSsdIdeal.nD Cert.DxnSsdIdeal.τ).loc Cert.DxnSsdIdeal.main_arg2) = m ((c.tc : Thread Cert.DxnSsdIdeal.nD Cert.DxnSsdIdeal.τ).loc Cert.DxnSsdIdeal.main_arg2))
      ∧ θ_run (Cert.DxnSsdRefIdeal.defs (F := Ideal)) (onTc (τ := Cert.DxnSsdRefIdeal.τ) (Cert.DxnSsdRefIdeal.main (F := Ideal))) ⟨m', fun _ => 0, g'⟩ (fun r => ∀ c : Dev Cert.DxnSsdRefIdeal.nD,
          r.2.mem ((c.tc : Thread Cert.DxnSsdRefIdeal.nD Cert.DxnSsdRefIdeal.τ).loc Cert.DxnSsdRefIdeal.main_v3) = v0 c
          ∧ r.2.mem ((c.tc : Thread Cert.DxnSsdRefIdeal.nD Cert.DxnSsdRefIdeal.τ).loc Cert.DxnSsdRefIdeal.main_arg0) = m' ((c.tc : Thread Cert.DxnSsdRefIdeal.nD Cert.DxnSsdRefIdeal.τ).loc Cert.DxnSsdRefIdeal.main_arg0)
          ∧ r.2.mem ((c.tc : Thread Cert.DxnSsdRefIdeal.nD Cert.DxnSsdRefIdeal.τ).loc Cert.DxnSsdRefIdeal.main_arg1) = m' ((c.tc : Thread Cert.DxnSsdRefIdeal.nD Cert.DxnSsdRefIdeal.τ).loc Cert.DxnSsdRefIdeal.main_arg1)
          ∧ r.2.mem ((c.tc : Thread Cert.DxnSsdRefIdeal.nD Cert.DxnSsdRefIdeal.τ).loc Cert.DxnSsdRefIdeal.main_arg2) = m' ((c.tc : Thread Cert.DxnSsdRefIdeal.nD Cert.DxnSsdRefIdeal.τ).loc Cert.DxnSsdRefIdeal.main_arg2))

def preserves_DwSgu_DwSguIdeal : Prop :=
  True

def algebraic_DwSguIdeal_DwSguRefIdeal [hDwSguIdeal : Cert.DwSguIdeal.Facts] [hDwSguRefIdeal : Cert.DwSguRefIdeal.Facts] : Prop :=
  ∀ (m : (ℓ : Loc Cert.DwSguIdeal.nD Cert.DwSguIdeal.τ Cert.DwSguIdeal.sig) → Buf (Elt Ideal) ℓ) (g : Dev Cert.DwSguIdeal.nD → PrngReg)
    (m' : (ℓ : Loc Cert.DwSguRefIdeal.nD Cert.DwSguRefIdeal.τ Cert.DwSguRefIdeal.sig) → Buf (Elt Ideal) ℓ) (g' : Dev Cert.DwSguRefIdeal.nD → PrngReg), Pre_DwSguIdeal m →
    (∀ c : Dev Cert.DwSguIdeal.nD,
      m' ((c.tc : Thread Cert.DwSguRefIdeal.nD Cert.DwSguRefIdeal.τ).loc Cert.DwSguRefIdeal.main_arg0) = m ((c.tc : Thread Cert.DwSguIdeal.nD Cert.DwSguIdeal.τ).loc Cert.DwSguIdeal.main_arg0)
      ∧ m' ((c.tc : Thread Cert.DwSguRefIdeal.nD Cert.DwSguRefIdeal.τ).loc Cert.DwSguRefIdeal.main_arg1) = m ((c.tc : Thread Cert.DwSguIdeal.nD Cert.DwSguIdeal.τ).loc Cert.DwSguIdeal.main_arg1)) →
    ∃ (v0 : (c : Dev Cert.DwSguIdeal.nD) → Buf (Elt Ideal) ((c.tc : Thread Cert.DwSguIdeal.nD Cert.DwSguIdeal.τ).loc Cert.DwSguIdeal.main_v0)),
      θ_run (Cert.DwSguIdeal.defs (F := Ideal)) (onTc (τ := Cert.DwSguIdeal.τ) (Cert.DwSguIdeal.main (F := Ideal))) ⟨m, fun _ => 0, g⟩ (fun r => ∀ c : Dev Cert.DwSguIdeal.nD,
          r.2.mem ((c.tc : Thread Cert.DwSguIdeal.nD Cert.DwSguIdeal.τ).loc Cert.DwSguIdeal.main_v0) = v0 c
          ∧ r.2.mem ((c.tc : Thread Cert.DwSguIdeal.nD Cert.DwSguIdeal.τ).loc Cert.DwSguIdeal.main_arg0) = m ((c.tc : Thread Cert.DwSguIdeal.nD Cert.DwSguIdeal.τ).loc Cert.DwSguIdeal.main_arg0)
          ∧ r.2.mem ((c.tc : Thread Cert.DwSguIdeal.nD Cert.DwSguIdeal.τ).loc Cert.DwSguIdeal.main_arg1) = m ((c.tc : Thread Cert.DwSguIdeal.nD Cert.DwSguIdeal.τ).loc Cert.DwSguIdeal.main_arg1))
      ∧ θ_run (Cert.DwSguRefIdeal.defs (F := Ideal)) (onTc (τ := Cert.DwSguRefIdeal.τ) (Cert.DwSguRefIdeal.main (F := Ideal))) ⟨m', fun _ => 0, g'⟩ (fun r => ∀ c : Dev Cert.DwSguRefIdeal.nD,
          r.2.mem ((c.tc : Thread Cert.DwSguRefIdeal.nD Cert.DwSguRefIdeal.τ).loc Cert.DwSguRefIdeal.main_v2) = v0 c
          ∧ r.2.mem ((c.tc : Thread Cert.DwSguRefIdeal.nD Cert.DwSguRefIdeal.τ).loc Cert.DwSguRefIdeal.main_arg0) = m' ((c.tc : Thread Cert.DwSguRefIdeal.nD Cert.DwSguRefIdeal.τ).loc Cert.DwSguRefIdeal.main_arg0)
          ∧ r.2.mem ((c.tc : Thread Cert.DwSguRefIdeal.nD Cert.DwSguRefIdeal.τ).loc Cert.DwSguRefIdeal.main_arg1) = m' ((c.tc : Thread Cert.DwSguRefIdeal.nD Cert.DwSguRefIdeal.τ).loc Cert.DwSguRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v2) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwSsd_DwSsdIdeal : Prop :=
  True

def algebraic_DwSsdIdeal_DwSsdRefIdeal [hDwSsdIdeal : Cert.DwSsdIdeal.Facts] [hDwSsdRefIdeal : Cert.DwSsdRefIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg)
    (m' : (ℓ : Loc Cert.DwSsdRefIdeal.nD Cert.DwSsdRefIdeal.τ Cert.DwSsdRefIdeal.sig) → Buf (Elt Ideal) ℓ) (g' : Dev Cert.DwSsdRefIdeal.nD → PrngReg), Pre_DwSsdIdeal m →
    (∀ c : Dev Cert.DwSsdIdeal.nD,
      m' ((c.tc : Thread Cert.DwSsdRefIdeal.nD Cert.DwSsdRefIdeal.τ).loc Cert.DwSsdRefIdeal.main_arg0) = m ((c.tc : Thread Cert.DwSsdIdeal.nD Cert.DwSsdIdeal.τ).loc Cert.DwSsdIdeal.main_arg0)
      ∧ m' ((c.tc : Thread Cert.DwSsdRefIdeal.nD Cert.DwSsdRefIdeal.τ).loc Cert.DwSsdRefIdeal.main_arg1) = m ((c.tc : Thread Cert.DwSsdIdeal.nD Cert.DwSsdIdeal.τ).loc Cert.DwSsdIdeal.main_arg1)) →
    ∃ (v0 : (c : Dev Cert.DwSsdIdeal.nD) → Buf (Elt Ideal) ((c.tc : Thread Cert.DwSsdIdeal.nD Cert.DwSsdIdeal.τ).loc Cert.DwSsdIdeal.main_v0)),
      θ_run (Cert.DwSsdIdeal.defs (F := Ideal)) (onTc (τ := Cert.DwSsdIdeal.τ) (Cert.DwSsdIdeal.main (F := Ideal))) ⟨m, fun _ => 0, g⟩ (fun r => ∀ c : Dev Cert.DwSsdIdeal.nD,
          r.2.mem ((c.tc : Thread Cert.DwSsdIdeal.nD Cert.DwSsdIdeal.τ).loc Cert.DwSsdIdeal.main_v0) = v0 c
          ∧ r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
          ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ θ_run (Cert.DwSsdRefIdeal.defs (F := Ideal)) (onTc (τ := Cert.DwSsdRefIdeal.τ) (Cert.DwSsdRefIdeal.main (F := Ideal))) ⟨m', fun _ => 0, g'⟩ (fun r => ∀ c : Dev Cert.DwSsdRefIdeal.nD,
          r.2.mem ((c.tc : Thread Cert.DwSsdRefIdeal.nD Cert.DwSsdRefIdeal.τ).loc Cert.DwSsdRefIdeal.main_v2) = v0 c
          ∧ r.2.mem ((c.tc : Thread Cert.DwSsdRefIdeal.nD Cert.DwSsdRefIdeal.τ).loc Cert.DwSsdRefIdeal.main_arg0) = m' ((c.tc : Thread Cert.DwSsdRefIdeal.nD Cert.DwSsdRefIdeal.τ).loc Cert.DwSsdRefIdeal.main_arg0)
          ∧ r.2.mem ((c.tc : Thread Cert.DwSsdRefIdeal.nD Cert.DwSsdRefIdeal.τ).loc Cert.DwSsdRefIdeal.main_arg1) = m' ((c.tc : Thread Cert.DwSsdRefIdeal.nD Cert.DwSsdRefIdeal.τ).loc Cert.DwSsdRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)) (v7 : (c : Dev Cert.HeadIdeal.nD) → Buf (Elt Ideal) ((c.tc : Thread Cert.HeadIdeal.nD Cert.HeadIdeal.τ).loc Cert.HeadIdeal.main_v0_7)) (v8 : (c : Dev Cert.HeadIdeal.nD) → Buf (Elt Ideal) ((c.tc : Thread Cert.HeadIdeal.nD Cert.HeadIdeal.τ).loc Cert.HeadIdeal.main_v0_8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_v0_7) = v7 c
          ∧ r.2.mem ((c.tc : Thread Cert.HeadIdeal.nD Cert.HeadIdeal.τ).loc Cert.HeadIdeal.main_v0_8) = v8 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v73) = v0 c
          ∧ r.2.mem ((c.tc : Thread Cert.HeadRefIdeal.nD Cert.HeadRefIdeal.τ).loc Cert.HeadRefIdeal.main_v84) = v1 c
          ∧ r.2.mem ((c.tc : Thread Cert.HeadRefIdeal.nD Cert.HeadRefIdeal.τ).loc Cert.HeadRefIdeal.main_v85) = v2 c
          ∧ r.2.mem ((c.tc : Thread Cert.HeadRefIdeal.nD Cert.HeadRefIdeal.τ).loc Cert.HeadRefIdeal.main_v77) = v3 c
          ∧ r.2.mem ((c.tc : Thread Cert.HeadRefIdeal.nD Cert.HeadRefIdeal.τ).loc Cert.HeadRefIdeal.main_v75) = v4 c
          ∧ r.2.mem ((c.tc : Thread Cert.HeadRefIdeal.nD Cert.HeadRefIdeal.τ).loc Cert.HeadRefIdeal.main_v86) = v5 c
          ∧ r.2.mem ((c.tc : Thread Cert.HeadRefIdeal.nD Cert.HeadRefIdeal.τ).loc Cert.HeadRefIdeal.main_v87) = v6 c
          ∧ r.2.mem ((c.tc : Thread Cert.HeadRefIdeal.nD Cert.HeadRefIdeal.τ).loc Cert.HeadRefIdeal.main_v90) = v7 c
          ∧ r.2.mem ((c.tc : Thread Cert.HeadRefIdeal.nD Cert.HeadRefIdeal.τ).loc Cert.HeadRefIdeal.main_v93) = v8 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v0)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v0) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v41) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def Claim : Prop :=
  ∃ (hExchange : Cert.Exchange.Facts) (hExchangeIdeal : Cert.ExchangeIdeal.Facts) (hExchangeRefIdeal : Cert.ExchangeRefIdeal.Facts) (hExchangeRef : Cert.ExchangeRef.Facts) (hGather : Cert.Gather.Facts) (hGatherIdeal : Cert.GatherIdeal.Facts) (hGatherRefIdeal : Cert.GatherRefIdeal.Facts) (hGatherRef : Cert.GatherRef.Facts) (hSmall : Cert.Small.Facts) (hSmallIdeal : Cert.SmallIdeal.Facts) (hSmallRefIdeal : Cert.SmallRefIdeal.Facts) (hSmallRef : Cert.SmallRef.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hNormFwd : Cert.NormFwd.Facts) (hNormFwdIdeal : Cert.NormFwdIdeal.Facts) (hNormFwdRefIdeal : Cert.NormFwdRefIdeal.Facts) (hNormBwd : Cert.NormBwd.Facts) (hNormBwdIdeal : Cert.NormBwdIdeal.Facts) (hNormBwdRefIdeal : Cert.NormBwdRefIdeal.Facts) (hInProj : Cert.InProj.Facts) (hInProjIdeal : Cert.InProjIdeal.Facts) (hInProjRefIdeal : Cert.InProjRefIdeal.Facts) (hDxnSgu : Cert.DxnSgu.Facts) (hDxnSguIdeal : Cert.DxnSguIdeal.Facts) (hDxnSguRefIdeal : Cert.DxnSguRefIdeal.Facts) (hDxnGate : Cert.DxnGate.Facts) (hDxnGateIdeal : Cert.DxnGateIdeal.Facts) (hDxnGateRefIdeal : Cert.DxnGateRefIdeal.Facts) (hDxnSsd : Cert.DxnSsd.Facts) (hDxnSsdIdeal : Cert.DxnSsdIdeal.Facts) (hDxnSsdRefIdeal : Cert.DxnSsdRefIdeal.Facts) (hDwSgu : Cert.DwSgu.Facts) (hDwSguIdeal : Cert.DwSguIdeal.Facts) (hDwSguRefIdeal : Cert.DwSguRefIdeal.Facts) (hDwGate : Cert.DwGate.Facts) (hDwGateIdeal : Cert.DwGateIdeal.Facts) (hDwGateRefIdeal : Cert.DwGateRefIdeal.Facts) (hDwSsd : Cert.DwSsd.Facts) (hDwSsdIdeal : Cert.DwSsdIdeal.Facts) (hDwSsdRefIdeal : Cert.DwSsdRefIdeal.Facts) (hDwOut : Cert.DwOut.Facts) (hDwOutIdeal : Cert.DwOutIdeal.Facts) (hDwOutRefIdeal : Cert.DwOutRefIdeal.Facts) (hHead : Cert.Head.Facts) (hHeadIdeal : Cert.HeadIdeal.Facts) (hHeadRefIdeal : Cert.HeadRefIdeal.Facts) (hSgu : Cert.Sgu.Facts) (hSguIdeal : Cert.SguIdeal.Facts) (hSguRefIdeal : Cert.SguRefIdeal.Facts),
    quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_DxnSgu (hDxnSgu := hDxnSgu)
    ∧ quiescent_DxnSguIdeal (hDxnSguIdeal := hDxnSguIdeal)
    ∧ quiescent_DxnSguRefIdeal (hDxnSguRefIdeal := hDxnSguRefIdeal)
    ∧ quiescent_DxnGate (hDxnGate := hDxnGate)
    ∧ quiescent_DxnGateIdeal (hDxnGateIdeal := hDxnGateIdeal)
    ∧ quiescent_DxnGateRefIdeal (hDxnGateRefIdeal := hDxnGateRefIdeal)
    ∧ quiescent_DxnSsd (hDxnSsd := hDxnSsd)
    ∧ quiescent_DxnSsdIdeal (hDxnSsdIdeal := hDxnSsdIdeal)
    ∧ quiescent_DxnSsdRefIdeal (hDxnSsdRefIdeal := hDxnSsdRefIdeal)
    ∧ quiescent_DwSgu (hDwSgu := hDwSgu)
    ∧ quiescent_DwSguIdeal (hDwSguIdeal := hDwSguIdeal)
    ∧ quiescent_DwSguRefIdeal (hDwSguRefIdeal := hDwSguRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwSsd (hDwSsd := hDwSsd)
    ∧ quiescent_DwSsdIdeal (hDwSsdIdeal := hDwSsdIdeal)
    ∧ quiescent_DwSsdRefIdeal (hDwSsdRefIdeal := hDwSsdRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Head (hHead := hHead)
    ∧ quiescent_HeadIdeal (hHeadIdeal := hHeadIdeal)
    ∧ quiescent_HeadRefIdeal (hHeadRefIdeal := hHeadRefIdeal)
    ∧ quiescent_Sgu (hSgu := hSgu)
    ∧ quiescent_SguIdeal (hSguIdeal := hSguIdeal)
    ∧ quiescent_SguRefIdeal (hSguRefIdeal := hSguRefIdeal)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_InProj_InProjIdeal
    ∧ algebraic_InProjIdeal_InProjRefIdeal (hInProjIdeal := hInProjIdeal) (hInProjRefIdeal := hInProjRefIdeal)
    ∧ preserves_DxnSgu_DxnSguIdeal
    ∧ algebraic_DxnSguIdeal_DxnSguRefIdeal (hDxnSguIdeal := hDxnSguIdeal) (hDxnSguRefIdeal := hDxnSguRefIdeal)
    ∧ preserves_DxnGate_DxnGateIdeal
    ∧ algebraic_DxnGateIdeal_DxnGateRefIdeal (hDxnGateIdeal := hDxnGateIdeal) (hDxnGateRefIdeal := hDxnGateRefIdeal)
    ∧ preserves_DxnSsd_DxnSsdIdeal
    ∧ algebraic_DxnSsdIdeal_DxnSsdRefIdeal (hDxnSsdIdeal := hDxnSsdIdeal) (hDxnSsdRefIdeal := hDxnSsdRefIdeal)
    ∧ preserves_DwSgu_DwSguIdeal
    ∧ algebraic_DwSguIdeal_DwSguRefIdeal (hDwSguIdeal := hDwSguIdeal) (hDwSguRefIdeal := hDwSguRefIdeal)
    ∧ preserves_DwGate_DwGateIdeal
    ∧ algebraic_DwGateIdeal_DwGateRefIdeal (hDwGateIdeal := hDwGateIdeal) (hDwGateRefIdeal := hDwGateRefIdeal)
    ∧ preserves_DwSsd_DwSsdIdeal
    ∧ algebraic_DwSsdIdeal_DwSsdRefIdeal (hDwSsdIdeal := hDwSsdIdeal) (hDwSsdRefIdeal := hDwSsdRefIdeal)
    ∧ preserves_DwOut_DwOutIdeal
    ∧ algebraic_DwOutIdeal_DwOutRefIdeal (hDwOutIdeal := hDwOutIdeal) (hDwOutRefIdeal := hDwOutRefIdeal)
    ∧ preserves_Head_HeadIdeal
    ∧ algebraic_HeadIdeal_HeadRefIdeal (hHeadIdeal := hHeadIdeal) (hHeadRefIdeal := hHeadRefIdeal)
    ∧ preserves_Sgu_SguIdeal
    ∧ algebraic_SguIdeal_SguRefIdeal (hSguIdeal := hSguIdeal) (hSguRefIdeal := hSguRefIdeal)
-- ==== Exchange.lean ====
abbrev S8x2048x1924 : Shape := ⟨3, ![8, 2048, 1924]⟩
abbrev S8x256x2048 : Shape := ⟨3, ![8, 256, 2048]⟩
abbrev S7x2 : Shape := ⟨2, ![7, 2]⟩
abbrev S2 : Shape := ⟨1, ![2]⟩
abbrev S1 : Shape := ⟨1, ![1]⟩
abbrev S_ : Shape := ⟨0, ![]⟩
abbrev S1x2048x1924 : Shape := ⟨3, ![1, 2048, 1924]⟩
abbrev S2048x1924 : Shape := ⟨2, ![2048, 1924]⟩
abbrev S1x256x2048 : Shape := ⟨3, ![1, 256, 2048]⟩
abbrev S256x2048 : Shape := ⟨2, ![256, 2048]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x1924, .bf16⟩
  | .hbm, ⟨1, _⟩ => ⟨S8x256x2048, .bf16⟩
  | .hbm, ⟨2, _⟩ => ⟨S8x2048x1924, .bf16⟩
  | .hbm, ⟨3, _⟩ => ⟨S8x256x2048, .bf16⟩
  | _, _ => ⟨S8x2048x1924, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_16 v5
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v29 : BitVec 32 := Scalar.addi v28 v25
  let c0_i32_76 : BitVec 32 := 0#32
  let c0_i32_77 : BitVec 32 := 0#32
  ![v29.toNat, 0, 0]
def k0_dev1 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v105 : BitVec 32 := Scalar.muli v2 c4_i32_70
  let v106 : BitVec 32 := Scalar.addi c0_i32_71 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v107 : BitVec 32 := Scalar.muli v5 c2_i32_72
  let v108 : BitVec 32 := Scalar.addi v106 v107
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c1_i32_73 : BitVec 32 := 1#32
  let v109 : BitVec 32 := Scalar.muli v25 c1_i32_73
  let v110 : BitVec 32 := Scalar.addi v108 v109
  v110.toNat
def k0_off4 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c4_i32_18 v2
  let c2_i32_19 : BitVec 32 := 2#32
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_17 v5
  let v32 : BitVec 32 := Scalar.muli c2_i32_19 v30
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.addi v33 v8
  let c0_i32_88 : BitVec 32 := 0#32
  let c0_i32_89 : BitVec 32 := 0#32
  ![v34.toNat, 0, 0]
def k0_dev2 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v119 : BitVec 32 := Scalar.muli v2 c4_i32_82
  let v120 : BitVec 32 := Scalar.addi c0_i32_83 v119
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_17 v5
  let c2_i32_84 : BitVec 32 := 2#32
  let v121 : BitVec 32 := Scalar.muli v30 c2_i32_84
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v123 : BitVec 32 := Scalar.muli v8 c1_i32_85
  let v124 : BitVec 32 := Scalar.addi v122 v123
  v124.toNat
def k0_off5 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c4_i32_22 v2
  let c2_i32_23 : BitVec 32 := 2#32
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_20 v5
  let v38 : BitVec 32 := Scalar.muli c2_i32_23 v35
  let v39 : BitVec 32 := Scalar.addi v37 v38
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_21 v8
  let v40 : BitVec 32 := Scalar.addi v39 v36
  let c0_i32_100 : BitVec 32 := 0#32
  let c0_i32_101 : BitVec 32 := 0#32
  ![v40.toNat, 0, 0]
def k0_dev3 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v133 : BitVec 32 := Scalar.muli v2 c4_i32_94
  let v134 : BitVec 32 := Scalar.addi c0_i32_95 v133
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_20 v5
  let c2_i32_96 : BitVec 32 := 2#32
  let v135 : BitVec 32 := Scalar.muli v35 c2_i32_96
  let v136 : BitVec 32 := Scalar.addi v134 v135
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_21 v8
  let c1_i32_97 : BitVec 32 := 1#32
  let v137 : BitVec 32 := Scalar.muli v36 c1_i32_97
  let v138 : BitVec 32 := Scalar.addi v136 v137
  v138.toNat
def k0_off6 (d0 : Dev nD) : Fin 3 → Nat :=
  let c4_i32_25 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.subi c1_i32_24 v2
  let v42 : BitVec 32 := Scalar.muli c4_i32_25 v41
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_26 v5
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_111 : BitVec 32 := 0#32
  let c0_i32_112 : BitVec 32 := 0#32
  ![v45.toNat, 0, 0]
def k0_dev4 (d0 : Dev nD) : Nat :=
  let c0_i32_106 : BitVec 32 := 0#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.subi c1_i32_24 v2
  let c4_i32_105 : BitVec 32 := 4#32
  let v147 : BitVec 32 := Scalar.muli v41 c4_i32_105
  let v148 : BitVec 32 := Scalar.addi c0_i32_106 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v149 : BitVec 32 := Scalar.muli v5 c2_i32_107
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v151 : BitVec 32 := Scalar.muli v8 c1_i32_108
  let v152 : BitVec 32 := Scalar.addi v150 v151
  v152.toNat
def k0_off7 (d0 : Dev nD) : Fin 3 → Nat :=
  let c4_i32_29 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_27 v2
  let v48 : BitVec 32 := Scalar.muli c4_i32_29 v46
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.muli c2_i32_30 v5
  let v50 : BitVec 32 := Scalar.addi v48 v49
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_28 v8
  let v51 : BitVec 32 := Scalar.addi v50 v47
  let c0_i32_123 : BitVec 32 := 0#32
  let c0_i32_124 : BitVec 32 := 0#32
  ![v51.toNat, 0, 0]
def k0_dev5 (d0 : Dev nD) : Nat :=
  let c0_i32_118 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_27 v2
  let c4_i32_117 : BitVec 32 := 4#32
  let v161 : BitVec 32 := Scalar.muli v46 c4_i32_117
  let v162 : BitVec 32 := Scalar.addi c0_i32_118 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v163 : BitVec 32 := Scalar.muli v5 c2_i32_119
  let v164 : BitVec 32 := Scalar.addi v162 v163
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_28 v8
  let c1_i32_120 : BitVec 32 := 1#32
  let v165 : BitVec 32 := Scalar.muli v47 c1_i32_120
  let v166 : BitVec 32 := Scalar.addi v164 v165
  v166.toNat
def k0_off8 (d0 : Dev nD) : Fin 3 → Nat :=
  let c4_i32_33 : BitVec 32 := 4#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.subi c1_i32_31 v2
  let v54 : BitVec 32 := Scalar.muli c4_i32_33 v52
  let c2_i32_34 : BitVec 32 := 2#32
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_32 v5
  let v55 : BitVec 32 := Scalar.muli c2_i32_34 v53
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.addi v56 v8
  let c0_i32_134 : BitVec 32 := 0#32
  let c0_i32_135 : BitVec 32 := 0#32
  ![v57.toNat, 0, 0]
def k0_dev6 (d0 : Dev nD) : Nat :=
  let c0_i32_129 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.subi c1_i32_31 v2
  let c4_i32_128 : BitVec 32 := 4#32
  let v175 : BitVec 32 := Scalar.muli v52 c4_i32_128
  let v176 : BitVec 32 := Scalar.addi c0_i32_129 v175
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_32 v5
  let c2_i32_130 : BitVec 32 := 2#32
  let v177 : BitVec 32 := Scalar.muli v53 c2_i32_130
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v179 : BitVec 32 := Scalar.muli v8 c1_i32_131
  let v180 : BitVec 32 := Scalar.addi v178 v179
  v180.toNat
def k0_off9 (d0 : Dev nD) : Fin 3 → Nat :=
  let c4_i32_38 : BitVec 32 := 4#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.subi c1_i32_35 v2
  let v61 : BitVec 32 := Scalar.muli c4_i32_38 v58
  let c2_i32_39 : BitVec 32 := 2#32
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.subi c1_i32_36 v5
  let v62 : BitVec 32 := Scalar.muli c2_i32_39 v59
  let v63 : BitVec 32 := Scalar.addi v61 v62
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.subi c1_i32_37 v8
  let v64 : BitVec 32 := Scalar.addi v63 v60
  let c0_i32_145 : BitVec 32 := 0#32
  let c0_i32_146 : BitVec 32 := 0#32
  ![v64.toNat, 0, 0]
def k0_dev7 (d0 : Dev nD) : Nat :=
  let c0_i32_140 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.subi c1_i32_35 v2
  let c4_i32_139 : BitVec 32 := 4#32
  let v189 : BitVec 32 := Scalar.muli v58 c4_i32_139
  let v190 : BitVec 32 := Scalar.addi c0_i32_140 v189
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.subi c1_i32_36 v5
  let c2_i32_141 : BitVec 32 := 2#32
  let v191 : BitVec 32 := Scalar.muli v59 c2_i32_141
  let v192 : BitVec 32 := Scalar.addi v190 v191
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.subi c1_i32_37 v8
  let c1_i32_142 : BitVec 32 := 1#32
  let v193 : BitVec 32 := Scalar.muli v60 c1_i32_142
  let v194 : BitVec 32 := Scalar.addi v192 v193
  v194.toNat
def k0_off10 (d0 : Dev nD) : Fin 3 → Nat :=
  let c4_i32_41 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v66 : BitVec 32 := Scalar.muli c4_i32_41 v2
  let c2_i32_42 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_42 v5
  let v68 : BitVec 32 := Scalar.addi v66 v67
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_40 v8
  let v69 : BitVec 32 := Scalar.addi v68 v65
  let c0_i32_157 : BitVec 32 := 0#32
  let c0_i32_158 : BitVec 32 := 0#32
  ![v69.toNat, 0, 0]
def k0_dev8 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v203 : BitVec 32 := Scalar.muli v2 c4_i32_151
  let v204 : BitVec 32 := Scalar.addi c0_i32_152 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v205 : BitVec 32 := Scalar.muli v5 c2_i32_153
  let v206 : BitVec 32 := Scalar.addi v204 v205
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_40 v8
  let c1_i32_154 : BitVec 32 := 1#32
  let v207 : BitVec 32 := Scalar.muli v65 c1_i32_154
  let v208 : BitVec 32 := Scalar.addi v206 v207
  v208.toNat
def k0_off11 (d0 : Dev nD) : Fin 3 → Nat :=
  let c4_i32_44 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c4_i32_44 v2
  let c2_i32_45 : BitVec 32 := 2#32
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_43 v5
  let v72 : BitVec 32 := Scalar.muli c2_i32_45 v70
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.addi v73 v8
  let c0_i32_169 : BitVec 32 := 0#32
  let c0_i32_170 : BitVec 32 := 0#32
  ![v74.toNat, 0, 0]
def k0_dev9 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v217 : BitVec 32 := Scalar.muli v2 c4_i32_163
  let v218 : BitVec 32 := Scalar.addi c0_i32_164 v217
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_43 v5
  let c2_i32_165 : BitVec 32 := 2#32
  let v219 : BitVec 32 := Scalar.muli v70 c2_i32_165
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v221 : BitVec 32 := Scalar.muli v8 c1_i32_166
  let v222 : BitVec 32 := Scalar.addi v220 v221
  v222.toNat
def k0_off12 (d0 : Dev nD) : Fin 3 → Nat :=
  let c4_i32_48 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.muli c4_i32_48 v2
  let c2_i32_49 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.subi c1_i32_46 v5
  let v78 : BitVec 32 := Scalar.muli c2_i32_49 v75
  let v79 : BitVec 32 := Scalar.addi v77 v78
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_47 v8
  let v80 : BitVec 32 := Scalar.addi v79 v76
  let c0_i32_181 : BitVec 32 := 0#32
  let c0_i32_182 : BitVec 32 := 0#32
  ![v80.toNat, 0, 0]
def k0_dev10 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v231 : BitVec 32 := Scalar.muli v2 c4_i32_175
  let v232 : BitVec 32 := Scalar.addi c0_i32_176 v231
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.subi c1_i32_46 v5
  let c2_i32_177 : BitVec 32 := 2#32
  let v233 : BitVec 32 := Scalar.muli v75 c2_i32_177
  let v234 : BitVec 32 := Scalar.addi v232 v233
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_47 v8
  let c1_i32_178 : BitVec 32 := 1#32
  let v235 : BitVec 32 := Scalar.muli v76 c1_i32_178
  let v236 : BitVec 32 := Scalar.addi v234 v235
  v236.toNat
def k0_off13 (d0 : Dev nD) : Fin 3 → Nat :=
  let c4_i32_51 : BitVec 32 := 4#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_50 v2
  let v82 : BitVec 32 := Scalar.muli c4_i32_51 v81
  let c2_i32_52 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.muli c2_i32_52 v5
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.addi v84 v8
  let c0_i32_193 : BitVec 32 := 0#32
  let c0_i32_194 : BitVec 32 := 0#32
  ![v85.toNat, 0, 0]
def k0_dev11 (d0 : Dev nD) : Nat :=
  let c0_i32_188 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_50 v2
  let c4_i32_187 : BitVec 32 := 4#32
  let v245 : BitVec 32 := Scalar.muli v81 c4_i32_187
  let v246 : BitVec 32 := Scalar.addi c0_i32_188 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v247 : BitVec 32 := Scalar.muli v5 c2_i32_189
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v249 : BitVec 32 := Scalar.muli v8 c1_i32_190
  let v250 : BitVec 32 := Scalar.addi v248 v249
  v250.toNat
def k0_off14 (d0 : Dev nD) : Fin 3 → Nat :=
  let c4_i32_55 : BitVec 32 := 4#32
  let c1_i32_53 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_53 v2
  let v88 : BitVec 32 := Scalar.muli c4_i32_55 v86
  let c2_i32_56 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.muli c2_i32_56 v5
  let v90 : BitVec 32 := Scalar.addi v88 v89
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_54 v8
  let v91 : BitVec 32 := Scalar.addi v90 v87
  let c0_i32_205 : BitVec 32 := 0#32
  let c0_i32_206 : BitVec 32 := 0#32
  ![v91.toNat, 0, 0]
def k0_dev12 (d0 : Dev nD) : Nat :=
  let c0_i32_200 : BitVec 32 := 0#32
  let c1_i32_53 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_53 v2
  let c4_i32_199 : BitVec 32 := 4#32
  let v259 : BitVec 32 := Scalar.muli v86 c4_i32_199
  let v260 : BitVec 32 := Scalar.addi c0_i32_200 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v261 : BitVec 32 := Scalar.muli v5 c2_i32_201
  let v262 : BitVec 32 := Scalar.addi v260 v261
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_54 v8
  let c1_i32_202 : BitVec 32 := 1#32
  let v263 : BitVec 32 := Scalar.muli v87 c1_i32_202
  let v264 : BitVec 32 := Scalar.addi v262 v263
  v264.toNat
def k0_off15 (d0 : Dev nD) : Fin 3 → Nat :=
  let c4_i32_59 : BitVec 32 := 4#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.subi c1_i32_57 v2
  let v94 : BitVec 32 := Scalar.muli c4_i32_59 v92
  let c2_i32_60 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.subi c1_i32_58 v5
  let v95 : BitVec 32 := Scalar.muli c2_i32_60 v93
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.addi v96 v8
  let c0_i32_217 : BitVec 32 := 0#32
  let c0_i32_218 : BitVec 32 := 0#32
  ![v97.toNat, 0, 0]
def k0_dev13 (d0 : Dev nD) : Nat :=
  let c0_i32_212 : BitVec 32 := 0#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.subi c1_i32_57 v2
  let c4_i32_211 : BitVec 32 := 4#32
  let v273 : BitVec 32 := Scalar.muli v92 c4_i32_211
  let v274 : BitVec 32 := Scalar.addi c0_i32_212 v273
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.subi c1_i32_58 v5
  let c2_i32_213 : BitVec 32 := 2#32
  let v275 : BitVec 32 := Scalar.muli v93 c2_i32_213
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v277 : BitVec 32 := Scalar.muli v8 c1_i32_214
  let v278 : BitVec 32 := Scalar.addi v276 v277
  v278.toNat
def k0_off16 (d0 : Dev nD) : Fin 3 → Nat :=
  let c4_i32_64 : BitVec 32 := 4#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_61 v2
  let v101 : BitVec 32 := Scalar.muli c4_i32_64 v98
  let c2_i32_65 : BitVec 32 := 2#32
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_62 v5
  let v102 : BitVec 32 := Scalar.muli c2_i32_65 v99
  let v103 : BitVec 32 := Scalar.addi v101 v102
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_63 v8
  let v104 : BitVec 32 := Scalar.addi v103 v100
  let c0_i32_229 : BitVec 32 := 0#32
  let c0_i32_230 : BitVec 32 := 0#32
  ![v104.toNat, 0, 0]
def k0_dev14 (d0 : Dev nD) : Nat :=
  let c0_i32_224 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_61 v2
  let c4_i32_223 : BitVec 32 := 4#32
  let v287 : BitVec 32 := Scalar.muli v98 c4_i32_223
  let v288 : BitVec 32 := Scalar.addi c0_i32_224 v287
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_62 v5
  let c2_i32_225 : BitVec 32 := 2#32
  let v289 : BitVec 32 := Scalar.muli v99 c2_i32_225
  let v290 : BitVec 32 := Scalar.addi v288 v289
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_63 v8
  let c1_i32_226 : BitVec 32 := 1#32
  let v291 : BitVec 32 := Scalar.muli v100 c1_i32_226
  let v292 : BitVec 32 := Scalar.addi v290 v291
  v292.toNat
-- ==== ExchangeRef.lean ====
abbrev S64x2048x1924 : Shape := ⟨3, ![64, 2048, 1924]⟩
abbrev S64x256x2048 : Shape := ⟨3, ![64, 256, 2048]⟩
abbrev S8x8x2048x1924 : Shape := ⟨4, ![8, 8, 2048, 1924]⟩
abbrev S8x8x256x2048 : Shape := ⟨4, ![8, 8, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S64x2048x1924, .bf16⟩
  | .hbm, ⟨1, _⟩ => ⟨S64x256x2048, .bf16⟩
  | .hbm, ⟨2, _⟩ => ⟨S8x8x2048x1924, .bf16⟩
  | .hbm, ⟨3, _⟩ => ⟨S8x8x2048x1924, .bf16⟩
  | .hbm, ⟨4, _⟩ => ⟨S64x2048x1924, .bf16⟩
  | .hbm, ⟨5, _⟩ => ⟨S8x8x256x2048, .bf16⟩
  | .hbm, ⟨6, _⟩ => ⟨S8x8x256x2048, .bf16⟩
  | .hbm, ⟨7, _⟩ => ⟨S64x256x2048, .bf16⟩
  | _, _ => ⟨S64x2048x1924, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gather.lean ====
abbrev S2048x1924 : Shape := ⟨2, ![2048, 1924]⟩
abbrev S256x2048 : Shape := ⟨2, ![256, 2048]⟩
abbrev S4x384 : Shape := ⟨2, ![4, 384]⟩
abbrev S8x2048x1924 : Shape := ⟨3, ![8, 2048, 1924]⟩
abbrev S8x256x2048 : Shape := ⟨3, ![8, 256, 2048]⟩
abbrev S8x4x384 : Shape := ⟨3, ![8, 4, 384]⟩
abbrev S7x3 : Shape := ⟨2, ![7, 3]⟩
abbrev S3 : Shape := ⟨1, ![3]⟩
abbrev S1 : Shape := ⟨1, ![1]⟩
abbrev S_ : Shape := ⟨0, ![]⟩
abbrev S1x2048x1924 : Shape := ⟨3, ![1, 2048, 1924]⟩
abbrev S1x256x2048 : Shape := ⟨3, ![1, 256, 2048]⟩
abbrev S1x4x384 : Shape := ⟨3, ![1, 4, 384]⟩
abbrev S1x1 : Shape := ⟨2, ![1, 1]⟩

abbrev nBuf : Space → Nat
  | .hbm => 6
  | .vmem => 0
  | .smem => 0
  | _ => 0

abbrev bufTy : (tb : Table) → Fin (tcTables nBuf tb) → BufTy
  | .hbm, ⟨0, _⟩ => ⟨S2048x1924, .bf16⟩
  | .hbm, ⟨1, _⟩ => ⟨S256x2048, .bf16⟩
  | .hbm, ⟨2, _⟩ => ⟨S4x384, .f32⟩
  | .hbm, ⟨3, _⟩ => ⟨S8x2048x1924, .bf16⟩
  | .hbm, ⟨4, _⟩ => ⟨S8x256x2048, .bf16⟩
  | .hbm, ⟨5, _⟩ => ⟨S8x4x384, .f32⟩
  | _, _ => ⟨S2048x1924, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_14 : BitVec 32 := 0#32
  let c0_i32_15 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_17 : BitVec 32 := 0#32
  let c0_i32_18 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_20 : BitVec 32 := 0#32
  let c0_i32_21 : BitVec 32 := 0#32
  ![v25.toNat, 0, 0]
def k0_dev1 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v86 : BitVec 32 := Scalar.muli v2 c4_i32_50
  let v87 : BitVec 32 := Scalar.addi c0_i32_51 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v88 : BitVec 32 := Scalar.muli v5 c2_i32_52
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v90 : BitVec 32 := Scalar.muli v9 c1_i32_53
  let v91 : BitVec 32 := Scalar.addi v89 v90
  v91.toNat
def k0_dev2 (d0 : Dev nD) : Nat :=
  let c0_i32_61 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_60 : BitVec 32 := 4#32
  let v98 : BitVec 32 := Scalar.muli v10 c4_i32_60
  let v99 : BitVec 32 := Scalar.addi c0_i32_61 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v100 : BitVec 32 := Scalar.muli v5 c2_i32_62
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v102 : BitVec 32 := Scalar.muli v8 c1_i32_63
  let v103 : BitVec 32 := Scalar.addi v101 v102
  v103.toNat
def k0_dev3 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v110 : BitVec 32 := Scalar.muli v2 c4_i32_70
  let v111 : BitVec 32 := Scalar.addi c0_i32_71 v110
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_72 : BitVec 32 := 2#32
  let v112 : BitVec 32 := Scalar.muli v11 c2_i32_72
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v114 : BitVec 32 := Scalar.muli v8 c1_i32_73
  let v115 : BitVec 32 := Scalar.addi v113 v114
  v115.toNat
def k0_dev4 (d0 : Dev nD) : Nat :=
  let c0_i32_80 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_79 : BitVec 32 := 4#32
  let v122 : BitVec 32 := Scalar.muli v12 c4_i32_79
  let v123 : BitVec 32 := Scalar.addi c0_i32_80 v122
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_81 : BitVec 32 := 2#32
  let v124 : BitVec 32 := Scalar.muli v13 c2_i32_81
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v126 : BitVec 32 := Scalar.muli v8 c1_i32_82
  let v127 : BitVec 32 := Scalar.addi v125 v126
  v127.toNat
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v134 : BitVec 32 := Scalar.muli v2 c4_i32_89
  let v135 : BitVec 32 := Scalar.addi c0_i32_90 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v136 : BitVec 32 := Scalar.muli v5 c2_i32_91
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v138 : BitVec 32 := Scalar.muli v9 c1_i32_92
  let v139 : BitVec 32 := Scalar.addi v137 v138
  v139.toNat
def k0_dev6 (d0 : Dev nD) : Nat :=
  let c0_i32_100 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_99 : BitVec 32 := 4#32
  let v146 : BitVec 32 := Scalar.muli v10 c4_i32_99
  let v147 : BitVec 32 := Scalar.addi c0_i32_100 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v148 : BitVec 32 := Scalar.muli v5 c2_i32_101
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v150 : BitVec 32 := Scalar.muli v8 c1_i32_102
  let v151 : BitVec 32 := Scalar.addi v149 v150
  v151.toNat
def k0_dev7 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v158 : BitVec 32 := Scalar.muli v2 c4_i32_109
  let v159 : BitVec 32 := Scalar.addi c0_i32_110 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_111 : BitVec 32 := 2#32
  let v160 : BitVec 32 := Scalar.muli v11 c2_i32_111
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v162 : BitVec 32 := Scalar.muli v8 c1_i32_112
  let v163 : BitVec 32 := Scalar.addi v161 v162
  v163.toNat
def k0_dev8 (d0 : Dev nD) : Nat :=
  let c0_i32_120 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_119 : BitVec 32 := 4#32
  let v170 : BitVec 32 := Scalar.muli v12 c4_i32_119
  let v171 : BitVec 32 := Scalar.addi c0_i32_120 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_121 : BitVec 32 := 2#32
  let v172 : BitVec 32 := Scalar.muli v13 c2_i32_121
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v174 : BitVec 32 := Scalar.muli v8 c1_i32_122
  let v175 : BitVec 32 := Scalar.addi v173 v174
  v175.toNat
def k0_dev9 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v182 : BitVec 32 := Scalar.muli v2 c4_i32_129
  let v183 : BitVec 32 := Scalar.addi c0_i32_130 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v184 : BitVec 32 := Scalar.muli v5 c2_i32_131
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v186 : BitVec 32 := Scalar.muli v9 c1_i32_132
  let v187 : BitVec 32 := Scalar.addi v185 v186
  v187.toNat
def k0_dev10 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v194 : BitVec 32 := Scalar.muli v10 c4_i32_139
  let v195 : BitVec 32 := Scalar.addi c0_i32_140 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v196 : BitVec 32 := Scalar.muli v5 c2_i32_141
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v198 : BitVec 32 := Scalar.muli v8 c1_i32_142
  let v199 : BitVec 32 := Scalar.addi v197 v198
  v199.toNat
def k0_dev11 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v206 : BitVec 32 := Scalar.muli v2 c4_i32_149
  let v207 : BitVec 32 := Scalar.addi c0_i32_150 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_151 : BitVec 32 := 2#32
  let v208 : BitVec 32 := Scalar.muli v11 c2_i32_151
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v210 : BitVec 32 := Scalar.muli v8 c1_i32_152
  let v211 : BitVec 32 := Scalar.addi v209 v210
  v211.toNat
def k0_dev12 (d0 : Dev nD) : Nat :=
  let c0_i32_160 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_159 : BitVec 32 := 4#32
  let v218 : BitVec 32 := Scalar.muli v12 c4_i32_159
  let v219 : BitVec 32 := Scalar.addi c0_i32_160 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_161 : BitVec 32 := 2#32
  let v220 : BitVec 32 := Scalar.muli v13 c2_i32_161
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v222 : BitVec 32 := Scalar.muli v8 c1_i32_162
  let v223 : BitVec 32 := Scalar.addi v221 v222
  v223.toNat
def k0_off4 (d0 : Dev nD) : Fin 3 → Nat :=
  let c4_i32_165 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v230 : BitVec 32 := Scalar.muli c4_i32_165 v10
  let c2_i32_166 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v231 : BitVec 32 := Scalar.muli c2_i32_166 v5
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v232 v8
  let c0_i32_175 : BitVec 32 := 0#32
  let c0_i32_176 : BitVec 32 := 0#32
  ![v233.toNat, 0, 0]
def k0_dev13 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v250 : BitVec 32 := Scalar.muli v2 c4_i32_185
  let v251 : BitVec 32 := Scalar.addi c0_i32_186 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v252 : BitVec 32 := Scalar.muli v5 c2_i32_187
  let v253 : BitVec 32 := Scalar.addi v251 v252
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_188 : BitVec 32 := 1#32
  let v254 : BitVec 32 := Scalar.muli v9 c1_i32_188
  let v255 : BitVec 32 := Scalar.addi v253 v254
  v255.toNat
def k0_off5 (d0 : Dev nD) : Fin 3 → Nat :=
  let c4_i32_193 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v264 : BitVec 32 := Scalar.muli c4_i32_193 v10
  let c2_i32_194 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v265 : BitVec 32 := Scalar.muli c2_i32_194 v5
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v267 : BitVec 32 := Scalar.addi v266 v8
  let c0_i32_203 : BitVec 32 := 0#32
  let c0_i32_204 : BitVec 32 := 0#32
  ![v267.toNat, 0, 0]
def k0_dev14 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v284 : BitVec 32 := Scalar.muli v2 c4_i32_213
  let v285 : BitVec 32 := Scalar.addi c0_i32_214 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v286 : BitVec 32 := Scalar.muli v5 c2_i32_215
  let v287 : BitVec 32 := Scalar.addi v285 v286
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_216 : BitVec 32 := 1#32
  let v288 : BitVec 32 := Scalar.muli v9 c1_i32_216
  let v289 : BitVec 32 := Scalar.addi v287 v288
  v289.toNat
def k0_off6 (d0 : Dev nD) : Fin 3 → Nat :=
  let c4_i32_221 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v298 : BitVec 32 := Scalar.muli c4_i32_221 v10
  let c2_i32_222 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v299 : BitVec 32 := Scalar.muli c2_i32_222 v5
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v301 : BitVec 32 := Scalar.addi v300 v8
  let c0_i32_231 : BitVec 32 := 0#32
  let c0_i32_232 : BitVec 32 := 0#32
  ![v301.toNat, 0, 0]
def k0_dev15 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v318 : BitVec 32 := Scalar.muli v2 c4_i32_241
  let v319 : BitVec 32 := Scalar.addi c0_i32_242 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v320 : BitVec 32 := Scalar.muli v5 c2_i32_243
  let v321 : BitVec 32 := Scalar.addi v319 v320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_244 : BitVec 32 := 1#32
  let v322 : BitVec 32 := Scalar.muli v9 c1_i32_244
  let v323 : BitVec 32 := Scalar.addi v321 v322
  v323.toNat
def k0_off7 (d0 : Dev nD) : Fin 3 → Nat :=
  let c4_i32_249 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v332 : BitVec 32 := Scalar.muli c4_i32_249 v2
  let c2_i32_250 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v333 : BitVec 32 := Scalar.muli c2_i32_250 v11
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.addi v334 v8
  let c0_i32_259 : BitVec 32 := 0#32
  let c0_i32_260 : BitVec 32 := 0#32
  ![v335.toNat, 0, 0]
def k0_dev16 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v352 : BitVec 32 := Scalar.muli v2 c4_i32_268
  let v353 : BitVec 32 := Scalar.addi c0_i32_269 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v354 : BitVec 32 := Scalar.muli v5 c2_i32_270
  let v355 : BitVec 32 := Scalar.addi v353 v354
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v356 : BitVec 32 := Scalar.muli v9 c1_i32_271
  let v357 : BitVec 32 := Scalar.addi v355 v356
  v357.toNat
def k0_off8 (d0 : Dev nD) : Fin 3 → Nat :=
  let c4_i32_276 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v366 : BitVec 32 := Scalar.muli c4_i32_276 v2
  let c2_i32_277 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v367 : BitVec 32 := Scalar.muli c2_i32_277 v11
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_286 : BitVec 32 := 0#32
  let c0_i32_287 : BitVec 32 := 0#32
  ![v369.toNat, 0, 0]
def k0_dev17 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v386 : BitVec 32 := Scalar.muli v2 c4_i32_296
  let v387 : BitVec 32 := Scalar.addi c0_i32_297 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v388 : BitVec 32 := Scalar.muli v5 c2_i32_298
  let v389 : BitVec 32 := Scalar.addi v387 v388
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_299 : BitVec 32 := 1#32
  let v390 : BitVec 32 := Scalar.muli v9 c1_i32_299
  let v391 : BitVec 32 := Scalar.addi v389 v390
  v391.toNat
def k0_off9 (d0 : Dev nD) : Fin 3 → Nat :=
  let c4_i32_304 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v400 : BitVec 32 := Scalar.muli c4_i32_304 v2
  let c2_i32_305 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v401 : BitVec 32 := Scalar.muli c2_i32_305 v11
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v403 : BitVec 32 := Scalar.addi v402 v8
  let c0_i32_314 : BitVec 32 := 0#32
  let c0_i32_315 : BitVec 32 := 0#32
  ![v403.toNat, 0, 0]
def k0_dev18 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v420 : BitVec 32 := Scalar.muli v2 c4_i32_324
  let v421 : BitVec 32 := Scalar.addi c0_i32_325 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v422 : BitVec 32 := Scalar.muli v5 c2_i32_326
  let v423 : BitVec 32 := Scalar.addi v421 v422
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_327 : BitVec 32 := 1#32
  let v424 : BitVec 32 := Scalar.muli v9 c1_i32_327
  let v425 : BitVec 32 := Scalar.addi v423 v424
  v425.toNat
def k0_off10 (d0 : Dev nD) : Fin 3 → Nat :=
  let c4_i32_332 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v434 : BitVec 32 := Scalar.muli c4_i32_332 v12
  let c2_i32_333 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v435 : BitVec 32 := Scalar.muli c2_i32_333 v13
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v437 : BitVec 32 := Scalar.addi v436 v8
  let c0_i32_342 : BitVec 32 := 0#32
  let c0_i32_343 : BitVec 32 := 0#32
  ![v437.toNat, 0, 0]
def k0_dev19 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v454 : BitVec 32 := Scalar.muli v2 c4_i32_351
  let v455 : BitVec 32 := Scalar.addi c0_i32_352 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v456 : BitVec 32 := Scalar.muli v5 c2_i32_353
  let v457 : BitVec 32 := Scalar.addi v455 v456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_354 : BitVec 32 := 1#32
  let v458 : BitVec 32 := Scalar.muli v9 c1_i32_354
  let v459 : BitVec 32 := Scalar.addi v457 v458
  v459.toNat
def k0_off11 (d0 : Dev nD) : Fin 3 → Nat :=
  let c4_i32_359 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v468 : BitVec 32 := Scalar.muli c4_i32_359 v12
  let c2_i32_360 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v469 : BitVec 32 := Scalar.muli c2_i32_360 v13
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v471 : BitVec 32 := Scalar.addi v470 v8
  let c0_i32_369 : BitVec 32 := 0#32
  let c0_i32_370 : BitVec 32 := 0#32
  ![v471.toNat, 0, 0]
def k0_dev20 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_379 : BitVec 32 := 4#32
  let v488 : BitVec 32 := Scalar.muli v2 c4_i32_379
  let v489 : BitVec 32 := Scalar.addi c0_i32_380 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v490 : BitVec 32 := Scalar.muli v5 c2_i32_381
  let v491 : BitVec 32 := Scalar.addi v489 v490
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_382 : BitVec 32 := 1#32
  let v492 : BitVec 32 := Scalar.muli v9 c1_i32_382
  let v493 : BitVec 32 := Scalar.addi v491 v492
  v493.toNat
def k0_off12 (d0 : Dev nD) : Fin 3 → Nat :=
  let c4_i32_387 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v502 : BitVec 32 := Scalar.muli c4_i32_387 v12
  let c2_i32_388 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v503 : BitVec 32 := Scalar.muli c2_i32_388 v13
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v505 : BitVec 32 := Scalar.addi v504 v8
  let c0_i32_397 : BitVec 32 := 0#32
  let c0_i32_398 : BitVec 32 := 0#32
  ![v505.toNat, 0, 0]
def k0_dev21 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v522 : BitVec 32 := Scalar.muli v2 c4_i32_407
  let v523 : BitVec 32 := Scalar.addi c0_i32_408 v522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v524 : BitVec 32 := Scalar.muli v5 c2_i32_409
  let v525 : BitVec 32 := Scalar.addi v523 v524
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_410 : BitVec 32 := 1#32
  let v526 : BitVec 32 := Scalar.muli v9 c1_i32_410
  let v527 : BitVec 32 := Scalar.addi v525 v526
  v527.toNat
def k0_off13 (d0 : Dev nD) : Fin 3 → Nat :=
  let c4_i32_415 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v536 : BitVec 32 := Scalar.muli c4_i32_415 v2
  let c2_i32_416 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v537 : BitVec 32 := Scalar.muli c2_i32_416 v5
  let v538 : BitVec 32 := Scalar.addi v536 v537
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v539 : BitVec 32 := Scalar.addi v538 v9
  let c0_i32_425 : BitVec 32 := 0#32
  let c0_i32_426 : BitVec 32 := 0#32
  ![v539.toNat, 0, 0]
def k0_off14 (d0 : Dev nD) : Fin 3 → Nat :=
  let c4_i32_430 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v553 : BitVec 32 := Scalar.muli c4_i32_430 v10
  let c2_i32_431 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v554 : BitVec 32 := Scalar.muli c2_i32_431 v5
  let v555 : BitVec 32 := Scalar.addi v553 v554
  let c1_i32_429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v552 : BitVec 32 := Scalar.subi c1_i32_429 v8
  let v556 : BitVec 32 := Scalar.addi v555 v552
  let c0_i32_440 : BitVec 32 := 0#32
  let c0_i32_441 : BitVec 32 := 0#32
  ![v556.toNat, 0, 0]
def k0_off15 (d0 : Dev nD) : Fin 3 → Nat :=
  let c4_i32_445 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v570 : BitVec 32 := Scalar.muli c4_i32_445 v2
  let c2_i32_446 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v571 : BitVec 32 := Scalar.muli c2_i32_446 v11
  let v572 : BitVec 32 := Scalar.addi v570 v571
  let c1_i32_444 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v569 : BitVec 32 := Scalar.subi c1_i32_444 v8
  let v573 : BitVec 32 := Scalar.addi v572 v569
  let c0_i32_455 : BitVec 32 := 0#32
  let c0_i32_456 : BitVec 32 := 0#32
  ![v573.toNat, 0, 0]
def k0_off16 (d0 : Dev nD) : Fin 3 → Nat :=
  let c4_i32_460 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v587 : BitVec 32 := Scalar.muli c4_i32_460 v12
  let c2_i32_461 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v588 : BitVec 32 := Scalar.muli c2_i32_461 v13
  let v589 : BitVec 32 := Scalar.addi v587 v588
  let c1_i32_459 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v586 : BitVec 32 := Scalar.subi c1_i32_459 v8
  let v590 : BitVec 32 := Scalar.addi v589 v586
  let c0_i32_470 : BitVec 32 := 0#32
  let c0_i32_471 : BitVec 32 := 0#32
  ![v590.toNat, 0, 0]
def k0_off17 (d0 : Dev nD) : Fin 3 → Nat :=
  let c4_i32_474 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v603 : BitVec 32 := Scalar.muli c4_i32_474 v2
  let c2_i32_475 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v604 : BitVec 32 := Scalar.muli c2_i32_475 v5
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v606 : BitVec 32 := Scalar.addi v605 v9
  let c0_i32_484 : BitVec 32 := 0#32
  let c0_i32_485 : BitVec 32 := 0#32
  ![v606.toNat, 0, 0]
def k0_off18 (d0 : Dev nD) : Fin 3 → Nat :=
  let c4_i32_489 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v620 : BitVec 32 := Scalar.muli c4_i32_489 v10
  let c2_i32_490 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v621 : BitVec 32 := Scalar.muli c2_i32_490 v5
  let v622 : BitVec 32 := Scalar.addi v620 v621
  let c1_i32_488 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.subi c1_i32_488 v8
  let v623 : BitVec 32 := Scalar.addi v622 v619
  let c0_i32_499 : BitVec 32 := 0#32
  let c0_i32_500 : BitVec 32 := 0#32
  ![v623.toNat, 0, 0]
def k0_off19 (d0 : Dev nD) : Fin 3 → Nat :=
  let c4_i32_504 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v637 : BitVec 32 := Scalar.muli c4_i32_504 v2
  let c2_i32_505 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v638 : BitVec 32 := Scalar.muli c2_i32_505 v11
  let v639 : BitVec 32 := Scalar.addi v637 v638
  let c1_i32_503 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v636 : BitVec 32 := Scalar.subi c1_i32_503 v8
  let v640 : BitVec 32 := Scalar.addi v639 v636
  let c0_i32_514 : BitVec 32 := 0#32
  let c0_i32_515 : BitVec 32 := 0#32
  ![v640.toNat, 0, 0]
def k0_off20 (d0 : Dev nD) : Fin 3 → Nat :=
  let c4_i32_519 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v654 : BitVec 32 := Scalar.muli c4_i32_519 v12
  let c2_i32_520 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v655 : BitVec 32 := Scalar.muli c2_i32_520 v13
  let v656 : BitVec 32 := Scalar.addi v654 v655
  let c1_i32_518 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.subi c1_i32_518 v8
  let v657 : BitVec 32 := Scalar.addi v656 v653
  let c0_i32_529 : BitVec 32 := 0#32
  let c0_i32_530 : BitVec 32 := 0#32
  ![v657.toNat, 0, 0]
def k0_off21 (d0 : Dev nD) : Fin 3 → Nat :=
  let c4_i32_533 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v670 : BitVec 32 := Scalar.muli c4_i32_533 v2
  let c2_i32_534 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v671 : BitVec 32 := Scalar.muli c2_i32_534 v5
  let v672 : BitVec 32 := Scalar.addi v670 v671
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v673 : BitVec 32 := Scalar.addi v672 v9
  let c0_i32_543 : BitVec 32 := 0#32
  let c0_i32_544 : BitVec 32 := 0#32
  ![v673.toNat, 0, 0]
def k0_off22 (d0 : Dev nD) : Fin 3 → Nat :=
  let c4_i32_548 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v687 : BitVec 32 := Scalar.muli c4_i32_548 v10
  let c2_i32_549 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v688 : BitVec 32 := Scalar.muli c2_i32_549 v5
  let v689 : BitVec 32 := Scalar.addi v687 v688
  let c1_i32_547 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v686 : BitVec 32 := Scalar.subi c1_i32_547 v8
  let v690 : BitVec 32 := Scalar.addi v689 v686
  let c0_i32_558 : BitVec 32 := 0#32
  let c0_i32_559 : BitVec 32 := 0#32
  ![v690.toNat, 0, 0]
def k0_off23 (d0 : Dev nD) : Fin 3 → Nat :=
  let c4_i32_563 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v704 : BitVec 32 := Scalar.muli c4_i32_563 v2
  let c2_i32_564 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v705 : BitVec 32 := Scalar.muli c2_i32_564 v11
  let v706 : BitVec 32 := Scalar.addi v704 v705
  let c1_i32_562 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v703 : BitVec 32 := Scalar.subi c1_i32_562 v8
  let v707 : BitVec 32 := Scalar.addi v706 v703
  let c0_i32_573 : BitVec 32 := 0#32
  let c0_i32_574 : BitVec 32 := 0#32
  ![v707.toNat, 0, 0]
def k0_off24 (d0 : Dev nD) : Fin 3 → Nat :=
  let c4_i32_578 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v721 : BitVec 32 := Scalar.muli c4_i32_578 v12
  let c2_i32_579 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v722 : BitVec 32 := Scalar.muli c2_i32_579 v13
  let v723 : BitVec 32 := Scalar.addi v721 v722
  let c1_i32_577 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v720 : BitVec 32 := Scalar.subi c1_i32_577 v8
  let v724 : BitVec 32 := Scalar.addi v723 v720
  let c0_i32_588 : BitVec 32 := 0#32
  let c0_i32_589 : BitVec 32 := 0#32
  ![v724.toNat, 0, 0]
-- ==== GatherRef.lean ====
abbrev S2048x15392 : Shape := ⟨2, ![2048, 15392]⟩
abbrev S2048x2048 : Shape := ⟨2, ![2048, 2048]⟩
abbrev S4x3072 : Shape := ⟨2, ![4, 3072]⟩
abbrev S2048x8x1924 : Shape := ⟨3, ![2048, 8, 1924]⟩
abbrev S8x2048x1924 : Shape := ⟨3, ![8, 2048, 1924]⟩
abbrev S8x256x2048 : Shape := ⟨3, ![8, 256, 2048]⟩
abbrev S4x8x384 : Shape := ⟨3, ![4, 8, 384]⟩
abbrev S8x4x384 : Shape := ⟨3, ![8, 4, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x15392, .bf16⟩
  | .hbm, ⟨1, _⟩ => ⟨S2048x2048, .bf16⟩
  | .hbm, ⟨2, _⟩ => ⟨S4x3072, .f32⟩
  | .hbm, ⟨3, _⟩ => ⟨S2048x8x1924, .bf16⟩
  | .hbm, ⟨4, _⟩ => ⟨S8x2048x1924, .bf16⟩
  | .hbm, ⟨5, _⟩ => ⟨S8x256x2048, .bf16⟩
  | .hbm, ⟨6, _⟩ => ⟨S4x8x384, .f32⟩
  | .hbm, ⟨7, _⟩ => ⟨S8x4x384, .f32⟩
  | _, _ => ⟨S2048x15392, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Small.lean ====
abbrev S2328x128 : Shape := ⟨2, ![2328, 128]⟩
abbrev S8x2328x128 : Shape := ⟨3, ![8, 2328, 128]⟩
abbrev S7x1 : Shape := ⟨2, ![7, 1]⟩
abbrev S1 : Shape := ⟨1, ![1]⟩
abbrev S_ : Shape := ⟨0, ![]⟩
abbrev S1x2328x128 : Shape := ⟨3, ![1, 2328, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S2328x128, .f32⟩
  | .hbm, ⟨1, _⟩ => ⟨S8x2328x128, .f32⟩
  | _, _ => ⟨S2328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_59 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v86 : BitVec 32 := Scalar.muli c4_i32_59 v10
  let c2_i32_60 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.muli c2_i32_60 v5
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c0_i32_69 : BitVec 32 := 0#32
  let c0_i32_70 : BitVec 32 := 0#32
  ![v89.toNat, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v106 : BitVec 32 := Scalar.muli v2 c4_i32_79
  let v107 : BitVec 32 := Scalar.addi c0_i32_80 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v108 : BitVec 32 := Scalar.muli v5 c2_i32_81
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v110 : BitVec 32 := Scalar.muli v9 c1_i32_82
  let v111 : BitVec 32 := Scalar.addi v109 v110
  v111.toNat
def k0_off3 (d0 : Dev nD) : Fin 3 → Nat :=
  let c4_i32_87 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.muli c4_i32_87 v2
  let c2_i32_88 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v121 : BitVec 32 := Scalar.muli c2_i32_88 v11
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.addi v122 v8
  let c0_i32_97 : BitVec 32 := 0#32
  let c0_i32_98 : BitVec 32 := 0#32
  ![v123.toNat, 0, 0]
def k0_dev6 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v140 : BitVec 32 := Scalar.muli v2 c4_i32_106
  let v141 : BitVec 32 := Scalar.addi c0_i32_107 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v142 : BitVec 32 := Scalar.muli v5 c2_i32_108
  let v143 : BitVec 32 := Scalar.addi v141 v142
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v144 : BitVec 32 := Scalar.muli v9 c1_i32_109
  let v145 : BitVec 32 := Scalar.addi v143 v144
  v145.toNat
def k0_off4 (d0 : Dev nD) : Fin 3 → Nat :=
  let c4_i32_114 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v154 : BitVec 32 := Scalar.muli c4_i32_114 v12
  let c2_i32_115 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v155 : BitVec 32 := Scalar.muli c2_i32_115 v13
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.addi v156 v8
  let c0_i32_124 : BitVec 32 := 0#32
  let c0_i32_125 : BitVec 32 := 0#32
  ![v157.toNat, 0, 0]
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v174 : BitVec 32 := Scalar.muli v2 c4_i32_133
  let v175 : BitVec 32 := Scalar.addi c0_i32_134 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v176 : BitVec 32 := Scalar.muli v5 c2_i32_135
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_136 : BitVec 32 := 1#32
  let v178 : BitVec 32 := Scalar.muli v9 c1_i32_136
  let v179 : BitVec 32 := Scalar.addi v177 v178
  v179.toNat
def k0_off5 (d0 : Dev nD) : Fin 3 → Nat :=
  let c4_i32_141 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v188 : BitVec 32 := Scalar.muli c4_i32_141 v2
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v189 : BitVec 32 := Scalar.muli c2_i32_142 v5
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v191 : BitVec 32 := Scalar.addi v190 v9
  let c0_i32_151 : BitVec 32 := 0#32
  let c0_i32_152 : BitVec 32 := 0#32
  ![v191.toNat, 0, 0]
def k0_off6 (d0 : Dev nD) : Fin 3 → Nat :=
  let c4_i32_156 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v205 : BitVec 32 := Scalar.muli c4_i32_156 v10
  let c2_i32_157 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : BitVec 32 := Scalar.muli c2_i32_157 v5
  let v207 : BitVec 32 := Scalar.addi v205 v206
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_155 v8
  let v208 : BitVec 32 := Scalar.addi v207 v204
  let c0_i32_166 : BitVec 32 := 0#32
  let c0_i32_167 : BitVec 32 := 0#32
  ![v208.toNat, 0, 0]
def k0_off7 (d0 : Dev nD) : Fin 3 → Nat :=
  let c4_i32_171 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.muli c4_i32_171 v2
  let c2_i32_172 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v223 : BitVec 32 := Scalar.muli c2_i32_172 v11
  let v224 : BitVec 32 := Scalar.addi v222 v223
  let c1_i32_170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.subi c1_i32_170 v8
  let v225 : BitVec 32 := Scalar.addi v224 v221
  let c0_i32_181 : BitVec 32 := 0#32
  let c0_i32_182 : BitVec 32 := 0#32
  ![v225.toNat, 0, 0]
def k0_off8 (d0 : Dev nD) : Fin 3 → Nat :=
  let c4_i32_186 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v239 : BitVec 32 := Scalar.muli c4_i32_186 v12
  let c2_i32_187 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v240 : BitVec 32 := Scalar.muli c2_i32_187 v13
  let v241 : BitVec 32 := Scalar.addi v239 v240
  let c1_i32_185 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v238 : BitVec 32 := Scalar.subi c1_i32_185 v8
  let v242 : BitVec 32 := Scalar.addi v241 v238
  let c0_i32_196 : BitVec 32 := 0#32
  let c0_i32_197 : BitVec 32 := 0#32
  ![v242.toNat, 0, 0]
-- ==== SmallRef.lean ====
abbrev S18624x128 : Shape := ⟨2, ![18624, 128]⟩
abbrev S8x2328x128 : Shape := ⟨3, ![8, 2328, 128]⟩

abbrev nBuf : Space → Nat
  | .hbm => 2
  | .vmem => 0
  | .smem => 0
  | _ => 0

abbrev bufTy : (tb : Table) → Fin (tcTables nBuf tb) → BufTy
  | .hbm, ⟨0, _⟩ => ⟨S18624x128, .f32⟩
  | .hbm, ⟨1, _⟩ => ⟨S8x2328x128, .f32⟩
  | _, _ => ⟨S18624x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamIn.lean ====
abbrev S8x2048x1924 : Shape := ⟨3, ![8, 2048, 1924]⟩
abbrev S2048x1924 : Shape := ⟨2, ![2048, 1924]⟩
abbrev S8x128x1924 : Shape := ⟨3, ![8, 128, 1924]⟩
abbrev S128x1924 : Shape := ⟨2, ![128, 1924]⟩
abbrev S1x128x1924 : Shape := ⟨3, ![1, 128, 1924]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1924, .bf16⟩
  | .hbm, ⟨1, _⟩ => ⟨S2048x1924, .f32⟩
  | .hbm, ⟨2, _⟩ => ⟨S2048x1924, .f32⟩
  | .hbm, ⟨3, _⟩ => ⟨S2048x1924, .f32⟩
  | .hbm, ⟨4, _⟩ => ⟨S2048x1924, .f32⟩
  | .hbm, ⟨5, _⟩ => ⟨S2048x1924, .f32⟩
  | .hbm, ⟨6, _⟩ => ⟨S2048x1924, .f32⟩
  | .hbm, ⟨7, _⟩ => ⟨S2048x1924, .f32⟩
  | .local _ .vmem, ⟨0, _⟩ => ⟨S8x128x1924, .bf16⟩
  | .local _ .vmem, ⟨1, _⟩ => ⟨S8x128x1924, .bf16⟩
  | .local _ .vmem, ⟨2, _⟩ => ⟨S128x1924, .f32⟩
  | .local _ .vmem, ⟨3, _⟩ => ⟨S128x1924, .f32⟩
  | .local _ .vmem, ⟨4, _⟩ => ⟨S128x1924, .f32⟩
  | .local _ .vmem, ⟨5, _⟩ => ⟨S128x1924, .f32⟩
  | .local _ .vmem, ⟨6, _⟩ => ⟨S128x1924, .f32⟩
  | .local _ .vmem, ⟨7, _⟩ => ⟨S128x1924, .f32⟩
  | .local _ .vmem, ⟨8, _⟩ => ⟨S128x1924, .f32⟩
  | .local _ .vmem, ⟨9, _⟩ => ⟨S128x1924, .f32⟩
  | .local _ .vmem, ⟨10, _⟩ => ⟨S128x1924, .f32⟩
  | .local _ .vmem, ⟨11, _⟩ => ⟨S128x1924, .f32⟩
  | .local _ .vmem, ⟨12, _⟩ => ⟨S128x1924, .f32⟩
  | .local _ .vmem, ⟨13, _⟩ => ⟨S128x1924, .f32⟩
  | .local _ .vmem, ⟨14, _⟩ => ⟨S128x1924, .f32⟩
  | .local _ .vmem, ⟨15, _⟩ => ⟨S128x1924, .f32⟩
  | _, _ => ⟨S8x2048x1924, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1924 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1924 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1924 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1924 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1924 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1924 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1924 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1924 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x2048x1924 : Shape := ⟨3, ![8, 2048, 1924]⟩
abbrev S2048x1924 : Shape := ⟨2, ![2048, 1924]⟩
abbrev S8x128x1924 : Shape := ⟨3, ![8, 128, 1924]⟩
abbrev S128x1924 : Shape := ⟨2, ![128, 1924]⟩
abbrev S1x128x1924 : Shape := ⟨3, ![1, 128, 1924]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1924, .bf16⟩
  | .hbm, ⟨1, _⟩ => ⟨S2048x1924, .f32⟩
  | .hbm, ⟨2, _⟩ => ⟨S2048x1924, .f32⟩
  | .hbm, ⟨3, _⟩ => ⟨S2048x1924, .f32⟩
  | .hbm, ⟨4, _⟩ => ⟨S2048x1924, .f32⟩
  | .hbm, ⟨5, _⟩ => ⟨S2048x1924, .f32⟩
  | .hbm, ⟨6, _⟩ => ⟨S2048x1924, .f32⟩
  | .hbm, ⟨7, _⟩ => ⟨S2048x1924, .f32⟩
  | .local _ .vmem, ⟨0, _⟩ => ⟨S8x128x1924, .bf16⟩
  | .local _ .vmem, ⟨1, _⟩ => ⟨S8x128x1924, .bf16⟩
  | .local _ .vmem, ⟨2, _⟩ => ⟨S128x1924, .f32⟩
  | .local _ .vmem, ⟨3, _⟩ => ⟨S128x1924, .f32⟩
  | .local _ .vmem, ⟨4, _⟩ => ⟨S128x1924, .f32⟩
  | .local _ .vmem, ⟨5, _⟩ => ⟨S128x1924, .f32⟩
  | .local _ .vmem, ⟨6, _⟩ => ⟨S128x1924, .f32⟩
  | .local _ .vmem, ⟨7, _⟩ => ⟨S128x1924, .f32⟩
  | .local _ .vmem, ⟨8, _⟩ => ⟨S128x1924, .f32⟩
  | .local _ .vmem, ⟨9, _⟩ => ⟨S128x1924, .f32⟩
  | .local _ .vmem, ⟨10, _⟩ => ⟨S128x1924, .f32⟩
  | .local _ .vmem, ⟨11, _⟩ => ⟨S128x1924, .f32⟩
  | .local _ .vmem, ⟨12, _⟩ => ⟨S128x1924, .f32⟩
  | .local _ .vmem, ⟨13, _⟩ => ⟨S128x1924, .f32⟩
  | .local _ .vmem, ⟨14, _⟩ => ⟨S128x1924, .f32⟩
  | .local _ .vmem, ⟨15, _⟩ => ⟨S128x1924, .f32⟩
  | _, _ => ⟨S8x2048x1924, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1924 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1924 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1924 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1924 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1924 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1924 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1924 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1924 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x2048x1924 : Shape := ⟨3, ![8, 2048, 1924]⟩
abbrev S2048x1924 : Shape := ⟨2, ![2048, 1924]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1924, .bf16⟩
  | .hbm, ⟨1, _⟩ => ⟨S2048x1924, .f32⟩
  | .hbm, ⟨2, _⟩ => ⟨S2048x1924, .f32⟩
  | .hbm, ⟨3, _⟩ => ⟨S2048x1924, .f32⟩
  | .hbm, ⟨4, _⟩ => ⟨S8x2048x1924, .f32⟩
  | .hbm, ⟨5, _⟩ => ⟨S_, .f32⟩
  | .hbm, ⟨6, _⟩ => ⟨S2048x1924, .f32⟩
  | .hbm, ⟨7, _⟩ => ⟨S_, .f32⟩
  | .hbm, ⟨8, _⟩ => ⟨S2048x1924, .f32⟩
  | .hbm, ⟨9, _⟩ => ⟨S2048x1924, .f32⟩
  | .hbm, ⟨10, _⟩ => ⟨S_, .f32⟩
  | .hbm, ⟨11, _⟩ => ⟨S2048x1924, .f32⟩
  | .hbm, ⟨12, _⟩ => ⟨S2048x1924, .f32⟩
  | .hbm, ⟨13, _⟩ => ⟨S2048x1924, .f32⟩
  | .hbm, ⟨14, _⟩ => ⟨S_, .f32⟩
  | .hbm, ⟨15, _⟩ => ⟨S2048x1924, .f32⟩
  | .hbm, ⟨16, _⟩ => ⟨S2048x1924, .f32⟩
  | .hbm, ⟨17, _⟩ => ⟨S2048x1924, .f32⟩
  | .hbm, ⟨18, _⟩ => ⟨S_, .f32⟩
  | .hbm, ⟨19, _⟩ => ⟨S2048x1924, .f32⟩
  | .hbm, ⟨20, _⟩ => ⟨S2048x1924, .f32⟩
  | .hbm, ⟨21, _⟩ => ⟨S2048x1924, .f32⟩
  | .hbm, ⟨22, _⟩ => ⟨S_, .f32⟩
  | .hbm, ⟨23, _⟩ => ⟨S2048x1924, .f32⟩
  | .hbm, ⟨24, _⟩ => ⟨S2048x1924, .f32⟩
  | .hbm, ⟨25, _⟩ => ⟨S_, .f32⟩
  | .hbm, ⟨26, _⟩ => ⟨S2048x1924, .f32⟩
  | .hbm, ⟨27, _⟩ => ⟨S2048x1924, .f32⟩
  | .hbm, ⟨28, _⟩ => ⟨S2048x1924, .f32⟩
  | .hbm, ⟨29, _⟩ => ⟨S_, .f32⟩
  | .hbm, ⟨30, _⟩ => ⟨S2048x1924, .f32⟩
  | .hbm, ⟨31, _⟩ => ⟨S2048x1924, .f32⟩
  | .hbm, ⟨32, _⟩ => ⟨S2048x1924, .f32⟩
  | .hbm, ⟨33, _⟩ => ⟨S_, .f32⟩
  | .hbm, ⟨34, _⟩ => ⟨S2048x1924, .f32⟩
  | .hbm, ⟨35, _⟩ => ⟨S2048x1924, .f32⟩
  | .hbm, ⟨36, _⟩ => ⟨S2048x1924, .f32⟩
  | .hbm, ⟨37, _⟩ => ⟨S_, .f32⟩
  | .hbm, ⟨38, _⟩ => ⟨S2048x1924, .f32⟩
  | .hbm, ⟨39, _⟩ => ⟨S2048x1924, .f32⟩
  | _, _ => ⟨S8x2048x1924, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x2248x128 : Shape := ⟨3, ![8, 2248, 128]⟩
abbrev S2248x128 : Shape := ⟨2, ![2248, 128]⟩
abbrev S1x2248x128 : Shape := ⟨3, ![1, 2248, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2248x128, .f32⟩
  | .hbm, ⟨1, _⟩ => ⟨S2248x128, .f32⟩
  | .hbm, ⟨2, _⟩ => ⟨S2248x128, .f32⟩
  | .hbm, ⟨3, _⟩ => ⟨S2248x128, .f32⟩
  | .hbm, ⟨4, _⟩ => ⟨S2248x128, .f32⟩
  | .hbm, ⟨5, _⟩ => ⟨S2248x128, .f32⟩
  | .hbm, ⟨6, _⟩ => ⟨S2248x128, .f32⟩
  | .hbm, ⟨7, _⟩ => ⟨S2248x128, .f32⟩
  | .local _ .vmem, ⟨0, _⟩ => ⟨S8x2248x128, .f32⟩
  | .local _ .vmem, ⟨1, _⟩ => ⟨S2248x128, .f32⟩
  | .local _ .vmem, ⟨2, _⟩ => ⟨S2248x128, .f32⟩
  | .local _ .vmem, ⟨3, _⟩ => ⟨S2248x128, .f32⟩
  | .local _ .vmem, ⟨4, _⟩ => ⟨S2248x128, .f32⟩
  | .local _ .vmem, ⟨5, _⟩ => ⟨S2248x128, .f32⟩
  | .local _ .vmem, ⟨6, _⟩ => ⟨S2248x128, .f32⟩
  | .local _ .vmem, ⟨7, _⟩ => ⟨S2248x128, .f32⟩
  | _, _ => ⟨S8x2248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2248x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S8x2248x128 : Shape := ⟨3, ![8, 2248, 128]⟩
abbrev S2248x128 : Shape := ⟨2, ![2248, 128]⟩
abbrev S1x2248x128 : Shape := ⟨3, ![1, 2248, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2248x128, .f32⟩
  | .hbm, ⟨1, _⟩ => ⟨S2248x128, .f32⟩
  | .hbm, ⟨2, _⟩ => ⟨S2248x128, .f32⟩
  | .hbm, ⟨3, _⟩ => ⟨S2248x128, .f32⟩
  | .hbm, ⟨4, _⟩ => ⟨S2248x128, .f32⟩
  | .hbm, ⟨5, _⟩ => ⟨S2248x128, .f32⟩
  | .hbm, ⟨6, _⟩ => ⟨S2248x128, .f32⟩
  | .hbm, ⟨7, _⟩ => ⟨S2248x128, .f32⟩
  | .local _ .vmem, ⟨0, _⟩ => ⟨S8x2248x128, .f32⟩
  | .local _ .vmem, ⟨1, _⟩ => ⟨S2248x128, .f32⟩
  | .local _ .vmem, ⟨2, _⟩ => ⟨S2248x128, .f32⟩
  | .local _ .vmem, ⟨3, _⟩ => ⟨S2248x128, .f32⟩
  | .local _ .vmem, ⟨4, _⟩ => ⟨S2248x128, .f32⟩
  | .local _ .vmem, ⟨5, _⟩ => ⟨S2248x128, .f32⟩
  | .local _ .vmem, ⟨6, _⟩ => ⟨S2248x128, .f32⟩
  | .local _ .vmem, ⟨7, _⟩ => ⟨S2248x128, .f32⟩
  | _, _ => ⟨S8x2248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2248x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x2248x128 : Shape := ⟨3, ![8, 2248, 128]⟩
abbrev S2248x128 : Shape := ⟨2, ![2248, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2248x128, .f32⟩
  | .hbm, ⟨1, _⟩ => ⟨S2248x128, .f32⟩
  | .hbm, ⟨2, _⟩ => ⟨S2248x128, .f32⟩
  | .hbm, ⟨3, _⟩ => ⟨S2248x128, .f32⟩
  | .hbm, ⟨4, _⟩ => ⟨S_, .f32⟩
  | .hbm, ⟨5, _⟩ => ⟨S2248x128, .f32⟩
  | .hbm, ⟨6, _⟩ => ⟨S_, .f32⟩
  | .hbm, ⟨7, _⟩ => ⟨S2248x128, .f32⟩
  | .hbm, ⟨8, _⟩ => ⟨S2248x128, .f32⟩
  | .hbm, ⟨9, _⟩ => ⟨S_, .f32⟩
  | .hbm, ⟨10, _⟩ => ⟨S2248x128, .f32⟩
  | .hbm, ⟨11, _⟩ => ⟨S2248x128, .f32⟩
  | .hbm, ⟨12, _⟩ => ⟨S2248x128, .f32⟩
  | .hbm, ⟨13, _⟩ => ⟨S_, .f32⟩
  | .hbm, ⟨14, _⟩ => ⟨S2248x128, .f32⟩
  | .hbm, ⟨15, _⟩ => ⟨S2248x128, .f32⟩
  | .hbm, ⟨16, _⟩ => ⟨S2248x128, .f32⟩
  | .hbm, ⟨17, _⟩ => ⟨S_, .f32⟩
  | .hbm, ⟨18, _⟩ => ⟨S2248x128, .f32⟩
  | .hbm, ⟨19, _⟩ => ⟨S2248x128, .f32⟩
  | .hbm, ⟨20, _⟩ => ⟨S2248x128, .f32⟩
  | .hbm, ⟨21, _⟩ => ⟨S_, .f32⟩
  | .hbm, ⟨22, _⟩ => ⟨S2248x128, .f32⟩
  | .hbm, ⟨23, _⟩ => ⟨S2248x128, .f32⟩
  | .hbm, ⟨24, _⟩ => ⟨S_, .f32⟩
  | .hbm, ⟨25, _⟩ => ⟨S2248x128, .f32⟩
  | .hbm, ⟨26, _⟩ => ⟨S2248x128, .f32⟩
  | .hbm, ⟨27, _⟩ => ⟨S2248x128, .f32⟩
  | .hbm, ⟨28, _⟩ => ⟨S_, .f32⟩
  | .hbm, ⟨29, _⟩ => ⟨S2248x128, .f32⟩
  | .hbm, ⟨30, _⟩ => ⟨S2248x128, .f32⟩
  | .hbm, ⟨31, _⟩ => ⟨S2248x128, .f32⟩
  | .hbm, ⟨32, _⟩ => ⟨S_, .f32⟩
  | .hbm, ⟨33, _⟩ => ⟨S2248x128, .f32⟩
  | .hbm, ⟨34, _⟩ => ⟨S2248x128, .f32⟩
  | .hbm, ⟨35, _⟩ => ⟨S2248x128, .f32⟩
  | .hbm, ⟨36, _⟩ => ⟨S_, .f32⟩
  | .hbm, ⟨37, _⟩ => ⟨S2248x128, .f32⟩
  | .hbm, ⟨38, _⟩ => ⟨S2248x128, .f32⟩
  | _, _ => ⟨S8x2248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdIdeal.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdIdeal.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S7x2048 : Shape := ⟨2, ![7, 2048]⟩
abbrev S8x2048 : Shape := ⟨2, ![8, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S_, .f32⟩
  | .hbm, ⟨53, _⟩ => ⟨S7x2048, .f32⟩
  | .hbm, ⟨54, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InProj.lean ====
abbrev S8192x2048 : Shape := ⟨2, ![8192, 2048]⟩
abbrev S2048x15488 : Shape := ⟨2, ![2048, 15488]⟩
abbrev S8192x15488 : Shape := ⟨2, ![8192, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x15488, .bf16⟩
  | .hbm, ⟨2, _⟩ => ⟨S8192x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjIdeal.lean ====
abbrev S8192x2048 : Shape := ⟨2, ![8192, 2048]⟩
abbrev S2048x15488 : Shape := ⟨2, ![2048, 15488]⟩
abbrev S8192x15488 : Shape := ⟨2, ![8192, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x15488, .bf16⟩
  | .hbm, ⟨2, _⟩ => ⟨S8192x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x2048 : Shape := ⟨2, ![8192, 2048]⟩
abbrev S2048x15488 : Shape := ⟨2, ![2048, 15488]⟩
abbrev S8192x15488 : Shape := ⟨2, ![8192, 15488]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15488, .bf16⟩
  | .hbm, ⟨2, _⟩ => ⟨S8192x2048, .f32⟩
  | .hbm, ⟨3, _⟩ => ⟨S2048x15488, .f32⟩
  | .hbm, ⟨4, _⟩ => ⟨S8192x15488, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxnSgu.lean ====
abbrev S8192x6144 : Shape := ⟨2, ![8192, 6144]⟩
abbrev S2048x6144 : Shape := ⟨2, ![2048, 6144]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnSguIdeal.lean ====
abbrev S8192x6144 : Shape := ⟨2, ![8192, 6144]⟩
abbrev S2048x6144 : Shape := ⟨2, ![2048, 6144]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnSguRefIdeal.lean ====
abbrev S8192x6144 : Shape := ⟨2, ![8192, 6144]⟩
abbrev S2048x6144 : Shape := ⟨2, ![2048, 6144]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x6144, .f32⟩
  | .hbm, ⟨3, _⟩ => ⟨S2048x6144, .f32⟩
  | .hbm, ⟨4, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxnGate.lean ====
abbrev S8192x4096 : Shape := ⟨2, ![8192, 4096]⟩
abbrev S2048x4096 : Shape := ⟨2, ![2048, 4096]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxnGateIdeal.lean ====
abbrev S8192x4096 : Shape := ⟨2, ![8192, 4096]⟩
abbrev S2048x4096 : Shape := ⟨2, ![2048, 4096]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxnGateRefIdeal.lean ====
abbrev S8192x4096 : Shape := ⟨2, ![8192, 4096]⟩
abbrev S2048x4096 : Shape := ⟨2, ![2048, 4096]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x4096, .f32⟩
  | .hbm, ⟨4, _⟩ => ⟨S2048x4096, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DxnSsd.lean ====
abbrev S8192x5248 : Shape := ⟨2, ![8192, 5248]⟩
abbrev S2048x5248 : Shape := ⟨2, ![2048, 5248]⟩
abbrev S8192x2048 : Shape := ⟨2, ![8192, 2048]⟩
abbrev S512x5248 : Shape := ⟨2, ![512, 5248]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5248, .bf16⟩
  | .hbm, ⟨1, _⟩ => ⟨S2048x5248, .bf16⟩
  | .hbm, ⟨2, _⟩ => ⟨S8192x2048, .f32⟩
  | .hbm, ⟨3, _⟩ => ⟨S8192x2048, .f32⟩
  | .local _ .vmem, ⟨0, _⟩ => ⟨S512x5248, .bf16⟩
  | .local _ .vmem, ⟨1, _⟩ => ⟨S512x5248, .bf16⟩
  | .local _ .vmem, ⟨2, _⟩ => ⟨S512x5248, .bf16⟩
  | .local _ .vmem, ⟨3, _⟩ => ⟨S512x5248, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5248 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5248 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxnSsdIdeal.lean ====
abbrev S8192x5248 : Shape := ⟨2, ![8192, 5248]⟩
abbrev S2048x5248 : Shape := ⟨2, ![2048, 5248]⟩
abbrev S8192x2048 : Shape := ⟨2, ![8192, 2048]⟩
abbrev S512x5248 : Shape := ⟨2, ![512, 5248]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5248, .bf16⟩
  | .hbm, ⟨1, _⟩ => ⟨S2048x5248, .bf16⟩
  | .hbm, ⟨2, _⟩ => ⟨S8192x2048, .f32⟩
  | .hbm, ⟨3, _⟩ => ⟨S8192x2048, .f32⟩
  | .local _ .vmem, ⟨0, _⟩ => ⟨S512x5248, .bf16⟩
  | .local _ .vmem, ⟨1, _⟩ => ⟨S512x5248, .bf16⟩
  | .local _ .vmem, ⟨2, _⟩ => ⟨S512x5248, .bf16⟩
  | .local _ .vmem, ⟨3, _⟩ => ⟨S512x5248, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5248 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5248 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxnSsdRefIdeal.lean ====
abbrev S8192x5248 : Shape := ⟨2, ![8192, 5248]⟩
abbrev S2048x5248 : Shape := ⟨2, ![2048, 5248]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5248, .bf16⟩
  | .hbm, ⟨1, _⟩ => ⟨S2048x5248, .bf16⟩
  | .hbm, ⟨2, _⟩ => ⟨S8192x2048, .f32⟩
  | .hbm, ⟨3, _⟩ => ⟨S8192x5248, .f32⟩
  | .hbm, ⟨4, _⟩ => ⟨S2048x5248, .f32⟩
  | .hbm, ⟨5, _⟩ => ⟨S8192x2048, .f32⟩
  | .hbm, ⟨6, _⟩ => ⟨S8192x2048, .f32⟩
  | _, _ => ⟨S8192x5248, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwSgu.lean ====
abbrev S2048x8192 : Shape := ⟨2, ![2048, 8192]⟩
abbrev S8192x6144 : Shape := ⟨2, ![8192, 6144]⟩
abbrev S2048x6144 : Shape := ⟨2, ![2048, 6144]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x6144, .bf16⟩
  | .hbm, ⟨2, _⟩ => ⟨S2048x6144, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSguIdeal.lean ====
abbrev S2048x8192 : Shape := ⟨2, ![2048, 8192]⟩
abbrev S8192x6144 : Shape := ⟨2, ![8192, 6144]⟩
abbrev S2048x6144 : Shape := ⟨2, ![2048, 6144]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x6144, .bf16⟩
  | .hbm, ⟨2, _⟩ => ⟨S2048x6144, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSguRefIdeal.lean ====
abbrev S2048x8192 : Shape := ⟨2, ![2048, 8192]⟩
abbrev S8192x6144 : Shape := ⟨2, ![8192, 6144]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x6144, .bf16⟩
  | .hbm, ⟨2, _⟩ => ⟨S2048x8192, .f32⟩
  | .hbm, ⟨3, _⟩ => ⟨S8192x6144, .f32⟩
  | .hbm, ⟨4, _⟩ => ⟨S2048x6144, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGate.lean ====
abbrev S2048x8192 : Shape := ⟨2, ![2048, 8192]⟩
abbrev S8192x4096 : Shape := ⟨2, ![8192, 4096]⟩
abbrev S2048x4096 : Shape := ⟨2, ![2048, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateIdeal.lean ====
abbrev S2048x8192 : Shape := ⟨2, ![2048, 8192]⟩
abbrev S8192x4096 : Shape := ⟨2, ![8192, 4096]⟩
abbrev S2048x4096 : Shape := ⟨2, ![2048, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2048x8192 : Shape := ⟨2, ![2048, 8192]⟩
abbrev S8192x4096 : Shape := ⟨2, ![8192, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x8192, .f32⟩
  | .hbm, ⟨3, _⟩ => ⟨S8192x4096, .f32⟩
  | .hbm, ⟨4, _⟩ => ⟨S2048x4096, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwSsd.lean ====
abbrev S2048x8192 : Shape := ⟨2, ![2048, 8192]⟩
abbrev S8192x5248 : Shape := ⟨2, ![8192, 5248]⟩
abbrev S2048x5248 : Shape := ⟨2, ![2048, 5248]⟩
abbrev S512x512 : Shape := ⟨2, ![512, 512]⟩
abbrev S512x5248 : Shape := ⟨2, ![512, 5248]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x5248, .bf16⟩
  | .hbm, ⟨2, _⟩ => ⟨S2048x5248, .f32⟩
  | .local _ .vmem, ⟨0, _⟩ => ⟨S512x512, .bf16⟩
  | .local _ .vmem, ⟨1, _⟩ => ⟨S512x512, .bf16⟩
  | .local _ .vmem, ⟨2, _⟩ => ⟨S512x5248, .bf16⟩
  | .local _ .vmem, ⟨3, _⟩ => ⟨S512x5248, .bf16⟩
  | .local _ .vmem, ⟨4, _⟩ => ⟨S512x5248, .f32⟩
  | .local _ .vmem, ⟨5, _⟩ => ⟨S512x5248, .f32⟩
  | .local _ .vmem, ⟨6, _⟩ => ⟨S512x5248, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5248 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5248 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdIdeal.lean ====
abbrev S2048x8192 : Shape := ⟨2, ![2048, 8192]⟩
abbrev S8192x5248 : Shape := ⟨2, ![8192, 5248]⟩
abbrev S2048x5248 : Shape := ⟨2, ![2048, 5248]⟩
abbrev S512x512 : Shape := ⟨2, ![512, 512]⟩
abbrev S512x5248 : Shape := ⟨2, ![512, 5248]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x5248, .bf16⟩
  | .hbm, ⟨2, _⟩ => ⟨S2048x5248, .f32⟩
  | .local _ .vmem, ⟨0, _⟩ => ⟨S512x512, .bf16⟩
  | .local _ .vmem, ⟨1, _⟩ => ⟨S512x512, .bf16⟩
  | .local _ .vmem, ⟨2, _⟩ => ⟨S512x5248, .bf16⟩
  | .local _ .vmem, ⟨3, _⟩ => ⟨S512x5248, .bf16⟩
  | .local _ .vmem, ⟨4, _⟩ => ⟨S512x5248, .f32⟩
  | .local _ .vmem, ⟨5, _⟩ => ⟨S512x5248, .f32⟩
  | .local _ .vmem, ⟨6, _⟩ => ⟨S512x5248, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5248 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5248 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdRefIdeal.lean ====
abbrev S2048x8192 : Shape := ⟨2, ![2048, 8192]⟩
abbrev S8192x5248 : Shape := ⟨2, ![8192, 5248]⟩
abbrev S2048x5248 : Shape := ⟨2, ![2048, 5248]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x5248, .bf16⟩
  | .hbm, ⟨2, _⟩ => ⟨S2048x8192, .f32⟩
  | .hbm, ⟨3, _⟩ => ⟨S8192x5248, .f32⟩
  | .hbm, ⟨4, _⟩ => ⟨S2048x5248, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOut.lean ====
abbrev S2048x8192 : Shape := ⟨2, ![2048, 8192]⟩
abbrev S8192x2048 : Shape := ⟨2, ![8192, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S2048x8192 : Shape := ⟨2, ![2048, 8192]⟩
abbrev S8192x2048 : Shape := ⟨2, ![8192, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Head.lean ====
abbrev S8192x2048 : Shape := ⟨2, ![8192, 2048]⟩
abbrev S8192x15488 : Shape := ⟨2, ![8192, 15488]⟩
abbrev S1x4096 : Shape := ⟨2, ![1, 4096]⟩
abbrev S2048x2048 : Shape := ⟨2, ![2048, 2048]⟩
abbrev S1x2048 : Shape := ⟨2, ![1, 2048]⟩
abbrev S8192x4096 : Shape := ⟨2, ![8192, 4096]⟩
abbrev S8x128 : Shape := ⟨2, ![8, 128]⟩
abbrev S8x2048 : Shape := ⟨2, ![8, 2048]⟩
abbrev S8x4096 : Shape := ⟨2, ![8, 4096]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 17
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x15488, .f32⟩
  | .hbm, ⟨4, _⟩ => ⟨S8192x2048, .f32⟩
  | .hbm, ⟨5, _⟩ => ⟨S1x4096, .f32⟩
  | .hbm, ⟨6, _⟩ => ⟨S2048x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x4096, .bf16⟩
  | .hbm, ⟨14, _⟩ => ⟨S8x128, .f32⟩
  | .hbm, ⟨15, _⟩ => ⟨S8x2048, .f32⟩
  | .hbm, ⟨16, _⟩ => ⟨S8x4096, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S1x4096, .f32⟩
  | .local _ .vmem, ⟨13, _⟩ => ⟨S2048x2048, .bf16⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x4096, .bf16⟩
  | .local _ .vmem, ⟨26, _⟩ => ⟨S128x4096, .bf16⟩
  | .local _ .vmem, ⟨27, _⟩ => ⟨S8x128, .f32⟩
  | .local _ .vmem, ⟨28, _⟩ => ⟨S8x2048, .f32⟩
  | .local _ .vmem, ⟨29, _⟩ => ⟨S8x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== HeadIdeal.lean ====
abbrev S8192x2048 : Shape := ⟨2, ![8192, 2048]⟩
abbrev S8192x15488 : Shape := ⟨2, ![8192, 15488]⟩
abbrev S1x4096 : Shape := ⟨2, ![1, 4096]⟩
abbrev S2048x2048 : Shape := ⟨2, ![2048, 2048]⟩
abbrev S1x2048 : Shape := ⟨2, ![1, 2048]⟩
abbrev S8192x4096 : Shape := ⟨2, ![8192, 4096]⟩
abbrev S8x128 : Shape := ⟨2, ![8, 128]⟩
abbrev S8x2048 : Shape := ⟨2, ![8, 2048]⟩
abbrev S8x4096 : Shape := ⟨2, ![8, 4096]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 17
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x15488, .f32⟩
  | .hbm, ⟨4, _⟩ => ⟨S8192x2048, .f32⟩
  | .hbm, ⟨5, _⟩ => ⟨S1x4096, .f32⟩
  | .hbm, ⟨6, _⟩ => ⟨S2048x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x4096, .bf16⟩
  | .hbm, ⟨14, _⟩ => ⟨S8x128, .f32⟩
  | .hbm, ⟨15, _⟩ => ⟨S8x2048, .f32⟩
  | .hbm, ⟨16, _⟩ => ⟨S8x4096, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S1x4096, .f32⟩
  | .local _ .vmem, ⟨13, _⟩ => ⟨S2048x2048, .bf16⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x4096, .bf16⟩
  | .local _ .vmem, ⟨26, _⟩ => ⟨S128x4096, .bf16⟩
  | .local _ .vmem, ⟨27, _⟩ => ⟨S8x128, .f32⟩
  | .local _ .vmem, ⟨28, _⟩ => ⟨S8x2048, .f32⟩
  | .local _ .vmem, ⟨29, _⟩ => ⟨S8x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== HeadRefIdeal.lean ====
abbrev S8192x2048 : Shape := ⟨2, ![8192, 2048]⟩
abbrev S8192x15488 : Shape := ⟨2, ![8192, 15488]⟩
abbrev S1x4096 : Shape := ⟨2, ![1, 4096]⟩
abbrev S2048x2048 : Shape := ⟨2, ![2048, 2048]⟩
abbrev S1x2048 : Shape := ⟨2, ![1, 2048]⟩
abbrev S8192x4096 : Shape := ⟨2, ![8192, 4096]⟩
abbrev S4096 : Shape := ⟨1, ![4096]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S7x2048 : Shape := ⟨2, ![7, 2048]⟩
abbrev S8x2048 : Shape := ⟨2, ![8, 2048]⟩
abbrev S7x4096 : Shape := ⟨2, ![7, 4096]⟩
abbrev S8x4096 : Shape := ⟨2, ![8, 4096]⟩

abbrev nBuf : Space → Nat
  | .hbm => 127
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x15488, .f32⟩
  | .hbm, ⟨4, _⟩ => ⟨S8192x2048, .f32⟩
  | .hbm, ⟨5, _⟩ => ⟨S1x4096, .f32⟩
  | .hbm, ⟨6, _⟩ => ⟨S2048x2048, .bf16⟩
  | .hbm, ⟨7, _⟩ => ⟨S1x2048, .f32⟩
  | .hbm, ⟨8, _⟩ => ⟨S8192x4096, .f32⟩
  | .hbm, ⟨9, _⟩ => ⟨S4096, .f32⟩
  | .hbm, ⟨10, _⟩ => ⟨S2048x2048, .f32⟩
  | .hbm, ⟨11, _⟩ => ⟨S2048, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S2048, .f32⟩
  | .hbm, ⟨88, _⟩ => ⟨S8192x2048, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x2048, .f32⟩
  | .hbm, ⟨93, _⟩ => ⟨S8192x2048, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | .hbm, ⟨108, _⟩ => ⟨S8192x4096, .f32⟩
  | .hbm, ⟨109, _⟩ => ⟨S8192x4096, .f32⟩
  | .hbm, ⟨110, _⟩ => ⟨S_, .f32⟩
  | .hbm, ⟨111, _⟩ => ⟨S4096, .f32⟩
  | .hbm, ⟨112, _⟩ => ⟨S1x4096, .f32⟩
  | .hbm, ⟨113, _⟩ => ⟨S_, .f32⟩
  | .hbm, ⟨114, _⟩ => ⟨S4096, .f32⟩
  | .hbm, ⟨115, _⟩ => ⟨S8192x2048, .bf16⟩
  | .hbm, ⟨116, _⟩ => ⟨S8192x2048, .bf16⟩
  | .hbm, ⟨117, _⟩ => ⟨S8192x4096, .bf16⟩
  | .hbm, ⟨118, _⟩ => ⟨S8x128, .f32⟩
  | .hbm, ⟨119, _⟩ => ⟨S1x2048, .f32⟩
  | .hbm, ⟨120, _⟩ => ⟨S_, .f32⟩
  | .hbm, ⟨121, _⟩ => ⟨S7x2048, .f32⟩
  | .hbm, ⟨122, _⟩ => ⟨S8x2048, .f32⟩
  | .hbm, ⟨123, _⟩ => ⟨S1x4096, .f32⟩
  | .hbm, ⟨124, _⟩ => ⟨S_, .f32⟩
  | .hbm, ⟨125, _⟩ => ⟨S7x4096, .f32⟩
  | .hbm, ⟨126, _⟩ => ⟨S8x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_v82 : Ref sig .tc := ⟨.hbm, 112, rfl⟩
abbrev main_cst_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Sgu.lean ====
abbrev S8192x15488 : Shape := ⟨2, ![8192, 15488]⟩
abbrev S1x2048 : Shape := ⟨2, ![1, 2048]⟩
abbrev S16x128x128 : Shape := ⟨3, ![16, 128, 128]⟩
abbrev S128x2048 : Shape := ⟨2, ![128, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 6
  | .vmem => 14
  | .smem => 0
  | _ => 0

abbrev bufTy : (tb : Table) → Fin (tcTables nBuf tb) → BufTy
  | .hbm, ⟨0, _⟩ => ⟨S8192x15488, .f32⟩
  | .hbm, ⟨1, _⟩ => ⟨S1x2048, .f32⟩
  | .hbm, ⟨2, _⟩ => ⟨S1x2048, .f32⟩
  | .hbm, ⟨3, _⟩ => ⟨S16x128x128, .bf16⟩
  | .hbm, ⟨4, _⟩ => ⟨S128x2048, .f32⟩
  | .hbm, ⟨5, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S16x128x128, .bf16⟩
  | .local _ .vmem, ⟨9, _⟩ => ⟨S128x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .f32⟩
  | _, _ => ⟨S8192x15488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguRefIdeal.lean ====
abbrev S8192x15488 : Shape := ⟨2, ![8192, 15488]⟩
abbrev S1x2048 : Shape := ⟨2, ![1, 2048]⟩
abbrev S16x128x128 : Shape := ⟨3, ![16, 128, 128]⟩
abbrev S128x2048 : Shape := ⟨2, ![128, 2048]⟩
abbrev S8192x6144 : Shape := ⟨2, ![8192, 6144]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S64x128x16x128 : Shape := ⟨4, ![64, 128, 16, 128]⟩
abbrev S16x64x128x128 : Shape := ⟨4, ![16, 64, 128, 128]⟩
abbrev S128x16x128 : Shape := ⟨3, ![128, 16, 128]⟩
abbrev S1x128x16x128 : Shape := ⟨4, ![1, 128, 16, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x15488, .f32⟩
  | .hbm, ⟨1, _⟩ => ⟨S1x2048, .f32⟩
  | .hbm, ⟨2, _⟩ => ⟨S1x2048, .f32⟩
  | .hbm, ⟨3, _⟩ => ⟨S16x128x128, .bf16⟩
  | .hbm, ⟨4, _⟩ => ⟨S128x2048, .f32⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S64x128x16x128, .f32⟩
  | .hbm, ⟨41, _⟩ => ⟨S16x128x128, .f32⟩
  | .hbm, ⟨42, _⟩ => ⟨S16x64x128x128, .f32⟩
  | .hbm, ⟨43, _⟩ => ⟨S64x128x16x128, .f32⟩
  | .hbm, ⟨44, _⟩ => ⟨S128x16x128, .f32⟩
  | .hbm, ⟨45, _⟩ => ⟨S1x128x16x128, .f32⟩
  | .hbm, ⟨46, _⟩ => ⟨S64x128x16x128, .f32⟩
  | .hbm, ⟨47, _⟩ => ⟨S64x128x16x128, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x15488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proof.Dealt.lean ====
/-
  The launch of a program whose first step is one kernel call without windows that writes other devices' result
  arrays before it has heard from them. The sender of a copy must hold the piece of the peer's array it fills from the
  start, so here the one update made for all the devices together (`hdeal`) is handed every device's own semaphores at
  zero AND every device's arrays, and deals each device what it starts from. After the call the program goes on as `k c`.
-/
module

public import Idealize.ShloMosaic.Lib.Pipeline.Regions
public import Idealize.ShloMosaic.Lib.Pipeline.RegionArrays
public import Idealize.ShloMosaic.Lib.Pipeline.Kit

@[expose] public section

set_option Elab.async false

noncomputable section

namespace Cert.Dealt

open Idealize.ShloMosaic Idealize.ShloMosaic.TcCoe Idealize.ShloMosaic.Pipeline Idealize.ShloMosaic.Rounds
open Idealize.SL Idealize.SL.RA
open Idealize.SL.BI (sProp bigSep bigSep_mono bigSep_sep' bigSep_congr bigSep_univ_prod)
open scoped Idealize.SL.BI
open Idealize.SL.BI.BIBase Idealize.SL.BI.Laws Idealize.SL.Sem Idealize.SL.ProofMode

variable {nD : Nat} {τ : Topo} {sig : RefSig} {Val : EltTy → Type}
variable {U : Type} [URA U] {Λ₀ : Labels} {P : Type} [Fintype P]

local notation "𝕄" => MT nD τ sig Unit Val ℕ U ℕ

variable (L : GSem nD τ sig → Finset Unit) (lv : GSem nD τ sig → Unit → ℕ)

/-- The rights to assign levels become the level facts, all the devices at once. -/
theorem levels_assigned (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  have hnone (d : Dev nD) : (bigSep (Finset.univ.erase Proc.tc) fun p => (coreLevAts ((d, p) : Thread nD τ) L lv : sProp 𝕄)) = BI.emp := by
    rw [← BI.bigSep_emp_const (Finset.univ.erase (Proc.tc : Proc τ))]
    refine bigSep_congr fun p hp => ?_
    unfold coreLevAts
    rw [← BI.bigSep_emp_const (Finset.univ : Finset (SemLoc sig))]
    exact bigSep_congr fun sm _ => by rw [hL (((d, p) : Thread nD τ), sm) (Finset.ne_of_mem_erase hp), BI.bigSep_empty]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv), bigSep_congr (fun d _ => hnone d), BI.bigSep_emp_const]
    exact BI.equiv_iff.mp BI.sep_emp
  rw [hall]
  refine (bigSep_mono fun c _ => (lev_assign_cells (c.tc : Thread nD τ) L lv).trans (BI.bupd_mono ?_)).trans (BI.bigSep_bupd _ _)
  exact show iprop(_ ∗ coreLevAts (c.tc : Thread nD τ) L lv) ⊢ coreLevAts (c.tc : Thread nD τ) L lv from by
    iintro ⟨-, H⟩; iexact H

variable (pcs : P → PCfg sig Λ₀ Val) (a : (p : P) → (pcs p).Adm)
  (pdats : (p : P) → (c : Dev nD) → Dat τ Val Unit ℕ U ℕ (pin pcs a p) c)
  (phinj : Function.Injective (cellOf (nD := nD) (pin pcs a))) (p : P)
variable {K : Type} [Fintype K] {osem : K → SemLoc sig} (hw : WinFacts₀ (pcs p).spec) (ho : OwnSemFacts (pcs p).spec osem)
variable (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- The ghost state of the pipelines that `p`'s call does not use. -/
abbrev others [DecidableEq P] (c : Dev nD) : sProp 𝕄 := PerCore.ghostOn pcs (fun _ => a) EP (Finset.univ.erase p) c

omit [Fintype P] in
/-- A pipeline without windows has no arrays to hold. -/
theorem arrays_none (hW : (pcs p).W = 0) (c : Dev nD) (f) : ((pdats p c).arrays f : sProp 𝕄) = BI.emp := by
  unfold Dat.arrays
  have : IsEmpty (Fin (pin pcs a p).W) := by show IsEmpty (Fin (pcs p).W); rw [hW]; infer_instance
  rw [Finset.univ_eq_empty, BI.bigSep_empty]

include phinj hw ho in
/-- Every weakly fair execution of such a program ends, and the memory it ends in satisfies `Q`. `hdeal` deals the own
    semaphores and the arrays, all the devices together; `hstart` readies one device (`X c` enters the call, `Z c` goes
    around it); `hin` and `hout` are the call's two ends, `htail` the rest of the program, `hread` what its end shows
    of a final memory. -/
theorem θ_run_dealt [DecidableEq P] [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (k : Dev nD → Prog (TpuEff nD τ sig Val (Sig Λ₀ P fun p => (pcs p).Adm) .tc) PUnit)
    (hmain : ∀ c, main c = .op (.customCall (entry p) ()) fun _ => k c)
    (hW : (pcs p).W = 0) (hK : (pcs p).pre.K = 0)
    (hbody : ∀ c, BodyObligationLoose (pdats p c) defs₀ 𝒱₀ () Set.univ)
    (O₀ : Dev nD → CellTallies nD τ sig Unit) (howed₀ : ∀ c, (pdats p c).owed 0 = O₀ c) (howedN : ∀ c, (pdats p c).owed (Fin.last _) = 0)
    (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (hdeal : (bigSep Finset.univ fun c => iprop(ownSems0 osem c ∗ unscopedBufs c (fun b => m ((c.tc : Thread nD τ).loc b)) ∗ G c) : sProp 𝕄)
      ⊢ |={Set.univ}=> bigSep Finset.univ G')
    (X Y Z T : Dev nD → sProp 𝕄)
    (hstart : ∀ c, iprop(G' c ∗ unscopedSems0 c ∗ levAts L lv ∗ launchCred O₀ c ∗ prngReg c (g c)) ⊢ |={Set.univ}=> iprop(X c ∗ Z c))
    (hin : ∀ c, iprop(X c ∗ scopedRest (pcs p).spec c) ⊢ (pdats p c).Φ 0)
    (hout : ∀ c, (pdats p c).Φ (Fin.last _) ⊢ iprop(Y c ∗ ownSems0 osem c ∗ scopedRest (pcs p).spec c))
    (htail : ∀ c (R : PUnit → sProp 𝕄),
      iprop((iprop(T c ∗ boundary (c.tc : Thread nD τ) ∗ ∃ W, owes (c.tc : Thread nD τ) (0 : CellTallies nD τ sig Unit) W) -∗ |={Set.univ}=> R ⟨⟩)
          ∗ Y c ∗ Z c ∗ boundary (c.tc : Thread nD τ) ∗ levAts L lv ∗ others pcs a p EP c
          ∗ ∃ W, owes (c.tc : Thread nD τ) (0 : CellTallies nD τ sig Unit) W)
        ⊢ wp frame (wpE 𝔻 𝕍 (c.tc : Thread nD τ) none) Set.univ (k c) R)
    (QY : Dev nD → MemSt nD τ sig Val → Prop)
    (hread : ∀ c (s' : Phys nD τ sig Val), iprop(T c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hnow : IsEmpty (Fin (pin pcs a p).W) := by show IsEmpty (Fin (pcs p).W); rw [hW]; infer_instance
  have hss := fun c : Dev nD => scopedSems0_split (pin pcs a) phinj p hw ho (Ix := Unit) (Val := Val) (Name := ℕ) (U := U) (Lvl := ℕ) c
  have hsb := fun c : Dev nD => scopedBufs_split (pin pcs a) p hw.stage_scoped hw.stage_inj (fun w => (hnow.false w).elim) (nD := nD) (τ := τ) (Ix := Unit) (Val := Val) (Name := ℕ) (U := U) (Lvl := ℕ) c
  let rest : Dev nD → sProp 𝕄 := fun c => iprop(cellsSems0 (pin pcs a) p c ∗ idleSems0 (pin pcs a) phinj p ho c)
  let pre : Dev nD → sProp 𝕄 := fun c => iprop((scopedBufs (c.tc : Thread nD τ) ∗ rest c ∗ opIdle (c.tc : Thread nD τ))
    ∗ (unscopedSems0 c ∗ owes (c.tc : Thread nD τ) (O₀ c) ∅ ∗ prngReg c (g c) ∗ launchCred O₀ c)
    ∗ levAts L lv ∗ PerCore.ghostOn pcs (fun _ => a) EP Finset.univ c ∗ G' c)
  let fin : Dev nD → sProp 𝕄 := fun c => iprop(T c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- what the devices are dealt
    have hcore (c : Dev nD) :
        coreInit (Ix := Unit) (Name := ℕ) (U := U) (Lvl := ℕ) (owing O₀) 0 (⟨m, fun _ => 0, g⟩ : MemSt nD τ sig Val) (c.tc : Thread nD τ)
          ⊢ iprop((scopedBufs (c.tc : Thread nD τ) ∗ rest c ∗ opIdle (c.tc : Thread nD τ))
            ∗ (unscopedSems0 c ∗ owes (c.tc : Thread nD τ) (O₀ c) ∅ ∗ prngReg c (g c) ∗ launchCred O₀ c)
            ∗ levels0 c ∗ ownSems0 osem c ∗ unscopedBufs c (fun b => m ((c.tc : Thread nD τ).loc b)) : sProp 𝕄) := by
      refine (coreInit_boundary_owing O₀ m g c).trans ?_
      unfold boundary
      rw [hss c]
      iintro ⟨⟨Hsc, ⟨⟨Hcells, Hos⟩, Hidle⟩, Hop⟩, Hub, Hus, HO, Hlv, Hpr, Hcr⟩
      isplitl [Hsc Hcells Hidle Hop]
      · isplitl [Hsc]; · iexact Hsc
        isplitr [Hop]
        · isplitl [Hcells] <;> iassumption
        iexact Hop
      isplitl [Hus HO Hpr Hcr]
      · isplitl [Hus]; · iexact Hus
        isplitl [HO]; · iexact HO
        isplitl [Hpr] <;> iassumption
      isplitl [Hlv]; · iexact Hlv
      isplitl [Hos] <;> iassumption
    have hcores : (bigSep Finset.univ fun c : Dev nD =>
          coreInit (Ix := Unit) (Name := ℕ) (U := U) (Lvl := ℕ) (owing O₀) 0 (⟨m, fun _ => 0, g⟩ : MemSt nD τ sig Val) (c.tc : Thread nD τ))
        ⊢ (iprop((bigSep Finset.univ fun c : Dev nD => iprop(scopedBufs (c.tc : Thread nD τ) ∗ rest c ∗ opIdle (c.tc : Thread nD τ)))
            ∗ (bigSep Finset.univ fun c : Dev nD => iprop(unscopedSems0 c ∗ owes (c.tc : Thread nD τ) (O₀ c) ∅ ∗ prngReg c (g c) ∗ launchCred O₀ c))
            ∗ (bigSep Finset.univ fun c : Dev nD => levels0 c) ∗ (bigSep Finset.univ fun c : Dev nD => ownSems0 osem c)
            ∗ bigSep Finset.univ fun c : Dev nD => unscopedBufs c (fun b => m ((c.tc : Thread nD τ).loc b))) : sProp 𝕄) :=
      by
        refine (bigSep_mono fun c _ => hcore c).trans ?_
        simp only [bigSep_sep']
        exact BI.Entails.refl _
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => PerCore.ghostOn pcs (fun _ => a) EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ PerCore.ghostOn pcs (fun _ => a) EP Finset.univ c
        from Entails.of_eq (by unfold PerCore.ghostOn; rw [bigSep_sep'])
    iintro ⟨Hcores, Hu⟩
    ihave Hc := hcores $$ Hcores
    icases Hc with ⟨Hb, Hmid, Hlv, Hos, Hub⟩
    imod (levels_assigned L lv hL) $$ Hlv with #Hla
    imod hu₀ $$ Hu with ⟨HP, HG⟩
    imod (fund_ghost (pin pcs a) EP phinj) $$ HP with Hgh
    imod hdeal $$ [Hos Hub HG] with HG'
    · simp only [bigSep_sep']
      isplitl [Hos]; · iexact Hos
      isplitl [Hub] <;> iassumption
    imodintro
    iexists ()
    isplitr []
    · simp only [pre, bigSep_sep']
      isplitl [Hb]; · iexact Hb
      isplitl [Hmid]; · iexact Hmid
      isplitr; · iapply (BI.bigSep_intro_persistent (S := Finset.univ) fun (c : Dev nD) _ => (BI.Entails.refl (levAts L lv : sProp 𝕄))); iexact Hla
      isplitl [Hgh]; · iapply hghost; iexact Hgh
      iexact HG'
    · iempintro
  · -- one device's run: the call, then the rest
    have hout' : iprop((pdats p c).Φ (Fin.last (pin pcs a p).N) ∗ cellsSems0 (pin pcs a) p c ∗ Dat.staging (pin pcs a p) c ∗ idleSems0 (pin pcs a) phinj p ho c)
        ⊢ iprop(Y c ∗ scopedSems0 (c.tc : Thread nD τ) ∗ scopedBufs (c.tc : Thread nD τ)) := by
      rw [hss c, hsb c]
      iintro ⟨HΦ, Hcells, Hst, Hidle⟩
      ihave H := (hout c) $$ HΦ
      icases H with ⟨HY, Hos, Hrest⟩
      isplitl [HY]; · iexact HY
      isplitr [Hst Hrest]
      · isplitr [Hidle]
        · isplitl [Hcells] <;> iassumption
        · iexact Hidle
      · isplitl [Hst] <;> iassumption
    have hin' : iprop(X c ∗ prefHeld (pcs p).pre c (fun _ => fullShare) (a p).1 ∗ scopedRest (pcs p).spec c) ⊢ (pdats p c).Φ 0 := by
      rw [prefHeld_of_none _ hK]
      iintro ⟨HX, -, Hr⟩
      iapply (hin c)
      isplitl [HX] <;> iassumption
    simp only [pre, rest]
    rw [hmain c, PerCore.ghostOn_erase pcs (fun _ => a) EP (Finset.mem_univ p)]
    iintro ⟨⟨Hsc, ⟨Hcells, Hidle⟩, Hop⟩, ⟨Hus, HO, Hpr, Hcr⟩, #Hla, ⟨⟨Hg, Ht⟩, Hoth⟩, HG⟩
    iapply (fupd_wp frame (wpE 𝔻 𝕍 (c.tc : Thread nD τ) none) Set.univ _ _)
    imod (cellsInit_alloc (pin pcs a) pdats EP phinj p c) $$ [Hcells Hg] with ⟨%κ, -, Hinit⟩
    · isplitl [Hcells] <;> iassumption
    imod (hstart c) $$ [HG Hus Hcr Hpr] with ⟨HX, HZ⟩
    · isplitl [HG]; · iexact HG
      isplitl [Hus]; · iexact Hus
      isplitr; · iexact Hla
      isplitl [Hcr] <;> iassumption
    imodintro
    iapply (wp_customCall_entry_frame pcs a pdats () EP κ phinj p defs₀ 𝒱₀ (fun _ => fullShare) c Set.univ (fun _ _ => Set.mem_univ _)
        (hbody c) (fun w => (hnow.false w).elim) none (fun u h => nomatch h) (X := X c) (Y := Y c) (R := scopedRest (pcs p).spec c)
        (I := idleSems0 (pin pcs a) phinj p ho c) (Entails.of_eq (hsb c)) hin' hout'
        (k := fun _ => k c) (Q := fun _ => post (liftTc fin iprop(emp)) (c.tc : Thread nD τ))) $$ [HO Hinit Ht HX Hidle Hsc]
    · isplitl [HO Hinit Ht]
      · unfold EntryPre PerCore.EntryPre
        isplitr; · rw [arrays_none pcs a pdats p hW c]; iempintro
        isplitl [HO]
        · unfold Dat.owesAt owesWithin
          rw [howed₀ c]
          iexists ∅; isplitr; · ipureintro; rw [Finset.coe_empty]; exact Set.empty_subset _
          iexact HO
        isplitr
        · iapply (cellsWaits_intro (pin pcs a) pdats () p c (R := iprop(emp)) fun w => (hnow.false w).elim); iempintro
        isplitl [Hinit] <;> iassumption
      isplitr; · rw [prefHeld_of_none _ hK]; iempintro
      isplitl [HX]; · iexact HX
      isplitl [Hidle] <;> iassumption
    iintro ⟨Hpost, HY, Hss, Hsc⟩
    iapply (htail c _)
    isplitr [Hpost HY Hss Hsc HZ Hop Hoth]
    · iintro ⟨HT, Hb, HW⟩
      imodintro
      unfold post; simp only [liftTc_tc, fin]
      isplitr [HW]
      · isplitl [HT] <;> iassumption
      · iexact HW
    isplitl [HY]; · iexact HY
    isplitl [HZ]; · iexact HZ
    isplitl [Hsc Hss Hop]
    · unfold boundary
      isplitl [Hsc]; · iexact Hsc
      isplitl [Hss] <;> iassumption
    isplitr; · iexact Hla
    isplitl [Hoth]; · iexact Hoth
    unfold EntryPost PerCore.EntryPost Dat.owesAt owesWithin
    rw [howedN c]
    icases Hpost with ⟨-, ⟨%W, -, HW⟩⟩
    iexists W; iexact HW
  · -- the ends, read against a final state
    iintro ⟨H, -, Hsc⟩ %s' HSI
    ihave %hsc := (scSems_read_zero m g s') $$ [Hsc HSI]
    · isplitl [Hsc] <;> iassumption
    imod (posts_fupd Finset.univ (fun c s' => boundary_read c s' (hread c s')) s') $$ [H HSI] with %h
    · isplitl [H] <;> iassumption
    imodintro
    ipureintro
    exact ⟨fun c => h c (Finset.mem_univ c), hsc⟩

end Cert.Dealt

end
-- ==== Proof.Copies.lean ====
/-
  A protocol in which every device starts all of its copies, then waits for all of them.

  Device `c` runs `nL` copies between its own arrays and `M` copies into arrays of other devices; copy `j` goes to
  device `peer j c`, whose own copy `j` comes back to `c`. Every copy into another device has a send semaphore on the
  sender and a receive semaphore on the target, every own copy has one semaphore, and no two of them are the same. Each
  semaphore is used for one copy only, so each has one round with one duty; `pay` says what the landed copy hands over.
  The counters of the program's progress are the sizes of the sets `upto n` and `from n`.
-/
module

public import Idealize.ShloMosaic.Lib.Pipeline.Regions
public import Idealize.ShloMosaic.Lib.Pipeline.Launch
public import Idealize.ShloMosaic.Lib.Pipeline.Kit
public import Idealize.ShloMosaic.Lib.Tactic

@[expose] public section

set_option Elab.async false

noncomputable section

namespace Cert.Copies

open Idealize.ShloMosaic Idealize.ShloMosaic.TcCoe Idealize.ShloMosaic.Rounds
open Idealize.SL Idealize.SL.RA
open Idealize.SL.BI
open scoped Idealize.SL.BI
open Idealize.SL.BI.BIBase Idealize.SL.BI.Laws Idealize.SL.Sem Idealize.SL.ProofMode

/-! ## The steps still to come and the steps done -/

section Progress

variable {N : ℕ} {R : Type} [URA R]

/-- The indices at and after `n`. -/
def onward (N n : ℕ) : Finset (Fin N) := Finset.univ.filter (n ≤ ·.val)
/-- The indices before `n`. -/
def upto (N n : ℕ) : Finset (Fin N) := Finset.univ.filter (·.val < n)

theorem onward_zero : onward N 0 = Finset.univ := by ext i; simp [onward]
theorem onward_last : onward N N = ∅ := by ext i; simp [onward]
theorem upto_zero : upto N 0 = ∅ := by ext i; simp [upto]
theorem upto_last : upto N N = Finset.univ := by ext i; simp [upto]
theorem onward_step (n : ℕ) (h : n < N) : onward N n = insert ⟨n, h⟩ (onward N (n + 1)) := by
  ext i; simp only [onward, Finset.mem_filter, Finset.mem_univ, true_and, Finset.mem_insert, Fin.ext_iff]; omega
theorem upto_step (n : ℕ) (h : n < N) : upto N (n + 1) = insert ⟨n, h⟩ (upto N n) := by
  ext i; simp only [upto, Finset.mem_filter, Finset.mem_univ, true_and, Finset.mem_insert, Fin.ext_iff]; omega
theorem not_mem_onward (n : ℕ) (h : n < N) : (⟨n, h⟩ : Fin N) ∉ onward N (n + 1) := by simp [onward]
theorem not_mem_upto (n : ℕ) (h : n < N) : (⟨n, h⟩ : Fin N) ∉ upto N n := by simp [upto]

theorem bigSep_onward (Φ : Fin N → sProp R) (n : ℕ) (h : n < N) :
    bigSep (onward N n) Φ = iprop(Φ ⟨n, h⟩ ∗ bigSep (onward N (n + 1)) Φ) := by
  rw [onward_step n h, bigSep_insert (not_mem_onward n h)]; rfl
theorem bigSep_upto (Φ : Fin N → sProp R) (n : ℕ) (h : n < N) :
    bigSep (upto N (n + 1)) Φ = iprop(Φ ⟨n, h⟩ ∗ bigSep (upto N n) Φ) := by
  rw [upto_step n h, bigSep_insert (not_mem_upto n h)]; rfl

end Progress

/-! ## The semaphores and their rounds -/

/-- The semaphores of one device: send, receive, own. -/
abbrev Which (M nL : ℕ) : Type := Fin M ⊕ Fin M ⊕ Fin nL

/-- The partners, the semaphores and the units each copy adds. -/
structure Plan (nD : ℕ) (sig : RefSig) (M nL : ℕ) where
  peer : Fin M → Dev nD → Dev nD
  peer_peer : ∀ j c, peer j (peer j c) = c
  sem : Which M nL → DmaSem sig
  sem_inj : Function.Injective sem
  amt : Which M nL → ℕ
  amt_pos : ∀ w, 0 < amt w
  amt_send : ∀ j, amt (.inl j) = amt (.inr (.inl j))

variable {nD : ℕ} {τ : Topo} {sig : RefSig} {Val : EltTy → Type} {U : Type} [URA U] {Λ : Labels}
variable {M nL : ℕ}

local notation "𝕄" => MT nD τ sig Unit Val ℕ U ℕ

variable (P : Plan nD sig M nL)

/-- The semaphore as the machine names it within a device. -/
def Plan.osem (w : Which M nL) : SemLoc sig := .dma (P.sem w)

/-- The semaphore as the machine names it. -/
def cell (x : Dev nD × Which M nL) : GSem nD τ sig := ((x.1.tc : Thread nD τ), P.osem x.2)

theorem osem_inj : Function.Injective P.osem := fun _ _ h => P.sem_inj (by unfold Plan.osem at h; injection h)

theorem cell_inj : Function.Injective (cell (τ := τ) P) := by
  rintro ⟨c, w⟩ ⟨c', w'⟩ h
  have h1 : c = c' := congrArg (fun g : GSem nD τ sig => g.1.1) h
  have h2 : w = w' := osem_inj P (congrArg Prod.snd h)
  rw [h1, h2]

variable (pay : Which M nL → Dev nD → sProp (MT nD τ sig Unit Val ℕ U ℕ))

open Classical in
/-- One round with one duty for every semaphore of the plan. -/
def sched : Rounds.Schedule (GSem nD τ sig) Unit (MT nD τ sig Unit Val ℕ U ℕ) where
  duties := fun g r => if r = 0 ∧ ∃ x, cell (τ := τ) P x = g then {()} else ∅
  amount := fun g _ _ => if h : ∃ x, cell (τ := τ) P x = g then P.amt h.choose.2 else 1
  payload := fun g _ _ => if h : ∃ x, cell (τ := τ) P x = g then pay h.choose.2 h.choose.1 else iprop(emp)
  amount_pos := fun g _ _ _ => by
    by_cases h : ∃ x, cell (τ := τ) P x = g
    · rw [dif_pos h]; exact P.amt_pos _
    · rw [dif_neg h]; decide

theorem duties_cell (x : Dev nD × Which M nL) : (sched P pay).duties (cell P x) 0 = {()} := if_pos ⟨rfl, x, rfl⟩
theorem duties_later (g : GSem nD τ sig) (r : ℕ) (h : 0 + 1 ≤ r) : (sched P pay).duties g r = ∅ :=
  if_neg fun ⟨h0, _⟩ => by omega
theorem mem_duties (x : Dev nD × Which M nL) : () ∈ (sched P pay).duties (cell P x) 0 := by
  rw [duties_cell]; exact Finset.mem_singleton_self _
theorem choose_cell (x : Dev nD × Which M nL) (h : ∃ y, cell (τ := τ) P y = cell P x) : h.choose = x :=
  cell_inj P h.choose_spec
theorem amount_cell (x : Dev nD × Which M nL) (r : ℕ) (d : Unit) : (sched P pay).amount (cell P x) r d = P.amt x.2 := by
  have h : ∃ y, cell (τ := τ) P y = cell P x := ⟨x, rfl⟩
  have := choose_cell P x h
  unfold sched; dsimp only; rw [dif_pos h, this]
theorem payload_cell (x : Dev nD × Which M nL) (r : ℕ) (d : Unit) : (sched P pay).payload (cell P x) r d = pay x.2 x.1 := by
  have h : ∃ y, cell (τ := τ) P y = cell P x := ⟨x, rfl⟩
  have := choose_cell P x h
  unfold sched; dsimp only; rw [dif_pos h, this]
theorem expect_cell (x : Dev nD × Which M nL) : (sched P pay).expect (cell P x) 0 = P.amt x.2 := by
  unfold Rounds.Schedule.expect Rounds.Schedule.amountOf; rw [duties_cell, Finset.sum_singleton, amount_cell]
theorem rest_cell (x : Dev nD × Which M nL) :
    bigSep ((sched P pay).duties (cell P x) 0 \ ∅) (fun d => (sched P pay).payload (cell P x) 0 d) = pay x.2 x.1 := by
  rw [duties_cell, Finset.sdiff_empty, bigSep_singleton, payload_cell]

instance storable_sched [∀ w c, Storable (upEmb : UEmb _ 𝕄) (pay w c)] (g : GSem nD τ sig) (r : ℕ) (d : Unit) :
    Storable (upEmb : UEmb _ 𝕄) ((sched P pay).payload g r d) := by
  unfold sched; dsimp only; split <;> infer_instance

variable (ER : Emb (URounds (GSem nD τ sig) Unit) (MT nD τ sig Unit Val ℕ U ℕ))

/-! ## What a device holds -/

/-- The records of all the semaphores of all the devices. -/
def records (K : Dev nD × Which M nL → ℕ) : sProp 𝕄 :=
  iprop((bigSep Finset.univ fun x : Dev nD × Which M nL => cellInv ER (sched P pay) (K x) (cell P x))
    ∗ bigSep Finset.univ fun x : Dev nD × Which M nL => reached ER (cell P x) 0)

instance records_persistent (K : Dev nD × Which M nL → ℕ) : BI.Persistent (records P pay ER K) := by unfold records; infer_instance

theorem records_inv (K : Dev nD × Which M nL → ℕ) (x : Dev nD × Which M nL) :
    records P pay ER K ⊢ cellInv ER (sched P pay) (K x) (cell P x) := by
  unfold records
  exact (show iprop(_ ∗ _) ⊢ _ from by iintro ⟨H, -⟩; iexact H).trans
    (bigSep_elim (Φ := fun x : Dev nD × Which M nL => cellInv ER (sched P pay) (K x) (cell P x)) (Finset.mem_univ x))
theorem records_reached (K : Dev nD × Which M nL → ℕ) (x : Dev nD × Which M nL) :
    records P pay ER K ⊢ reached ER (cell P x) 0 := by
  unfold records
  exact (show iprop(_ ∗ _) ⊢ _ from by iintro ⟨-, H⟩; iexact H).trans
    (bigSep_elim (Φ := fun x : Dev nD × Which M nL => reached ER (cell P x) 0) (Finset.mem_univ x))

/-- What device `c` owes from copy `n` on. -/
def dues (n : ℕ) (c : Dev nD) : CellTallies nD τ sig Unit :=
  ∑ j ∈ onward M n, tallyAt (cell P (P.peer j c, .inr (.inl j))) () (P.amt (.inr (.inl j)))

theorem dues_step (c : Dev nD) (n : ℕ) (h : n < M) : dues (τ := τ) P n c
    = dues P (n + 1) c + tallyAt (cell P (P.peer ⟨n, h⟩ c, .inr (.inl ⟨n, h⟩))) () (P.amt (.inr (.inl ⟨n, h⟩))) := by
  unfold dues; rw [onward_step n h, Finset.sum_insert (not_mem_onward n h), add_comm]
theorem dues_last (c : Dev nD) : dues (τ := τ) P M c = 0 := by unfold dues; rw [onward_last]; rfl

/-- The right to use the copies' duties of device `c`. -/
def duty (x : Dev nD × Which M nL) : sProp 𝕄 := dutyTok ER (cell P x) 0 ()

variable (rs : Fin M → Dev nD → sProp (MT nD τ sig Unit Val ℕ U ℕ)) (rl : Fin nL → Dev nD → sProp (MT nD τ sig Unit Val ℕ U ℕ))

/-- Before own copy `n`: `rl l c` is what own copy `l` of device `c` reads and fills. -/
def Locals (c : Dev nD) (n : ℕ) : sProp 𝕄 :=
  iprop((bigSep (onward nL n) fun l => iprop(duty P ER (c, .inr (.inr l)) ∗ rl l c))
    ∗ bigSep (upto nL n) fun l => cred (tallyAt (cell P (c, .inr (.inr l))) () (P.amt (.inr (.inr l)))))

/-- Before copy `n` to another device: `rs j c` is what copy `j` of device `c` reads and fills. -/
def Sends (c : Dev nD) (n : ℕ) : sProp 𝕄 :=
  iprop((∃ W, owes (c.tc : Thread nD τ) (dues P n c) W)
    ∗ (bigSep (onward M n) fun j => iprop(duty P ER (c, .inl j) ∗ duty P ER (P.peer j c, .inr (.inl j)) ∗ rs j c))
    ∗ bigSep (upto M n) fun j => cred (tallyAt (cell P (c, .inl j)) () (P.amt (.inl j))))

/-- Before the wait `n` of a family of waits on own semaphores, all of one device. -/
def Waits {N : ℕ} (f : Fin N → Which M nL) (c : Dev nD) (n : ℕ) : sProp 𝕄 :=
  iprop((bigSep (onward N n) fun i => iprop(cred (tallyAt (cell P (c, f i)) () (P.amt (f i))) ∗ atPos ER (cell P (c, f i)) 0 ∅ 0))
    ∗ bigSep (upto N n) fun i => iprop(semVal (cell P (c, f i)) 0 ∗ pay (f i) c))

/-- Device `c` owes nothing. -/
def Free (c : Dev nD) : sProp 𝕄 := iprop(∃ W, owes (c.tc : Thread nD τ) (0 : CellTallies nD τ sig Unit) W)

/-! ## The steps -/

section Steps

variable [ER.LandsIn (upEmb (nD := nD) (τ := τ) (sig := sig) (Ix := Unit) (Val := Val) (Name := ℕ) (U := U) (Lvl := ℕ))]
  [∀ w c, Storable (upEmb (nD := nD) (τ := τ) (sig := sig) (Ix := Unit) (Val := Val) (Name := ℕ) (U := U) (Lvl := ℕ)) (pay w c)]
variable (defs : Defs nD τ sig Val Λ) (𝒱 : Variants) (bd : Option 𝒱.V) (K : Dev nD × Which M nL → ℕ)
variable {α : Type} {Q : α → sProp (MT nD τ sig Unit Val ℕ U ℕ)} {sp sp' : Space} {s : Shape} {e : EltTy}

/-- An own copy starts. -/
theorem local_step (c : Dev nD) (n : ℕ) (h : n < nL)
    {src : Memref sig .tc sp s e} {dst : Memref sig .tc sp' s e} {sem : SemLoc sig}
    {hsrc : src.view.WordExact} {hdst : dst.view.WordExact} {hsem : DmaTarget.Typed (nD := nD) (p := (Proc.tc : Proc τ)) sp sem (.here dst)}
    {k : PUnit → Prog (TpuEff nD τ sig Val Λ .tc) α}
    (q : PosShare TreeShare) (fs : Buf Val (src.view.loc (c.tc : Thread nD τ)))
    (hs : sem = P.osem (.inr (.inr ⟨n, h⟩))) (hN : dst.view.amount sem = P.amt (.inr (.inr ⟨n, h⟩)))
    (hres : rl ⟨n, h⟩ c ⊢ iprop((src.view.loc (c.tc : Thread nD τ) ↦[src.view.set]{q} fs)
      ∗ ∃ fd : Buf Val (dst.view.loc (c.tc : Thread nD τ)), dst.view.loc (c.tc : Thread nD τ) ↦[dst.view.set]{fullShare} fd))
    (hpay : ∀ fd : Buf Val (dst.view.loc (c.tc : Thread nD τ)),
      iprop((dst.view.loc (c.tc : Thread nD τ) ↦[dst.view.set]{fullShare} (dst.view.write Val fd (src.view.read Val fs) Finset.univ))
        ∗ (src.view.loc (c.tc : Thread nD τ) ↦[src.view.set]{q} fs)) ⊢ pay (.inr (.inr ⟨n, h⟩)) c) :
    iprop(records P pay ER K ∗ Locals P ER rl c n)
      ⊢ iprop((Locals P ER rl c (n + 1) -∗ wp frame (wpE defs 𝒱 (c.tc : Thread nD τ) bd) Set.univ (k ⟨⟩) Q)
          -∗ wp frame (wpE defs 𝒱 (c.tc : Thread nD τ) bd) Set.univ (.op (.enqueueDma src (.here dst) sem hsrc hdst hsem) k) Q) := by
  subst hs
  unfold Locals duty
  rw [bigSep_onward _ n h, bigSep_upto _ n h]
  iintro ⟨#HR, ⟨⟨Ht, Hr⟩, Hon⟩, Hup⟩ Hk
  ihave Hr := hres $$ Hr
  icases Hr with ⟨Hs, %fd, Hd⟩
  iapply (Rounds.wp_copy_pointsTo 𝒱 ER (sched P pay) (c.tc : Thread nD τ) bd (κ := K (c, .inr (.inr ⟨n, h⟩))) (r := 0) (d := ())
      (mem_duties P pay (c, .inr (.inr ⟨n, h⟩))) () (P.amt (.inr (.inr ⟨n, h⟩))) hN (amount_cell P pay (c, .inr (.inr ⟨n, h⟩)) 0 ())
      (fd := fd) (fs := fs) (q := q)
      ((hpay fd).trans (Entails.of_eq (payload_cell P pay (c, .inr (.inr ⟨n, h⟩)) 0 ()).symm))) $$ [Hs Hd Ht]
  · isplitr; · iapply (records_inv P pay ER K (c, .inr (.inr ⟨n, h⟩))); iexact HR
    isplitl [Hs]; · iexact Hs
    isplitl [Hd]; · iexact Hd
    isplitl [Ht]; · iexact Ht
    iapply (records_reached P pay ER K (c, .inr (.inr ⟨n, h⟩))); iexact HR
  iintro Hc
  iapply Hk
  isplitl [Hon]; · iexact Hon
  isplitl [Hc]; · iexact Hc
  iexact Hup

/-- A copy to another device starts; part of what it reads and fills is at hand beside the plan (`X`). -/
theorem pass_step (X : sProp (MT nD τ sig Unit Val ℕ U ℕ)) (c : Dev nD) (n : ℕ) (h : n < M) {d : Dev nD} (hd : d = P.peer ⟨n, h⟩ c)
    {src : Memref sig .tc sp s e} {dst : Memref sig (Dev.tc d : Thread nD τ).2.kind sp' s e} {hsc : dst.view.ref.isScScratch = false} {sS sem : SemLoc sig}
    {hsrc : src.view.WordExact} {hdst : dst.view.WordExact} {hsem : DmaTarget.Typed sp sem (.remote (Dev.tc d : Thread nD τ) dst sS hsc)}
    {k : PUnit → Prog (TpuEff nD τ sig Val Λ .tc) α}
    (q : PosShare TreeShare) (fs : Buf Val (src.view.loc (c.tc : Thread nD τ)))
    (hsS : sS = P.osem (.inl ⟨n, h⟩)) (hs : sem = P.osem (.inr (.inl ⟨n, h⟩)))
    (hN : dst.view.amount sem = P.amt (.inr (.inl ⟨n, h⟩)))
    (hres : iprop(rs ⟨n, h⟩ c ∗ X) ⊢ iprop((src.view.loc (c.tc : Thread nD τ) ↦[src.view.set]{q} fs)
      ∗ ∃ fd : Buf Val (dst.view.loc (Dev.tc d : Thread nD τ)), dst.view.loc (Dev.tc d : Thread nD τ) ↦[dst.view.set]{fullShare} fd))
    (hpay₁ : (src.view.loc (c.tc : Thread nD τ) ↦[src.view.set]{q} fs) ⊢ pay (.inl ⟨n, h⟩) c)
    (hpay₂ : ∀ fd : Buf Val (dst.view.loc (Dev.tc d : Thread nD τ)),
      (dst.view.loc (Dev.tc d : Thread nD τ) ↦[dst.view.set]{fullShare} (dst.view.write Val fd (src.view.read Val fs) Finset.univ))
        ⊢ pay (.inr (.inl ⟨n, h⟩)) d) :
    iprop(records P pay ER K ∗ Sends P ER rs c n ∗ X)
      ⊢ iprop((Sends P ER rs c (n + 1) -∗ wp frame (wpE defs 𝒱 (c.tc : Thread nD τ) bd) Set.univ (k ⟨⟩) Q)
          -∗ wp frame (wpE defs 𝒱 (c.tc : Thread nD τ) bd) Set.univ
              (.op (.enqueueDma src (.remote (Dev.tc d : Thread nD τ) dst sS hsc) sem hsrc hdst hsem) k) Q) := by
  subst hsS hs hd
  unfold Sends duty
  rw [bigSep_onward _ n h, bigSep_upto _ n h, dues_step P c n h]
  iintro ⟨#HR, ⟨⟨%W, HO⟩, ⟨⟨HtS, HtR, Hr⟩, Hon⟩, Hup⟩, HX⟩ Hk
  ihave Hr := hres $$ [Hr HX]
  · isplitl [Hr] <;> iassumption
  icases Hr with ⟨Hs, %fd, Hd⟩
  iapply (Rounds.wp_send_pointsTo 𝒱 ER (sched P pay) (c.tc : Thread nD τ) bd (κ₁ := K (c, .inl ⟨n, h⟩)) (κ₂ := K (P.peer ⟨n, h⟩ c, .inr (.inl ⟨n, h⟩)))
      (r₁ := 0) (r₂ := 0) (d₁ := ()) (d₂ := ()) (fd := fd) (fs := fs) (q := q)
      (mem_duties P pay (c, .inl ⟨n, h⟩)) (mem_duties P pay (P.peer ⟨n, h⟩ c, .inr (.inl ⟨n, h⟩))) () () (P.amt (.inr (.inl ⟨n, h⟩))) hN
      ((amount_cell P pay (c, .inl ⟨n, h⟩) 0 ()).trans (P.amt_send _)) (amount_cell P pay (P.peer ⟨n, h⟩ c, .inr (.inl ⟨n, h⟩)) 0 ())
      (dues P (n + 1) c) rfl (W := W)
      (hpay₁.trans (Entails.of_eq (payload_cell P pay (c, .inl ⟨n, h⟩) 0 ()).symm))
      ((hpay₂ fd).trans (Entails.of_eq (payload_cell P pay (P.peer ⟨n, h⟩ c, .inr (.inl ⟨n, h⟩)) 0 ()).symm))) $$ [Hs Hd HO HtS HtR]
  · isplitr; · iapply (records_inv P pay ER K (c, .inl ⟨n, h⟩)); iexact HR
    isplitr; · iapply (records_inv P pay ER K (P.peer ⟨n, h⟩ c, .inr (.inl ⟨n, h⟩))); iexact HR
    isplitl [Hs]; · iexact Hs
    isplitl [Hd]; · iexact Hd
    isplitl [HO]; · iexact HO
    isplitl [HtS]; · iexact HtS
    isplitr; · iapply (records_reached P pay ER K (c, .inl ⟨n, h⟩)); iexact HR
    isplitl [HtR]; · iexact HtR
    iapply (records_reached P pay ER K (P.peer ⟨n, h⟩ c, .inr (.inl ⟨n, h⟩))); iexact HR
  iintro ⟨Hc, HO⟩
  iapply Hk
  isplitl [HO]; · iexists W; iexact HO
  isplitl [Hon]; · iexact Hon
  isplitl [Hc]; · rw [P.amt_send]; iexact Hc
  iexact Hup

/-- A copy to another device starts. -/
theorem send_step (c : Dev nD) (n : ℕ) (h : n < M) {d : Dev nD} (hd : d = P.peer ⟨n, h⟩ c)
    {src : Memref sig .tc sp s e} {dst : Memref sig (Dev.tc d : Thread nD τ).2.kind sp' s e} {hsc : dst.view.ref.isScScratch = false} {sS sem : SemLoc sig}
    {hsrc : src.view.WordExact} {hdst : dst.view.WordExact} {hsem : DmaTarget.Typed sp sem (.remote (Dev.tc d : Thread nD τ) dst sS hsc)}
    {k : PUnit → Prog (TpuEff nD τ sig Val Λ .tc) α}
    (q : PosShare TreeShare) (fs : Buf Val (src.view.loc (c.tc : Thread nD τ)))
    (hsS : sS = P.osem (.inl ⟨n, h⟩)) (hs : sem = P.osem (.inr (.inl ⟨n, h⟩)))
    (hN : dst.view.amount sem = P.amt (.inr (.inl ⟨n, h⟩)))
    (hres : rs ⟨n, h⟩ c ⊢ iprop((src.view.loc (c.tc : Thread nD τ) ↦[src.view.set]{q} fs)
      ∗ ∃ fd : Buf Val (dst.view.loc (Dev.tc d : Thread nD τ)), dst.view.loc (Dev.tc d : Thread nD τ) ↦[dst.view.set]{fullShare} fd))
    (hpay₁ : (src.view.loc (c.tc : Thread nD τ) ↦[src.view.set]{q} fs) ⊢ pay (.inl ⟨n, h⟩) c)
    (hpay₂ : ∀ fd : Buf Val (dst.view.loc (Dev.tc d : Thread nD τ)),
      (dst.view.loc (Dev.tc d : Thread nD τ) ↦[dst.view.set]{fullShare} (dst.view.write Val fd (src.view.read Val fs) Finset.univ))
        ⊢ pay (.inr (.inl ⟨n, h⟩)) d) :
    iprop(records P pay ER K ∗ Sends P ER rs c n)
      ⊢ iprop((Sends P ER rs c (n + 1) -∗ wp frame (wpE defs 𝒱 (c.tc : Thread nD τ) bd) Set.univ (k ⟨⟩) Q)
          -∗ wp frame (wpE defs 𝒱 (c.tc : Thread nD τ) bd) Set.univ
              (.op (.enqueueDma src (.remote (Dev.tc d : Thread nD τ) dst sS hsc) sem hsrc hdst hsem) k) Q) :=
  (show iprop(records P pay ER K ∗ Sends P ER rs c n) ⊢ iprop(records P pay ER K ∗ Sends P ER rs c n ∗ emp) from by
    iintro ⟨H1, H2⟩
    isplitl [H1]; · iexact H1
    isplitl [H2]; · iexact H2
    iempintro).trans
  (pass_step P pay ER rs defs 𝒱 bd K iprop(emp) c n h hd q fs hsS hs hN
    ((show iprop(rs ⟨n, h⟩ c ∗ emp) ⊢ rs ⟨n, h⟩ c from by iintro ⟨H, -⟩; iexact H).trans hres) hpay₁ hpay₂)

/-- A wait, by a device that may still owe, that takes all its semaphore will ever hold; the semaphore is left at zero. -/
theorem await_step (w : Which M nL) (c : Dev nD) (O : CellTallies nD τ sig Unit)
    {src : Memref sig .tc sp s e} {dst : Memref sig .tc sp' s e} {sem : DmaSem sig}
    {hsrc : src.view.WordExact} {hdst : dst.view.WordExact}
    {k : PUnit → Prog (TpuEff nD τ sig Val Λ .tc) α}
    (hs : sem = P.sem w) (hN : dst.view.dmaCredit = P.amt w) :
    iprop(records P pay ER K ∗ (∃ W, owes (c.tc : Thread nD τ) O W) ∗ MayWait (c.tc : Thread nD τ) (P.osem w) () O
        ∗ cred (tallyAt (cell P (c, w)) () (P.amt w)) ∗ atPos ER (cell P (c, w)) 0 ∅ 0)
      ⊢ iprop((iprop((∃ W, owes (c.tc : Thread nD τ) O W) ∗ semVal (cell P (c, w)) 0 ∗ pay w c)
            -∗ wp frame (wpE defs 𝒱 (c.tc : Thread nD τ) bd) Set.univ (k ⟨⟩) Q)
          -∗ wp frame (wpE defs 𝒱 (c.tc : Thread nD τ) bd) Set.univ (.op (.waitDma2 sem src dst hsrc hdst) k) Q) := by
  subst hs
  rw [← hN]
  iintro ⟨#HR, ⟨%W, HO⟩, HM, Hc, Hat⟩ Hk
  iapply (Rounds.wp_wait_rest_token 𝒱 ER (sched P pay) (c.tc : Thread nD τ) bd (κ := K (c, w)) (sm := P.osem w)
      (wpE_waitDma2_eq 𝒱 (c.tc : Thread nD τ) bd Set.univ) (Set.mem_univ _) () (O := O) (W := W) (R := 0) (m := 0) (T := ∅)
      (by rw [Nat.zero_add, hN]; exact (expect_cell P pay (c, w)).symm)) $$ [Hc HO HM Hat]
  · isplitr; · iapply (records_inv P pay ER K (c, w)); iexact HR
    isplitl [Hc]; · iexact Hc
    isplitl [HO]; · iexact HO
    isplitl [HM]; · iexact HM
    iexact Hat
  iintro ⟨HO, Hat, -, Hpay⟩
  ihave Hp := (show (bigSep ((sched P pay).duties ((c.tc : Thread nD τ), P.osem w) 0 \ ∅)
      fun d => (sched P pay).payload ((c.tc : Thread nD τ), P.osem w) 0 d) ⊢ pay w c
      from Entails.of_eq (rest_cell P pay (c, w))) $$ Hpay
  imod (Rounds.cell_close ER (sched P pay) (Set.mem_univ (K (c, w))) (fun h => h) (R := 0 + 1) (duties_later P pay (cell P (c, w)))) $$ [Hat] with Hz
  · isplitr; · iapply (records_inv P pay ER K (c, w)); iexact HR
    iexact Hat
  iapply Hk
  isplitl [HO]; · iexists _; iexact HO
  isplitl [Hz] <;> iassumption

/-- A wait, one of a family, of a device that owes nothing. -/
theorem wait_step {N : ℕ} (f : Fin N → Which M nL) (c : Dev nD) (n : ℕ) (h : n < N)
    {src : Memref sig .tc sp s e} {dst : Memref sig .tc sp' s e} {sem : DmaSem sig}
    {hsrc : src.view.WordExact} {hdst : dst.view.WordExact}
    {k : PUnit → Prog (TpuEff nD τ sig Val Λ .tc) α}
    (hs : sem = P.sem (f ⟨n, h⟩)) (hN : dst.view.dmaCredit = P.amt (f ⟨n, h⟩)) :
    iprop(records P pay ER K ∗ Free c ∗ Waits P pay ER f c n)
      ⊢ iprop((iprop(Free c ∗ Waits P pay ER f c (n + 1)) -∗ wp frame (wpE defs 𝒱 (c.tc : Thread nD τ) bd) Set.univ (k ⟨⟩) Q)
          -∗ wp frame (wpE defs 𝒱 (c.tc : Thread nD τ) bd) Set.univ (.op (.waitDma2 sem src dst hsrc hdst) k) Q) := by
  unfold Waits Free
  rw [bigSep_onward _ n h, bigSep_upto _ n h]
  iintro ⟨#HR, HO, ⟨⟨Hc, Hat⟩, Hon⟩, Hup⟩ Hk
  iapply (await_step P pay ER defs 𝒱 bd K (f ⟨n, h⟩) c 0 hs hN) $$ [HO Hc Hat]
  · isplitr; · iexact HR
    isplitl [HO]; · iexact HO
    isplitr; · rw [MayWait_zero]; iempintro
    isplitl [Hc] <;> iassumption
  iintro ⟨HO, Hz, Hp⟩
  iapply Hk
  isplitl [HO]; · iexact HO
  isplitl [Hon]; · iexact Hon
  isplitr [Hup]
  · isplitl [Hz] <;> iassumption
  iexact Hup

end Steps

/-! ## Waiting while owing -/

section Levels

open Classical in
/-- The only index of a thread of a device that runs the program; no index elsewhere. -/
def levelled (g : GSem nD τ sig) : Finset Unit := if g.1.2 = Proc.tc then {()} else ∅

open Classical in
/-- Receive semaphores of the copies from `b` on are above all others. -/
def level (b : ℕ) (g : GSem nD τ sig) (_ : Unit) : ℕ := if ∃ (d : Dev nD) (j : Fin M), b ≤ j.val ∧ g = cell P (d, .inr (.inl j)) then 1 else 0

theorem mem_levelled (x : Dev nD × Which M nL) : () ∈ levelled (cell (τ := τ) P x) := by
  have h : levelled (cell (τ := τ) P x) = {()} := if_pos rfl
  rw [h]; exact Finset.mem_singleton_self _

theorem levelled_off (g : GSem nD τ sig) (h : g.1.2 ≠ Proc.tc) : levelled g = ∅ := if_neg h

/-- While it owes only copies from `b` on, a device may wait for a copy before `b`. -/
theorem may_wait (b : ℕ) (c : Dev nD) (j : Fin M) (hj : j.val < b) (n : ℕ) (hn : b ≤ n) :
    (levAts levelled (level P b) : sProp 𝕄) ⊢ MayWait (c.tc : Thread nD τ) (P.osem (.inr (.inl j))) () (dues P n c) := by
  refine Pipeline.mayWait_of_levAts ?_ fun g i hg => ?_
  · exact mem_levelled P (c, .inr (.inl j))
  · obtain ⟨x, hx, hpos⟩ := Pipeline.sum_pos_exists hg
    rw [tallyAt_apply] at hpos
    have hcell : g = cell P (P.peer x c, .inr (.inl x)) := by
      by_contra hne
      rw [if_neg fun h => hne h.1] at hpos
      exact absurd hpos (Nat.lt_irrefl 0)
    subst hcell
    have hnx : n ≤ x.val := (Finset.mem_filter.mp hx).2
    refine ⟨mem_levelled P _, ?_⟩
    have h0 : level P b ((c.tc : Thread nD τ), P.osem (.inr (.inl j))) () = 0 := if_neg fun ⟨d, y, hy, he⟩ => by
      have h1 := congrArg Prod.snd (cell_inj (τ := τ) P (show cell P (c, .inr (.inl j)) = cell P (d, .inr (.inl y)) from he))
      have h2 : j = y := by simpa using h1
      omega
    have h1 : level P b (cell (τ := τ) P (P.peer x c, .inr (.inl x))) i = 1 := if_pos ⟨_, x, by omega, rfl⟩
    rw [h0, h1]; exact Nat.zero_lt_one

end Levels

/-! ## From the launch to the first step -/

/-- All the semaphores of all the devices. -/
def cellSet : Finset (GSem nD τ sig) := Finset.univ.map ⟨cell P, cell_inj P⟩
/-- All their duties. -/
def tokSet : Finset (GSem nD τ sig × ℕ × Unit) :=
  Finset.univ.map ⟨fun x => (cell P x, 0, ()), fun _ _ h => cell_inj P (congrArg Prod.fst h)⟩

/-- What funding the schedule gives device `c`. -/
def Funded (c : Dev nD) : sProp 𝕄 :=
  iprop((bigSep Finset.univ fun w => roundState ER (sched P pay) (cell P (c, w)) 0)
    ∗ (bigSep Finset.univ fun w => reached ER (cell P (c, w)) 0)
    ∗ (bigSep Finset.univ fun w => atPos ER (cell P (c, w)) 0 ∅ 0)
    ∗ bigSep Finset.univ fun w => duty P ER (c, w))

theorem fund : BI.own (ER (initOf (cellSet P) (tokSet P))) ⊢ (|==> bigSep Finset.univ (Funded P pay ER) : sProp 𝕄) := by
  have hX (Φ : GSem nD τ sig → sProp 𝕄) :
      bigSep (cellSet P) Φ = bigSep Finset.univ fun c : Dev nD => bigSep Finset.univ fun w => Φ (cell P (c, w)) := by
    unfold cellSet; rw [bigSep_map, bigSep_univ_prod]; rfl
  have hT : bigSep (tokSet P) (fun x => (dutyTok ER x.1 x.2.1 x.2.2 : sProp 𝕄))
      = bigSep Finset.univ fun c : Dev nD => bigSep Finset.univ fun w => duty P ER (c, w) := by
    unfold tokSet; rw [bigSep_map, bigSep_univ_prod]; rfl
  iintro HX
  imod (Rounds.fund ER (sched P pay) (cellSet P) (tokSet P)) $$ HX with ⟨Hst, Hr, Hat, Htok⟩
  imodintro
  ihave Hst' := (Entails.of_eq (hX fun g => roundState ER (sched P pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Funded; simp only [bigSep_sep']
  isplitl [Hst']; · iexact Hst'
  isplitl [Hr']; · iexact Hr'
  isplitl [Hat'] <;> iassumption

/-- What device `c` starts its copies from, but for what it owes. -/
def ToSend (c : Dev nD) : sProp 𝕄 :=
  bigSep Finset.univ fun j => iprop(duty P ER (c, .inl j) ∗ duty P ER (P.peer j c, .inr (.inl j)) ∗ rs j c)

/-- What device `c` is dealt at launch. -/
def Dealt (c : Dev nD) : sProp 𝕄 :=
  iprop(∃ K : Dev nD × Which M nL → ℕ, records P pay ER K
    ∗ (Locals P ER rl c 0 ∗ ToSend P ER rs c ∗ bigSep Finset.univ fun w => atPos ER (cell P (c, w)) 0 ∅ 0))

theorem bigSep_which {R : Type} [URA R] (Φ : Which M nL → sProp R) : bigSep Finset.univ Φ
    = iprop((bigSep Finset.univ fun j => Φ (.inl j)) ∗ (bigSep Finset.univ fun j => Φ (.inr (.inl j))) ∗ bigSep Finset.univ fun l => Φ (.inr (.inr l))) := by
  rw [bigSep_univ_sum, bigSep_univ_sum]; rfl

/-- A copy to the partner as the partner sees it. -/
def swap : Dev nD × Fin M ≃ Dev nD × Fin M :=
  ⟨fun x => (P.peer x.2 x.1, x.2), fun x => (P.peer x.2 x.1, x.2), fun x => by simp [P.peer_peer], fun x => by simp [P.peer_peer]⟩

/-- The duties dealt: each device the duties of its own copies. -/
theorem duties_dealt :
    (bigSep Finset.univ fun c : Dev nD => bigSep Finset.univ fun w => (duty P ER (c, w) : sProp 𝕄))
      = iprop((bigSep Finset.univ fun c : Dev nD => bigSep Finset.univ fun j => duty P ER (c, .inl j))
        ∗ (bigSep Finset.univ fun c : Dev nD => bigSep Finset.univ fun j => duty P ER (P.peer j c, .inr (.inl j)))
        ∗ bigSep Finset.univ fun c : Dev nD => bigSep Finset.univ fun l => duty P ER (c, .inr (.inr l))) := by
  have hr : (bigSep Finset.univ fun c : Dev nD => bigSep Finset.univ fun j => (duty P ER (c, .inr (.inl j)) : sProp 𝕄))
      = bigSep Finset.univ fun c : Dev nD => bigSep Finset.univ fun j => duty P ER (P.peer j c, .inr (.inl j)) := by
    rw [← bigSep_univ_prod fun x : Dev nD × Fin M => (duty P ER (x.1, .inr (.inl x.2)) : sProp 𝕄),
      ← bigSep_univ_prod fun x : Dev nD × Fin M => (duty P ER (P.peer x.2 x.1, .inr (.inl x.2)) : sProp 𝕄)]
    exact bigSep_univ_equiv (swap P) fun x : Dev nD × Fin M => (duty P ER (x.1, .inr (.inl x.2)) : sProp 𝕄)
  rw [bigSep_congr fun (c : Dev nD) _ => bigSep_which fun w => (duty P ER (c, w) : sProp 𝕄), bigSep_sep', bigSep_sep', hr]

theorem locals_zero (c : Dev nD) :
    (Locals P ER rl c 0 : sProp 𝕄) = bigSep Finset.univ fun l => iprop(duty P ER (c, .inr (.inr l)) ∗ rl l c) := by
  unfold Locals; rw [onward_zero, upto_zero, bigSep_empty]; exact BI.equiv_iff.mp BI.sep_emp

variable [ER.LandsIn (upEmb (nD := nD) (τ := τ) (sig := sig) (Ix := Unit) (Val := Val) (Name := ℕ) (U := U) (Lvl := ℕ))]
  [∀ w c, Storable (upEmb (nD := nD) (τ := τ) (sig := sig) (Ix := Unit) (Val := Val) (Name := ℕ) (U := U) (Lvl := ℕ)) (pay w c)]

/-- All the semaphores at zero, all the arrays and what funding gave: every device its part. -/
theorem deal (B : Dev nD → sProp (MT nD τ sig Unit Val ℕ U ℕ))
    (hB : bigSep Finset.univ B ⊢ bigSep Finset.univ fun c =>
      iprop((bigSep Finset.univ fun l => rl l c) ∗ bigSep Finset.univ fun j => rs j c)) :
    (bigSep Finset.univ fun c => iprop(Pipeline.ownSems0 P.osem c ∗ B c ∗ Funded P pay ER c) : sProp 𝕄)
      ⊢ |={Set.univ}=> bigSep Finset.univ (Dealt P pay ER rs rl) := by
  have hinv : iprop((bigSep Finset.univ fun c : Dev nD => bigSep Finset.univ fun w => (semVal (cell P (c, w)) 0 : sProp 𝕄))
        ∗ bigSep Finset.univ fun c : Dev nD => bigSep Finset.univ fun w => roundState ER (sched P pay) (cell P (c, w)) 0)
      ⊢ |={Set.univ}=> (bigSep Finset.univ fun x : Dev nD × Which M nL => iprop(∃ κ : ℕ, cellInv ER (sched P pay) κ (cell P x)) : sProp 𝕄) := by
    rw [← bigSep_univ_prod fun x => (semVal (cell P x) 0 : sProp 𝕄),
      ← bigSep_univ_prod fun x => (roundState ER (sched P pay) (cell P x) 0 : sProp 𝕄), ← bigSep_sep']
    exact (bigSep_mono fun x _ => (Rounds.body_intro ER (sched P pay) (cell P x)).trans inv_alloc).trans (bigSep_fupd _ _)
  have hown (c : Dev nD) : (Pipeline.ownSems0 P.osem c : sProp 𝕄) = bigSep Finset.univ fun w => semVal (cell P (c, w)) 0 := rfl
  unfold Funded
  simp only [bigSep_sep', hown]
  iintro ⟨Hv, HB, Hst, Hr, Hat, Ht⟩
  imod hinv $$ [Hv Hst] with HI
  · isplitl [Hv] <;> iassumption
  imodintro
  ihave HK := (BI.bigSep_exists_pi Finset.univ (fun (x : Dev nD × Which M nL) (κ : ℕ) => (cellInv ER (sched P pay) κ (cell P x) : sProp 𝕄))) $$ HI
  icases HK with ⟨%K, #HI⟩
  ihave HR := (Entails.of_eq (bigSep_univ_prod fun x => (reached ER (cell P x) 0 : sProp 𝕄)).symm) $$ Hr
  icases HR with #HR
  ihave HB := hB $$ HB
  ihave HB := (Entails.of_eq (bigSep_sep' Finset.univ (fun c => bigSep Finset.univ fun l => rl l c) fun c => bigSep Finset.univ fun j => rs j c)) $$ HB
  icases HB with ⟨Hl, Hs⟩
  ihave Ht := (Entails.of_eq (duties_dealt P ER)) $$ Ht
  icases Ht with ⟨HtS, HtR, HtL⟩
  have hwith : iprop(records P pay ER K ∗ bigSep Finset.univ fun c : Dev nD =>
        iprop(Locals P ER rl c 0 ∗ ToSend P ER rs c ∗ bigSep Finset.univ fun w => atPos ER (cell P (c, w)) 0 ∅ 0))
      ⊢ bigSep Finset.univ (Dealt P pay ER rs rl) :=
    (sep_mono_left (BI.bigSep_of_persistent Finset.univ (records P pay ER K))).trans (by
      rw [← bigSep_sep']
      exact bigSep_mono fun c _ => by
        unfold Dealt
        exact show iprop(records P pay ER K
            ∗ (Locals P ER rl c 0 ∗ ToSend P ER rs c ∗ bigSep Finset.univ fun w => atPos ER (cell P (c, w)) 0 ∅ 0))
          ⊢ iprop(∃ K : Dev nD × Which M nL → ℕ, records P pay ER K
            ∗ (Locals P ER rl c 0 ∗ ToSend P ER rs c ∗ bigSep Finset.univ fun w => atPos ER (cell P (c, w)) 0 ∅ 0))
          from by iintro H; iexists K; iexact H)
  iapply hwith
  isplitr
  · unfold records; isplitr; · iexact HI
    iexact HR
  unfold ToSend
  simp only [locals_zero, bigSep_sep']
  isplitl [HtL Hl]; · isplitl [HtL] <;> iassumption
  isplitl [HtS HtR Hs]
  · isplitl [HtS]; · iexact HtS
    isplitl [HtR] <;> iassumption
  iexact Hat

/-- What the devices owe device `c` at launch: its own copies to come. -/
theorem creds (c : Dev nD) : (Pipeline.launchCred (dues P 0) c : sProp 𝕄)
    ⊢ bigSep Finset.univ fun j => cred (tallyAt (cell P (c, .inr (.inl j))) () (P.amt (.inr (.inl j)))) := by
  have happ (d : Dev nD) (j : Fin M) : dues (τ := τ) P 0 d (cell P (c, .inr (.inl j))) ()
      = if d = P.peer j c then P.amt (.inr (.inl j)) else 0 := by
    unfold dues
    rw [onward_zero, Finset.sum_apply, Finsupp.finset_sum_apply, Finset.sum_eq_single j]
    · rw [tallyAt_apply]
      by_cases h : d = P.peer j c
      · rw [if_pos ⟨by rw [h, P.peer_peer], rfl⟩, if_pos h]
      · rw [if_neg fun ⟨h1, _⟩ => h (by have h2 : c = P.peer j d := congrArg Prod.fst (cell_inj P h1); rw [h2, P.peer_peer]), if_neg h]
    · intro i _ hi
      rw [tallyAt_apply, if_neg fun ⟨h1, _⟩ => hi (by have := congrArg Prod.snd (cell_inj P h1); simpa using this.symm)]
    · intro h; exact absurd (Finset.mem_univ _) h
  have hl (j : Fin M) : tallyOn (cell (τ := τ) P (c, .inr (.inl j))) (launchCredit (Pipeline.owing (dues (τ := τ) P 0)) 0 (cell P (c, .inr (.inl j))))
      = (tallyAt (cell P (c, .inr (.inl j))) () (P.amt (.inr (.inl j))) : CellTallies nD τ sig Unit) := by
    unfold tallyAt; refine congrArg _ (Finsupp.ext fun u => ?_); cases u
    rw [Pipeline.launchCredit_owing, Finsupp.single_eq_same, Finset.sum_congr rfl fun d _ => happ d j,
      Finset.sum_ite_eq' Finset.univ (P.peer j c) fun _ => _, if_pos (Finset.mem_univ _)]
  unfold Pipeline.launchCred
  have hsub : (Finset.univ.map ⟨fun j : Fin M => P.osem (.inr (.inl j)), fun a b h => by simpa using osem_inj P h⟩ : Finset (SemLoc sig)) ⊆ Finset.univ :=
    Finset.subset_univ _
  refine BI.Entails.trans (bigSep_subset hsub) ?_
  rw [bigSep_map]
  exact Entails.of_eq (bigSep_congr fun j _ => congrArg cred (hl j))

/-- What device `c` enters the kernel with. -/
def Start (c : Dev nD) : sProp 𝕄 :=
  iprop(∃ K : Dev nD × Which M nL → ℕ, records P pay ER K ∗ Locals P ER rl c 0 ∗ ToSend P ER rs c
    ∗ Waits P pay ER (fun j : Fin M => .inr (.inl j)) c 0
    ∗ (bigSep Finset.univ fun j : Fin M => atPos ER (cell P (c, .inl j)) 0 ∅ 0)
    ∗ bigSep Finset.univ fun l : Fin nL => atPos ER (cell P (c, .inr (.inr l))) 0 ∅ 0)

theorem waits_zero {N : ℕ} (f : Fin N → Which M nL) (c : Dev nD) :
    (Waits P pay ER f c 0 : sProp 𝕄) = iprop((bigSep Finset.univ fun i => cred (tallyAt (cell P (c, f i)) () (P.amt (f i))))
      ∗ bigSep Finset.univ fun i => atPos ER (cell P (c, f i)) 0 ∅ 0) := by
  unfold Waits; rw [onward_zero, upto_zero, bigSep_empty, bigSep_sep']; exact BI.equiv_iff.mp BI.sep_emp

theorem waits_last {N : ℕ} (f : Fin N → Which M nL) (c : Dev nD) :
    (Waits P pay ER f c N : sProp 𝕄) = iprop((bigSep Finset.univ fun i => semVal (cell P (c, f i)) 0)
      ∗ bigSep Finset.univ fun i => pay (f i) c) := by
  unfold Waits; rw [onward_last, upto_last, bigSep_empty, bigSep_sep']; exact BI.equiv_iff.mp BI.emp_sep

theorem start (c : Dev nD) : iprop(Dealt P pay ER rs rl c ∗ Pipeline.launchCred (dues P 0) c) ⊢ Start P pay ER rs rl c := by
  unfold Dealt Start
  iintro ⟨⟨%K, HR, Hl, Hs, Hat⟩, Hc⟩
  ihave Hc := (creds P c) $$ Hc
  ihave Hat := (Entails.of_eq (bigSep_which fun w => atPos ER (cell P (c, w)) 0 ∅ 0)) $$ Hat
  icases Hat with ⟨HaS, HaR, HaL⟩
  iexists K
  isplitl [HR]; · iexact HR
  isplitl [Hl]; · iexact Hl
  isplitl [Hs]; · iexact Hs
  isplitl [Hc HaR]
  · rw [waits_zero]; isplitl [Hc]; · iexact Hc
    iexact HaR
  isplitl [HaS]; · iexact HaS
  iexact HaL

theorem sends_zero (c : Dev nD) :
    (Sends P ER rs c 0 : sProp 𝕄) = iprop((∃ W, owes (c.tc : Thread nD τ) (dues P 0 c) W) ∗ ToSend P ER rs c) := by
  unfold Sends ToSend; rw [onward_zero, upto_zero, bigSep_empty]
  exact congrArg _ (BI.equiv_iff.mp BI.sep_emp)

theorem sends_last (c : Dev nD) :
    (Sends P ER rs c M : sProp 𝕄) = iprop(Free c ∗ bigSep Finset.univ fun j => cred (tallyAt (cell P (c, .inl j)) () (P.amt (.inl j)))) := by
  unfold Sends Free; rw [onward_last, upto_last, bigSep_empty, dues_last]
  exact congrArg _ (BI.equiv_iff.mp BI.emp_sep)

theorem locals_last (c : Dev nD) :
    (Locals P ER rl c nL : sProp 𝕄) = bigSep Finset.univ fun l => cred (tallyAt (cell P (c, .inr (.inr l))) () (P.amt (.inr (.inr l)))) := by
  unfold Locals; rw [onward_last, upto_last, bigSep_empty]; exact BI.equiv_iff.mp BI.emp_sep

/-- All the waits done: the semaphores are at zero. -/
theorem sems_zero (c : Dev nD) :
    iprop((bigSep Finset.univ fun j => semVal (cell P (c, .inl j)) 0) ∗ (bigSep Finset.univ fun j => semVal (cell P (c, .inr (.inl j))) 0)
        ∗ bigSep Finset.univ fun l => semVal (cell P (c, .inr (.inr l))) 0)
      ⊢ (Pipeline.ownSems0 P.osem c : sProp 𝕄) := by
  have hown : (Pipeline.ownSems0 P.osem c : sProp 𝕄) = bigSep Finset.univ fun w => semVal (cell P (c, w)) 0 := rfl
  rw [hown, bigSep_which]

end Cert.Copies
-- ==== Proof.Run.lean ====
/-
  The run of a program that is one kernel call without windows in which every device starts all its copies and then waits
  for all of them: from the proof of the body on each device (`hbody`) to the program's run.
-/
module

public import proofs.«01_k».proof.Proof.Dealt
public import proofs.«01_k».proof.Proof.Copies

@[expose] public section

set_option Elab.async false

noncomputable section

namespace Cert.Copies

open Idealize.ShloMosaic Idealize.ShloMosaic.TcCoe Idealize.ShloMosaic.Rounds
open Idealize.ShloMosaic.Pipeline (PCfg Dat pin cellOf WinFacts₀ OwnSemFacts ownSems0 entry BodyObligationLoose)
open Idealize.SL Idealize.SL.RA
open Idealize.SL.BI
open scoped Idealize.SL.BI
open Idealize.SL.BI.BIBase Idealize.SL.BI.Laws Idealize.SL.Sem Idealize.SL.ProofMode

variable {nD : Nat} {τ : Topo} {sig : RefSig} {Val : EltTy → Type} {Λ₀ : Labels} {M nL : ℕ}

/-- The ghost algebra of the two protocols: the staging loop's, the copies'. -/
abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (pcs : Fin 1 → PCfg sig Λ₀ Val) (a : (p : Fin 1) → (pcs p).Adm)
variable (P : Plan nD sig M nL)
  (pay : Which M nL → Dev nD → sProp (MT nD τ sig Unit Val ℕ (UU nD τ sig) ℕ))
  (rs : Fin M → Dev nD → sProp (MT nD τ sig Unit Val ℕ (UU nD τ sig) ℕ))
  (rl : Fin nL → Dev nD → sProp (MT nD τ sig Unit Val ℕ (UU nD τ sig) ℕ))
  (Got : Dev nD → sProp (MT nD τ sig Unit Val ℕ (UU nD τ sig) ℕ))

/-- Before the body and after it, over the facts `H` that every device may use. -/
def dats (H : sProp (MT nD τ sig Unit Val ℕ (UU nD τ sig) ℕ)) (hW : ∀ p, (pcs p).W = 0) (p : Fin 1) (c : Dev nD) : Dat τ Val Unit ℕ (UU nD τ sig) ℕ (pin pcs a p) c where
  A w := absurd (show w.val < (pcs p).W from w.isLt) (by rw [hW]; exact Nat.not_lt_zero _)
  after w _ := absurd (show w.val < (pcs p).W from w.isLt) (by rw [hW]; exact Nat.not_lt_zero _)
  Φ t := if t.val = 0 then iprop(Start P pay ER rs rl c ∗ H) else iprop(Got c ∗ ownSems0 P.osem c)
  q _ := fullShare
  owed t := if t.val = 0 then dues P 0 c else 0

theorem pre_mono (A : sProp 𝕄) (c : Thread nD τ) (O : CellTallies nD τ sig Unit) (p : Idealize.ShloMosaic.Waits sig Unit → Prop) :
    iprop(A ∗ (∃ W, ⌜p W⌝ ∗ owes c O W) ∗ emp) ⊢ iprop(A ∗ ∃ W, owes c O W) := by
  iintro ⟨HA, ⟨%W, -, HO⟩, -⟩
  isplitl [HA]; · iexact HA
  iexists W; iexact HO

theorem post_mono (A : sProp 𝕄) (c : Dev nD) (p : Idealize.ShloMosaic.Waits sig Unit → Prop) (hp : ∀ W, p W) :
    iprop(A ∗ Free c) ⊢ iprop(A ∗ (∃ W, ⌜p W⌝ ∗ owes (c.tc : Thread nD τ) (0 : CellTallies nD τ sig Unit) W) ∗ emp) := by
  unfold Free
  iintro ⟨HA, %W, HO⟩
  isplitl [HA]; · iexact HA
  isplitl [HO]
  · iexists W
    isplitr; · ipureintro; exact hp W
    iexact HO
  iempintro

variable (defs₀ : Defs nD τ sig Val Λ₀) (𝒱₀ : Variants)

local notation "𝔻" => Pipeline.defs pcs defs₀

theorem θ_run_copies (L : GSem nD τ sig → Finset Unit) (lv : GSem nD τ sig → Unit → ℕ) (hL : ∀ g : GSem nD τ sig, g.1.2 ≠ Proc.tc → L g = ∅) [∀ e, Nonempty (Val e)]
    [∀ w c, Storable (upEmb (nD := nD) (τ := τ) (sig := sig) (Ix := Unit) (Val := Val) (Name := ℕ) (U := UU nD τ sig) (Lvl := ℕ)) (pay w c)]
    (phinj : Function.Injective (cellOf (nD := nD) (τ := τ) (pin pcs a)))
    (hw : WinFacts₀ (pcs 0).spec) (ho : OwnSemFacts (pcs 0).spec P.osem)
    (hW : ∀ p, (pcs p).W = 0) (hK : (pcs 0).pre.K = 0) (hN : (pin pcs a 0).N = 1)
    (hrest : ∀ c, (Pipeline.scopedRest (pcs 0).spec c : sProp 𝕄) = iprop(emp))
    (m : (ℓ : Loc nD τ sig) → Buf Val ℓ) (g : Dev nD → PrngReg)
    (main : Dev nD → Prog (TpuEff nD τ sig Val (Pipeline.Sig Λ₀ (Fin 1) fun p => (pcs p).Adm) .tc) PUnit)
    (hmain : ∀ c, main c = .op (.customCall (entry 0) ()) fun _ => .ret ⟨⟩)
    (hbody : ∀ c t, iprop((Start P pay ER rs rl c ∗ levAts L lv) ∗ ∃ W, owes (c.tc : Thread nD τ) (dues P 0 c) W)
      ⊢ wp frame (wpE defs₀ 𝒱₀ (c.tc : Thread nD τ) none) Set.univ (defs₀ .tc (pin pcs a 0).body ((pin pcs a 0).bodyArgs t ((pin pcs a 0).slots t)))
          fun _ => iprop((Got c ∗ ownSems0 P.osem c) ∗ Free c))
    (hB : (bigSep Finset.univ fun c => (unscopedBufs c (fun b => m ((c.tc : Thread nD τ).loc b)) : sProp 𝕄))
      ⊢ bigSep Finset.univ fun c => iprop((bigSep Finset.univ fun l => rl l c) ∗ bigSep Finset.univ fun j => rs j c))
    (QY : Dev nD → MemSt nD τ sig Val → Prop)
    (hread : ∀ c (s' : Phys nD τ sig Val), iprop(Got c ∗ SI s') ⊢ |={Set.univ}=> iprop(⌜QY c s'.mem⌝ ∗ SI s'))
    (hs : ∀ sm : SemLoc sig, sm.isScoped .tc = true) :
    θ_run 𝔻 (onTc main) ⟨m, fun _ => 0, g⟩ fun r => (∀ c, QY c r.2) ∧ r.2.sem = fun _ => 0 := by
  refine Dealt.θ_run_dealt L lv pcs a (dats pcs a P pay rs rl Got (levAts L lv) hW) phinj 0 hw ho EP defs₀ 𝒱₀ m g main (fun _ => .ret ⟨⟩)
    hmain (hW 0) hK (hbody := ?_) (O₀ := dues P 0) (howed₀ := fun _ => rfl) (howedN := fun c => ?_) (hL := hL)
    (G := Funded P pay ER) (G' := Dealt P pay ER rs rl)
    (u₀ := (initOf (Pipeline.cells (pin pcs a) phinj) (Pipeline.launchToks (pin pcs a) phinj), initOf (cellSet P) (tokSet P)))
    (hu₀ := ?_) (hdeal := deal P pay ER rs rl _ hB)
    (X := fun c => iprop(Start P pay ER rs rl c ∗ levAts L lv)) (Y := Got) (Z := fun _ => iprop(emp)) (T := Got)
    (hstart := fun c => ?_) (hin := fun c => ?_) (hout := fun c => ?_) (htail := fun c R => ?_) (QY := QY) (hread := hread)
    (hQ := fun s h h0 => ⟨h, sem_eq_zero_of_scoped hs h0⟩)
  · intro c t
    have hno : IsEmpty (Fin (pin pcs a 0).W) := by show IsEmpty (Fin (pcs 0).W); rw [hW 0]; infer_instance
    have ht : t.val = 0 := by have h := t.isLt; omega
    have h0 : (dats pcs a P pay rs rl Got (levAts L lv) hW 0 c).Φ t.castSucc = iprop(Start P pay ER rs rl c ∗ levAts L lv) := if_pos ht
    have h1 : (dats pcs a P pay rs rl Got (levAts L lv) hW 0 c).Φ t.succ = iprop(Got c ∗ ownSems0 P.osem c) := by
      show (if t.succ.val = 0 then iprop(Start P pay ER rs rl c ∗ levAts L lv) else iprop(Got c ∗ ownSems0 P.osem c)) = _
      exact if_neg (Nat.succ_ne_zero _)
    have ho0 : (dats pcs a P pay rs rl Got (levAts L lv) hW 0 c).owed t.castSucc = dues P 0 c := if_pos ht
    have ho1 : (dats pcs a P pay rs rl Got (levAts L lv) hW 0 c).owed t.succ = 0 := by
      show (if t.succ.val = 0 then dues P 0 c else 0) = _
      exact if_neg (Nat.succ_ne_zero _)
    simp only [Finset.univ_eq_empty, bigSep_empty]
    rw [h0, h1]
    unfold Dat.owesAt Pipeline.owesWithin
    rw [ho0, ho1]
    refine BI.Entails.trans (pre_mono _ _ _ _) ((hbody c t).trans (wp_mono _ _ _ fun _ => post_mono _ _ _ fun _ _ _ => Or.inl trivial))
  · show (if (Fin.last (pin pcs a 0).N).val = 0 then dues P 0 c else 0) = _
    exact if_neg (by rw [Fin.val_last, hN]; decide)
  · iintro Hu
    ihave H := (ownU_pair _ _) $$ Hu
    icases H with ⟨HP, HX⟩
    imod (fund P pay ER) $$ HX with HG
    imodintro
    isplitl [HP] <;> iassumption
  · iintro ⟨HG, -, HL, Hc, -⟩
    imodintro
    isplitl [HG Hc HL]
    · isplitr [HL]
      · iapply (start P pay ER rs rl c); isplitl [HG] <;> iassumption
      iexact HL
    iempintro
  · rw [show (dats pcs a P pay rs rl Got (levAts L lv) hW 0 c).Φ 0 = iprop(Start P pay ER rs rl c ∗ levAts L lv) from rfl]
    iintro ⟨H, -⟩; iexact H
  · rw [show (dats pcs a P pay rs rl Got (levAts L lv) hW 0 c).Φ (Fin.last _) = iprop(Got c ∗ ownSems0 P.osem c) from by
      show (if (Fin.last (pin pcs a 0).N).val = 0 then iprop(Start P pay ER rs rl c ∗ levAts L lv) else iprop(Got c ∗ ownSems0 P.osem c)) = _
      exact if_neg (by rw [Fin.val_last, hN]; decide), hrest]
    iintro ⟨HG, Ho⟩
    isplitl [HG]; · iexact HG
    isplitl [Ho]; · iexact Ho
    iempintro
  · rw [wp_ret]
    iintro ⟨Hk, HY, -, Hb, -, -, HO⟩
    iapply Hk
    isplitl [HY]; · iexact HY
    isplitl [Hb] <;> iassumption

end Cert.Copies
-- ==== Proof.Around.lean ====
/-
  The copies between the eight devices of a 2 × 2 × 2 mesh, numbered row-major: with seven partners each device meets
  every other one, partner `k` being the device whose number differs in the bits of `k + 1`. `n` arrays go around, each in
  eight pieces, a piece per device; what is said here of the pieces does not depend on what they are.
-/
module

public import proofs.«01_k».proof.Proof.Copies

@[expose] public section

set_option Elab.async false

noncomputable section

namespace Cert.Around

open Idealize.ShloMosaic
open Idealize.SL Idealize.SL.RA
open Idealize.SL.BI
open scoped Idealize.SL.BI
open Idealize.SL.BI.BIBase Idealize.SL.BI.Laws Idealize.SL.ProofMode
open Cert.Copies

/-- Partner `k` of device `c`. -/
def peer (k : Fin 7) (c : Dev 8) : Dev 8 := ⟨(c.val ^^^ (k.val + 1)) % 8, Nat.mod_lt _ (by decide)⟩

theorem peer_peer : ∀ (k : Fin 7) (c : Dev 8), peer k (peer k c) = c := by decide
theorem peer_inj (c : Dev 8) : Function.Injective fun k => peer k c := by revert c; decide
theorem peers (c : Dev 8) : Finset.univ.erase c = Finset.univ.map ⟨fun k => peer k c, peer_inj c⟩ := by revert c; decide

variable {R : Type} [URA R]

theorem regroup (A B C D : sProp R) : iprop((A ∗ B) ∗ C ∗ D) ⊢ iprop((A ∗ C) ∗ B ∗ D) := by
  iintro ⟨⟨H1, H2⟩, H3, H4⟩
  isplitl [H1 H3]
  · isplitl [H1] <;> iassumption
  isplitl [H2] <;> iassumption

/-- A device's own piece and the seven others. -/
theorem bigSep_peers (c : Dev 8) (Φ : Dev 8 → sProp R) :
    bigSep Finset.univ Φ = iprop(Φ c ∗ bigSep Finset.univ fun k => Φ (peer k c)) := by
  rw [bigSep_univ_at Φ c, peers c, bigSep_map]; rfl

/-- The pieces for the partners as the partners see them. -/
def swap : Dev 8 × Fin 7 ≃ Dev 8 × Fin 7 :=
  ⟨fun x => (peer x.2 x.1, x.2), fun x => (peer x.2 x.1, x.2), fun x => by simp [peer_peer], fun x => by simp [peer_peer]⟩

theorem bigSep_swap (Φ : Dev 8 → Dev 8 → sProp R) :
    (bigSep Finset.univ fun d => bigSep Finset.univ fun k => Φ d (peer k d))
      = bigSep Finset.univ fun c => bigSep Finset.univ fun k => Φ (peer k c) c := by
  rw [← bigSep_univ_prod fun x : Dev 8 × Fin 7 => Φ x.1 (peer x.2 x.1), ← bigSep_univ_prod fun x : Dev 8 × Fin 7 => Φ (peer x.2 x.1) x.1,
    bigSep_univ_equiv swap fun x : Dev 8 × Fin 7 => Φ x.1 (peer x.2 x.1)]
  exact bigSep_congr fun x _ => by show Φ _ (peer x.2 (peer x.2 x.1)) = _; rw [peer_peer]; rfl

variable {n : ℕ}

/-- The copies of all arrays in one row, array by array. -/
theorem bigSep_row (Φ : Fin n → Fin 7 → sProp R) :
    (bigSep Finset.univ fun j : Fin (n * 7) => Φ j.divNat j.modNat) = bigSep Finset.univ fun a => bigSep Finset.univ fun k => Φ a k := by
  rw [bigSep_univ_equiv (finProdFinEquiv (m := n) (n := 7)) fun j : Fin (n * 7) => Φ j.divNat j.modNat, bigSep_univ_prod]
  refine bigSep_congr fun a _ => bigSep_congr fun k _ => ?_
  have h := finProdFinEquiv.symm_apply_apply (a, k)
  have h1 : (finProdFinEquiv (a, k)).divNat = a := congrArg Prod.fst h
  have h2 : (finProdFinEquiv (a, k)).modNat = k := congrArg Prod.snd h
  rw [h1, h2]

/-- `S a c p` is piece `p` of the source of array `a` on device `c`; `O a c p` is piece `p` of its result. What copy `j` of
    device `c` reads and fills: -/
def sent (S O : Fin n → Dev 8 → Dev 8 → sProp R) (j : Fin (n * 7)) (c : Dev 8) : sProp R :=
  iprop(S j.divNat c (peer j.modNat c) ∗ O j.divNat (peer j.modNat c) c)
/-- what own copy `l` reads and fills: -/
def kept (S O : Fin n → Dev 8 → Dev 8 → sProp R) (l : Fin n) (c : Dev 8) : sProp R := iprop(S l c c ∗ O l c c)
/-- and what the landed copies give back. -/
def pay (S O : Fin n → Dev 8 → Dev 8 → sProp R) : Which (n * 7) n → Dev 8 → sProp R
  | .inl j, c => S j.divNat c (peer j.modNat c)
  | .inr (.inl j), c => O j.divNat c (peer j.modNat c)
  | .inr (.inr l), c => iprop(O l c c ∗ S l c c)

variable (S O : Fin n → Dev 8 → Dev 8 → sProp R)

/-- All the pieces of all the devices, dealt to the devices whose copies need them. -/
theorem deal_pieces (B : Dev 8 → sProp R)
    (hB : ∀ c, B c ⊢ iprop((bigSep Finset.univ fun a => bigSep Finset.univ fun p => S a c p) ∗ bigSep Finset.univ fun a => bigSep Finset.univ fun p => O a c p)) :
    bigSep Finset.univ B ⊢ bigSep Finset.univ fun c => iprop((bigSep Finset.univ fun l => kept S O l c) ∗ bigSep Finset.univ fun j => sent S O j c) := by
  have hrow (c : Dev 8) : (bigSep Finset.univ fun j : Fin (n * 7) => sent S O j c)
      = bigSep Finset.univ fun a : Fin n => bigSep Finset.univ fun k => iprop(S a c (peer k c) ∗ O a (peer k c) c) :=
    bigSep_row fun a k => iprop(S a c (peer k c) ∗ O a (peer k c) c)
  have hO : (bigSep Finset.univ fun c : Dev 8 => bigSep Finset.univ fun a : Fin n => bigSep Finset.univ fun k => O a c (peer k c))
      = bigSep Finset.univ fun c : Dev 8 => bigSep Finset.univ fun a : Fin n => bigSep Finset.univ fun k => O a (peer k c) c := by
    have hc (f : Dev 8 → Fin n → sProp R) : (bigSep Finset.univ fun c => bigSep Finset.univ fun a => f c a)
        = bigSep Finset.univ fun a => bigSep Finset.univ fun c => f c a := by
      rw [← bigSep_univ_prod fun x : Dev 8 × Fin n => f x.1 x.2, bigSep_univ_equiv (Equiv.prodComm (Fin n) (Dev 8)) fun x : Dev 8 × Fin n => f x.1 x.2,
        bigSep_univ_prod]
      rfl
    rw [hc, hc]
    exact bigSep_congr fun a _ => bigSep_swap (O a)
  have hsplit (X : Fin n → Dev 8 → Dev 8 → sProp R) : (bigSep Finset.univ fun c : Dev 8 => bigSep Finset.univ fun a => bigSep Finset.univ fun p => X a c p)
      = iprop((bigSep Finset.univ fun c : Dev 8 => bigSep Finset.univ fun a => X a c c)
        ∗ bigSep Finset.univ fun c : Dev 8 => bigSep Finset.univ fun a => bigSep Finset.univ fun k => X a c (peer k c)) := by
    rw [← bigSep_sep']
    refine bigSep_congr fun c _ => ?_
    rw [← bigSep_sep']
    exact bigSep_congr fun a _ => bigSep_peers c (X a c)
  have hkept : (bigSep Finset.univ fun c : Dev 8 => bigSep Finset.univ fun l => kept S O l c)
      = iprop((bigSep Finset.univ fun c : Dev 8 => bigSep Finset.univ fun l => S l c c) ∗ bigSep Finset.univ fun c : Dev 8 => bigSep Finset.univ fun l => O l c c) := by
    rw [← bigSep_sep']; exact bigSep_congr fun c _ => bigSep_sep' Finset.univ (fun l => S l c c) fun l => O l c c
  have hsent : (bigSep Finset.univ fun c : Dev 8 => bigSep Finset.univ fun j => sent S O j c)
      = iprop((bigSep Finset.univ fun c : Dev 8 => bigSep Finset.univ fun a => bigSep Finset.univ fun k => S a c (peer k c))
        ∗ bigSep Finset.univ fun c : Dev 8 => bigSep Finset.univ fun a => bigSep Finset.univ fun k => O a (peer k c) c) := by
    rw [← bigSep_sep']
    refine bigSep_congr fun c _ => (hrow c).trans ?_
    rw [← bigSep_sep']
    exact bigSep_congr fun a _ => bigSep_sep' Finset.univ (fun k => S a c (peer k c)) fun k => O a (peer k c) c
  refine BI.Entails.trans (bigSep_mono fun c _ => hB c) ?_
  rw [bigSep_sep', hsplit S, hsplit O, hO, bigSep_sep', hkept, hsent]
  exact regroup _ _ _ _

/-- What the waits gave back, put together. -/
theorem collect_pieces (c : Dev 8) :
    iprop((bigSep Finset.univ fun j : Fin (n * 7) => pay S O (.inl j) c) ∗ (bigSep Finset.univ fun j : Fin (n * 7) => pay S O (.inr (.inl j)) c)
        ∗ bigSep Finset.univ fun l : Fin n => pay S O (.inr (.inr l)) c)
      ⊢ iprop((bigSep Finset.univ fun a => bigSep Finset.univ fun p => S a c p) ∗ bigSep Finset.univ fun a => bigSep Finset.univ fun p => O a c p) := by
  have hS : (bigSep Finset.univ fun j : Fin (n * 7) => pay S O (.inl j) c) = bigSep Finset.univ fun a => bigSep Finset.univ fun k => S a c (peer k c) :=
    bigSep_row fun a k => S a c (peer k c)
  have hO : (bigSep Finset.univ fun j : Fin (n * 7) => pay S O (.inr (.inl j)) c) = bigSep Finset.univ fun a => bigSep Finset.univ fun k => O a c (peer k c) :=
    bigSep_row fun a k => O a c (peer k c)
  have hL : (bigSep Finset.univ fun l : Fin n => pay S O (.inr (.inr l)) c) = iprop((bigSep Finset.univ fun l => O l c c) ∗ bigSep Finset.univ fun l => S l c c) :=
    bigSep_sep' Finset.univ (fun l => O l c c) fun l => S l c c
  have hS' : (bigSep Finset.univ fun a => bigSep Finset.univ fun p => S a c p)
      = iprop((bigSep Finset.univ fun a => S a c c) ∗ bigSep Finset.univ fun a => bigSep Finset.univ fun k => S a c (peer k c)) := by
    rw [← bigSep_sep']; exact bigSep_congr fun a _ => bigSep_peers c (S a c)
  have hO' : (bigSep Finset.univ fun a => bigSep Finset.univ fun p => O a c p)
      = iprop((bigSep Finset.univ fun a => O a c c) ∗ bigSep Finset.univ fun a => bigSep Finset.univ fun k => O a c (peer k c)) := by
    rw [← bigSep_sep']; exact bigSep_congr fun a _ => bigSep_peers c (O a c)
  rw [hS, hO, hL, hS', hO']
  iintro ⟨H1, H2, H3, H4⟩
  isplitl [H4 H1]
  · isplitl [H4] <;> iassumption
  isplitl [H3] <;> iassumption

end Cert.Around
-- ==== Proof.Slabs.lean ====
/-
  Arrays of eight slabs, one per device: the slab as a kernel names it (a slice at an offset, squeezed), an array held
  slab by slab, and what a copy from one view to another leaves.
-/
module

public import proofs.«01_k».proof.Proof.Around
public import Idealize.ShloMosaic.Lib.Ring

@[expose] public section

set_option Elab.async false

noncomputable section

namespace Cert.Slabs

open Idealize.ShloMosaic Idealize.ShloMosaic.TcCoe
open Idealize.SL Idealize.SL.RA
open Idealize.SL.BI
open scoped Idealize.SL.BI
open Idealize.SL.BI.BIBase Idealize.SL.BI.Laws Idealize.SL.ProofMode

variable {nD : ℕ} {τ : Topo} {sig : RefSig} {Val : EltTy → Type} {U : Type} [URA U]

local notation "𝕄" => MT nD τ sig Unit Val ℕ U ℕ

/-- What a copy leaves in its target, when what it reads is what `f'` has there. -/
theorem landed {κ κ' : Kind} {sp sp' : Space} {s : Shape} {e : EltTy} (src : View sig κ sp s e) (dst : View sig κ' sp' s e)
    (fd f' : dst.ty.Contents Val) (fs : src.ty.Contents Val) (h : ∀ x, dst.read Val f' x = src.read Val fs x) :
    ∀ i ∈ dst.set, dst.write Val fd (src.read Val fs) Finset.univ i = f' i := by
  intro i hi
  obtain ⟨x, -, rfl⟩ := Finset.mem_map.mp hi
  rw [View.write_emb_of_mem _ _ (Finset.mem_univ x), ← h x, View.read_apply]
  exact cast_cast _ _ _ |>.trans (cast_eq _ _)

variable {sp : Space} {e : EltTy} {A B : ℕ}

abbrev Sh8 (A B : ℕ) : Shape := ⟨3, ![8, A, B]⟩
abbrev Sh1 (A B : ℕ) : Shape := ⟨3, ![1, A, B]⟩
abbrev Sh0 (A B : ℕ) : Shape := ⟨2, ![A, B]⟩

/-- Where slab `p` begins. -/
abbrev at_ (p : Fin 8) : Fin 3 → ℕ := ![p.val, 0, 0]

theorem at_inb (p : Fin 8) : ∀ a, at_ p a + (Sh1 A B).size a ≤ (Sh8 A B).size a := by
  intro a; fin_cases a
  · show p.val + 1 ≤ 8; omega
  · show 0 + A ≤ A; omega
  · show 0 + B ≤ B; omega

/-- The slab at an offset. -/
abbrev slab (hq : (Sh1 A B).Squeezes (Sh0 A B)) (w : Memref sig .tc sp (Sh8 A B) e) (off : Fin 3 → ℕ) (inb : ∀ a, off a + (Sh1 A B).size a ≤ (Sh8 A B).size a) :
    Memref sig .tc sp (Sh0 A B) e :=
  (w.slice (Rect.unit (s := Sh8 A B) off (Sh1 A B).size inb) (fun _ => rfl)).squeeze (Sh0 A B) hq

variable (hq : (Sh1 A B).Squeezes (Sh0 A B))

/-- Slab `p` of an array of device `c`, held. -/
def piece (w : Memref sig .tc sp (Sh8 A B) e) (q : PosShare TreeShare) (c : Dev nD) (f : Buf Val (w.view.loc (c.tc : Thread nD τ))) (p : Fin 8) : sProp 𝕄 :=
  (slab hq w (at_ p) (at_inb p)).view.loc (c.tc : Thread nD τ) ↦[(slab hq w (at_ p) (at_inb p)).view.set]{q} f

instance storable_piece (w : Memref sig .tc sp (Sh8 A B) e) (q : PosShare TreeShare) (c : Dev nD) (f : Buf Val (w.view.loc (c.tc : Thread nD τ))) (p : Fin 8) :
    Storable (upEmb : UEmb _ 𝕄) (piece (U := U) hq w q c f p) := by unfold piece; infer_instance

theorem slab_set (w : Memref sig .tc sp (Sh8 A B) e) (p : Fin 8) :
    (slab hq w (at_ p) (at_inb p)).view.set = (Rect.unit (s := Sh8 A B) (at_ p) (Sh1 A B).size (at_inb p)).set.map w.view.emb :=
  (View.set_reshape _ _).trans (View.set_slice _ _)

/-- An array held is its eight slabs held. -/
theorem split (w : Memref sig .tc sp (Sh8 A B) e) (q : PosShare TreeShare) (c : Dev nD) (f : Buf Val (w.view.loc (c.tc : Thread nD τ))) :
    (w.view.loc (c.tc : Thread nD τ) ↦[w.view.set]{q} f : sProp 𝕄) = bigSep Finset.univ fun p : Fin 8 => piece hq w q c f p := by
  have hmem (p : Fin 8) (y : (Sh8 A B).Idx) : y ∈ (Rect.unit (s := Sh8 A B) (at_ p) (Sh1 A B).size (at_inb p)).set ↔ (y 0).val = p.val := by
    rw [Rect.mem_set_unit]
    constructor
    · intro h; have h1 : p.val ≤ (y 0).val ∧ (y 0).val < p.val + 1 := h 0; omega
    · intro h a; fin_cases a
      · show p.val ≤ (y 0).val ∧ (y 0).val < p.val + 1; omega
      · have := (y 1).isLt; exact ⟨Nat.zero_le _, by show (y 1).val < 0 + A; have h' : (y 1).val < A := this; omega⟩
      · have := (y 2).isLt; exact ⟨Nat.zero_le _, by show (y 2).val < 0 + B; have h' : (y 2).val < B := this; omega⟩
  have hset : w.view.set = Finset.univ.biUnion fun p : Fin 8 => (Rect.unit (s := Sh8 A B) (at_ p) (Sh1 A B).size (at_inb p)).set.map w.view.emb := by
    ext i
    simp only [Finset.mem_biUnion, Finset.mem_univ, true_and]
    constructor
    · intro hi
      obtain ⟨y, -, rfl⟩ := Finset.mem_map.mp hi
      exact ⟨⟨(y 0).val, (y 0).isLt⟩, Finset.mem_map_of_mem _ ((hmem _ _).mpr rfl)⟩
    · rintro ⟨p, hp⟩
      obtain ⟨y, -, rfl⟩ := Finset.mem_map.mp hp
      exact Finset.mem_map_of_mem _ (Finset.mem_univ _)
  rw [hset, pointsTo_biUnion]
  · refine bigSep_congr fun p _ => ?_
    unfold piece; rw [slab_set]
  · intro p _ p' _ hne
    rw [Finset.disjoint_left]
    intro i hi hi'
    obtain ⟨y, hy, rfl⟩ := Finset.mem_map.mp hi
    obtain ⟨y', hy', hyy⟩ := Finset.mem_map.mp hi'
    have := w.view.emb.injective hyy
    subst this
    exact hne (Fin.ext (((hmem p _).mp hy).symm.trans ((hmem p' _).mp hy')))

/-- The index with another slab's number. -/
def into (y : (Sh8 A B).Idx) (d : Fin 8) : (Sh8 A B).Idx := Function.update y 0 d

/-- Slab `d` of the source on device `c` is slab `c` of the result on device `d`, where the result has at `(c, ·)` what
    the source of device `c` has at `(d, ·)`. -/
theorem read_swapped (i o : Memref sig .tc sp (Sh8 A B) e) (c d : Fin 8) (fi : (c : Fin 8) → i.view.ty.Contents Val) (fo : o.view.ty.Contents Val)
    (hO : ∀ y : (Sh8 A B).Idx, o.view.read Val fo y = i.view.read Val (fi (y 0)) (into y d)) (x : (Sh0 A B).Idx) :
    (slab hq o (at_ c) (at_inb c)).view.read Val fo x = (slab hq i (at_ d) (at_inb d)).view.read Val (fi c) x := by
  let z : (Sh1 A B).Idx := Shape.reshapeEquiv hq.numel_eq x
  have h0 : (Rect.unit (s := Sh8 A B) (at_ c) (Sh1 A B).size (at_inb c)).emb z 0 = c := by
    apply Fin.ext
    show c.val + 1 * (z 0).val = c.val
    have : (z 0).val < 1 := (z 0).isLt
    omega
  have h1 : into ((Rect.unit (s := Sh8 A B) (at_ c) (Sh1 A B).size (at_inb c)).emb z) d = (Rect.unit (s := Sh8 A B) (at_ d) (Sh1 A B).size (at_inb d)).emb z := by
    funext a; unfold into; apply Fin.ext
    fin_cases a
    · show d.val = d.val + 1 * (z 0).val
      have : (z 0).val < 1 := (z 0).isLt
      omega
    · rfl
    · rfl
  have h := hO ((Rect.unit (s := Sh8 A B) (at_ c) (Sh1 A B).size (at_inb c)).emb z)
  rw [h0, h1] at h
  exact h

/-- The index within a slab. -/
def within (y : (Sh8 A B).Idx) : (Sh0 A B).Idx := fun a => match a with
  | 0 => y 1
  | 1 => y 2

/-- Slab `c` of the result is the source of device `c`, where the result has at `(c, ·)` what the source of device `c` has. -/
theorem read_block {sp' : Space} (i : Memref sig .tc sp (Sh0 A B) e) (o : Memref sig .tc sp' (Sh8 A B) e) (c : Fin 8) (fi : (c : Fin 8) → i.view.ty.Contents Val)
    (fo : o.view.ty.Contents Val) (hO : ∀ y : (Sh8 A B).Idx, o.view.read Val fo y = i.view.read Val (fi (y 0)) (within y)) (x : (Sh0 A B).Idx) :
    (slab hq o (at_ c) (at_inb c)).view.read Val fo x = i.view.read Val (fi c) x := by
  let z : (Sh1 A B).Idx := Shape.reshapeEquiv hq.numel_eq x
  have hz : z = Fin.cons ⟨0, Nat.one_pos⟩ x := Shape.reshapeEquiv_cons_one _ x
  have h0 : (Rect.unit (s := Sh8 A B) (at_ c) (Sh1 A B).size (at_inb c)).emb z 0 = c := by
    apply Fin.ext
    show c.val + 1 * (z 0).val = c.val
    have : (z 0).val < 1 := (z 0).isLt
    omega
  have h1 : within ((Rect.unit (s := Sh8 A B) (at_ c) (Sh1 A B).size (at_inb c)).emb z) = x := by
    rw [hz]
    funext a; apply Fin.ext
    fin_cases a
    · show 0 + 1 * (x 0).val = (x 0).val; omega
    · show 0 + 1 * (x 1).val = (x 1).val; omega
  have h := hO ((Rect.unit (s := Sh8 A B) (at_ c) (Sh1 A B).size (at_inb c)).emb z)
  rw [h0, h1] at h
  exact h

end Cert.Slabs
-- ==== Proof.Steps.lean ====
/-
  The steps of a kernel in which each of eight devices gives a piece of each array to each other device: for the arrays of
  eight slabs, the start of an own copy and of a copy to a partner, and what is held between the phases of the kernel.
-/
module

public import proofs.«01_k».proof.Proof.Run
public import proofs.«01_k».proof.Proof.Slabs

@[expose] public section

set_option Elab.async false

noncomputable section

namespace Cert.Steps

open Idealize.ShloMosaic hiding piece
open Idealize.ShloMosaic.TcCoe Idealize.ShloMosaic.Rounds
open Idealize.SL Idealize.SL.RA
open Idealize.SL.BI
open scoped Idealize.SL.BI
open Idealize.SL.BI.BIBase Idealize.SL.BI.Laws Idealize.SL.Sem Idealize.SL.ProofMode
open Cert.Copies Cert.Slabs

/-! ## Between the phases -/

section Phases

variable {nD : ℕ} {τ : Topo} {sig : RefSig} {Val : EltTy → Type} {M nL : ℕ}

local notation "𝕄" => MT nD τ sig Unit Val ℕ (UU nD τ sig) ℕ

variable (P : Plan nD sig M nL)
  (pay : Which M nL → Dev nD → sProp (MT nD τ sig Unit Val ℕ (UU nD τ sig) ℕ))
  (rs : Fin M → Dev nD → sProp (MT nD τ sig Unit Val ℕ (UU nD τ sig) ℕ))
  (rl : Fin nL → Dev nD → sProp (MT nD τ sig Unit Val ℕ (UU nD τ sig) ℕ))

abbrev toS : Fin M → Which M nL := fun j => .inl j
abbrev toR : Fin M → Which M nL := fun j => .inr (.inl j)
abbrev toL : Fin nL → Which M nL := fun l => .inr (.inr l)

variable [∀ w c, Storable (upEmb (nD := nD) (τ := τ) (sig := sig) (Ix := Unit) (Val := Val) (Name := ℕ) (U := UU nD τ sig) (Lvl := ℕ)) (pay w c)]

/-- The positions of the send waits and of the own waits. -/
def Later (c : Dev nD) : sProp 𝕄 := iprop((bigSep Finset.univ fun j : Fin M => atPos ER (cell P (c, .inl j)) 0 ∅ 0)
    ∗ bigSep Finset.univ fun l : Fin nL => atPos ER (cell P (c, .inr (.inr l))) 0 ∅ 0)

theorem open_ (c : Dev nD) : iprop(Start P pay ER rs rl c ∗ ∃ W, owes (c.tc : Thread nD τ) (dues P 0 c) W)
    ⊢ (iprop(∃ K : Dev nD × Which M nL → ℕ, records P pay ER K ∗ Locals P ER rl c 0 ∗ Sends P ER rs c 0
        ∗ Waits P pay ER toR c 0 ∗ Later P c) : sProp 𝕄) := by
  unfold Start Later
  rw [sends_zero]
  iintro ⟨⟨%K, HR, Hl, Hs, Hw, Ha⟩, HO⟩
  iexists K
  isplitl [HR]; · iexact HR
  isplitl [Hl]; · iexact Hl
  isplitl [Hs HO]
  · isplitl [HO] <;> iassumption
  isplitl [Hw]; · iexact Hw
  iexact Ha

theorem started (c : Dev nD) : iprop(Sends P ER rs c M ∗ Locals P ER rl c nL ∗ Later P c)
    ⊢ (iprop(Free c ∗ Waits P pay ER toS c 0 ∗ Waits P pay ER toL c 0) : sProp 𝕄) := by
  unfold Later
  rw [sends_last, locals_last, waits_zero, waits_zero]
  iintro ⟨⟨HF, Hc⟩, Hl, Hs, Ha⟩
  isplitl [HF]; · iexact HF
  isplitl [Hc Hs]
  · isplitl [Hc] <;> iassumption
  isplitl [Hl] <;> iassumption

theorem done (c : Dev nD) : iprop(Waits P pay ER toS c M ∗ Waits P pay ER toR c M ∗ Waits P pay ER toL c nL)
    ⊢ (iprop(((bigSep Finset.univ fun j => pay (.inl j) c) ∗ (bigSep Finset.univ fun j => pay (.inr (.inl j)) c)
        ∗ bigSep Finset.univ fun l => pay (.inr (.inr l)) c) ∗ Pipeline.ownSems0 P.osem c) : sProp 𝕄) := by
  rw [waits_last, waits_last, waits_last]
  iintro ⟨⟨H1, P1⟩, ⟨H2, P2⟩, H3, P3⟩
  isplitl [P1 P2 P3]
  · isplitl [P1]; · iexact P1
    isplitl [P2] <;> iassumption
  iapply (sems_zero P c)
  isplitl [H1]; · iexact H1
  isplitl [H2] <;> iassumption

end Phases

/-! ## The copies of one array -/

section Arrays

variable {τ : Topo} {sig : RefSig} {Val : EltTy → Type} {n : ℕ} {Λ : Labels}

local notation "𝕄" => MT 8 τ sig Unit Val ℕ (UU 8 τ sig) ℕ

variable (P : Plan 8 sig (n * 7) n) (S O O' : Fin n → Dev 8 → Dev 8 → sProp (MT 8 τ sig Unit Val ℕ (UU 8 τ sig) ℕ))

instance storable_pay [hS : ∀ a c p, Storable (upEmb (nD := 8) (τ := τ) (sig := sig) (Ix := Unit) (Val := Val) (Name := ℕ) (U := UU 8 τ sig) (Lvl := ℕ)) (S a c p)]
    [hO : ∀ a c p, Storable (upEmb (nD := 8) (τ := τ) (sig := sig) (Ix := Unit) (Val := Val) (Name := ℕ) (U := UU 8 τ sig) (Lvl := ℕ)) (O' a c p)]
    (w : Which (n * 7) n) (c : Dev 8) :
    Storable (upEmb (nD := 8) (τ := τ) (sig := sig) (Ix := Unit) (Val := Val) (Name := ℕ) (U := UU 8 τ sig) (Lvl := ℕ)) (Around.pay S O' w c) := by
  rcases w with j | j | l
  · exact hS _ _ _
  · exact hO _ _ _
  · have := hS l c c; have := hO l c c
    show Storable _ iprop(O' l c c ∗ S l c c); infer_instance

variable [∀ a c p, Storable (upEmb (nD := 8) (τ := τ) (sig := sig) (Ix := Unit) (Val := Val) (Name := ℕ) (U := UU 8 τ sig) (Lvl := ℕ)) (S a c p)]
  [∀ a c p, Storable (upEmb (nD := 8) (τ := τ) (sig := sig) (Ix := Unit) (Val := Val) (Name := ℕ) (U := UU 8 τ sig) (Lvl := ℕ)) (O' a c p)]

variable {sp sp' : Space} {e : EltTy} {A B : ℕ} (hq : (Sh1 A B).Squeezes (Sh0 A B))

/-- An array goes around: piece `p` of its source is the view `src p`, held with share `q p`; its result is slab by slab. -/
structure Array (a : Fin n) (src : Dev 8 → Memref sig .tc sp (Sh0 A B) e) (o : Memref sig .tc sp' (Sh8 A B) e) where
  q : Dev 8 → PosShare TreeShare
  fi : (c p : Dev 8) → Buf Val ((src p).view.loc (c.tc : Thread 8 τ))
  fo : (c : Dev 8) → Buf Val (o.view.loc (c.tc : Thread 8 τ))
  source : ∀ c p, S a c p = ((src p).view.loc (c.tc : Thread 8 τ) ↦[(src p).view.set]{q p} fi c p)
  before : ∀ c p, O a c p = iprop(∃ fd, piece hq o fullShare c fd p)
  after : ∀ c p, O' a c p = piece hq o fullShare c (fo c) p
  reads : ∀ (c d : Dev 8) x, (slab hq o (at_ c) (at_inb c)).view.read Val (fo d) x = (src d).view.read Val (fi c d) x

variable {S O O' hq}
variable {a : Fin n} {src : Dev 8 → Memref sig .tc sp (Sh0 A B) e} {o : Memref sig .tc sp' (Sh8 A B) e} (D : Array S O O' hq a src o)

include D in
theorem Array.lands (c d : Dev 8) (fd : Buf Val (o.view.loc (d.tc : Thread 8 τ))) :
    ((slab hq o (at_ c) (at_inb c)).view.loc (d.tc : Thread 8 τ) ↦[(slab hq o (at_ c) (at_inb c)).view.set]{fullShare}
        ((slab hq o (at_ c) (at_inb c)).view.write Val fd ((src d).view.read Val (D.fi c d)) Finset.univ)) ⊢ (O' a d c : sProp 𝕄) := by
  rw [D.after]; unfold piece
  exact Entails.of_eq (pointsTo_congr (landed _ _ _ _ _ (D.reads c d)))

variable (defs : Defs 8 τ sig Val Λ) (𝒱 : Variants) (bd : Option 𝒱.V) (K : Dev 8 × Which (n * 7) n → ℕ)
variable {α : Type} {Q : α → sProp (MT 8 τ sig Unit Val ℕ (UU 8 τ sig) ℕ)}

include D in
/-- The own copy of an array starts. -/
theorem Array.own (c : Dev 8) {src' : Memref sig .tc sp (Sh0 A B) e} {dst' : Memref sig .tc sp' (Sh0 A B) e} {sem : SemLoc sig}
    {hsrc : src'.view.WordExact} {hdst : dst'.view.WordExact} {hsem : DmaTarget.Typed (nD := 8) (p := (Proc.tc : Proc τ)) sp sem (.here dst')}
    {k : PUnit → Prog (TpuEff 8 τ sig Val Λ .tc) α}
    (es : src' = src c) (ed : dst' = slab hq o (at_ c) (at_inb c))
    (hs : sem = P.osem (.inr (.inr a))) (hN : (slab hq o (at_ c) (at_inb c)).view.amount sem = P.amt (.inr (.inr a))) :
    iprop(records P (Around.pay S O') ER K ∗ Locals P ER (Around.kept S O) c a.val)
      ⊢ iprop((Locals P ER (Around.kept S O) c (a.val + 1) -∗ wp frame (wpE defs 𝒱 (c.tc : Thread 8 τ) bd) Set.univ (k ⟨⟩) Q)
          -∗ wp frame (wpE defs 𝒱 (c.tc : Thread 8 τ) bd) Set.univ (.op (.enqueueDma src' (.here dst') sem hsrc hdst hsem) k) Q) := by
  subst es ed
  refine local_step P (Around.pay S O') ER (Around.kept S O) defs 𝒱 bd K c a.val a.isLt (D.q c) (D.fi c c) hs hN ?_ fun fd => ?_
  · show iprop(S a c c ∗ O a c c) ⊢ _
    rw [D.source, D.before]; exact BI.Entails.refl _
  · show _ ⊢ iprop(O' a c c ∗ S a c c)
    rw [D.source c c]
    iintro ⟨H1, H2⟩
    isplitl [H1]; · iapply (D.lands c c fd); iexact H1
    iexact H2

include D in
/-- The copy of an array to a partner starts. -/
theorem Array.send (c : Dev 8) (j : Fin (n * 7)) (ha : j.divNat = a) (hP : P.peer j c = Around.peer j.modNat c)
    {d : Dev 8} (hd : d = Around.peer j.modNat c)
    {src' : Memref sig .tc sp (Sh0 A B) e} {dst' : Memref sig (Dev.tc d : Thread 8 τ).2.kind sp' (Sh0 A B) e} {hsc : dst'.view.ref.isScScratch = false} {sS sem : SemLoc sig}
    {hsrc : src'.view.WordExact} {hdst : dst'.view.WordExact} {hsem : DmaTarget.Typed sp sem (.remote (Dev.tc d : Thread 8 τ) dst' sS hsc)}
    {k : PUnit → Prog (TpuEff 8 τ sig Val Λ .tc) α}
    (es : src' = src (Around.peer j.modNat c)) (ed : dst' = slab hq o (at_ c) (at_inb c))
    (hsS : sS = P.osem (.inl j)) (hs : sem = P.osem (.inr (.inl j)))
    (hN : (slab hq o (at_ c) (at_inb c)).view.amount sem = P.amt (.inr (.inl j))) :
    iprop(records P (Around.pay S O') ER K ∗ Sends P ER (Around.sent S O) c j.val)
      ⊢ iprop((Sends P ER (Around.sent S O) c (j.val + 1) -∗ wp frame (wpE defs 𝒱 (c.tc : Thread 8 τ) bd) Set.univ (k ⟨⟩) Q)
          -∗ wp frame (wpE defs 𝒱 (c.tc : Thread 8 τ) bd) Set.univ
              (.op (.enqueueDma src' (.remote (Dev.tc d : Thread 8 τ) dst' sS hsc) sem hsrc hdst hsem) k) Q) := by
  subst es ed ha hd
  refine send_step P (Around.pay S O') ER (Around.sent S O) defs 𝒱 bd K c j.val j.isLt hP.symm (D.q (Around.peer j.modNat c)) (D.fi c (Around.peer j.modNat c)) hsS hs hN ?_ ?_ fun fd => ?_
  · show iprop(S j.divNat c (Around.peer j.modNat c) ∗ O j.divNat (Around.peer j.modNat c) c) ⊢ _
    rw [D.source, D.before]; exact BI.Entails.refl _
  · show _ ⊢ S j.divNat c (Around.peer j.modNat c)
    rw [D.source]
  · refine (D.lands c _ fd).trans (Entails.of_eq ?_)
    show _ = O' j.divNat (Around.peer j.modNat c) (Around.peer j.modNat (Around.peer j.modNat c))
    rw [Around.peer_peer]

end Arrays

theorem slab_at {sig : RefSig} {sp : Space} {e : EltTy} {A B : ℕ} (hq : (Sh1 A B).Squeezes (Sh0 A B)) (w : Memref sig .tc sp (Sh8 A B) e)
    {off : Fin 3 → ℕ} {inb} {p : Fin 8} (h : off = at_ p) : slab hq w off inb = slab hq w (at_ p) (at_inb p) := by subst h; rfl

end Cert.Steps
-- ==== Proof.ExchangePlan.lean ====
/-
  The exchange of the gradients' parts: each device gives slab `d` of each of its two arrays to device `d`, which keeps it
  as the slab of the sender's number. Its run, over any float values.
-/
module

public import proofs.«01_k».proof.Proof.Steps
public import proofs.«01_k».proof.Proof.Gen.ExchangeIdeal.Skeleton
public import proofs.«01_k».proof.Proof.Gen.ExchangeIdeal.Launch

@[expose] public section

set_option Elab.async false

noncomputable section

namespace Cert.ExchangeRun

open Cert.ExchangeIdeal Cert.ExchangeIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Steps

variable {F : FTy → Type} [FloatOps F]

local notation "𝕄" => MT nD τ sig Unit (Elt F) ℕ (UU nD τ sig) ℕ

variable (m : (ℓ : Loc nD τ sig) → Buf (Elt F) ℓ)

/-! ## The arrays -/

abbrev in0 : Memref sig .tc .hbm S8x2048x1924 .bf16 := Memref.whole main_arg0
abbrev in1 : Memref sig .tc .hbm S8x256x2048 .bf16 := Memref.whole main_arg1
abbrev out0 : Memref sig .tc .hbm S8x2048x1924 .bf16 := Memref.whole main_v1_0
abbrev out1 : Memref sig .tc .hbm S8x256x2048 .bf16 := Memref.whole main_v1_1

abbrev hq0 := squeezes_S1x2048x1924_S2048x1924
abbrev hq1 := squeezes_S1x256x2048_S256x2048

/-- What the result of device `d` holds at the end: slab `c` is slab `d` of what device `c` was given. -/
def got0 (d : Dev nD) : Buf (Elt F) (out0.view.loc (d.tc : Thread nD τ)) := fun y => m (in0.view.loc ((show Dev nD from y 0).tc : Thread nD τ)) (into y d)
def got1 (d : Dev nD) : Buf (Elt F) (out1.view.loc (d.tc : Thread nD τ)) := fun y => m (in1.view.loc ((show Dev nD from y 0).tc : Thread nD τ)) (into y d)

def S : Fin 2 → Dev 8 → Dev 8 → sProp 𝕄
  | 0, c, p => piece hq0 in0 fullShare c (m (in0.view.loc (c.tc : Thread nD τ))) p
  | 1, c, p => piece hq1 in1 fullShare c (m (in1.view.loc (c.tc : Thread nD τ))) p
def O : Fin 2 → Dev 8 → Dev 8 → sProp 𝕄
  | 0, c, p => iprop(∃ fd, piece hq0 out0 fullShare c fd p)
  | 1, c, p => iprop(∃ fd, piece hq1 out1 fullShare c fd p)
def O' : Fin 2 → Dev 8 → Dev 8 → sProp 𝕄
  | 0, c, p => piece hq0 out0 fullShare c (got0 m c) p
  | 1, c, p => piece hq1 out1 fullShare c (got1 m c) p

instance (a : Fin 2) (c p : Dev 8) :
    Storable (upEmb (nD := 8) (τ := τ) (sig := sig) (Ix := Unit) (Val := Elt F) (Name := ℕ) (U := UU 8 τ sig) (Lvl := ℕ)) (S m a c p) := by
  match a with
  | 0 => exact storable_piece _ _ _ _ _ _
  | 1 => exact storable_piece _ _ _ _ _ _
instance (a : Fin 2) (c p : Dev 8) :
    Storable (upEmb (nD := 8) (τ := τ) (sig := sig) (Ix := Unit) (Val := Elt F) (Name := ℕ) (U := UU 8 τ sig) (Lvl := ℕ)) (O' m a c p) := by
  match a with
  | 0 => exact storable_piece _ _ _ _ _ _
  | 1 => exact storable_piece _ _ _ _ _ _

def arr0 : Array (S m) O (O' m) hq0 0 (fun p => slab hq0 in0 (at_ p) (at_inb p)) out0 where
  q _ := fullShare
  fi c _ := m (in0.view.loc (c.tc : Thread nD τ))
  fo := got0 m
  source _ _ := rfl
  before _ _ := rfl
  after _ _ := rfl
  reads c d x := read_swapped hq0 in0 out0 c d (fun c : Dev nD => m (in0.view.loc (c.tc : Thread nD τ))) (got0 m d) (fun _ => rfl) x
def arr1 : Array (S m) O (O' m) hq1 1 (fun p => slab hq1 in1 (at_ p) (at_inb p)) out1 where
  q _ := fullShare
  fi c _ := m (in1.view.loc (c.tc : Thread nD τ))
  fo := got1 m
  source _ _ := rfl
  before _ _ := rfl
  after _ _ := rfl
  reads c d x := read_swapped hq1 in1 out1 c d (fun c : Dev nD => m (in1.view.loc (c.tc : Thread nD τ))) (got1 m d) (fun _ => rfl) x

/-! ## The plan -/

/-- The array a copy belongs to. -/
def which : Which (2 * 7) 2 → Fin 2
  | .inl j => j.divNat
  | .inr (.inl j) => j.divNat
  | .inr (.inr l) => l

def semOf : Which (2 * 7) 2 → DmaSem sig
  | .inl j => (⟨2 * (j.modNat.val) + j.divNat.val, by have := j.modNat.isLt; have := j.divNat.isLt; show _ < 30; omega⟩ : Fin 30)
  | .inr (.inl j) => (⟨14 + 2 * (j.modNat.val) + j.divNat.val, by have := j.modNat.isLt; have := j.divNat.isLt; show _ < 30; omega⟩ : Fin 30)
  | .inr (.inr l) => (⟨28 + l.val, by have := l.isLt; show _ < 30; omega⟩ : Fin 30)

/-- What one slab's transfer credits. -/
def credit : Fin 2 → ℕ
  | 0 => (slab hq0 out0 (at_ 0) (at_inb 0)).view.dmaCredit
  | 1 => (slab hq1 out1 (at_ 0) (at_inb 0)).view.dmaCredit

theorem semOf_inj : Function.Injective semOf := by decide +kernel

def plan : Plan 8 sig (2 * 7) 2 where
  peer j c := Around.peer j.modNat c
  peer_peer j c := Around.peer_peer _ _
  sem := semOf
  sem_inj := semOf_inj
  amt w := credit (which w)
  amt_pos w := by
    generalize which w = a
    match a with
    | 0 => exact View.dmaCredit_pos _ (by decide)
    | 1 => exact View.dmaCredit_pos _ (by decide)
  amt_send _ := rfl

/-! ## Offsets and partners -/

theorem at1 : ∀ c : Dev nD, k0_off1 c = at_ c := by decide +kernel
theorem at2 : ∀ c : Dev nD, k0_off2 c = at_ c := by decide +kernel
theorem off3 : ∀ c : Dev nD, k0_off3 c = at_ (Around.peer 0 c) := by decide +kernel
theorem dev1 : ∀ c : Dev nD, (⟨k0_dev1 c, k0_dev1_lt c⟩ : Dev nD) = Around.peer 0 c := by decide +kernel
theorem off4 : ∀ c : Dev nD, k0_off4 c = at_ (Around.peer 1 c) := by decide +kernel
theorem dev2 : ∀ c : Dev nD, (⟨k0_dev2 c, k0_dev2_lt c⟩ : Dev nD) = Around.peer 1 c := by decide +kernel
theorem off5 : ∀ c : Dev nD, k0_off5 c = at_ (Around.peer 2 c) := by decide +kernel
theorem dev3 : ∀ c : Dev nD, (⟨k0_dev3 c, k0_dev3_lt c⟩ : Dev nD) = Around.peer 2 c := by decide +kernel
theorem off6 : ∀ c : Dev nD, k0_off6 c = at_ (Around.peer 3 c) := by decide +kernel
theorem dev4 : ∀ c : Dev nD, (⟨k0_dev4 c, k0_dev4_lt c⟩ : Dev nD) = Around.peer 3 c := by decide +kernel
theorem off7 : ∀ c : Dev nD, k0_off7 c = at_ (Around.peer 4 c) := by decide +kernel
theorem dev5 : ∀ c : Dev nD, (⟨k0_dev5 c, k0_dev5_lt c⟩ : Dev nD) = Around.peer 4 c := by decide +kernel
theorem off8 : ∀ c : Dev nD, k0_off8 c = at_ (Around.peer 5 c) := by decide +kernel
theorem dev6 : ∀ c : Dev nD, (⟨k0_dev6 c, k0_dev6_lt c⟩ : Dev nD) = Around.peer 5 c := by decide +kernel
theorem off9 : ∀ c : Dev nD, k0_off9 c = at_ (Around.peer 6 c) := by decide +kernel
theorem dev7 : ∀ c : Dev nD, (⟨k0_dev7 c, k0_dev7_lt c⟩ : Dev nD) = Around.peer 6 c := by decide +kernel
theorem off10 : ∀ c : Dev nD, k0_off10 c = at_ (Around.peer 0 c) := by decide +kernel
theorem dev8 : ∀ c : Dev nD, (⟨k0_dev8 c, k0_dev8_lt c⟩ : Dev nD) = Around.peer 0 c := by decide +kernel
theorem off11 : ∀ c : Dev nD, k0_off11 c = at_ (Around.peer 1 c) := by decide +kernel
theorem dev9 : ∀ c : Dev nD, (⟨k0_dev9 c, k0_dev9_lt c⟩ : Dev nD) = Around.peer 1 c := by decide +kernel
theorem off12 : ∀ c : Dev nD, k0_off12 c = at_ (Around.peer 2 c) := by decide +kernel
theorem dev10 : ∀ c : Dev nD, (⟨k0_dev10 c, k0_dev10_lt c⟩ : Dev nD) = Around.peer 2 c := by decide +kernel
theorem off13 : ∀ c : Dev nD, k0_off13 c = at_ (Around.peer 3 c) := by decide +kernel
theorem dev11 : ∀ c : Dev nD, (⟨k0_dev11 c, k0_dev11_lt c⟩ : Dev nD) = Around.peer 3 c := by decide +kernel
theorem off14 : ∀ c : Dev nD, k0_off14 c = at_ (Around.peer 4 c) := by decide +kernel
theorem dev12 : ∀ c : Dev nD, (⟨k0_dev12 c, k0_dev12_lt c⟩ : Dev nD) = Around.peer 4 c := by decide +kernel
theorem off15 : ∀ c : Dev nD, k0_off15 c = at_ (Around.peer 5 c) := by decide +kernel
theorem dev13 : ∀ c : Dev nD, (⟨k0_dev13 c, k0_dev13_lt c⟩ : Dev nD) = Around.peer 5 c := by decide +kernel
theorem off16 : ∀ c : Dev nD, k0_off16 c = at_ (Around.peer 6 c) := by decide +kernel
theorem dev14 : ∀ c : Dev nD, (⟨k0_dev14 c, k0_dev14_lt c⟩ : Dev nD) = Around.peer 6 c := by decide +kernel

end Cert.ExchangeRun
-- ==== Proof.ExchangeBody.lean ====
/-
  The body of the exchange on one device.
-/
module

public import proofs.«01_k».proof.Proof.ExchangePlan

@[expose] public section

set_option Elab.async false

noncomputable section

namespace Cert.ExchangeRun

open Cert.ExchangeIdeal Cert.ExchangeIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Steps

variable {F : FTy → Type} [FloatOps F]

local notation "𝕄" => MT nD τ sig Unit (Elt F) ℕ (UU nD τ sig) ℕ

variable (m : (ℓ : Loc nD τ sig) → Buf (Elt F) ℓ)

/-! ## The body -/

abbrev pay := Around.pay (S (F := F) m) (O' m)
abbrev rs := Around.sent (S (F := F) m) O
abbrev rl := Around.kept (S (F := F) m) O
abbrev ER' : Emb (UR sig nD τ) (MT nD τ sig Unit (Elt F) ℕ (UU nD τ sig) ℕ) := Copies.ER

abbrev 𝒱₀ : Variants := Variants.nat

/-! ## The steps -/

abbrev semS (i : Fin 2 → ℕ) (inb : ∀ a, i a + S1x1.size a ≤ S7x2.size a) : DmaSem sig :=
  ((cc0_scratch0.slice (Rect.unit (s := S7x2) i S1x1.size inb)).squeeze S_ squeezes_S1x1_S_).sem
abbrev semR (i : Fin 2 → ℕ) (inb : ∀ a, i a + S1x1.size a ≤ S7x2.size a) : DmaSem sig :=
  ((cc0_scratch1.slice (Rect.unit (s := S7x2) i S1x1.size inb)).squeeze S_ squeezes_S1x1_S_).sem
abbrev semL (i : Fin 1 → ℕ) (inb : ∀ a, i a + S1.size a ≤ S2.size a) : DmaSem sig :=
  ((cc0_scratch2.slice (Rect.unit (s := S2) i S1.size inb)).squeeze S_ squeezes_S1_S_).sem

variable (K : Dev 8 × Which (2 * 7) 2 → ℕ) (c : Dev nD) {Q : PUnit → sProp (MT nD τ sig Unit (Elt F) ℕ (UU nD τ sig) ℕ)}
  {k : PUnit → Prog (TpuEff nD τ sig (Elt F) Λ₀ .tc) PUnit}

theorem send0 (j : Fin (2 * 7)) (ha : j.divNat = 0) (sS sR : DmaSem sig) (hsS : sS = plan.sem (.inl j)) (hsR : sR = plan.sem (.inr (.inl j)))
    {d : Dev 8} (hd : d = Around.peer j.modNat c) {oS oD : Fin 3 → ℕ} {iS iD} (hS : oS = at_ (Around.peer j.modNat c)) (hD : oD = at_ c) {h1 h2 h3 h4} :
    iprop(records plan (pay m) Copies.ER K ∗ Sends plan Copies.ER (rs m) c j.val)
      ⊢ iprop((Sends plan Copies.ER (rs m) c (j.val + 1) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.enqueueDma (slab hq0 in0 oS iS) (.remote (Dev.tc d) (slab hq0 out0 oD iD) (.dma sS) h1) (.dma sR) h2 h3 h4) k) Q) :=
  (arr0 m).send plan (defs₀ (F := F)) 𝒱₀ none K c j ha rfl hd (slab_at hq0 in0 hS) (slab_at hq0 out0 hD) (congrArg SemLoc.dma hsS) (congrArg SemLoc.dma hsR)
    (by show credit 0 = credit (which (.inr (.inl j))); exact (congrArg credit ha).symm)

theorem own0 (s : DmaSem sig) (hs : s = plan.sem (.inr (.inr 0))) {oS oD : Fin 3 → ℕ} {iS iD} (hS : oS = at_ c) (hD : oD = at_ c) {h2 h3 h4} :
    iprop(records plan (pay m) Copies.ER K ∗ Locals plan Copies.ER (rl m) c 0)
      ⊢ iprop((Locals plan Copies.ER (rl m) c (0 + 1) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.enqueueDma (slab hq0 in0 oS iS) (.here (slab hq0 out0 oD iD)) (.dma s) h2 h3 h4) k) Q) :=
  (arr0 m).own plan (defs₀ (F := F)) 𝒱₀ none K c (slab_at hq0 in0 hS) (slab_at hq0 out0 hD) (congrArg SemLoc.dma hs) rfl

theorem wait0 {N : ℕ} (f : Fin N → Which (2 * 7) 2) (j : Fin N) (ha : which (f j) = 0) (s : DmaSem sig) (hs : s = plan.sem (f j))
    {src dst : Memref sig .tc .hbm S8x2048x1924 .bf16} {oS oD : Fin 3 → ℕ} {iS iD} {h1 h2} :
    iprop(records plan (pay m) Copies.ER K ∗ Free c ∗ Waits plan (pay m) Copies.ER f c j.val)
      ⊢ iprop((iprop(Free c ∗ Waits plan (pay m) Copies.ER f c (j.val + 1)) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.waitDma2 s (slab hq0 src oS iS) (slab hq0 dst oD iD) h1 h2) k) Q) :=
  wait_step plan (pay m) Copies.ER (defs₀ (F := F)) 𝒱₀ none K f c j.val j.isLt hs
    (by show credit 0 = credit (which (f j)); exact (congrArg credit ha).symm)

theorem send1 (j : Fin (2 * 7)) (ha : j.divNat = 1) (sS sR : DmaSem sig) (hsS : sS = plan.sem (.inl j)) (hsR : sR = plan.sem (.inr (.inl j)))
    {d : Dev 8} (hd : d = Around.peer j.modNat c) {oS oD : Fin 3 → ℕ} {iS iD} (hS : oS = at_ (Around.peer j.modNat c)) (hD : oD = at_ c) {h1 h2 h3 h4} :
    iprop(records plan (pay m) Copies.ER K ∗ Sends plan Copies.ER (rs m) c j.val)
      ⊢ iprop((Sends plan Copies.ER (rs m) c (j.val + 1) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.enqueueDma (slab hq1 in1 oS iS) (.remote (Dev.tc d) (slab hq1 out1 oD iD) (.dma sS) h1) (.dma sR) h2 h3 h4) k) Q) :=
  (arr1 m).send plan (defs₀ (F := F)) 𝒱₀ none K c j ha rfl hd (slab_at hq1 in1 hS) (slab_at hq1 out1 hD) (congrArg SemLoc.dma hsS) (congrArg SemLoc.dma hsR)
    (by show credit 1 = credit (which (.inr (.inl j))); exact (congrArg credit ha).symm)

theorem own1 (s : DmaSem sig) (hs : s = plan.sem (.inr (.inr 1))) {oS oD : Fin 3 → ℕ} {iS iD} (hS : oS = at_ c) (hD : oD = at_ c) {h2 h3 h4} :
    iprop(records plan (pay m) Copies.ER K ∗ Locals plan Copies.ER (rl m) c 1)
      ⊢ iprop((Locals plan Copies.ER (rl m) c (1 + 1) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.enqueueDma (slab hq1 in1 oS iS) (.here (slab hq1 out1 oD iD)) (.dma s) h2 h3 h4) k) Q) :=
  (arr1 m).own plan (defs₀ (F := F)) 𝒱₀ none K c (slab_at hq1 in1 hS) (slab_at hq1 out1 hD) (congrArg SemLoc.dma hs) rfl

theorem wait1 {N : ℕ} (f : Fin N → Which (2 * 7) 2) (j : Fin N) (ha : which (f j) = 1) (s : DmaSem sig) (hs : s = plan.sem (f j))
    {src dst : Memref sig .tc .hbm S8x256x2048 .bf16} {oS oD : Fin 3 → ℕ} {iS iD} {h1 h2} :
    iprop(records plan (pay m) Copies.ER K ∗ Free c ∗ Waits plan (pay m) Copies.ER f c j.val)
      ⊢ iprop((iprop(Free c ∗ Waits plan (pay m) Copies.ER f c (j.val + 1)) -∗ wp frame (wpE (defs₀ (F := F)) 𝒱₀ (c.tc : Thread nD τ) none) Set.univ (k ⟨⟩) Q)
          -∗ wp frame (wpE (defs₀ (F := F)) 𝒱₀ (c.tc : Thread nD τ) none) Set.univ (.op (.waitDma2 s (slab hq1 src oS iS) (slab hq1 dst oD iD) h1 h2) k) Q) :=
  wait_step plan (pay m) Copies.ER (defs₀ (F := F)) 𝒱₀ none K f c j.val j.isLt hs
    (by show credit 1 = credit (which (f j)); exact (congrArg credit ha).symm)

set_option maxRecDepth 65536 in
set_option maxHeartbeats 4000000 in
theorem body (c : Dev nD) :
    iprop(Start plan (pay m) Copies.ER (rs m) (rl m) c ∗ ∃ W, owes (c.tc : Thread nD τ) (dues plan 0 c) W)
      ⊢ (wp frame (wpE (defs₀ (F := F)) 𝒱₀ (c.tc : Thread nD τ) none) Set.univ
          (cc0_exchange_grads in0 (Memref.isWhole_whole _) in1 (Memref.isWhole_whole _) out0 (Memref.isWhole_whole _) out1 (Memref.isWhole_whole _) cc0_scratch0 cc0_scratch1 cc0_scratch2)
          fun _ => iprop((((bigSep Finset.univ fun j => pay m (.inl j) c) ∗ (bigSep Finset.univ fun j => pay m (.inr (.inl j)) c)
            ∗ bigSep Finset.univ fun l => pay m (.inr (.inr l)) c) ∗ Pipeline.ownSems0 plan.osem c) ∗ Free c) : sProp 𝕄) := by
  iintro H
  ihave H := (open_ plan (pay m) (rs m) (rl m) c) $$ H
  icases H with ⟨%K, #HR, HL, HS, HW, HA⟩
  simp only [cc0_exchange_grads_eq_skeleton]; unfold cc0_exchange_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [Prog.lift, Prog.bind_op, Prog.bind_ret, Prog.pure_eq_ret, wp_deviceId]
  iapply (own0 m K c (semL ![0] inb_S2_S1_0) rfl (at1 c) (at1 c)) $$ [HL]
  · isplitr; · iexact HR
    iexact HL
  iintro HL
  iapply (own1 m K c (semL ![1] inb_S2_S1_1) rfl (at2 c) (at2 c)) $$ [HL]
  · isplitr; · iexact HR
    iexact HL
  iintro HL
  iapply (send0 m K c ⟨0, by decide⟩ rfl (semS ![0, 0] inb_S7x2_S1x1_0_0) (semR ![0, 0] inb_S7x2_S1x1_0_0) rfl rfl (dev1 c) (off3 c) (at1 c)) $$ [HS]
  · isplitr; · iexact HR
    iexact HS
  iintro HS
  iapply (send0 m K c ⟨1, by decide⟩ rfl (semS ![1, 0] inb_S7x2_S1x1_1_0) (semR ![1, 0] inb_S7x2_S1x1_1_0) rfl rfl (dev2 c) (off4 c) (at1 c)) $$ [HS]
  · isplitr; · iexact HR
    iexact HS
  iintro HS
  iapply (send0 m K c ⟨2, by decide⟩ rfl (semS ![2, 0] inb_S7x2_S1x1_2_0) (semR ![2, 0] inb_S7x2_S1x1_2_0) rfl rfl (dev3 c) (off5 c) (at1 c)) $$ [HS]
  · isplitr; · iexact HR
    iexact HS
  iintro HS
  iapply (send0 m K c ⟨3, by decide⟩ rfl (semS ![3, 0] inb_S7x2_S1x1_3_0) (semR ![3, 0] inb_S7x2_S1x1_3_0) rfl rfl (dev4 c) (off6 c) (at1 c)) $$ [HS]
  · isplitr; · iexact HR
    iexact HS
  iintro HS
  iapply (send0 m K c ⟨4, by decide⟩ rfl (semS ![4, 0] inb_S7x2_S1x1_4_0) (semR ![4, 0] inb_S7x2_S1x1_4_0) rfl rfl (dev5 c) (off7 c) (at1 c)) $$ [HS]
  · isplitr; · iexact HR
    iexact HS
  iintro HS
  iapply (send0 m K c ⟨5, by decide⟩ rfl (semS ![5, 0] inb_S7x2_S1x1_5_0) (semR ![5, 0] inb_S7x2_S1x1_5_0) rfl rfl (dev6 c) (off8 c) (at1 c)) $$ [HS]
  · isplitr; · iexact HR
    iexact HS
  iintro HS
  iapply (send0 m K c ⟨6, by decide⟩ rfl (semS ![6, 0] inb_S7x2_S1x1_6_0) (semR ![6, 0] inb_S7x2_S1x1_6_0) rfl rfl (dev7 c) (off9 c) (at1 c)) $$ [HS]
  · isplitr; · iexact HR
    iexact HS
  iintro HS
  iapply (send1 m K c ⟨7, by decide⟩ rfl (semS ![0, 1] inb_S7x2_S1x1_0_1) (semR ![0, 1] inb_S7x2_S1x1_0_1) rfl rfl (dev8 c) (off10 c) (at2 c)) $$ [HS]
  · isplitr; · iexact HR
    iexact HS
  iintro HS
  iapply (send1 m K c ⟨8, by decide⟩ rfl (semS ![1, 1] inb_S7x2_S1x1_1_1) (semR ![1, 1] inb_S7x2_S1x1_1_1) rfl rfl (dev9 c) (off11 c) (at2 c)) $$ [HS]
  · isplitr; · iexact HR
    iexact HS
  iintro HS
  iapply (send1 m K c ⟨9, by decide⟩ rfl (semS ![2, 1] inb_S7x2_S1x1_2_1) (semR ![2, 1] inb_S7x2_S1x1_2_1) rfl rfl (dev10 c) (off12 c) (at2 c)) $$ [HS]
  · isplitr; · iexact HR
    iexact HS
  iintro HS
  iapply (send1 m K c ⟨10, by decide⟩ rfl (semS ![3, 1] inb_S7x2_S1x1_3_1) (semR ![3, 1] inb_S7x2_S1x1_3_1) rfl rfl (dev11 c) (off13 c) (at2 c)) $$ [HS]
  · isplitr; · iexact HR
    iexact HS
  iintro HS
  iapply (send1 m K c ⟨11, by decide⟩ rfl (semS ![4, 1] inb_S7x2_S1x1_4_1) (semR ![4, 1] inb_S7x2_S1x1_4_1) rfl rfl (dev12 c) (off14 c) (at2 c)) $$ [HS]
  · isplitr; · iexact HR
    iexact HS
  iintro HS
  iapply (send1 m K c ⟨12, by decide⟩ rfl (semS ![5, 1] inb_S7x2_S1x1_5_1) (semR ![5, 1] inb_S7x2_S1x1_5_1) rfl rfl (dev13 c) (off15 c) (at2 c)) $$ [HS]
  · isplitr; · iexact HR
    iexact HS
  iintro HS
  iapply (send1 m K c ⟨13, by decide⟩ rfl (semS ![6, 1] inb_S7x2_S1x1_6_1) (semR ![6, 1] inb_S7x2_S1x1_6_1) rfl rfl (dev14 c) (off16 c) (at2 c)) $$ [HS]
  · isplitr; · iexact HR
    iexact HS
  iintro HS
  ihave H := (started plan (pay m) (rs m) (rl m) c) $$ [HS HL HA]
  · isplitl [HS]; · iexact HS
    isplitl [HL] <;> iassumption
  icases H with ⟨HF, HT, HL⟩
  iapply (wait0 m K c toR ⟨0, by decide⟩ rfl (semR ![0, 0] inb_S7x2_S1x1_0_0) rfl) $$ [HF HW]
  · isplitr; · iexact HR
    isplitl [HF]; · iexact HF
    iexact HW
  iintro ⟨HF, HW⟩
  iapply (wait0 m K c toR ⟨1, by decide⟩ rfl (semR ![1, 0] inb_S7x2_S1x1_1_0) rfl) $$ [HF HW]
  · isplitr; · iexact HR
    isplitl [HF]; · iexact HF
    iexact HW
  iintro ⟨HF, HW⟩
  iapply (wait0 m K c toR ⟨2, by decide⟩ rfl (semR ![2, 0] inb_S7x2_S1x1_2_0) rfl) $$ [HF HW]
  · isplitr; · iexact HR
    isplitl [HF]; · iexact HF
    iexact HW
  iintro ⟨HF, HW⟩
  iapply (wait0 m K c toR ⟨3, by decide⟩ rfl (semR ![3, 0] inb_S7x2_S1x1_3_0) rfl) $$ [HF HW]
  · isplitr; · iexact HR
    isplitl [HF]; · iexact HF
    iexact HW
  iintro ⟨HF, HW⟩
  iapply (wait0 m K c toR ⟨4, by decide⟩ rfl (semR ![4, 0] inb_S7x2_S1x1_4_0) rfl) $$ [HF HW]
  · isplitr; · iexact HR
    isplitl [HF]; · iexact HF
    iexact HW
  iintro ⟨HF, HW⟩
  iapply (wait0 m K c toR ⟨5, by decide⟩ rfl (semR ![5, 0] inb_S7x2_S1x1_5_0) rfl) $$ [HF HW]
  · isplitr; · iexact HR
    isplitl [HF]; · iexact HF
    iexact HW
  iintro ⟨HF, HW⟩
  iapply (wait0 m K c toR ⟨6, by decide⟩ rfl (semR ![6, 0] inb_S7x2_S1x1_6_0) rfl) $$ [HF HW]
  · isplitr; · iexact HR
    isplitl [HF]; · iexact HF
    iexact HW
  iintro ⟨HF, HW⟩
  iapply (wait1 m K c toR ⟨7, by decide⟩ rfl (semR ![0, 1] inb_S7x2_S1x1_0_1) rfl) $$ [HF HW]
  · isplitr; · iexact HR
    isplitl [HF]; · iexact HF
    iexact HW
  iintro ⟨HF, HW⟩
  iapply (wait1 m K c toR ⟨8, by decide⟩ rfl (semR ![1, 1] inb_S7x2_S1x1_1_1) rfl) $$ [HF HW]
  · isplitr; · iexact HR
    isplitl [HF]; · iexact HF
    iexact HW
  iintro ⟨HF, HW⟩
  iapply (wait1 m K c toR ⟨9, by decide⟩ rfl (semR ![2, 1] inb_S7x2_S1x1_2_1) rfl) $$ [HF HW]
  · isplitr; · iexact HR
    isplitl [HF]; · iexact HF
    iexact HW
  iintro ⟨HF, HW⟩
  iapply (wait1 m K c toR ⟨10, by decide⟩ rfl (semR ![3, 1] inb_S7x2_S1x1_3_1) rfl) $$ [HF HW]
  · isplitr; · iexact HR
    isplitl [HF]; · iexact HF
    iexact HW
  iintro ⟨HF, HW⟩
  iapply (wait1 m K c toR ⟨11, by decide⟩ rfl (semR ![4, 1] inb_S7x2_S1x1_4_1) rfl) $$ [HF HW]
  · isplitr; · iexact HR
    isplitl [HF]; · iexact HF
    iexact HW
  iintro ⟨HF, HW⟩
  iapply (wait1 m K c toR ⟨12, by decide⟩ rfl (semR ![5, 1] inb_S7x2_S1x1_5_1) rfl) $$ [HF HW]
  · isplitr; · iexact HR
    isplitl [HF]; · iexact HF
    iexact HW
  iintro ⟨HF, HW⟩
  iapply (wait1 m K c toR ⟨13, by decide⟩ rfl (semR ![6, 1] inb_S7x2_S1x1_6_1) rfl) $$ [HF HW]
  · isplitr; · iexact HR
    isplitl [HF]; · iexact HF
    iexact HW
  iintro ⟨HF, HW⟩
  iapply (wait0 m K c toS ⟨0, by decide⟩ rfl (semS ![0, 0] inb_S7x2_S1x1_0_0) rfl) $$ [HF HT]
  · isplitr; · iexact HR
    isplitl [HF]; · iexact HF
    iexact HT
  iintro ⟨HF, HT⟩
  iapply (wait0 m K c toS ⟨1, by decide⟩ rfl (semS ![1, 0] inb_S7x2_S1x1_1_0) rfl) $$ [HF HT]
  · isplitr; · iexact HR
    isplitl [HF]; · iexact HF
    iexact HT
  iintro ⟨HF, HT⟩
  iapply (wait0 m K c toS ⟨2, by decide⟩ rfl (semS ![2, 0] inb_S7x2_S1x1_2_0) rfl) $$ [HF HT]
  · isplitr; · iexact HR
    isplitl [HF]; · iexact HF
    iexact HT
  iintro ⟨HF, HT⟩
  iapply (wait0 m K c toS ⟨3, by decide⟩ rfl (semS ![3, 0] inb_S7x2_S1x1_3_0) rfl) $$ [HF HT]
  · isplitr; · iexact HR
    isplitl [HF]; · iexact HF
    iexact HT
  iintro ⟨HF, HT⟩
  iapply (wait0 m K c toS ⟨4, by decide⟩ rfl (semS ![4, 0] inb_S7x2_S1x1_4_0) rfl) $$ [HF HT]
  · isplitr; · iexact HR
    isplitl [HF]; · iexact HF
    iexact HT
  iintro ⟨HF, HT⟩
  iapply (wait0 m K c toS ⟨5, by decide⟩ rfl (semS ![5, 0] inb_S7x2_S1x1_5_0) rfl) $$ [HF HT]
  · isplitr; · iexact HR
    isplitl [HF]; · iexact HF
    iexact HT
  iintro ⟨HF, HT⟩
  iapply (wait0 m K c toS ⟨6, by decide⟩ rfl (semS ![6, 0] inb_S7x2_S1x1_6_0) rfl) $$ [HF HT]
  · isplitr; · iexact HR
    isplitl [HF]; · iexact HF
    iexact HT
  iintro ⟨HF, HT⟩
  iapply (wait1 m K c toS ⟨7, by decide⟩ rfl (semS ![0, 1] inb_S7x2_S1x1_0_1) rfl) $$ [HF HT]
  · isplitr; · iexact HR
    isplitl [HF]; · iexact HF
    iexact HT
  iintro ⟨HF, HT⟩
  iapply (wait1 m K c toS ⟨8, by decide⟩ rfl (semS ![1, 1] inb_S7x2_S1x1_1_1) rfl) $$ [HF HT]
  · isplitr; · iexact HR
    isplitl [HF]; · iexact HF
    iexact HT
  iintro ⟨HF, HT⟩
  iapply (wait1 m K c toS ⟨9, by decide⟩ rfl (semS ![2, 1] inb_S7x2_S1x1_2_1) rfl) $$ [HF HT]
  · isplitr; · iexact HR
    isplitl [HF]; · iexact HF
    iexact HT
  iintro ⟨HF, HT⟩
  iapply (wait1 m K c toS ⟨10, by decide⟩ rfl (semS ![3, 1] inb_S7x2_S1x1_3_1) rfl) $$ [HF HT]
  · isplitr; · iexact HR
    isplitl [HF]; · iexact HF
    iexact HT
  iintro ⟨HF, HT⟩
  iapply (wait1 m K c toS ⟨11, by decide⟩ rfl (semS ![4, 1] inb_S7x2_S1x1_4_1) rfl) $$ [HF HT]
  · isplitr; · iexact HR
    isplitl [HF]; · iexact HF
    iexact HT
  iintro ⟨HF, HT⟩
  iapply (wait1 m K c toS ⟨12, by decide⟩ rfl (semS ![5, 1] inb_S7x2_S1x1_5_1) rfl) $$ [HF HT]
  · isplitr; · iexact HR
    isplitl [HF]; · iexact HF
    iexact HT
  iintro ⟨HF, HT⟩
  iapply (wait1 m K c toS ⟨13, by decide⟩ rfl (semS ![6, 1] inb_S7x2_S1x1_6_1) rfl) $$ [HF HT]
  · isplitr; · iexact HR
    isplitl [HF]; · iexact HF
    iexact HT
  iintro ⟨HF, HT⟩
  iapply (wait0 m K c toL ⟨0, by decide⟩ rfl (semL ![0] inb_S2_S1_0) rfl) $$ [HF HL]
  · isplitr; · iexact HR
    isplitl [HF]; · iexact HF
    iexact HL
  iintro ⟨HF, HL⟩
  iapply (wait1 m K c toL ⟨1, by decide⟩ rfl (semL ![1] inb_S2_S1_1) rfl) $$ [HF HL]
  · isplitr; · iexact HR
    isplitl [HF]; · iexact HF
    iexact HL
  iintro ⟨HF, HL⟩
  rw [wp_ret]
  imodintro
  isplitr [HF]
  · iapply (done plan (pay m) c)
    isplitl [HT]; · iexact HT
    isplitl [HW] <;> iassumption
  iexact HF

end Cert.ExchangeRun
-- ==== Proof.ExchangeRun.lean ====
/-
  The run of the exchange: every device ends with its arguments unchanged, its results as `got0` and `got1` say, and every
  semaphore at zero.
-/
module

public import proofs.«01_k».proof.Proof.ExchangeBody

@[expose] public section

set_option Elab.async false

noncomputable section

namespace Cert.ExchangeRun

open Cert.ExchangeIdeal Cert.ExchangeIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Steps

variable {F : FTy → Type} [FloatOps F]

local notation "𝕄" => MT nD τ sig Unit (Elt F) ℕ (UU nD τ sig) ℕ

variable (m : (ℓ : Loc nD τ sig) → Buf (Elt F) ℓ)

theorem bufs_eq (c : Dev nD) (V : (b : Ref sig .tc) → Buf (Elt F) ((c.tc : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_v1_0) ↦{fullShare} V main_v1_0) ∗ (((c : Thread nD τ).loc main_v1_1) ↦{fullShare} V main_v1_1)) :=
  bigSep_eq_bigSepL_of_eq [main_arg0, main_arg1, main_v1_0, main_v1_1] (by decide) (by decide) _

theorem whole_split0 (b : Memref sig .tc .hbm S8x2048x1924 .bf16) (hb : b.view.set = Finset.univ) (c : Dev nD) (f : Buf (Elt F) (b.view.loc (c.tc : Thread nD τ))) :
    ((b.view.loc (c.tc : Thread nD τ)) ↦{fullShare} f : sProp 𝕄) = bigSep Finset.univ fun p => piece hq0 b fullShare c f p := by
  rw [← split hq0 b fullShare c f, hb]
theorem whole_split1 (b : Memref sig .tc .hbm S8x256x2048 .bf16) (hb : b.view.set = Finset.univ) (c : Dev nD) (f : Buf (Elt F) (b.view.loc (c.tc : Thread nD τ))) :
    ((b.view.loc (c.tc : Thread nD τ)) ↦{fullShare} f : sProp 𝕄) = bigSep Finset.univ fun p => piece hq1 b fullShare c f p := by
  rw [← split hq1 b fullShare c f, hb]

/-- The four arrays of a device. -/
def four (c : Dev nD) (g0 : Buf (Elt F) (out0.view.loc (c.tc : Thread nD τ))) (g1 : Buf (Elt F) (out1.view.loc (c.tc : Thread nD τ))) : sProp 𝕄 :=
  iprop(((in0.view.loc (c.tc : Thread nD τ)) ↦{fullShare} m (in0.view.loc (c.tc : Thread nD τ)))
    ∗ ((in1.view.loc (c.tc : Thread nD τ)) ↦{fullShare} m (in1.view.loc (c.tc : Thread nD τ)))
    ∗ ((out0.view.loc (c.tc : Thread nD τ)) ↦{fullShare} g0) ∗ ((out1.view.loc (c.tc : Thread nD τ)) ↦{fullShare} g1))

theorem four_pieces (c : Dev nD) (g0 : Buf (Elt F) (out0.view.loc (c.tc : Thread nD τ))) (g1 : Buf (Elt F) (out1.view.loc (c.tc : Thread nD τ))) :
    (four m c g0 g1 : sProp 𝕄) = iprop((bigSep Finset.univ fun p => S m 0 c p) ∗ (bigSep Finset.univ fun p => S m 1 c p)
      ∗ (bigSep Finset.univ fun p => piece hq0 out0 fullShare c g0 p) ∗ bigSep Finset.univ fun p => piece hq1 out1 fullShare c g1 p) := by
  unfold four
  rw [whole_split0 in0 (View.set_whole _) c, whole_split1 in1 (View.set_whole _) c, whole_split0 out0 (View.set_whole _) c, whole_split1 out1 (View.set_whole _) c]
  rfl

theorem two {R : Type} [URA R] (Φ : Fin 2 → sProp R) : bigSep Finset.univ Φ = iprop(Φ 0 ∗ Φ 1) := bigSep_univ_eq_bigSepL [0, 1] (by decide) (by decide) Φ

theorem dealt (c : Dev nD) : (unscopedBufs c (fun b => m ((c.tc : Thread nD τ).loc b)) : sProp 𝕄)
    ⊢ iprop((bigSep Finset.univ fun a => bigSep Finset.univ fun p => S m a c p) ∗ bigSep Finset.univ fun a => bigSep Finset.univ fun p => O a c p) := by
  have hO0 (g : Buf (Elt F) (out0.view.loc (c.tc : Thread nD τ))) :
      (bigSep Finset.univ fun p => (piece hq0 out0 fullShare c g p : sProp 𝕄)) ⊢ bigSep Finset.univ fun p => O 0 c p :=
    bigSep_mono fun p _ => by
      show _ ⊢ iprop(∃ fd, piece hq0 out0 fullShare c fd p)
      iintro H; iexists g; iexact H
  have hO1 (g : Buf (Elt F) (out1.view.loc (c.tc : Thread nD τ))) :
      (bigSep Finset.univ fun p => (piece hq1 out1 fullShare c g p : sProp 𝕄)) ⊢ bigSep Finset.univ fun p => O 1 c p :=
    bigSep_mono fun p _ => by
      show _ ⊢ iprop(∃ fd, piece hq1 out1 fullShare c fd p)
      iintro H; iexists g; iexact H
  have h : (unscopedBufs c (fun b => m ((c.tc : Thread nD τ).loc b)) : sProp 𝕄)
      = four m c (m (out0.view.loc (c.tc : Thread nD τ))) (m (out1.view.loc (c.tc : Thread nD τ))) := bufs_eq c _
  rw [h, four_pieces, two, two]
  iintro ⟨H0, H1, H2, H3⟩
  isplitl [H0 H1]
  · isplitl [H0] <;> iassumption
  isplitl [H2]
  · iapply (hO0 _); iexact H2
  iapply (hO1 _); iexact H3

theorem collected (c : Dev nD) :
    iprop((bigSep Finset.univ fun j => pay m (.inl j) c) ∗ (bigSep Finset.univ fun j => pay m (.inr (.inl j)) c) ∗ bigSep Finset.univ fun l => pay m (.inr (.inr l)) c)
      ⊢ (four m c (got0 m c) (got1 m c) : sProp 𝕄) := by
  refine (Around.collect_pieces (S m) (O' m) c).trans ?_
  rw [four_pieces, two, two]
  iintro ⟨⟨H0, H1⟩, H2, H3⟩
  isplitl [H0]; · iexact H0
  isplitl [H1]; · iexact H1
  isplitl [H2]; · iexact H2
  iexact H3

/-- What device `c` ends with. -/
def Ends (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1))
    ∧ s.mem ((c.tc : Thread nD τ).loc main_v1_0) = got0 m c ∧ s.mem ((c.tc : Thread nD τ).loc main_v1_1) = got1 m c

theorem read (c : Dev nD) (s' : Phys nD τ sig (Elt F)) :
    iprop(four m c (got0 m c) (got1 m c) ∗ SI s') ⊢ (|={Set.univ}=> iprop(⌜Ends m c s'.mem⌝ ∗ SI s') : sProp 𝕄) := by
  unfold four
  iintro ⟨⟨H0, H1, H2, H3⟩, HSI⟩
  icombine HSI H0 gives %h0
  icombine HSI H1 gives %h1
  icombine HSI H2 gives %h2
  icombine HSI H3 gives %h3
  imodintro
  isplitr
  · ipureintro
    exact ⟨⟨funext fun i => h0 i (Finset.mem_univ i), funext fun i => h1 i (Finset.mem_univ i)⟩,
      funext fun i => h2 i (Finset.mem_univ i), funext fun i => h3 i (Finset.mem_univ i)⟩
  · iexact HSI

theorem without {R : Type} [URA R] (A B C : sProp R) : iprop((A ∗ B) ∗ C) ⊢ iprop(A ∗ C) := by
  iintro ⟨⟨HA, -⟩, HC⟩
  isplitl [HA] <;> iassumption

theorem ownSems : Pipeline.OwnSemFacts (cfg0.spec) plan.osem := by decide +kernel

theorem run_main (g : Dev nD → PrngReg) : θ_run (defs (F := F)) (onTc (τ := τ) (main (F := F))) ⟨m, fun _ => 0, g⟩
    fun r => (∀ c, Ends m c r.2) ∧ r.2.sem = fun _ => 0 :=
  θ_run_copies (fun p => (cfgs p).toPCfg) (fun p => (cfgs p).toPCfg_adm) plan (pay m) (rs m) (rl m) (fun c => four m c (got0 m c) (got1 m c)) defs₀ 𝒱₀
    (fun _ => ∅) (fun _ _ => 0) (fun _ _ => rfl) cellOf_inj winFacts0.to₀ ownSems (fun _ => rfl) rfl N_0 (fun c => scopedRest0_eq c) m g main (fun _ => rfl)
    (fun c t => (without _ _ _).trans <| (body m c).trans (wp_mono _ _ _ fun _ => by
      iintro ⟨⟨H, Ho⟩, HF⟩
      isplitr [HF]
      · isplitl [H]; · iapply (collected m c); iexact H
        iexact Ho
      iexact HF))
    (Around.deal_pieces (S m) O _ (dealt m)) (Ends m) (read m) (by decide)

end Cert.ExchangeRun
-- ==== Proof.ExchangeValue.lean ====
/-
  The reference of the exchange, run on its one device over any float values, and its result's blocks: block `c` of the
  regrouped array is what the exchange leaves on device `c`.
-/
module

public import proofs.«01_k».proof.Proof.ExchangeRun
public import proofs.«01_k».proof.Proof.Gen.ExchangeRefIdeal
public import Idealize.ShloMosaic.Lib.StableHlo.Run
public import Idealize.ShloMosaic.Lib.Pipeline.Value
public import Idealize.ShloMosaic.Lib.Layout
public import Idealize.ShloMosaic.Lib.Quiescent

@[expose] public section

noncomputable section

namespace Cert.ExchangeValue

open Cert.ExchangeRefIdeal Cert.ExchangeRefIdeal.Gen
open Idealize.ShloMosaic Idealize.ShloMosaic.TcCoe Idealize.ShloMosaic.StableHlo Idealize.SL.Sem
open Cert.Slabs (Sh8 into)

variable {F : FTy → Type} [FloatOps F] {α : Type} {A B : ℕ}

/-! ## Regrouping: entry `8 * a + b` of the result is entry `8 * b + a` of the array -/

abbrev Sh64 (A B : ℕ) : Shape := ⟨3, ![64, A, B]⟩
abbrev Sh88 (A B : ℕ) : Shape := ⟨4, ![8, 8, A, B]⟩

/-- The sixty-four slabs as eight groups of eight, the two group coordinates exchanged. -/
def regroup (h₁ : (Sh64 A B).ShapeCasts (Sh88 A B)) (h₂ : (Sh88 A B).Transposes [1, 0, 2, 3] (Sh88 A B)) (h₃ : (Sh88 A B).ShapeCasts (Sh64 A B))
    (x : (Sh64 A B).Idx → α) : (Sh64 A B).Idx → α :=
  shapeCast (Sh64 A B) (transpose (Sh88 A B) [1, 0, 2, 3] (shapeCast (Sh88 A B) x h₁) h₂) h₃

/-- Block `c` of the regrouped array has at `(s, ·)` what block `s` of the array has at `(c, ·)`. -/
theorem block_regroup (h₁ : (Sh64 A B).ShapeCasts (Sh88 A B)) (h₂ : (Sh88 A B).Transposes [1, 0, 2, 3] (Sh88 A B)) (h₃ : (Sh88 A B).ShapeCasts (Sh64 A B))
    (x : (Sh64 A B).Idx → α) (hT : Layout.Tiles (Sh8 A B) (Sh64 A B) 0 8) (c : Fin 8) (y : (Sh8 A B).Idx) :
    Layout.block (Sh8 A B) (Sh64 A B) 0 8 c (regroup h₁ h₂ h₃ x) hT y = Layout.block (Sh8 A B) (Sh64 A B) 0 8 (y 0) x hT (into y c) := by
  have e0 : (hT.idx c y 0).val = c.val * 8 + (y 0).val := rfl
  have e1 : (hT.idx c y 1).val = (y 1).val := rfl
  have e2 : (hT.idx c y 2).val = (y 2).val := rfl
  have f0 : (hT.idx (y 0) (into y c) 0).val = (y 0).val * 8 + c.val := rfl
  have f1 : (hT.idx (y 0) (into y c) 1).val = (y 1).val := rfl
  have f2 : (hT.idx (y 0) (into y c) 2).val = (y 2).val := rfl
  let k₃ : (Sh88 A B).Idx := fun a => match a with
    | 0 => c
    | 1 => y 0
    | 2 => y 1
    | 3 => y 2
  let k₁ : (Sh88 A B).Idx := fun a => match a with
    | 0 => y 0
    | 1 => c
    | 2 => y 1
    | 3 => y 2
  show shapeCast (Sh64 A B) (transpose (Sh88 A B) [1, 0, 2, 3] (shapeCast (Sh88 A B) x h₁) h₂) h₃ (hT.idx c y) = x (hT.idx (y 0) (into y c))
  refine (shapeCast_apply _ h₃ _ k₃ ?_).trans ((transpose_apply [1, 0, 2, 3] _ h₂ k₃ k₁ ?_).trans (shapeCast_apply _ h₁ k₁ _ ?_))
  · rw [Shape.rowMajor_val_three, Shape.rowMajor_val_four, e0, e1, e2]; rfl
  · intro b; fin_cases b <;> rfl
  · rw [Shape.rowMajor_val_three, Shape.rowMajor_val_four, f0, f1, f2]; rfl

/-! ## The reference's run -/

def out0 (x : FVec F S64x2048x1924 .bf16) : FVec F S64x2048x1924 .bf16 :=
  regroup shapeCasts_S64x2048x1924_S8x8x2048x1924 transposes_S8x8x2048x1924_S8x8x2048x1924_1_0_2_3 shapeCasts_S8x8x2048x1924_S64x2048x1924 x
def out1 (x : FVec F S64x256x2048 .bf16) : FVec F S64x256x2048 .bf16 :=
  regroup shapeCasts_S64x256x2048_S8x8x256x2048 transposes_S8x8x256x2048_S8x8x256x2048_1_0_2_3 shapeCasts_S8x8x256x2048_S64x256x2048 x

abbrev ops : List (HloOp τ sig (Elt F)) :=
  [ StableHlo.reshape main_arg0 main_v0 (rfl : (.bf16 : EltTy) = .bf16) shapeCasts_S64x2048x1924_S8x8x2048x1924,
    StableHlo.unary main_v0 main_v1 (transpose S8x8x2048x1924 [1, 0, 2, 3] · transposes_S8x8x2048x1924_S8x8x2048x1924_1_0_2_3),
    StableHlo.reshape main_v1 main_v2 (rfl : (.bf16 : EltTy) = .bf16) shapeCasts_S8x8x2048x1924_S64x2048x1924,
    StableHlo.reshape main_arg1 main_v3 (rfl : (.bf16 : EltTy) = .bf16) shapeCasts_S64x256x2048_S8x8x256x2048,
    StableHlo.unary main_v3 main_v4 (transpose S8x8x256x2048 [1, 0, 2, 3] · transposes_S8x8x256x2048_S8x8x256x2048_1_0_2_3),
    StableHlo.reshape main_v4 main_v5 (rfl : (.bf16 : EltTy) = .bf16) shapeCasts_S8x8x256x2048_S64x256x2048 ]

theorem main_eq (c : Dev nD) : main (F := F) c = seq ops := rfl

theorem out0_eq (V : Valuation τ sig (Elt F)) : after ops V (main_v2 : DevRef τ sig) = out0 (F := F) (V (main_arg0 : DevRef τ sig)) := by
  after_results
  rfl
theorem out1_eq (V : Valuation τ sig (Elt F)) : after ops V (main_v5 : DevRef τ sig) = out1 (F := F) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., reshape_bufs_sub .., unary_bufs_sub .., reshape_bufs_sub ..⟩

/-- The reference runs: its results are the two arrays regrouped, its arguments are unchanged, its semaphores are at zero. -/
theorem run_ref (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v2) = out0 (F := F) (m ((c.tc : Thread nD τ).loc main_arg0))
        ∧ r.2.mem ((c.tc : Thread nD τ).loc main_v5) = out1 (F := F) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v2).trans (out0_eq _), (h c main_v5).trans (out1_eq _), (h c main_arg0).trans (arg0_eq _), (h c main_arg1).trans (arg1_eq _)⟩,
      sem_eq_zero_of_no_sems rfl r.2⟩)
    (run_seq scopedRefs_eq scopedSems_eq defs main (fun _ => ops) main_eq (fun _ => ops_sub) m g)

/-! ## The exchange leaves the blocks of the reference's results -/

open Cert.ExchangeRun (got0 got1)

theorem got0_block (m : (ℓ : Loc Cert.ExchangeIdeal.nD Cert.ExchangeIdeal.τ Cert.ExchangeIdeal.sig) → Buf (Elt F) ℓ) (x : FVec F S64x2048x1924 .bf16)
    (hT : Layout.Tiles (Sh8 2048 1924) (Sh64 2048 1924) 0 8)
    (h : ∀ c : Dev Cert.ExchangeIdeal.nD, m ((c.tc : Thread Cert.ExchangeIdeal.nD Cert.ExchangeIdeal.τ).loc Cert.ExchangeIdeal.main_arg0) = Layout.block (Sh8 2048 1924) (Sh64 2048 1924) 0 8 c x hT)
    (c : Dev Cert.ExchangeIdeal.nD) : got0 m c = Layout.block (Sh8 2048 1924) (Sh64 2048 1924) 0 8 c (out0 x) hT :=
  funext fun y => (congrFun (h (show Fin 8 from y 0)) (into y c)).trans (block_regroup _ _ _ x hT c y).symm

theorem got1_block (m : (ℓ : Loc Cert.ExchangeIdeal.nD Cert.ExchangeIdeal.τ Cert.ExchangeIdeal.sig) → Buf (Elt F) ℓ) (x : FVec F S64x256x2048 .bf16)
    (hT : Layout.Tiles (Sh8 256 2048) (Sh64 256 2048) 0 8)
    (h : ∀ c : Dev Cert.ExchangeIdeal.nD, m ((c.tc : Thread Cert.ExchangeIdeal.nD Cert.ExchangeIdeal.τ).loc Cert.ExchangeIdeal.main_arg1) = Layout.block (Sh8 256 2048) (Sh64 256 2048) 0 8 c x hT)
    (c : Dev Cert.ExchangeIdeal.nD) : got1 m c = Layout.block (Sh8 256 2048) (Sh64 256 2048) 0 8 c (out1 x) hT :=
  funext fun y => (congrFun (h (show Fin 8 from y 0)) (into y c)).trans (block_regroup _ _ _ x hT c y).symm

end Cert.ExchangeValue
-- ==== Proof.Relay.lean ====
/-
  The copies of an all-gather between the eight devices of a 2 × 2 × 2 mesh, numbered row-major. Over each of four links
  (`hop`) a device sends its own block; the blocks that came over the last three links it passes on over the first. `n`
  arrays are gathered: a device's part of an array is held in five shares, one per send and one for the copy into its own
  result, and a result is eight pieces, one per device. What is said here does not depend on what shares and pieces are.
-/
module

public import proofs.«01_k».proof.Proof.Around

@[expose] public section

set_option Elab.async false

noncomputable section

namespace Cert.Relay

open Idealize.ShloMosaic
open Idealize.SL Idealize.SL.RA
open Idealize.SL.BI
open scoped Idealize.SL.BI
open Idealize.SL.BI.BIBase Idealize.SL.BI.Laws Idealize.SL.ProofMode
open Cert.Copies

/-- The device at the other end of link `k`. -/
def hop (k : Fin 4) (c : Dev 8) : Dev 8 := ⟨(c.val ^^^ (![1, 4, 2, 6] : Fin 4 → ℕ) k) % 8, Nat.mod_lt _ (by decide)⟩

theorem hop_hop : ∀ (k : Fin 4) (c : Dev 8), hop k (hop k c) = c := by decide
theorem hop_comm : ∀ (k l : Fin 4) (c : Dev 8), hop k (hop l c) = hop l (hop k c) := by decide

/-- The device whose block arrives over the four links and, passed on, over the first. -/
def from_ (c : Dev 8) : Fin 4 ⊕ Fin 3 → Dev 8
  | .inl k => hop k c
  | .inr i => hop i.succ (hop 0 c)

theorem from_inj (c : Dev 8) : Function.Injective (from_ c) := by revert c; decide
theorem froms (c : Dev 8) : Finset.univ.erase c = Finset.univ.map ⟨from_ c, from_inj c⟩ := by revert c; decide

variable {R : Type} [URA R] {n : ℕ}

theorem swap_order {α β : Type} [Fintype α] [DecidableEq α] [Fintype β] [DecidableEq β] (Φ : α → β → sProp R) :
    (bigSep Finset.univ fun a => bigSep Finset.univ fun b => Φ a b) = bigSep Finset.univ fun b => bigSep Finset.univ fun a => Φ a b := by
  rw [← bigSep_univ_prod fun x : α × β => Φ x.1 x.2, bigSep_univ_equiv (Equiv.prodComm β α) fun x : α × β => Φ x.1 x.2, bigSep_univ_prod]
  rfl

/-- A device's own block, the four that arrive over the links and the three passed on. -/
theorem bigSep_from (c : Dev 8) (Φ : Dev 8 → sProp R) : bigSep Finset.univ Φ
    = iprop(Φ c ∗ (bigSep Finset.univ fun k : Fin 4 => Φ (hop k c)) ∗ bigSep Finset.univ fun i : Fin 3 => Φ (hop i.succ (hop 0 c))) := by
  rw [bigSep_univ_at Φ c, froms c, bigSep_map, bigSep_univ_sum]; rfl

/-! ## The copies in their order -/

/-- A copy: array and link of a send, or link and array of a block passed on. -/
abbrev Tag (n : ℕ) : Type := (Fin n × Fin 4) ⊕ (Fin 3 × Fin n)

/-- The sends come first, array by array; then what is passed on, link by link. -/
def order (n : ℕ) : Fin (n * 4 + 3 * n) ≃ Tag n := finSumFinEquiv.symm.trans (Equiv.sumCongr finProdFinEquiv.symm finProdFinEquiv.symm)

def arr : Tag n → Fin n
  | .inl x => x.1
  | .inr x => x.2
def link : Tag n → Fin 4
  | .inl x => x.2
  | .inr _ => 0
/-- The device whose block the copy of device `c` carries. -/
def block : Tag n → Dev 8 → Dev 8
  | .inl _, c => c
  | .inr x, c => hop x.1.succ c

/-- The receives before something is passed on, -/
def early (x : Fin 3 × Fin n) : Tag n := .inl (x.2, x.1.succ)
/-- and those after. -/
def late (x : Fin n × Fin 4) : Tag n := Fin.cases (.inl (x.1, 0)) (fun i => .inr (i, x.1)) x.2

theorem order_early_lt (i : Fin (3 * n)) : ((order n).symm (early (finProdFinEquiv.symm i))).val < n * 4 :=
  (finProdFinEquiv ((finProdFinEquiv.symm i).2, (finProdFinEquiv.symm i).1.succ)).isLt

theorem bigSep_order (Φ : Fin (n * 4 + 3 * n) → sProp R) : bigSep Finset.univ Φ
    = iprop((bigSep Finset.univ fun a : Fin n => bigSep Finset.univ fun k : Fin 4 => Φ ((order n).symm (.inl (a, k))))
      ∗ bigSep Finset.univ fun i : Fin 3 => bigSep Finset.univ fun a : Fin n => Φ ((order n).symm (.inr (i, a)))) := by
  rw [bigSep_univ_equiv (order n).symm Φ, bigSep_univ_sum, bigSep_univ_prod, bigSep_univ_prod]; rfl

theorem four (Φ : Fin 4 → sProp R) : bigSep Finset.univ Φ = iprop(Φ 0 ∗ bigSep Finset.univ fun i : Fin 3 => Φ i.succ) := by
  rw [bigSep_univ_at Φ 0, show Finset.univ.erase (0 : Fin 4) = Finset.univ.map ⟨Fin.succ, Fin.succ_injective 3⟩ from by decide, bigSep_map]; rfl

theorem five (Φ : Fin 5 → sProp R) : bigSep Finset.univ Φ = iprop(Φ 4 ∗ bigSep Finset.univ fun k : Fin 4 => Φ k.castSucc) := by
  rw [bigSep_univ_at Φ 4, show Finset.univ.erase (4 : Fin 5) = Finset.univ.map ⟨Fin.castSucc, Fin.castSucc_injective 4⟩ from by decide, bigSep_map]; rfl

/-- All the receives are the early and the late ones. -/
theorem bigSep_receives (Φ : Fin (n * 4 + 3 * n) → sProp R) : bigSep Finset.univ Φ
    = iprop((bigSep Finset.univ fun i : Fin (3 * n) => Φ ((order n).symm (early (finProdFinEquiv.symm i))))
      ∗ bigSep Finset.univ fun i : Fin (n * 4) => Φ ((order n).symm (late (finProdFinEquiv.symm i)))) := by
  have h3 : (bigSep Finset.univ fun i : Fin (3 * n) => Φ ((order n).symm (early (finProdFinEquiv.symm i))))
      = bigSep Finset.univ fun a : Fin n => bigSep Finset.univ fun i : Fin 3 => Φ ((order n).symm (.inl (a, i.succ))) := by
    rw [← bigSep_univ_equiv finProdFinEquiv.symm fun x : Fin 3 × Fin n => Φ ((order n).symm (early x)), bigSep_univ_prod, swap_order]; rfl
  have h4 : (bigSep Finset.univ fun i : Fin (n * 4) => Φ ((order n).symm (late (finProdFinEquiv.symm i))))
      = iprop((bigSep Finset.univ fun a : Fin n => Φ ((order n).symm (.inl (a, 0))))
        ∗ bigSep Finset.univ fun i : Fin 3 => bigSep Finset.univ fun a : Fin n => Φ ((order n).symm (.inr (i, a)))) := by
    rw [← bigSep_univ_equiv finProdFinEquiv.symm fun x : Fin n × Fin 4 => Φ ((order n).symm (late x)), bigSep_univ_prod,
      swap_order fun (i : Fin 3) (a : Fin n) => Φ ((order n).symm (.inr (i, a))), ← bigSep_sep']
    exact bigSep_congr fun a _ => four fun k => Φ ((order n).symm (late (a, k)))
  have h1 : (bigSep Finset.univ fun a : Fin n => bigSep Finset.univ fun k : Fin 4 => Φ ((order n).symm (.inl (a, k))))
      = iprop((bigSep Finset.univ fun a : Fin n => Φ ((order n).symm (.inl (a, 0))))
        ∗ bigSep Finset.univ fun a : Fin n => bigSep Finset.univ fun i : Fin 3 => Φ ((order n).symm (.inl (a, i.succ)))) := by
    rw [← bigSep_sep']
    exact bigSep_congr fun a _ => four fun k => Φ ((order n).symm (.inl (a, k)))
  rw [bigSep_order, h1, h3, h4]
  refine BI.equiv_iff.mp ⟨(?_ : (_ : sProp R) ⊢ _), (?_ : (_ : sProp R) ⊢ _)⟩
  · iintro ⟨⟨H0, H1⟩, H2⟩
    isplitl [H1]; · iexact H1
    isplitl [H0] <;> iassumption
  · iintro ⟨H1, H0, H2⟩
    isplitl [H0 H1]
    · isplitl [H0] <;> iassumption
    iexact H2

/-! ## Shares and pieces -/

/-- `S a k c` is share `k` of device `c`'s part of array `a`; `O a c p` is piece `p` of its result. What a copy of device `c`
    reads: -/
def source (S : Fin n → Fin 5 → Dev 8 → sProp R) (O' : Fin n → Dev 8 → Dev 8 → sProp R) : Tag n → Dev 8 → sProp R
  | .inl x, c => S x.1 x.2.castSucc c
  | .inr x, c => O' x.2 c (hop x.1.succ c)
/-- what of it is there from the start: -/
def ready (S : Fin n → Fin 5 → Dev 8 → sProp R) : Tag n → Dev 8 → sProp R
  | .inl x, c => S x.1 x.2.castSucc c
  | .inr _, _ => iprop(emp)
def sent (S : Fin n → Fin 5 → Dev 8 → sProp R) (O : Fin n → Dev 8 → Dev 8 → sProp R) (j : Fin (n * 4 + 3 * n)) (c : Dev 8) : sProp R :=
  iprop(ready S (order n j) c ∗ O (arr (order n j)) (hop (link (order n j)) c) (block (order n j) c))
/-- what own copy `l` reads and fills: -/
def kept (S : Fin n → Fin 5 → Dev 8 → sProp R) (O : Fin n → Dev 8 → Dev 8 → sProp R) (l : Fin n) (c : Dev 8) : sProp R := iprop(S l 4 c ∗ O l c c)
/-- and what the landed copies give back. -/
def pay (S : Fin n → Fin 5 → Dev 8 → sProp R) (O' : Fin n → Dev 8 → Dev 8 → sProp R) : Which (n * 4 + 3 * n) n → Dev 8 → sProp R
  | .inl j, c => source S O' (order n j) c
  | .inr (.inl j), c => O' (arr (order n j)) c (block (order n j) (hop (link (order n j)) c))
  | .inr (.inr l), c => iprop(O' l c c ∗ S l 4 c)

variable (S : Fin n → Fin 5 → Dev 8 → sProp R) (O O' : Fin n → Dev 8 → Dev 8 → sProp R)

/-- The pieces of a device: its own, and one for each copy it receives. -/
theorem pieces (c : Dev 8) : (bigSep Finset.univ fun a => bigSep Finset.univ fun p => O a c p)
    = iprop((bigSep Finset.univ fun l => O l c c)
      ∗ bigSep Finset.univ fun j => O (arr (order n j)) c (block (order n j) (hop (link (order n j)) c))) := by
  have h (a : Fin n) : (bigSep Finset.univ fun p => O a c p) = iprop(O a c c ∗ (bigSep Finset.univ fun k : Fin 4 => O a c (hop k c))
      ∗ bigSep Finset.univ fun i : Fin 3 => O a c (hop i.succ (hop 0 c))) := bigSep_from c (O a c)
  rw [bigSep_congr fun a _ => h a, bigSep_sep', bigSep_sep', bigSep_order]
  simp only [Equiv.apply_symm_apply]
  rw [swap_order fun (i : Fin 3) (a : Fin n) => O (arr (.inr (i, a))) c (block (.inr (i, a)) (hop (link (.inr (i, a))) c))]
  rfl

def across (k : Fin 4) : Dev 8 ≃ Dev 8 := ⟨hop k, hop k, hop_hop k, hop_hop k⟩

/-- All the shares and pieces of all the devices, dealt to the devices whose copies need them. -/
theorem deal (B : Dev 8 → sProp R)
    (hB : ∀ c, B c ⊢ iprop((bigSep Finset.univ fun a => bigSep Finset.univ fun k => S a k c) ∗ bigSep Finset.univ fun a => bigSep Finset.univ fun p => O a c p)) :
    bigSep Finset.univ B ⊢ bigSep Finset.univ fun c => iprop((bigSep Finset.univ fun l => kept S O l c) ∗ bigSep Finset.univ fun j => sent S O j c) := by
  have hO : (bigSep Finset.univ fun c : Dev 8 => bigSep Finset.univ fun j => O (arr (order n j)) c (block (order n j) (hop (link (order n j)) c)))
      = bigSep Finset.univ fun c : Dev 8 => bigSep Finset.univ fun j => O (arr (order n j)) (hop (link (order n j)) c) (block (order n j) c) := by
    rw [swap_order, swap_order fun (c : Dev 8) (j : Fin (n * 4 + 3 * n)) => O (arr (order n j)) (hop (link (order n j)) c) (block (order n j) c)]
    refine bigSep_congr fun j _ => ?_
    rw [bigSep_univ_equiv (across (link (order n j))) fun c => O (arr (order n j)) c (block (order n j) (hop (link (order n j)) c))]
    exact bigSep_congr fun c _ => by show O _ _ (block _ (hop _ (hop _ c))) = _; rw [hop_hop]; rfl
  have hS (c : Dev 8) : (bigSep Finset.univ fun a => bigSep Finset.univ fun k => S a k c)
      = iprop((bigSep Finset.univ fun l => S l 4 c) ∗ bigSep Finset.univ fun j => ready S (order n j) c) := by
    rw [bigSep_congr fun a _ => five fun k => S a k c, bigSep_sep', bigSep_order]
    simp only [Equiv.apply_symm_apply]
    rw [show (bigSep Finset.univ fun i : Fin 3 => bigSep Finset.univ fun a : Fin n => ready S (.inr (i, a)) c) = (iprop(emp) : sProp R) from by
      show (bigSep Finset.univ fun i : Fin 3 => bigSep Finset.univ fun a : Fin n => (BI.emp : sProp R)) = BI.emp
      rw [bigSep_congr fun _ _ => BI.bigSep_emp_const _, BI.bigSep_emp_const]]
    exact congrArg _ (BI.equiv_iff.mp BI.sep_emp).symm
  refine BI.Entails.trans (bigSep_mono fun c _ => hB c) ?_
  simp only [hS, pieces O, bigSep_sep', kept, sent]
  rw [hO]
  exact Around.regroup _ _ _ _

/-- What the waits gave back, but for what was passed on, put together. -/
theorem collect (c : Dev 8) :
    iprop((bigSep Finset.univ fun j => pay S O' (.inl j) c)
        ∗ (bigSep Finset.univ fun i : Fin (n * 4) => pay S O' (.inr (.inl ((order n).symm (late (finProdFinEquiv.symm i))))) c)
        ∗ bigSep Finset.univ fun l : Fin n => pay S O' (.inr (.inr l)) c)
      ⊢ iprop((bigSep Finset.univ fun a => bigSep Finset.univ fun k => S a k c) ∗ bigSep Finset.univ fun a => bigSep Finset.univ fun p => O' a c p) := by
  have h1 : (bigSep Finset.univ fun j => pay S O' (.inl j) c) = iprop((bigSep Finset.univ fun a : Fin n => bigSep Finset.univ fun k : Fin 4 => S a k.castSucc c)
      ∗ bigSep Finset.univ fun i : Fin 3 => bigSep Finset.univ fun a : Fin n => O' a c (hop i.succ c)) := by
    rw [bigSep_order]
    simp only [pay, Equiv.apply_symm_apply]
    rfl
  have h2 : (bigSep Finset.univ fun i : Fin 3 => bigSep Finset.univ fun a : Fin n => O' a c (hop i.succ c))
      = bigSep Finset.univ fun i : Fin (3 * n) => pay S O' (.inr (.inl ((order n).symm (early (finProdFinEquiv.symm i))))) c := by
    simp only [pay, Equiv.apply_symm_apply]
    rw [← bigSep_univ_equiv finProdFinEquiv.symm fun x : Fin 3 × Fin n => O' (arr (early x)) c (block (early x) (hop (link (early x)) c)), bigSep_univ_prod]; rfl
  have h3 : (bigSep Finset.univ fun l : Fin n => pay S O' (.inr (.inr l)) c) = iprop((bigSep Finset.univ fun l => O' l c c) ∗ bigSep Finset.univ fun l => S l 4 c) :=
    bigSep_sep' Finset.univ (fun l => O' l c c) fun l => S l 4 c
  have h4 : (bigSep Finset.univ fun a => bigSep Finset.univ fun k => S a k c)
      = iprop((bigSep Finset.univ fun l => S l 4 c) ∗ bigSep Finset.univ fun a : Fin n => bigSep Finset.univ fun k : Fin 4 => S a k.castSucc c) := by
    rw [bigSep_congr fun a _ => five fun k => S a k c, bigSep_sep']
  have h5 := bigSep_receives fun j : Fin (n * 4 + 3 * n) => pay S O' (.inr (.inl j)) c
  rw [h1, h2, h3, h4, pieces O' c, show (bigSep Finset.univ fun j => O' (arr (order n j)) c (block (order n j) (hop (link (order n j)) c)))
    = bigSep Finset.univ fun j => pay S O' (.inr (.inl j)) c from rfl, h5]
  iintro ⟨⟨H1, H2⟩, H3, H4, H5⟩
  isplitl [H1 H5]
  · isplitl [H5] <;> iassumption
  isplitl [H4]; · iexact H4
  isplitl [H2] <;> iassumption

end Cert.Relay
-- ==== Proof.RelaySteps.lean ====
/-
  The steps of an all-gather kernel: what a device holds on the way, and a rule for each of the kernel's operations. While
  it waits for the blocks that it passes on, a device still owes the copies that pass them on.
-/
module

public import proofs.«01_k».proof.Proof.Relay
public import proofs.«01_k».proof.Proof.Steps

@[expose] public section

set_option Elab.async false

noncomputable section

namespace Cert.Relay

open Idealize.ShloMosaic hiding piece
open Idealize.ShloMosaic.TcCoe Idealize.ShloMosaic.Rounds
open Idealize.SL Idealize.SL.RA
open Idealize.SL.BI
open scoped Idealize.SL.BI
open Idealize.SL.BI.BIBase Idealize.SL.BI.Laws Idealize.SL.Sem Idealize.SL.ProofMode
open Cert.Copies Cert.Slabs
open Cert.Steps (toS toR toL Later open_ started slab_at)

/-! ## Five shares of an array -/

section Shares

variable {nD : ℕ} {τ : Topo} {sig : RefSig} {Val : EltTy → Type} {U : Type} [URA U]

local notation "𝕄" => MT nD τ sig Unit Val ℕ U ℕ

def part : Fin 5 → PosShare TreeShare
  | 0 => fullShare.left
  | 1 => fullShare.right.left
  | 2 => fullShare.right.right.left
  | 3 => fullShare.right.right.right.left
  | 4 => fullShare.right.right.right.right

theorem parts {ℓ : Loc nD τ sig} (I : Finset (Idx ℓ)) (f : Buf Val ℓ) :
    (ℓ ↦[I]{fullShare} f : sProp 𝕄) = bigSep Finset.univ fun k : Fin 5 => ℓ ↦[I]{part k} f := by
  have h (q : PosShare TreeShare) : (ℓ ↦[I]{q} f : sProp 𝕄) = iprop((ℓ ↦[I]{q.left} f) ∗ ℓ ↦[I]{q.right} f) :=
    BI.Entails.antisymm (pointsTo_share (PosShare.mem_left_op_right q)).1 (pointsTo_share (PosShare.mem_left_op_right q)).2
  refine Eq.trans ?_ (bigSep_univ_eq_bigSepL [0, 1, 2, 3, 4] (by decide) (by decide) fun k : Fin 5 => (ℓ ↦[I]{part k} f : sProp 𝕄)).symm
  rw [h fullShare, h fullShare.right, h fullShare.right.right, h fullShare.right.right.right]
  rfl

end Shares

/-- A rule for an operation, with what it leaves alone. -/
theorem framed {R : Type} [URA R] {Y I X B Z W W' : sProp R} (hstep : I ⊢ iprop((B -∗ W) -∗ W')) (hin : Y ⊢ iprop(I ∗ X)) (hout : iprop(X ∗ B) ⊢ Z) (h : Z ⊢ W) :
    Y ⊢ W' := by
  refine hin.trans ?_
  show iprop(I ∗ X) ⊢ W'
  iintro ⟨HI, HX⟩
  iapply hstep $$ [HI]; · iexact HI
  iintro HB
  iapply h
  iapply hout
  isplitl [HX] <;> iassumption

variable {τ : Topo} {sig : RefSig} {Val : EltTy → Type} {n : ℕ}

local notation "𝕄" => MT 8 τ sig Unit Val ℕ (UU 8 τ sig) ℕ

variable (P : Plan 8 sig (n * 4 + 3 * n) n)
  (S : Fin n → Fin 5 → Dev 8 → sProp (MT 8 τ sig Unit Val ℕ (UU 8 τ sig) ℕ))
  (O O' : Fin n → Dev 8 → Dev 8 → sProp (MT 8 τ sig Unit Val ℕ (UU 8 τ sig) ℕ))

/-- The receives before something is passed on, in their order, and those after. -/
abbrev before : Fin (3 * n) → Which (n * 4 + 3 * n) n := fun i => .inr (.inl ((order n).symm (early (finProdFinEquiv.symm i))))
abbrev after : Fin (n * 4) → Which (n * 4 + 3 * n) n := fun i => .inr (.inl ((order n).symm (late (finProdFinEquiv.symm i))))

/-- What the early receives give is taken out when they have been waited for. -/
abbrev none_ : Which (n * 4 + 3 * n) n → Dev 8 → sProp (MT 8 τ sig Unit Val ℕ (UU 8 τ sig) ℕ) := fun _ _ => iprop(emp)

variable (K : Dev 8 × Which (n * 4 + 3 * n) n → ℕ) (c : Dev 8)

/-- After `l` own copies, `s` copies to other devices and `r` waits for what is passed on. -/
def St (l s r : ℕ) : sProp 𝕄 :=
  iprop((records P (pay S O') ER K ∗ levAts levelled (level P (n * 4))) ∗ Locals P ER (kept S O) c l ∗ Sends P ER (sent S O) c s
    ∗ Waits P none_ ER before c r ∗ Waits P (pay S O') ER after c 0 ∗ Later P c)

/-- After all copies have started: `r` of the other receives, `t` of the sends and `u` of the own copies have been waited for. -/
def Fn (r t u : ℕ) : sProp 𝕄 :=
  iprop(records P (pay S O') ER K ∗ Free c ∗ Waits P none_ ER before c (3 * n) ∗ Waits P (pay S O') ER after c r
    ∗ Waits P (pay S O') ER toS c t ∗ Waits P (pay S O') ER toL c u)

instance storable_pay [hS : ∀ a k c, Storable (upEmb (nD := 8) (τ := τ) (sig := sig) (Ix := Unit) (Val := Val) (Name := ℕ) (U := UU 8 τ sig) (Lvl := ℕ)) (S a k c)]
    [hO : ∀ a c p, Storable (upEmb (nD := 8) (τ := τ) (sig := sig) (Ix := Unit) (Val := Val) (Name := ℕ) (U := UU 8 τ sig) (Lvl := ℕ)) (O' a c p)]
    (w : Which (n * 4 + 3 * n) n) (c : Dev 8) :
    Storable (upEmb (nD := 8) (τ := τ) (sig := sig) (Ix := Unit) (Val := Val) (Name := ℕ) (U := UU 8 τ sig) (Lvl := ℕ)) (pay S O' w c) := by
  rcases w with j | j | l
  · show Storable _ (source S O' (order n j) c)
    cases order n j with
    | inl x => exact hS _ _ _
    | inr x => exact hO _ _ _
  · exact hO _ _ _
  · have := hS l 4 c; have := hO l c c
    show Storable _ iprop(O' l c c ∗ S l 4 c); infer_instance

variable [∀ a k c, Storable (upEmb (nD := 8) (τ := τ) (sig := sig) (Ix := Unit) (Val := Val) (Name := ℕ) (U := UU 8 τ sig) (Lvl := ℕ)) (S a k c)]
  [∀ a c p, Storable (upEmb (nD := 8) (τ := τ) (sig := sig) (Ix := Unit) (Val := Val) (Name := ℕ) (U := UU 8 τ sig) (Lvl := ℕ)) (O' a c p)]

theorem begins : iprop((Start P (pay S O') ER (sent S O) (kept S O) c ∗ levAts levelled (level P (n * 4))) ∗ ∃ W, owes (c.tc : Thread 8 τ) (dues P 0 c) W)
    ⊢ (iprop(∃ K : Dev 8 × Which (n * 4 + 3 * n) n → ℕ, St P S O O' K c 0 0 0) : sProp 𝕄) := by
  have hw : (Waits P (pay S O') ER toR c 0 : sProp 𝕄) ⊢ iprop(Waits P none_ ER before c 0 ∗ Waits P (pay S O') ER after c 0) := by
    rw [waits_zero, waits_zero, waits_zero, bigSep_receives fun i => (cred (tallyAt (cell P (c, toR i)) () (P.amt (toR i))) : sProp 𝕄),
      bigSep_receives fun i => (atPos ER (cell P (c, toR i)) 0 ∅ 0 : sProp 𝕄)]
    exact Around.regroup _ _ _ _
  iintro ⟨⟨HS, HV⟩, HO⟩
  ihave H := (open_ P (pay S O') (sent S O) (kept S O) c) $$ [HS HO]
  · isplitl [HS] <;> iassumption
  icases H with ⟨%K, HR, HL, HT, HW, HA⟩
  ihave HW := hw $$ HW
  icases HW with ⟨H1, H2⟩
  iexists K
  unfold St
  isplitl [HR HV]
  · isplitl [HR] <;> iassumption
  isplitl [HL]; · iexact HL
  isplitl [HT]; · iexact HT
  isplitl [H1]; · iexact H1
  isplitl [H2] <;> iassumption

theorem turns : (St P S O O' K c n (n * 4 + 3 * n) (3 * n) : sProp 𝕄) ⊢ Fn P S O' K c 0 0 0 := by
  unfold St Fn
  iintro ⟨⟨HR, -⟩, HL, HS, HB, HW, HA⟩
  ihave H := (started P (pay S O') (sent S O) (kept S O) c) $$ [HS HL HA]
  · isplitl [HS]; · iexact HS
    isplitl [HL] <;> iassumption
  icases H with ⟨HF, HT, HU⟩
  isplitl [HR]; · iexact HR
  isplitl [HF]; · iexact HF
  isplitl [HB]; · iexact HB
  isplitl [HW]; · iexact HW
  isplitl [HT] <;> iassumption

/-- What a device gives back at the end. -/
def Back : sProp 𝕄 := iprop((bigSep Finset.univ fun j => pay S O' (.inl j) c)
  ∗ (bigSep Finset.univ fun i : Fin (n * 4) => pay S O' (.inr (.inl ((order n).symm (late (finProdFinEquiv.symm i))))) c)
  ∗ bigSep Finset.univ fun l : Fin n => pay S O' (.inr (.inr l)) c)

theorem ends : (Fn P S O' K c (n * 4) (n * 4 + 3 * n) n : sProp 𝕄) ⊢ iprop((Back S O' c ∗ Pipeline.ownSems0 P.osem c) ∗ Free c) := by
  have hz : iprop((bigSep Finset.univ fun i : Fin (3 * n) => semVal (cell P (c, before i)) 0) ∗ (bigSep Finset.univ fun i : Fin (n * 4) => semVal (cell P (c, after i)) 0))
      ⊢ (bigSep Finset.univ fun j => semVal (cell P (c, .inr (.inl j))) 0 : sProp 𝕄) :=
    Entails.of_eq (bigSep_receives fun j => (semVal (cell P (c, .inr (.inl j))) 0 : sProp 𝕄)).symm
  unfold Fn Back
  rw [waits_last, waits_last, waits_last, waits_last]
  iintro ⟨-, HF, ⟨Z0, -⟩, ⟨Z1, B1⟩, ⟨Z2, B2⟩, Z3, B3⟩
  isplitr [HF]
  · isplitl [B1 B2 B3]
    · isplitl [B2]; · iexact B2
      isplitl [B1] <;> iassumption
    iapply (sems_zero P c)
    isplitl [Z2]; · iexact Z2
    isplitr [Z3]
    · iapply hz; isplitl [Z0] <;> iassumption
    iexact Z3
  iexact HF

/-! ## The operations on one array -/

variable {sp sp' : Space} {e : EltTy} {A B : ℕ} (hq : (Sh1 A B).Squeezes (Sh0 A B))

/-- The array of a semaphore. -/
def arrOf : Which (n * 4 + 3 * n) n → Fin n
  | .inl j => arr (order n j)
  | .inr (.inl j) => arr (order n j)
  | .inr (.inr l) => l

/-- An array is gathered: `i` is a device's part, `o` the result, `fi` and `fo` what they hold. -/
structure Array (a : Fin n) (i : Memref sig .tc sp (Sh0 A B) e) (o : Memref sig .tc sp' (Sh8 A B) e) where
  fi : (c : Dev 8) → Buf Val (i.view.loc (c.tc : Thread 8 τ))
  fo : (c : Dev 8) → Buf Val (o.view.loc (c.tc : Thread 8 τ))
  source : ∀ k c, S a k c = (i.view.loc (c.tc : Thread 8 τ) ↦[i.view.set]{part k} fi c)
  before : ∀ c p, O a c p = iprop(∃ fd, piece hq o fullShare c fd p)
  after : ∀ c p, O' a c p = piece hq o fullShare c (fo c) p
  reads : ∀ (c d : Dev 8) x, (slab hq o (at_ c) (at_inb c)).view.read Val (fo d) x = i.view.read Val (fi c) x
  peer : ∀ j c, P.peer j c = hop (link (order n j)) c
  amt : ∀ w, arrOf w = a → (slab hq o (at_ 0) (at_inb 0)).view.dmaCredit = P.amt w
  same : i.view.dmaCredit = (slab hq o (at_ 0) (at_inb 0)).view.dmaCredit

variable {P S O O' hq}
variable {a : Fin n} {i : Memref sig .tc sp (Sh0 A B) e} {o : Memref sig .tc sp' (Sh8 A B) e} (D : Array P S O O' hq a i o)

include D in
/-- The block of device `b`, copied into the result of device `d`, is the piece of number `b` there. -/
theorem Array.lands (b d : Dev 8) (fd : Buf Val (o.view.loc (d.tc : Thread 8 τ))) (v : (Sh0 A B).Idx → Val e)
    (hv : ∀ x, v x = i.view.read Val (D.fi b) x) :
    ((slab hq o (at_ b) (at_inb b)).view.loc (d.tc : Thread 8 τ) ↦[(slab hq o (at_ b) (at_inb b)).view.set]{fullShare}
        ((slab hq o (at_ b) (at_inb b)).view.write Val fd v Finset.univ)) ⊢ (O' a d b : sProp 𝕄) := by
  rw [D.after, show v = i.view.read Val (D.fi b) from funext hv]; unfold piece
  exact Entails.of_eq (pointsTo_congr (landed _ _ _ _ _ (D.reads b d)))

include D in
theorem Array.shares (hi : i.view.set = Finset.univ) (c : Dev 8) :
    ((i.view.loc (c.tc : Thread 8 τ)) ↦{fullShare} D.fi c : sProp 𝕄) = bigSep Finset.univ fun k => S a k c := by
  rw [← hi, parts]
  exact bigSep_congr fun k _ => (D.source k c).symm

include D in
theorem Array.spread (ho : o.view.set = Finset.univ) (c : Dev 8) (g : Buf Val (o.view.loc (c.tc : Thread 8 τ))) :
    ((o.view.loc (c.tc : Thread 8 τ)) ↦{fullShare} g : sProp 𝕄) ⊢ bigSep Finset.univ fun p => O a c p := by
  rw [← ho, split hq o fullShare c g]
  exact bigSep_mono fun p _ => by
    rw [D.before]
    show piece hq o fullShare c g p ⊢ iprop(∃ fd, piece hq o fullShare c fd p)
    iintro H; iexists g; iexact H

include D in
theorem Array.whole (ho : o.view.set = Finset.univ) (c : Dev 8) :
    ((o.view.loc (c.tc : Thread 8 τ)) ↦{fullShare} D.fo c : sProp 𝕄) = bigSep Finset.univ fun p => O' a c p := by
  rw [← ho, split hq o fullShare c (D.fo c)]
  exact bigSep_congr fun p _ => (D.after c p).symm

variable {Λ : Labels} (defs : Defs 8 τ sig Val Λ) (𝒱 : Variants) (bd : Option 𝒱.V)
variable {α : Type} {Q : α → sProp (MT 8 τ sig Unit Val ℕ (UU 8 τ sig) ℕ)} {k : PUnit → Prog (TpuEff 8 τ sig Val Λ .tc) α}

include D in
/-- The own copy of an array starts. -/
theorem Array.own {s r : ℕ} (sm : DmaSem sig) (hs : sm = P.sem (.inr (.inr a))) {oD : Fin 3 → ℕ} {iD} (hD : oD = at_ c) {h2 h3 h4}
    (h : (St P S O O' K c (a.val + 1) s r : sProp 𝕄) ⊢ wp frame (wpE defs 𝒱 (c.tc : Thread 8 τ) bd) Set.univ (k ⟨⟩) Q) :
    (St P S O O' K c a.val s r : sProp 𝕄) ⊢ wp frame (wpE defs 𝒱 (c.tc : Thread 8 τ) bd) Set.univ
      (.op (.enqueueDma i (.here (slab hq o oD iD)) (.dma sm) h2 h3 h4) k) Q := by
  subst hs hD
  refine framed (X := iprop((records P (pay S O') ER K ∗ levAts levelled (level P (n * 4))) ∗ Sends P ER (sent S O) c s
      ∗ Waits P none_ ER Relay.before c r ∗ Waits P (pay S O') ER Relay.after c 0 ∗ Later P c))
    (local_step P (pay S O') ER (kept S O) defs 𝒱 bd K c a.val a.isLt (part 4) (D.fi c) rfl (D.amt (.inr (.inr a)) rfl) ?_ fun fd => ?_) ?_ ?_ h
  · show iprop(S a 4 c ∗ O a c c) ⊢ _
    rw [D.source, D.before]; exact BI.Entails.refl _
  · show _ ⊢ iprop(O' a c c ∗ S a 4 c)
    rw [D.source]
    iintro ⟨H1, H2⟩
    isplitl [H1]; · iapply (D.lands c c fd _ fun _ => rfl); iexact H1
    iexact H2
  · unfold St
    iintro ⟨⟨#HR, HV⟩, HL, H⟩
    isplitl [HL]
    · isplitr; · iexact HR
      iexact HL
    isplitr [H]
    · isplitr; · iexact HR
      iexact HV
    iexact H
  · unfold St
    iintro ⟨⟨H1, H2⟩, H3⟩
    isplitl [H1]; · iexact H1
    isplitl [H3] <;> iassumption

include D in
/-- A device's part of an array is sent over a link. -/
theorem Array.send {l r : ℕ} (j : Fin (n * 4 + 3 * n)) (x : Fin 4) (hj : order n j = .inl (a, x)) (sS sR : DmaSem sig)
    (hsS : sS = P.sem (.inl j)) (hsR : sR = P.sem (.inr (.inl j))) {d : Dev 8} (hd : d = hop x c) {oD : Fin 3 → ℕ} {iD} (hD : oD = at_ c) {h1 h2 h3 h4}
    (h : (St P S O O' K c l (j.val + 1) r : sProp 𝕄) ⊢ wp frame (wpE defs 𝒱 (c.tc : Thread 8 τ) bd) Set.univ (k ⟨⟩) Q) :
    (St P S O O' K c l j.val r : sProp 𝕄) ⊢ wp frame (wpE defs 𝒱 (c.tc : Thread 8 τ) bd) Set.univ
      (.op (.enqueueDma i (.remote (Dev.tc d) (slab hq o oD iD) (.dma sS) h1) (.dma sR) h2 h3 h4) k) Q := by
  have hP : P.peer j c = hop x c := by rw [D.peer, hj]; rfl
  subst hsS hsR hD hd
  refine framed (X := iprop((records P (pay S O') ER K ∗ levAts levelled (level P (n * 4))) ∗ Locals P ER (kept S O) c l
      ∗ Waits P none_ ER Relay.before c r ∗ Waits P (pay S O') ER Relay.after c 0 ∗ Later P c))
    (send_step P (pay S O') ER (sent S O) defs 𝒱 bd K c j.val j.isLt hP.symm (part x.castSucc) (D.fi c) rfl rfl
      (D.amt (.inr (.inl j)) (congrArg arr hj)) ?_ ?_ fun fd => ?_) ?_ ?_ h
  · show iprop(ready S (order n j) c ∗ O (arr (order n j)) (hop (link (order n j)) c) (block (order n j) c)) ⊢ _
    rw [hj]
    show iprop(S a x.castSucc c ∗ O a (hop x c) c) ⊢ _
    rw [D.source, D.before]; exact BI.Entails.refl _
  · show _ ⊢ Relay.source S O' (order n j) c
    rw [hj]
    show _ ⊢ S a x.castSucc c
    rw [D.source]
  · show _ ⊢ O' (arr (order n j)) (hop x c) (block (order n j) (hop (link (order n j)) (hop x c)))
    rw [hj]
    show _ ⊢ O' a (hop x c) (hop x (hop x c))
    rw [hop_hop]
    exact D.lands c (hop x c) fd _ fun _ => rfl
  · unfold St
    iintro ⟨⟨#HR, HV⟩, HL, HS, H⟩
    isplitl [HS]
    · isplitr; · iexact HR
      iexact HS
    isplitl [HV]
    · isplitr; · iexact HR
      iexact HV
    isplitl [HL] <;> iassumption
  · unfold St
    iintro ⟨⟨H1, H2, H3⟩, H4⟩
    isplitl [H1]; · iexact H1
    isplitl [H2]; · iexact H2
    isplitl [H4] <;> iassumption

include D in
/-- A block that is to be passed on is waited for. -/
theorem Array.fetch {l s : ℕ} (j : Fin (3 * n)) (x : Fin 3) (hj : finProdFinEquiv.symm j = (x, a)) (hs4 : n * 4 ≤ s) (sm : DmaSem sig)
    (hs : sm = P.sem (Relay.before j)) {src : Memref sig .tc sp' (Sh0 A B) e} {oD : Fin 3 → ℕ} {iD} {h1 h2}
    (h : (iprop(St P S O O' K c l s (j.val + 1) ∗ O' a c (hop x.succ c)) : sProp 𝕄) ⊢ wp frame (wpE defs 𝒱 (c.tc : Thread 8 τ) bd) Set.univ (k ⟨⟩) Q) :
    (St P S O O' K c l s j.val : sProp 𝕄) ⊢ wp frame (wpE defs 𝒱 (c.tc : Thread 8 τ) bd) Set.univ
      (.op (.waitDma2 sm src (slab hq o oD iD) h1 h2) k) Q := by
  have hw : arrOf (Relay.before j) = a := by
    show arr (order n ((order n).symm (early (finProdFinEquiv.symm j)))) = a
    rw [Equiv.apply_symm_apply, hj]; rfl
  have hpay : (pay S O' (Relay.before j) c : sProp 𝕄) = O' a c (hop x.succ c) := by
    show O' (arr (order n ((order n).symm (early (finProdFinEquiv.symm j))))) c
      (block (order n ((order n).symm (early (finProdFinEquiv.symm j)))) (hop (link (order n ((order n).symm (early (finProdFinEquiv.symm j))))) c)) = _
    rw [Equiv.apply_symm_apply, hj]; rfl
  refine framed (X := iprop((records P (pay S O') ER K ∗ levAts levelled (level P (n * 4))) ∗ Locals P ER (kept S O) c l
      ∗ ((bigSep (onward (n * 4 + 3 * n) s) fun j => iprop(duty P ER (c, .inl j) ∗ duty P ER (P.peer j c, .inr (.inl j)) ∗ sent S O j c))
        ∗ bigSep (upto (n * 4 + 3 * n) s) fun j => cred (tallyAt (cell P (c, .inl j)) () (P.amt (.inl j))))
      ∗ ((bigSep (onward (3 * n) (j.val + 1)) fun i => iprop(cred (tallyAt (cell P (c, Relay.before i)) () (P.amt (Relay.before i))) ∗ atPos ER (cell P (c, Relay.before i)) 0 ∅ 0))
        ∗ bigSep (upto (3 * n) j.val) fun i => iprop(semVal (cell P (c, Relay.before i)) 0 ∗ none_ (Relay.before i) c))
      ∗ Waits P (pay S O') ER Relay.after c 0 ∗ Later P c))
    (await_step P (pay S O') ER defs 𝒱 bd K (Relay.before j) c (dues P s c) hs (D.amt _ hw)) ?_ ?_ h
  · have hm : (levAts levelled (level P (n * 4)) : sProp 𝕄) ⊢ MayWait (c.tc : Thread 8 τ) (P.osem (Relay.before j)) () (dues P s c) :=
      may_wait P (n * 4) c _ (order_early_lt j) s hs4
    unfold St Sends Copies.Waits
    rw [bigSep_onward _ j.val j.isLt]
    iintro ⟨⟨#HR, #HV⟩, HL, ⟨HO, HS⟩, ⟨⟨⟨Hc, Ha⟩, HB⟩, HB'⟩, H⟩
    isplitl [HO Hc Ha]
    · isplitr; · iexact HR
      isplitl [HO]; · iexact HO
      isplitr; · iapply hm; iexact HV
      isplitl [Hc] <;> iassumption
    isplitr
    · isplitr; · iexact HR
      iexact HV
    isplitl [HL]; · iexact HL
    isplitl [HS]; · iexact HS
    isplitr [H]
    · isplitl [HB] <;> iassumption
    iexact H
  · rw [hpay]
    unfold St Sends Copies.Waits
    rw [bigSep_upto _ j.val j.isLt]
    iintro ⟨⟨HR, HL, HS, ⟨HB, HB'⟩, H⟩, HO, Hz, HX⟩
    isplitr [HX]
    · isplitl [HR]; · iexact HR
      isplitl [HL]; · iexact HL
      isplitl [HO HS]
      · isplitl [HO] <;> iassumption
      isplitr [H]
      · isplitl [HB]; · iexact HB
        isplitl [Hz]
        · isplitl [Hz]; · iexact Hz
          iempintro
        iexact HB'
      iexact H
    iexact HX

include D in
/-- A block is passed on. -/
theorem Array.pass {l r : ℕ} (j : Fin (n * 4 + 3 * n)) (x : Fin 3) (hj : order n j = .inr (x, a)) (sS sR : DmaSem sig)
    (hsS : sS = P.sem (.inl j)) (hsR : sR = P.sem (.inr (.inl j))) {d : Dev 8} (hd : d = hop 0 c) {oS oD : Fin 3 → ℕ} {iS iD}
    (hS : oS = at_ (hop x.succ c)) (hD : oD = at_ (hop x.succ c)) {h1 h2 h3 h4}
    (h : (St P S O O' K c l (j.val + 1) r : sProp 𝕄) ⊢ wp frame (wpE defs 𝒱 (c.tc : Thread 8 τ) bd) Set.univ (k ⟨⟩) Q) :
    (iprop(St P S O O' K c l j.val r ∗ O' a c (hop x.succ c)) : sProp 𝕄) ⊢ wp frame (wpE defs 𝒱 (c.tc : Thread 8 τ) bd) Set.univ
      (.op (.enqueueDma (slab hq o oS iS) (.remote (Dev.tc d) (slab hq o oD iD) (.dma sS) h1) (.dma sR) h2 h3 h4) k) Q := by
  have hP : P.peer j c = hop 0 c := by rw [D.peer, hj]; rfl
  subst hsS hsR hD hS hd
  refine framed (X := iprop((records P (pay S O') ER K ∗ levAts levelled (level P (n * 4))) ∗ Locals P ER (kept S O) c l
      ∗ Waits P none_ ER Relay.before c r ∗ Waits P (pay S O') ER Relay.after c 0 ∗ Later P c))
    (pass_step P (pay S O') ER (sent S O) defs 𝒱 bd K (O' a c (hop x.succ c)) c j.val j.isLt hP.symm fullShare (D.fo c) rfl rfl
      (D.amt (.inr (.inl j)) (congrArg arr hj)) ?_ ?_ fun fd => ?_) ?_ ?_ h
  · show iprop((ready S (order n j) c ∗ O (arr (order n j)) (hop (link (order n j)) c) (block (order n j) c)) ∗ O' a c (hop x.succ c)) ⊢ _
    rw [hj]
    show iprop((emp ∗ O a (hop 0 c) (hop x.succ c)) ∗ O' a c (hop x.succ c)) ⊢ _
    rw [D.after, D.before]
    unfold piece
    iintro ⟨⟨-, H1⟩, H2⟩
    isplitl [H2] <;> iassumption
  · show _ ⊢ Relay.source S O' (order n j) c
    rw [hj]
    show _ ⊢ O' a c (hop x.succ c)
    rw [D.after]; exact BI.Entails.refl _
  · show _ ⊢ O' (arr (order n j)) (hop 0 c) (block (order n j) (hop (link (order n j)) (hop 0 c)))
    rw [hj]
    show _ ⊢ O' a (hop 0 c) (hop x.succ (hop 0 (hop 0 c)))
    rw [hop_hop]
    exact D.lands (hop x.succ c) (hop 0 c) fd _ (D.reads (hop x.succ c) c)
  · unfold St
    iintro ⟨⟨⟨#HR, HV⟩, HL, HS, H⟩, HX⟩
    isplitl [HS HX]
    · isplitr; · iexact HR
      isplitl [HS] <;> iassumption
    isplitl [HV]
    · isplitr; · iexact HR
      iexact HV
    isplitl [HL] <;> iassumption
  · unfold St
    iintro ⟨⟨H1, H2, H3⟩, H4⟩
    isplitl [H1]; · iexact H1
    isplitl [H2]; · iexact H2
    isplitl [H4] <;> iassumption

/-! ## The waits at the end -/

section Waiting

variable {s' : Shape} {e' : EltTy} {src : Memref sig .tc sp s' e'} {dst : Memref sig .tc sp' s' e'} {h1 : src.view.WordExact} {h2 : dst.view.WordExact}

theorem wait_recv {t u : ℕ} (j : Fin (n * 4)) (sm : DmaSem sig) (hs : sm = P.sem (after j)) (hN : dst.view.dmaCredit = P.amt (after j))
    (h : (Fn P S O' K c (j.val + 1) t u : sProp 𝕄) ⊢ wp frame (wpE defs 𝒱 (c.tc : Thread 8 τ) bd) Set.univ (k ⟨⟩) Q) :
    (Fn P S O' K c j.val t u : sProp 𝕄) ⊢ wp frame (wpE defs 𝒱 (c.tc : Thread 8 τ) bd) Set.univ (.op (.waitDma2 sm src dst h1 h2) k) Q := by
  refine framed (X := iprop(records P (pay S O') ER K ∗ Waits P none_ ER before c (3 * n) ∗ Waits P (pay S O') ER toS c t ∗ Waits P (pay S O') ER toL c u))
    (wait_step P (pay S O') ER defs 𝒱 bd K after c j.val j.isLt hs hN) ?_ ?_ h
  · unfold Fn
    iintro ⟨#HR, HF, HB, HW, H⟩
    isplitl [HF HW]
    · isplitr; · iexact HR
      isplitl [HF] <;> iassumption
    isplitr; · iexact HR
    isplitl [HB] <;> iassumption
  · unfold Fn
    iintro ⟨⟨HR, HB, H⟩, HF, HW⟩
    isplitl [HR]; · iexact HR
    isplitl [HF]; · iexact HF
    isplitl [HB]; · iexact HB
    isplitl [HW] <;> iassumption

theorem wait_send {r u : ℕ} (j : Fin (n * 4 + 3 * n)) (sm : DmaSem sig) (hs : sm = P.sem (.inl j)) (hN : dst.view.dmaCredit = P.amt (.inl j))
    (h : (Fn P S O' K c r (j.val + 1) u : sProp 𝕄) ⊢ wp frame (wpE defs 𝒱 (c.tc : Thread 8 τ) bd) Set.univ (k ⟨⟩) Q) :
    (Fn P S O' K c r j.val u : sProp 𝕄) ⊢ wp frame (wpE defs 𝒱 (c.tc : Thread 8 τ) bd) Set.univ (.op (.waitDma2 sm src dst h1 h2) k) Q := by
  refine framed (X := iprop(records P (pay S O') ER K ∗ Waits P none_ ER before c (3 * n) ∗ Waits P (pay S O') ER after c r ∗ Waits P (pay S O') ER toL c u))
    (wait_step P (pay S O') ER defs 𝒱 bd K toS c j.val j.isLt hs hN) ?_ ?_ h
  · unfold Fn
    iintro ⟨#HR, HF, HB, HW, HT, H⟩
    isplitl [HF HT]
    · isplitr; · iexact HR
      isplitl [HF] <;> iassumption
    isplitr; · iexact HR
    isplitl [HB]; · iexact HB
    isplitl [HW] <;> iassumption
  · unfold Fn
    iintro ⟨⟨HR, HB, HW, H⟩, HF, HT⟩
    isplitl [HR]; · iexact HR
    isplitl [HF]; · iexact HF
    isplitl [HB]; · iexact HB
    isplitl [HW]; · iexact HW
    isplitl [HT] <;> iassumption

theorem wait_own {r t : ℕ} (j : Fin n) (sm : DmaSem sig) (hs : sm = P.sem (.inr (.inr j))) (hN : dst.view.dmaCredit = P.amt (.inr (.inr j)))
    (h : (Fn P S O' K c r t (j.val + 1) : sProp 𝕄) ⊢ wp frame (wpE defs 𝒱 (c.tc : Thread 8 τ) bd) Set.univ (k ⟨⟩) Q) :
    (Fn P S O' K c r t j.val : sProp 𝕄) ⊢ wp frame (wpE defs 𝒱 (c.tc : Thread 8 τ) bd) Set.univ (.op (.waitDma2 sm src dst h1 h2) k) Q := by
  refine framed (X := iprop(records P (pay S O') ER K ∗ Waits P none_ ER before c (3 * n) ∗ Waits P (pay S O') ER after c r ∗ Waits P (pay S O') ER toS c t))
    (wait_step P (pay S O') ER defs 𝒱 bd K toL c j.val j.isLt hs hN) ?_ ?_ h
  · unfold Fn
    iintro ⟨#HR, HF, HB, HW, HT, HU⟩
    isplitl [HF HU]
    · isplitr; · iexact HR
      isplitl [HF] <;> iassumption
    isplitr; · iexact HR
    isplitl [HB]; · iexact HB
    isplitl [HW] <;> iassumption
  · unfold Fn
    iintro ⟨⟨HR, HB, HW, HT⟩, HF, HU⟩
    isplitl [HR]; · iexact HR
    isplitl [HF]; · iexact HF
    isplitl [HB]; · iexact HB
    isplitl [HW]; · iexact HW
    isplitl [HT] <;> iassumption

end Waiting

end Cert.Relay
-- ==== Proof.GatherPlan.lean ====
/-
  The gather of the weights' parts: each device ends with the parts of all eight of three arrays, slab by slab. Its resources
  and its plan, over any float values.
-/
module

public import proofs.«01_k».proof.Proof.RelaySteps
public import proofs.«01_k».proof.Proof.Gen.GatherIdeal.Skeleton
public import proofs.«01_k».proof.Proof.Gen.GatherIdeal.Launch

@[expose] public section

set_option Elab.async false

noncomputable section

namespace Cert.GatherRun

open Cert.GatherIdeal Cert.GatherIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

/-! ## The arrays -/

abbrev in0 : Memref sig .tc .hbm S2048x1924 .bf16 := Memref.whole main_arg0
abbrev in1 : Memref sig .tc .hbm S256x2048 .bf16 := Memref.whole main_arg1
abbrev in2 : Memref sig .tc .hbm S4x384 .f32 := Memref.whole main_arg2
abbrev out0 : Memref sig .tc .hbm S8x2048x1924 .bf16 := Memref.whole main_v1_0
abbrev out1 : Memref sig .tc .hbm S8x256x2048 .bf16 := Memref.whole main_v1_1
abbrev out2 : Memref sig .tc .hbm S8x4x384 .f32 := Memref.whole main_v1_2

abbrev hq0 := squeezes_S1x2048x1924_S2048x1924
abbrev hq1 := squeezes_S1x256x2048_S256x2048
abbrev hq2 := squeezes_S1x4x384_S4x384

/-- What every device's results hold at the end: slab `c` is what device `c` was given. -/
def got0 (d : Dev nD) : Buf (Elt F) (out0.view.loc (d.tc : Thread nD τ)) := fun y => m (in0.view.loc ((show Dev nD from y 0).tc : Thread nD τ)) (within y)
def got1 (d : Dev nD) : Buf (Elt F) (out1.view.loc (d.tc : Thread nD τ)) := fun y => m (in1.view.loc ((show Dev nD from y 0).tc : Thread nD τ)) (within y)
def got2 (d : Dev nD) : Buf (Elt F) (out2.view.loc (d.tc : Thread nD τ)) := fun y => m (in2.view.loc ((show Dev nD from y 0).tc : Thread nD τ)) (within y)

def S : Fin 3 → Fin 5 → Dev 8 → sProp (MT nD τ sig Unit (Elt F) ℕ (UU nD τ sig) ℕ)
  | 0, k, c => in0.view.loc (c.tc : Thread nD τ) ↦[in0.view.set]{part k} m (in0.view.loc (c.tc : Thread nD τ))
  | 1, k, c => in1.view.loc (c.tc : Thread nD τ) ↦[in1.view.set]{part k} m (in1.view.loc (c.tc : Thread nD τ))
  | 2, k, c => in2.view.loc (c.tc : Thread nD τ) ↦[in2.view.set]{part k} m (in2.view.loc (c.tc : Thread nD τ))
def O : Fin 3 → Dev 8 → Dev 8 → sProp (MT nD τ sig Unit (Elt F) ℕ (UU nD τ sig) ℕ)
  | 0, c, p => iprop(∃ fd, piece hq0 out0 fullShare c fd p)
  | 1, c, p => iprop(∃ fd, piece hq1 out1 fullShare c fd p)
  | 2, c, p => iprop(∃ fd, piece hq2 out2 fullShare c fd p)
def O' : Fin 3 → Dev 8 → Dev 8 → sProp (MT nD τ sig Unit (Elt F) ℕ (UU nD τ sig) ℕ)
  | 0, c, p => piece hq0 out0 fullShare c (got0 m c) p
  | 1, c, p => piece hq1 out1 fullShare c (got1 m c) p
  | 2, c, p => piece hq2 out2 fullShare c (got2 m c) p

instance (a : Fin 3) (k : Fin 5) (c : Dev 8) :
    Storable (upEmb (nD := 8) (τ := τ) (sig := sig) (Ix := Unit) (Val := Elt F) (Name := ℕ) (U := UU 8 τ sig) (Lvl := ℕ)) (S m a k c) := by
  unfold S; fin_cases a <;> (dsimp only; infer_instance)
instance (a : Fin 3) (c p : Dev 8) :
    Storable (upEmb (nD := 8) (τ := τ) (sig := sig) (Ix := Unit) (Val := Elt F) (Name := ℕ) (U := UU 8 τ sig) (Lvl := ℕ)) (O' m a c p) := by
  unfold O'; fin_cases a <;> exact storable_piece _ _ _ _ _ _

/-! ## The plan -/

/-- Where the semaphores of a copy are among the twenty-one of their kind. -/
def place : Tag 3 → ℕ
  | .inl (a, k) => 3 * k.val + a.val
  | .inr (i, a) => 3 * (4 + i.val) + a.val

theorem place_lt : ∀ t, place t < 21 := by decide

def semOf : Which (3 * 4 + 3 * 3) 3 → DmaSem sig
  | .inl j => (⟨place (order 3 j), by have := place_lt (order 3 j); show _ < 45; omega⟩ : Fin 45)
  | .inr (.inl j) => (⟨21 + place (order 3 j), by have := place_lt (order 3 j); show _ < 45; omega⟩ : Fin 45)
  | .inr (.inr l) => (⟨42 + l.val, by have := l.isLt; show _ < 45; omega⟩ : Fin 45)

theorem semOf_inj : Function.Injective semOf := by decide +kernel

/-- What one slab's transfer credits. -/
def credit : Fin 3 → ℕ
  | 0 => (slab hq0 out0 (at_ 0) (at_inb 0)).view.dmaCredit
  | 1 => (slab hq1 out1 (at_ 0) (at_inb 0)).view.dmaCredit
  | 2 => (slab hq2 out2 (at_ 0) (at_inb 0)).view.dmaCredit

theorem credit_pos (a : Fin 3) : 0 < credit a := by
  fin_cases a <;> exact View.dmaCredit_pos _ (by decide)

def plan : Plan 8 sig (3 * 4 + 3 * 3) 3 where
  peer j c := hop (link (order 3 j)) c
  peer_peer j c := hop_hop _ _
  sem := semOf
  sem_inj := semOf_inj
  amt w := credit (arrOf w)
  amt_pos w := credit_pos _
  amt_send _ := rfl

def arr0 : Array plan (S m) O (O' m) hq0 0 in0 out0 where
  fi c := m (in0.view.loc (c.tc : Thread nD τ))
  fo := got0 m
  source _ _ := rfl
  before _ _ := rfl
  after _ _ := rfl
  reads c d x := read_block hq0 in0 out0 c (fun c : Dev nD => m (in0.view.loc (c.tc : Thread nD τ))) (got0 m d) (fun _ => rfl) x
  peer _ _ := rfl
  amt _ h := (congrArg credit h).symm
  same := by decide +kernel

def arr1 : Array plan (S m) O (O' m) hq1 1 in1 out1 where
  fi c := m (in1.view.loc (c.tc : Thread nD τ))
  fo := got1 m
  source _ _ := rfl
  before _ _ := rfl
  after _ _ := rfl
  reads c d x := read_block hq1 in1 out1 c (fun c : Dev nD => m (in1.view.loc (c.tc : Thread nD τ))) (got1 m d) (fun _ => rfl) x
  peer _ _ := rfl
  amt _ h := (congrArg credit h).symm
  same := by decide +kernel

def arr2 : Array plan (S m) O (O' m) hq2 2 in2 out2 where
  fi c := m (in2.view.loc (c.tc : Thread nD τ))
  fo := got2 m
  source _ _ := rfl
  before _ _ := rfl
  after _ _ := rfl
  reads c d x := read_block hq2 in2 out2 c (fun c : Dev nD => m (in2.view.loc (c.tc : Thread nD τ))) (got2 m d) (fun _ => rfl) x
  peer _ _ := rfl
  amt _ h := (congrArg credit h).symm
  same := by decide +kernel

/-! ## Offsets and partners -/

theorem at1 : ∀ c : Dev nD, k0_off1 c = at_ c := by decide +kernel
theorem at2 : ∀ c : Dev nD, k0_off2 c = at_ c := by decide +kernel
theorem at3 : ∀ c : Dev nD, k0_off3 c = at_ c := by decide +kernel
theorem at4 : ∀ c : Dev nD, k0_off4 c = at_ (hop 1 c) := by decide +kernel
theorem at5 : ∀ c : Dev nD, k0_off5 c = at_ (hop 1 c) := by decide +kernel
theorem at6 : ∀ c : Dev nD, k0_off6 c = at_ (hop 1 c) := by decide +kernel
theorem at7 : ∀ c : Dev nD, k0_off7 c = at_ (hop 2 c) := by decide +kernel
theorem at8 : ∀ c : Dev nD, k0_off8 c = at_ (hop 2 c) := by decide +kernel
theorem at9 : ∀ c : Dev nD, k0_off9 c = at_ (hop 2 c) := by decide +kernel
theorem at10 : ∀ c : Dev nD, k0_off10 c = at_ (hop 3 c) := by decide +kernel
theorem at11 : ∀ c : Dev nD, k0_off11 c = at_ (hop 3 c) := by decide +kernel
theorem at12 : ∀ c : Dev nD, k0_off12 c = at_ (hop 3 c) := by decide +kernel
theorem dev1 : ∀ c : Dev nD, (⟨k0_dev1 c, k0_dev1_lt c⟩ : Dev nD) = hop 0 c := by decide +kernel
theorem dev2 : ∀ c : Dev nD, (⟨k0_dev2 c, k0_dev2_lt c⟩ : Dev nD) = hop 1 c := by decide +kernel
theorem dev3 : ∀ c : Dev nD, (⟨k0_dev3 c, k0_dev3_lt c⟩ : Dev nD) = hop 2 c := by decide +kernel
theorem dev4 : ∀ c : Dev nD, (⟨k0_dev4 c, k0_dev4_lt c⟩ : Dev nD) = hop 3 c := by decide +kernel
theorem dev5 : ∀ c : Dev nD, (⟨k0_dev5 c, k0_dev5_lt c⟩ : Dev nD) = hop 0 c := by decide +kernel
theorem dev6 : ∀ c : Dev nD, (⟨k0_dev6 c, k0_dev6_lt c⟩ : Dev nD) = hop 1 c := by decide +kernel
theorem dev7 : ∀ c : Dev nD, (⟨k0_dev7 c, k0_dev7_lt c⟩ : Dev nD) = hop 2 c := by decide +kernel
theorem dev8 : ∀ c : Dev nD, (⟨k0_dev8 c, k0_dev8_lt c⟩ : Dev nD) = hop 3 c := by decide +kernel
theorem dev9 : ∀ c : Dev nD, (⟨k0_dev9 c, k0_dev9_lt c⟩ : Dev nD) = hop 0 c := by decide +kernel
theorem dev10 : ∀ c : Dev nD, (⟨k0_dev10 c, k0_dev10_lt c⟩ : Dev nD) = hop 1 c := by decide +kernel
theorem dev11 : ∀ c : Dev nD, (⟨k0_dev11 c, k0_dev11_lt c⟩ : Dev nD) = hop 2 c := by decide +kernel
theorem dev12 : ∀ c : Dev nD, (⟨k0_dev12 c, k0_dev12_lt c⟩ : Dev nD) = hop 3 c := by decide +kernel
theorem dev13 : ∀ c : Dev nD, (⟨k0_dev13 c, k0_dev13_lt c⟩ : Dev nD) = hop 0 c := by decide +kernel
theorem dev14 : ∀ c : Dev nD, (⟨k0_dev14 c, k0_dev14_lt c⟩ : Dev nD) = hop 0 c := by decide +kernel
theorem dev15 : ∀ c : Dev nD, (⟨k0_dev15 c, k0_dev15_lt c⟩ : Dev nD) = hop 0 c := by decide +kernel
theorem dev16 : ∀ c : Dev nD, (⟨k0_dev16 c, k0_dev16_lt c⟩ : Dev nD) = hop 0 c := by decide +kernel
theorem dev17 : ∀ c : Dev nD, (⟨k0_dev17 c, k0_dev17_lt c⟩ : Dev nD) = hop 0 c := by decide +kernel
theorem dev18 : ∀ c : Dev nD, (⟨k0_dev18 c, k0_dev18_lt c⟩ : Dev nD) = hop 0 c := by decide +kernel
theorem dev19 : ∀ c : Dev nD, (⟨k0_dev19 c, k0_dev19_lt c⟩ : Dev nD) = hop 0 c := by decide +kernel
theorem dev20 : ∀ c : Dev nD, (⟨k0_dev20 c, k0_dev20_lt c⟩ : Dev nD) = hop 0 c := by decide +kernel
theorem dev21 : ∀ c : Dev nD, (⟨k0_dev21 c, k0_dev21_lt c⟩ : Dev nD) = hop 0 c := by decide +kernel

end Cert.GatherRun
-- ==== Proof.GatherBody.lean ====
/-
  The body of the gather of the weights' parts on one device.
-/
module

public import proofs.«01_k».proof.Proof.GatherPlan

@[expose] public section

set_option Elab.async false

noncomputable section

namespace Cert.GatherRun

open Cert.GatherIdeal Cert.GatherIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

abbrev 𝒱₀ : Variants := Variants.nat

abbrev semS (i : Fin 2 → ℕ) (inb : ∀ a, i a + S1x1.size a ≤ S7x3.size a) : DmaSem sig :=
  ((cc0_scratch0.slice (Rect.unit (s := S7x3) i S1x1.size inb)).squeeze S_ squeezes_S1x1_S_).sem
abbrev semR (i : Fin 2 → ℕ) (inb : ∀ a, i a + S1x1.size a ≤ S7x3.size a) : DmaSem sig :=
  ((cc0_scratch1.slice (Rect.unit (s := S7x3) i S1x1.size inb)).squeeze S_ squeezes_S1x1_S_).sem
abbrev semL (i : Fin 1 → ℕ) (inb : ∀ a, i a + S1.size a ≤ S3.size a) : DmaSem sig :=
  ((cc0_scratch2.slice (Rect.unit (s := S3) i S1.size inb)).squeeze S_ squeezes_S1_S_).sem

/-- What a device ends its body with. -/
abbrev Done (c : Dev nD) : sProp (MT nD τ sig Unit (Elt F) ℕ (UU nD τ sig) ℕ) :=
  iprop((Back (S m) (O' m) c ∗ Pipeline.ownSems0 plan.osem c) ∗ Free c)

set_option maxRecDepth 65536 in
set_option maxHeartbeats 16000000 in
/-- The kernel's operations one after the other. -/
theorem steps (c : Dev nD) (K : Dev 8 × Which (3 * 4 + 3 * 3) 3 → ℕ) :
    (St plan (S m) O (O' m) K c 0 0 0 : sProp 𝕄)
      ⊢ wp frame (wpE (defs₀ (F := F)) 𝒱₀ (c.tc : Thread nD τ) none) Set.univ
          (cc0_gather_weights in0 (Memref.isWhole_whole _) in1 (Memref.isWhole_whole _) in2 (Memref.isWhole_whole _) out0 (Memref.isWhole_whole _) out1 (Memref.isWhole_whole _) out2 (Memref.isWhole_whole _) cc0_scratch0 cc0_scratch1 cc0_scratch2)
          fun _ => Done m c := by
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [Prog.lift, Prog.bind_op, Prog.bind_ret, Prog.pure_eq_ret, wp_deviceId]
  refine (arr0 m).own K c defs₀ 𝒱₀ none (semL ![0] inb_S3_S1_0) rfl (at1 c) ?_
  refine (arr1 m).own K c defs₀ 𝒱₀ none (semL ![1] inb_S3_S1_1) rfl (at2 c) ?_
  refine (arr2 m).own K c defs₀ 𝒱₀ none (semL ![2] inb_S3_S1_2) rfl (at3 c) ?_
  refine (arr0 m).send K c defs₀ 𝒱₀ none ⟨0, by decide⟩ 0 rfl (semS ![0, 0] inb_S7x3_S1x1_0_0) (semR ![0, 0] inb_S7x3_S1x1_0_0) rfl rfl (dev1 c) (at1 c) ?_
  refine (arr0 m).send K c defs₀ 𝒱₀ none ⟨1, by decide⟩ 1 rfl (semS ![1, 0] inb_S7x3_S1x1_1_0) (semR ![1, 0] inb_S7x3_S1x1_1_0) rfl rfl (dev2 c) (at1 c) ?_
  refine (arr0 m).send K c defs₀ 𝒱₀ none ⟨2, by decide⟩ 2 rfl (semS ![2, 0] inb_S7x3_S1x1_2_0) (semR ![2, 0] inb_S7x3_S1x1_2_0) rfl rfl (dev3 c) (at1 c) ?_
  refine (arr0 m).send K c defs₀ 𝒱₀ none ⟨3, by decide⟩ 3 rfl (semS ![3, 0] inb_S7x3_S1x1_3_0) (semR ![3, 0] inb_S7x3_S1x1_3_0) rfl rfl (dev4 c) (at1 c) ?_
  refine (arr1 m).send K c defs₀ 𝒱₀ none ⟨4, by decide⟩ 0 rfl (semS ![0, 1] inb_S7x3_S1x1_0_1) (semR ![0, 1] inb_S7x3_S1x1_0_1) rfl rfl (dev5 c) (at2 c) ?_
  refine (arr1 m).send K c defs₀ 𝒱₀ none ⟨5, by decide⟩ 1 rfl (semS ![1, 1] inb_S7x3_S1x1_1_1) (semR ![1, 1] inb_S7x3_S1x1_1_1) rfl rfl (dev6 c) (at2 c) ?_
  refine (arr1 m).send K c defs₀ 𝒱₀ none ⟨6, by decide⟩ 2 rfl (semS ![2, 1] inb_S7x3_S1x1_2_1) (semR ![2, 1] inb_S7x3_S1x1_2_1) rfl rfl (dev7 c) (at2 c) ?_
  refine (arr1 m).send K c defs₀ 𝒱₀ none ⟨7, by decide⟩ 3 rfl (semS ![3, 1] inb_S7x3_S1x1_3_1) (semR ![3, 1] inb_S7x3_S1x1_3_1) rfl rfl (dev8 c) (at2 c) ?_
  refine (arr2 m).send K c defs₀ 𝒱₀ none ⟨8, by decide⟩ 0 rfl (semS ![0, 2] inb_S7x3_S1x1_0_2) (semR ![0, 2] inb_S7x3_S1x1_0_2) rfl rfl (dev9 c) (at3 c) ?_
  refine (arr2 m).send K c defs₀ 𝒱₀ none ⟨9, by decide⟩ 1 rfl (semS ![1, 2] inb_S7x3_S1x1_1_2) (semR ![1, 2] inb_S7x3_S1x1_1_2) rfl rfl (dev10 c) (at3 c) ?_
  refine (arr2 m).send K c defs₀ 𝒱₀ none ⟨10, by decide⟩ 2 rfl (semS ![2, 2] inb_S7x3_S1x1_2_2) (semR ![2, 2] inb_S7x3_S1x1_2_2) rfl rfl (dev11 c) (at3 c) ?_
  refine (arr2 m).send K c defs₀ 𝒱₀ none ⟨11, by decide⟩ 3 rfl (semS ![3, 2] inb_S7x3_S1x1_3_2) (semR ![3, 2] inb_S7x3_S1x1_3_2) rfl rfl (dev12 c) (at3 c) ?_
  refine (arr0 m).fetch K c defs₀ 𝒱₀ none ⟨0, by decide⟩ 0 rfl (by decide) (semR ![1, 0] inb_S7x3_S1x1_1_0) rfl ?_
  refine (arr0 m).pass K c defs₀ 𝒱₀ none ⟨12, by decide⟩ 0 rfl (semS ![4, 0] inb_S7x3_S1x1_4_0) (semR ![4, 0] inb_S7x3_S1x1_4_0) rfl rfl (dev13 c) (at4 c) (at4 c) ?_
  refine (arr1 m).fetch K c defs₀ 𝒱₀ none ⟨1, by decide⟩ 0 rfl (by decide) (semR ![1, 1] inb_S7x3_S1x1_1_1) rfl ?_
  refine (arr1 m).pass K c defs₀ 𝒱₀ none ⟨13, by decide⟩ 0 rfl (semS ![4, 1] inb_S7x3_S1x1_4_1) (semR ![4, 1] inb_S7x3_S1x1_4_1) rfl rfl (dev14 c) (at5 c) (at5 c) ?_
  refine (arr2 m).fetch K c defs₀ 𝒱₀ none ⟨2, by decide⟩ 0 rfl (by decide) (semR ![1, 2] inb_S7x3_S1x1_1_2) rfl ?_
  refine (arr2 m).pass K c defs₀ 𝒱₀ none ⟨14, by decide⟩ 0 rfl (semS ![4, 2] inb_S7x3_S1x1_4_2) (semR ![4, 2] inb_S7x3_S1x1_4_2) rfl rfl (dev15 c) (at6 c) (at6 c) ?_
  refine (arr0 m).fetch K c defs₀ 𝒱₀ none ⟨3, by decide⟩ 1 rfl (by decide) (semR ![2, 0] inb_S7x3_S1x1_2_0) rfl ?_
  refine (arr0 m).pass K c defs₀ 𝒱₀ none ⟨15, by decide⟩ 1 rfl (semS ![5, 0] inb_S7x3_S1x1_5_0) (semR ![5, 0] inb_S7x3_S1x1_5_0) rfl rfl (dev16 c) (at7 c) (at7 c) ?_
  refine (arr1 m).fetch K c defs₀ 𝒱₀ none ⟨4, by decide⟩ 1 rfl (by decide) (semR ![2, 1] inb_S7x3_S1x1_2_1) rfl ?_
  refine (arr1 m).pass K c defs₀ 𝒱₀ none ⟨16, by decide⟩ 1 rfl (semS ![5, 1] inb_S7x3_S1x1_5_1) (semR ![5, 1] inb_S7x3_S1x1_5_1) rfl rfl (dev17 c) (at8 c) (at8 c) ?_
  refine (arr2 m).fetch K c defs₀ 𝒱₀ none ⟨5, by decide⟩ 1 rfl (by decide) (semR ![2, 2] inb_S7x3_S1x1_2_2) rfl ?_
  refine (arr2 m).pass K c defs₀ 𝒱₀ none ⟨17, by decide⟩ 1 rfl (semS ![5, 2] inb_S7x3_S1x1_5_2) (semR ![5, 2] inb_S7x3_S1x1_5_2) rfl rfl (dev18 c) (at9 c) (at9 c) ?_
  refine (arr0 m).fetch K c defs₀ 𝒱₀ none ⟨6, by decide⟩ 2 rfl (by decide) (semR ![3, 0] inb_S7x3_S1x1_3_0) rfl ?_
  refine (arr0 m).pass K c defs₀ 𝒱₀ none ⟨18, by decide⟩ 2 rfl (semS ![6, 0] inb_S7x3_S1x1_6_0) (semR ![6, 0] inb_S7x3_S1x1_6_0) rfl rfl (dev19 c) (at10 c) (at10 c) ?_
  refine (arr1 m).fetch K c defs₀ 𝒱₀ none ⟨7, by decide⟩ 2 rfl (by decide) (semR ![3, 1] inb_S7x3_S1x1_3_1) rfl ?_
  refine (arr1 m).pass K c defs₀ 𝒱₀ none ⟨19, by decide⟩ 2 rfl (semS ![6, 1] inb_S7x3_S1x1_6_1) (semR ![6, 1] inb_S7x3_S1x1_6_1) rfl rfl (dev20 c) (at11 c) (at11 c) ?_
  refine (arr2 m).fetch K c defs₀ 𝒱₀ none ⟨8, by decide⟩ 2 rfl (by decide) (semR ![3, 2] inb_S7x3_S1x1_3_2) rfl ?_
  refine (arr2 m).pass K c defs₀ 𝒱₀ none ⟨20, by decide⟩ 2 rfl (semS ![6, 2] inb_S7x3_S1x1_6_2) (semR ![6, 2] inb_S7x3_S1x1_6_2) rfl rfl (dev21 c) (at12 c) (at12 c) ?_
  refine (turns plan (S m) O (O' m) K c).trans ?_
  refine wait_recv K c defs₀ 𝒱₀ none ⟨0, by decide⟩ (semR ![0, 0] inb_S7x3_S1x1_0_0) rfl rfl ?_
  refine wait_recv K c defs₀ 𝒱₀ none ⟨1, by decide⟩ (semR ![4, 0] inb_S7x3_S1x1_4_0) rfl rfl ?_
  refine wait_recv K c defs₀ 𝒱₀ none ⟨2, by decide⟩ (semR ![5, 0] inb_S7x3_S1x1_5_0) rfl rfl ?_
  refine wait_recv K c defs₀ 𝒱₀ none ⟨3, by decide⟩ (semR ![6, 0] inb_S7x3_S1x1_6_0) rfl rfl ?_
  refine wait_recv K c defs₀ 𝒱₀ none ⟨4, by decide⟩ (semR ![0, 1] inb_S7x3_S1x1_0_1) rfl rfl ?_
  refine wait_recv K c defs₀ 𝒱₀ none ⟨5, by decide⟩ (semR ![4, 1] inb_S7x3_S1x1_4_1) rfl rfl ?_
  refine wait_recv K c defs₀ 𝒱₀ none ⟨6, by decide⟩ (semR ![5, 1] inb_S7x3_S1x1_5_1) rfl rfl ?_
  refine wait_recv K c defs₀ 𝒱₀ none ⟨7, by decide⟩ (semR ![6, 1] inb_S7x3_S1x1_6_1) rfl rfl ?_
  refine wait_recv K c defs₀ 𝒱₀ none ⟨8, by decide⟩ (semR ![0, 2] inb_S7x3_S1x1_0_2) rfl rfl ?_
  refine wait_recv K c defs₀ 𝒱₀ none ⟨9, by decide⟩ (semR ![4, 2] inb_S7x3_S1x1_4_2) rfl rfl ?_
  refine wait_recv K c defs₀ 𝒱₀ none ⟨10, by decide⟩ (semR ![5, 2] inb_S7x3_S1x1_5_2) rfl rfl ?_
  refine wait_recv K c defs₀ 𝒱₀ none ⟨11, by decide⟩ (semR ![6, 2] inb_S7x3_S1x1_6_2) rfl rfl ?_
  refine wait_send K c defs₀ 𝒱₀ none ⟨0, by decide⟩ (semS ![0, 0] inb_S7x3_S1x1_0_0) rfl ((arr0 m).same.trans ((arr0 m).amt _ rfl)) ?_
  refine wait_send K c defs₀ 𝒱₀ none ⟨1, by decide⟩ (semS ![1, 0] inb_S7x3_S1x1_1_0) rfl ((arr0 m).same.trans ((arr0 m).amt _ rfl)) ?_
  refine wait_send K c defs₀ 𝒱₀ none ⟨2, by decide⟩ (semS ![2, 0] inb_S7x3_S1x1_2_0) rfl ((arr0 m).same.trans ((arr0 m).amt _ rfl)) ?_
  refine wait_send K c defs₀ 𝒱₀ none ⟨3, by decide⟩ (semS ![3, 0] inb_S7x3_S1x1_3_0) rfl ((arr0 m).same.trans ((arr0 m).amt _ rfl)) ?_
  refine wait_send K c defs₀ 𝒱₀ none ⟨4, by decide⟩ (semS ![0, 1] inb_S7x3_S1x1_0_1) rfl ((arr1 m).same.trans ((arr1 m).amt _ rfl)) ?_
  refine wait_send K c defs₀ 𝒱₀ none ⟨5, by decide⟩ (semS ![1, 1] inb_S7x3_S1x1_1_1) rfl ((arr1 m).same.trans ((arr1 m).amt _ rfl)) ?_
  refine wait_send K c defs₀ 𝒱₀ none ⟨6, by decide⟩ (semS ![2, 1] inb_S7x3_S1x1_2_1) rfl ((arr1 m).same.trans ((arr1 m).amt _ rfl)) ?_
  refine wait_send K c defs₀ 𝒱₀ none ⟨7, by decide⟩ (semS ![3, 1] inb_S7x3_S1x1_3_1) rfl ((arr1 m).same.trans ((arr1 m).amt _ rfl)) ?_
  refine wait_send K c defs₀ 𝒱₀ none ⟨8, by decide⟩ (semS ![0, 2] inb_S7x3_S1x1_0_2) rfl ((arr2 m).same.trans ((arr2 m).amt _ rfl)) ?_
  refine wait_send K c defs₀ 𝒱₀ none ⟨9, by decide⟩ (semS ![1, 2] inb_S7x3_S1x1_1_2) rfl ((arr2 m).same.trans ((arr2 m).amt _ rfl)) ?_
  refine wait_send K c defs₀ 𝒱₀ none ⟨10, by decide⟩ (semS ![2, 2] inb_S7x3_S1x1_2_2) rfl ((arr2 m).same.trans ((arr2 m).amt _ rfl)) ?_
  refine wait_send K c defs₀ 𝒱₀ none ⟨11, by decide⟩ (semS ![3, 2] inb_S7x3_S1x1_3_2) rfl ((arr2 m).same.trans ((arr2 m).amt _ rfl)) ?_
  refine wait_send K c defs₀ 𝒱₀ none ⟨12, by decide⟩ (semS ![4, 0] inb_S7x3_S1x1_4_0) rfl rfl ?_
  refine wait_send K c defs₀ 𝒱₀ none ⟨13, by decide⟩ (semS ![4, 1] inb_S7x3_S1x1_4_1) rfl rfl ?_
  refine wait_send K c defs₀ 𝒱₀ none ⟨14, by decide⟩ (semS ![4, 2] inb_S7x3_S1x1_4_2) rfl rfl ?_
  refine wait_send K c defs₀ 𝒱₀ none ⟨15, by decide⟩ (semS ![5, 0] inb_S7x3_S1x1_5_0) rfl rfl ?_
  refine wait_send K c defs₀ 𝒱₀ none ⟨16, by decide⟩ (semS ![5, 1] inb_S7x3_S1x1_5_1) rfl rfl ?_
  refine wait_send K c defs₀ 𝒱₀ none ⟨17, by decide⟩ (semS ![5, 2] inb_S7x3_S1x1_5_2) rfl rfl ?_
  refine wait_send K c defs₀ 𝒱₀ none ⟨18, by decide⟩ (semS ![6, 0] inb_S7x3_S1x1_6_0) rfl rfl ?_
  refine wait_send K c defs₀ 𝒱₀ none ⟨19, by decide⟩ (semS ![6, 1] inb_S7x3_S1x1_6_1) rfl rfl ?_
  refine wait_send K c defs₀ 𝒱₀ none ⟨20, by decide⟩ (semS ![6, 2] inb_S7x3_S1x1_6_2) rfl rfl ?_
  refine wait_own K c defs₀ 𝒱₀ none 0 (semL ![0] inb_S3_S1_0) rfl rfl ?_
  refine wait_own K c defs₀ 𝒱₀ none 1 (semL ![1] inb_S3_S1_1) rfl rfl ?_
  refine wait_own K c defs₀ 𝒱₀ none 2 (semL ![2] inb_S3_S1_2) rfl rfl ?_
  rw [wp_ret]
  show Fn plan (S m) (O' m) K c (3 * 4) (3 * 4 + 3 * 3) 3 ⊢ _
  iintro H
  imodintro
  iapply (ends plan (S m) (O' m) K c); iexact H

theorem body (c : Dev nD) :
    iprop((Start plan (pay (S m) (O' m)) Copies.ER (sent (S m) O) (kept (S m) O) c ∗ levAts levelled (level plan (3 * 4))) ∗ ∃ W, owes (c.tc : Thread nD τ) (dues plan 0 c) W)
      ⊢ (wp frame (wpE (defs₀ (F := F)) 𝒱₀ (c.tc : Thread nD τ) none) Set.univ
          (cc0_gather_weights in0 (Memref.isWhole_whole _) in1 (Memref.isWhole_whole _) in2 (Memref.isWhole_whole _) out0 (Memref.isWhole_whole _) out1 (Memref.isWhole_whole _) out2 (Memref.isWhole_whole _) cc0_scratch0 cc0_scratch1 cc0_scratch2)
          fun _ => Done m c : sProp 𝕄) := by
  iintro H
  ihave H := (begins plan (S m) O (O' m) c) $$ H
  icases H with ⟨%K, H⟩
  iapply (steps m c K); iexact H

end Cert.GatherRun
-- ==== Proof.GatherRun.lean ====
/-
  The run of the gather of the weights' parts: every device ends with its arguments unchanged, its results as `got0`, `got1`
  and `got2` say, and every semaphore at zero.
-/
module

public import proofs.«01_k».proof.Proof.GatherBody

@[expose] public section

set_option Elab.async false

noncomputable section

namespace Cert.GatherRun

open Cert.GatherIdeal Cert.GatherIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

theorem bufs_eq (c : Dev nD) (V : (b : Ref sig .tc) → Buf (Elt F) ((c.tc : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_v1_0) ↦{fullShare} V main_v1_0)
        ∗ (((c : Thread nD τ).loc main_v1_1) ↦{fullShare} V main_v1_1) ∗ (((c : Thread nD τ).loc main_v1_2) ↦{fullShare} V main_v1_2)) :=
  bigSep_eq_bigSepL_of_eq [main_arg0, main_arg1, main_arg2, main_v1_0, main_v1_1, main_v1_2] (by decide) (by decide) _

/-- The six arrays of a device. -/
def held (c : Dev nD) (g0 : Buf (Elt F) (out0.view.loc (c.tc : Thread nD τ))) (g1 : Buf (Elt F) (out1.view.loc (c.tc : Thread nD τ)))
    (g2 : Buf (Elt F) (out2.view.loc (c.tc : Thread nD τ))) : sProp 𝕄 :=
  iprop(((in0.view.loc (c.tc : Thread nD τ)) ↦{fullShare} m (in0.view.loc (c.tc : Thread nD τ)))
    ∗ ((in1.view.loc (c.tc : Thread nD τ)) ↦{fullShare} m (in1.view.loc (c.tc : Thread nD τ)))
    ∗ ((in2.view.loc (c.tc : Thread nD τ)) ↦{fullShare} m (in2.view.loc (c.tc : Thread nD τ)))
    ∗ ((out0.view.loc (c.tc : Thread nD τ)) ↦{fullShare} g0) ∗ ((out1.view.loc (c.tc : Thread nD τ)) ↦{fullShare} g1)
    ∗ ((out2.view.loc (c.tc : Thread nD τ)) ↦{fullShare} g2))

theorem three {R : Type} [URA R] (Φ : Fin 3 → sProp R) : bigSep Finset.univ Φ = iprop(Φ 0 ∗ Φ 1 ∗ Φ 2) :=
  bigSep_univ_eq_bigSepL [0, 1, 2] (by decide) (by decide) Φ

theorem dealt (c : Dev nD) : (unscopedBufs c (fun b => m ((c.tc : Thread nD τ).loc b)) : sProp 𝕄)
    ⊢ iprop((bigSep Finset.univ fun a => bigSep Finset.univ fun k => S m a k c) ∗ bigSep Finset.univ fun a => bigSep Finset.univ fun p => O a c p) := by
  have h : (unscopedBufs c (fun b => m ((c.tc : Thread nD τ).loc b)) : sProp 𝕄)
      = held m c (m (out0.view.loc (c.tc : Thread nD τ))) (m (out1.view.loc (c.tc : Thread nD τ))) (m (out2.view.loc (c.tc : Thread nD τ))) := bufs_eq c _
  rw [h, three, three, ← (arr0 m).shares (View.set_whole _) c, ← (arr1 m).shares (View.set_whole _) c, ← (arr2 m).shares (View.set_whole _) c]
  unfold held
  iintro ⟨H0, H1, H2, H3, H4, H5⟩
  isplitl [H0 H1 H2]
  · isplitl [H0]; · iexact H0
    isplitl [H1]; · iexact H1
    iexact H2
  isplitl [H3]; · iapply ((arr0 m).spread (View.set_whole _) c _); iexact H3
  isplitl [H4]; · iapply ((arr1 m).spread (View.set_whole _) c _); iexact H4
  iapply ((arr2 m).spread (View.set_whole _) c _); iexact H5

theorem collected (c : Dev nD) : (Back (S m) (O' m) c : sProp 𝕄) ⊢ held m c (got0 m c) (got1 m c) (got2 m c) := by
  refine (Relay.collect (S m) (O' m) c).trans ?_
  rw [three, three, ← (arr0 m).shares (View.set_whole _) c, ← (arr1 m).shares (View.set_whole _) c, ← (arr2 m).shares (View.set_whole _) c,
    ← (arr0 m).whole (View.set_whole _) c, ← (arr1 m).whole (View.set_whole _) c, ← (arr2 m).whole (View.set_whole _) c]
  show iprop((((in0.view.loc (c.tc : Thread nD τ)) ↦{fullShare} m (in0.view.loc (c.tc : Thread nD τ)))
    ∗ ((in1.view.loc (c.tc : Thread nD τ)) ↦{fullShare} m (in1.view.loc (c.tc : Thread nD τ)))
    ∗ ((in2.view.loc (c.tc : Thread nD τ)) ↦{fullShare} m (in2.view.loc (c.tc : Thread nD τ))))
    ∗ ((out0.view.loc (c.tc : Thread nD τ)) ↦{fullShare} got0 m c) ∗ ((out1.view.loc (c.tc : Thread nD τ)) ↦{fullShare} got1 m c)
    ∗ ((out2.view.loc (c.tc : Thread nD τ)) ↦{fullShare} got2 m c)) ⊢ held m c (got0 m c) (got1 m c) (got2 m c)
  unfold held
  iintro ⟨⟨H0, H1, H2⟩, H3⟩
  isplitl [H0]; · iexact H0
  isplitl [H1]; · iexact H1
  isplitl [H2]; · iexact H2
  iexact H3

/-- What device `c` ends with. -/
def Ends (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2))
    ∧ s.mem ((c.tc : Thread nD τ).loc main_v1_0) = got0 m c ∧ s.mem ((c.tc : Thread nD τ).loc main_v1_1) = got1 m c
    ∧ s.mem ((c.tc : Thread nD τ).loc main_v1_2) = got2 m c

theorem read (c : Dev nD) (s' : Phys nD τ sig (Elt F)) :
    iprop(held m c (got0 m c) (got1 m c) (got2 m c) ∗ SI s') ⊢ (|={Set.univ}=> iprop(⌜Ends m c s'.mem⌝ ∗ SI s') : sProp 𝕄) := by
  unfold held
  iintro ⟨⟨H0, H1, H2, H3, H4, H5⟩, HSI⟩
  icombine HSI H0 gives %h0
  icombine HSI H1 gives %h1
  icombine HSI H2 gives %h2
  icombine HSI H3 gives %h3
  icombine HSI H4 gives %h4
  icombine HSI H5 gives %h5
  imodintro
  isplitr
  · ipureintro
    exact ⟨⟨funext fun i => h0 i (Finset.mem_univ i), funext fun i => h1 i (Finset.mem_univ i), funext fun i => h2 i (Finset.mem_univ i)⟩,
      funext fun i => h3 i (Finset.mem_univ i), funext fun i => h4 i (Finset.mem_univ i), funext fun i => h5 i (Finset.mem_univ i)⟩
  · iexact HSI

theorem ownSems : Pipeline.OwnSemFacts (cfg0.spec) plan.osem := by decide +kernel

set_option maxRecDepth 65536 in
theorem run_main (g : Dev nD → PrngReg) : θ_run (defs (F := F)) (onTc (τ := τ) (main (F := F))) ⟨m, fun _ => 0, g⟩
    fun r => (∀ c, Ends m c r.2) ∧ r.2.sem = fun _ => 0 :=
  θ_run_copies (fun p => (cfgs p).toPCfg) (fun p => (cfgs p).toPCfg_adm) plan (pay (S m) (O' m)) (sent (S m) O) (kept (S m) O)
    (fun c => held m c (got0 m c) (got1 m c) (got2 m c)) defs₀ 𝒱₀
    levelled (level plan (3 * 4)) levelled_off cellOf_inj winFacts0.to₀ ownSems (fun _ => rfl) rfl N_0 (fun c => scopedRest0_eq c) m g main (fun _ => rfl)
    (fun c t => (body m c).trans (wp_mono _ _ _ fun _ => by
      iintro ⟨⟨H, Ho⟩, HF⟩
      isplitr [HF]
      · isplitl [H]; · iapply (collected m c); iexact H
        iexact Ho
      iexact HF))
    (Relay.deal (S m) O _ (dealt m)) (Ends m) (read m) (by decide)

end Cert.GatherRun
-- ==== Proof.SmallPlan.lean ====
/-
  The gather of the small parameters' parts: each device ends with the parts of all eight, slab by slab. Its resources and its
  plan, over any float values.
-/
module

public import proofs.«01_k».proof.Proof.RelaySteps
public import proofs.«01_k».proof.Proof.Gen.SmallIdeal.Skeleton
public import proofs.«01_k».proof.Proof.Gen.SmallIdeal.Launch

@[expose] public section

set_option Elab.async false

noncomputable section

namespace Cert.SmallRun

open Cert.SmallIdeal Cert.SmallIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

/-! ## The array -/

abbrev in0 : Memref sig .tc .hbm S2328x128 .f32 := Memref.whole main_arg0
abbrev out0 : Memref sig .tc .hbm S8x2328x128 .f32 := Memref.whole main_v1

abbrev hq0 := squeezes_S1x2328x128_S2328x128

/-- What every device's result holds at the end: slab `c` is what device `c` was given. -/
def got0 (d : Dev nD) : Buf (Elt F) (out0.view.loc (d.tc : Thread nD τ)) := fun y => m (in0.view.loc ((show Dev nD from y 0).tc : Thread nD τ)) (within y)

def S (_ : Fin 1) (k : Fin 5) (c : Dev 8) : sProp 𝕄 := in0.view.loc (c.tc : Thread nD τ) ↦[in0.view.set]{part k} m (in0.view.loc (c.tc : Thread nD τ))
def O (_ : Fin 1) (c p : Dev 8) : sProp 𝕄 := iprop(∃ fd, piece hq0 out0 fullShare c fd p)
def O' (_ : Fin 1) (c p : Dev 8) : sProp 𝕄 := piece hq0 out0 fullShare c (got0 m c) p

instance (a : Fin 1) (k : Fin 5) (c : Dev 8) :
    Storable (upEmb (nD := 8) (τ := τ) (sig := sig) (Ix := Unit) (Val := Elt F) (Name := ℕ) (U := UU 8 τ sig) (Lvl := ℕ)) (S m a k c) := by
  unfold S; infer_instance
instance (a : Fin 1) (c p : Dev 8) :
    Storable (upEmb (nD := 8) (τ := τ) (sig := sig) (Ix := Unit) (Val := Elt F) (Name := ℕ) (U := UU 8 τ sig) (Lvl := ℕ)) (O' m a c p) :=
  storable_piece _ _ _ _ _ _

/-! ## The plan -/

def semOf : Which (1 * 4 + 3 * 1) 1 → DmaSem sig
  | .inl j => (⟨j.val, by have := j.isLt; show _ < 15; omega⟩ : Fin 15)
  | .inr (.inl j) => (⟨7 + j.val, by have := j.isLt; show _ < 15; omega⟩ : Fin 15)
  | .inr (.inr l) => (⟨14 + l.val, by have := l.isLt; show _ < 15; omega⟩ : Fin 15)

theorem semOf_inj : Function.Injective semOf := by decide +kernel

/-- What one slab's transfer credits. -/
def credit : ℕ := (slab hq0 out0 (at_ 0) (at_inb 0)).view.dmaCredit

def plan : Plan 8 sig (1 * 4 + 3 * 1) 1 where
  peer j c := hop (link (order 1 j)) c
  peer_peer j c := hop_hop _ _
  sem := semOf
  sem_inj := semOf_inj
  amt _ := credit
  amt_pos _ := View.dmaCredit_pos _ (by decide)
  amt_send _ := rfl

def arr0 : Array plan (S m) O (O' m) hq0 0 in0 out0 where
  fi c := m (in0.view.loc (c.tc : Thread nD τ))
  fo := got0 m
  source _ _ := rfl
  before _ _ := rfl
  after _ _ := rfl
  reads c d x := read_block hq0 in0 out0 c (fun c : Dev nD => m (in0.view.loc (c.tc : Thread nD τ))) (got0 m d) (fun _ => rfl) x
  peer _ _ := rfl
  amt _ _ := rfl
  same := by decide +kernel

/-! ## Offsets and partners -/

theorem at1 : ∀ c : Dev nD, k0_off1 c = at_ c := by decide +kernel
theorem at2 : ∀ c : Dev nD, k0_off2 c = at_ (hop 1 c) := by decide +kernel
theorem at3 : ∀ c : Dev nD, k0_off3 c = at_ (hop 2 c) := by decide +kernel
theorem at4 : ∀ c : Dev nD, k0_off4 c = at_ (hop 3 c) := by decide +kernel
theorem dev1 : ∀ c : Dev nD, (⟨k0_dev1 c, k0_dev1_lt c⟩ : Dev nD) = hop 0 c := by decide +kernel
theorem dev2 : ∀ c : Dev nD, (⟨k0_dev2 c, k0_dev2_lt c⟩ : Dev nD) = hop 1 c := by decide +kernel
theorem dev3 : ∀ c : Dev nD, (⟨k0_dev3 c, k0_dev3_lt c⟩ : Dev nD) = hop 2 c := by decide +kernel
theorem dev4 : ∀ c : Dev nD, (⟨k0_dev4 c, k0_dev4_lt c⟩ : Dev nD) = hop 3 c := by decide +kernel
theorem dev5 : ∀ c : Dev nD, (⟨k0_dev5 c, k0_dev5_lt c⟩ : Dev nD) = hop 0 c := by decide +kernel
theorem dev6 : ∀ c : Dev nD, (⟨k0_dev6 c, k0_dev6_lt c⟩ : Dev nD) = hop 0 c := by decide +kernel
theorem dev7 : ∀ c : Dev nD, (⟨k0_dev7 c, k0_dev7_lt c⟩ : Dev nD) = hop 0 c := by decide +kernel

end Cert.SmallRun
-- ==== Proof.SmallBody.lean ====
/-
  The body of the gather of the small parameters' parts on one device.
-/
module

public import proofs.«01_k».proof.Proof.SmallPlan

@[expose] public section

set_option Elab.async false

noncomputable section

namespace Cert.SmallRun

open Cert.SmallIdeal Cert.SmallIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

abbrev 𝒱₀ : Variants := Variants.nat

abbrev semS (i : Fin 2 → ℕ) (inb : ∀ a, i a + S1x1.size a ≤ S7x1.size a) : DmaSem sig :=
  ((cc0_scratch0.slice (Rect.unit (s := S7x1) i S1x1.size inb)).squeeze S_ squeezes_S1x1_S_).sem
abbrev semR (i : Fin 2 → ℕ) (inb : ∀ a, i a + S1x1.size a ≤ S7x1.size a) : DmaSem sig :=
  ((cc0_scratch1.slice (Rect.unit (s := S7x1) i S1x1.size inb)).squeeze S_ squeezes_S1x1_S_).sem
abbrev semL (i : Fin 1 → ℕ) (inb : ∀ a, i a + S1.size a ≤ S1.size a) : DmaSem sig :=
  ((cc0_scratch2.slice (Rect.unit (s := S1) i S1.size inb)).squeeze S_ squeezes_S1_S_).sem

/-- What a device ends its body with. -/
abbrev Done (c : Dev nD) : sProp (MT nD τ sig Unit (Elt F) ℕ (UU nD τ sig) ℕ) :=
  iprop((Back (S m) (O' m) c ∗ Pipeline.ownSems0 plan.osem c) ∗ Free c)

set_option maxRecDepth 65536 in
set_option maxHeartbeats 4000000 in
/-- The kernel's operations one after the other. -/
theorem steps (c : Dev nD) (K : Dev 8 × Which (1 * 4 + 3 * 1) 1 → ℕ) :
    (St plan (S m) O (O' m) K c 0 0 0 : sProp 𝕄)
      ⊢ wp frame (wpE (defs₀ (F := F)) 𝒱₀ (c.tc : Thread nD τ) none) Set.univ
          (cc0_gather_small in0 (Memref.isWhole_whole _) out0 (Memref.isWhole_whole _) cc0_scratch0 cc0_scratch1 cc0_scratch2)
          fun _ => Done m c := by
  simp only [cc0_gather_small_eq_skeleton]; unfold cc0_gather_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  refine (arr0 m).own K c defs₀ 𝒱₀ none (semL ![0] inb_S1_S1_0) rfl (at1 c) ?_
  refine (arr0 m).send K c defs₀ 𝒱₀ none ⟨0, by decide⟩ 0 rfl (semS ![0, 0] inb_S7x1_S1x1_0_0) (semR ![0, 0] inb_S7x1_S1x1_0_0) rfl rfl (dev1 c) (at1 c) ?_
  refine (arr0 m).send K c defs₀ 𝒱₀ none ⟨1, by decide⟩ 1 rfl (semS ![1, 0] inb_S7x1_S1x1_1_0) (semR ![1, 0] inb_S7x1_S1x1_1_0) rfl rfl (dev2 c) (at1 c) ?_
  refine (arr0 m).send K c defs₀ 𝒱₀ none ⟨2, by decide⟩ 2 rfl (semS ![2, 0] inb_S7x1_S1x1_2_0) (semR ![2, 0] inb_S7x1_S1x1_2_0) rfl rfl (dev3 c) (at1 c) ?_
  refine (arr0 m).send K c defs₀ 𝒱₀ none ⟨3, by decide⟩ 3 rfl (semS ![3, 0] inb_S7x1_S1x1_3_0) (semR ![3, 0] inb_S7x1_S1x1_3_0) rfl rfl (dev4 c) (at1 c) ?_
  refine (arr0 m).fetch K c defs₀ 𝒱₀ none ⟨0, by decide⟩ 0 rfl (by decide) (semR ![1, 0] inb_S7x1_S1x1_1_0) rfl ?_
  refine (arr0 m).pass K c defs₀ 𝒱₀ none ⟨4, by decide⟩ 0 rfl (semS ![4, 0] inb_S7x1_S1x1_4_0) (semR ![4, 0] inb_S7x1_S1x1_4_0) rfl rfl (dev5 c) (at2 c) (at2 c) ?_
  refine (arr0 m).fetch K c defs₀ 𝒱₀ none ⟨1, by decide⟩ 1 rfl (by decide) (semR ![2, 0] inb_S7x1_S1x1_2_0) rfl ?_
  refine (arr0 m).pass K c defs₀ 𝒱₀ none ⟨5, by decide⟩ 1 rfl (semS ![5, 0] inb_S7x1_S1x1_5_0) (semR ![5, 0] inb_S7x1_S1x1_5_0) rfl rfl (dev6 c) (at3 c) (at3 c) ?_
  refine (arr0 m).fetch K c defs₀ 𝒱₀ none ⟨2, by decide⟩ 2 rfl (by decide) (semR ![3, 0] inb_S7x1_S1x1_3_0) rfl ?_
  refine (arr0 m).pass K c defs₀ 𝒱₀ none ⟨6, by decide⟩ 2 rfl (semS ![6, 0] inb_S7x1_S1x1_6_0) (semR ![6, 0] inb_S7x1_S1x1_6_0) rfl rfl (dev7 c) (at4 c) (at4 c) ?_
  refine (turns plan (S m) O (O' m) K c).trans ?_
  refine wait_recv K c defs₀ 𝒱₀ none ⟨0, by decide⟩ (semR ![0, 0] inb_S7x1_S1x1_0_0) rfl rfl ?_
  refine wait_recv K c defs₀ 𝒱₀ none ⟨1, by decide⟩ (semR ![4, 0] inb_S7x1_S1x1_4_0) rfl rfl ?_
  refine wait_recv K c defs₀ 𝒱₀ none ⟨2, by decide⟩ (semR ![5, 0] inb_S7x1_S1x1_5_0) rfl rfl ?_
  refine wait_recv K c defs₀ 𝒱₀ none ⟨3, by decide⟩ (semR ![6, 0] inb_S7x1_S1x1_6_0) rfl rfl ?_
  refine wait_send K c defs₀ 𝒱₀ none ⟨0, by decide⟩ (semS ![0, 0] inb_S7x1_S1x1_0_0) rfl ((arr0 m).same.trans ((arr0 m).amt _ rfl)) ?_
  refine wait_send K c defs₀ 𝒱₀ none ⟨1, by decide⟩ (semS ![1, 0] inb_S7x1_S1x1_1_0) rfl ((arr0 m).same.trans ((arr0 m).amt _ rfl)) ?_
  refine wait_send K c defs₀ 𝒱₀ none ⟨2, by decide⟩ (semS ![2, 0] inb_S7x1_S1x1_2_0) rfl ((arr0 m).same.trans ((arr0 m).amt _ rfl)) ?_
  refine wait_send K c defs₀ 𝒱₀ none ⟨3, by decide⟩ (semS ![3, 0] inb_S7x1_S1x1_3_0) rfl ((arr0 m).same.trans ((arr0 m).amt _ rfl)) ?_
  refine wait_send K c defs₀ 𝒱₀ none ⟨4, by decide⟩ (semS ![4, 0] inb_S7x1_S1x1_4_0) rfl rfl ?_
  refine wait_send K c defs₀ 𝒱₀ none ⟨5, by decide⟩ (semS ![5, 0] inb_S7x1_S1x1_5_0) rfl rfl ?_
  refine wait_send K c defs₀ 𝒱₀ none ⟨6, by decide⟩ (semS ![6, 0] inb_S7x1_S1x1_6_0) rfl rfl ?_
  refine wait_own K c defs₀ 𝒱₀ none 0 (semL ![0] inb_S1_S1_0) rfl rfl ?_
  rw [wp_ret]
  show Fn plan (S m) (O' m) K c (1 * 4) (1 * 4 + 3 * 1) 1 ⊢ _
  iintro H
  imodintro
  iapply (ends plan (S m) (O' m) K c); iexact H

theorem body (c : Dev nD) :
    iprop((Start plan (pay (S m) (O' m)) Copies.ER (sent (S m) O) (kept (S m) O) c ∗ levAts levelled (level plan (1 * 4))) ∗ ∃ W, owes (c.tc : Thread nD τ) (dues plan 0 c) W)
      ⊢ (wp frame (wpE (defs₀ (F := F)) 𝒱₀ (c.tc : Thread nD τ) none) Set.univ
          (cc0_gather_small in0 (Memref.isWhole_whole _) out0 (Memref.isWhole_whole _) cc0_scratch0 cc0_scratch1 cc0_scratch2)
          fun _ => Done m c : sProp 𝕄) := by
  iintro H
  ihave H := (begins plan (S m) O (O' m) c) $$ H
  icases H with ⟨%K, H⟩
  iapply (steps m c K); iexact H

end Cert.SmallRun
-- ==== Proof.SmallRun.lean ====
/-
  The run of the gather of the small parameters' parts: every device ends with its argument unchanged, its result as `got0`
  says, and every semaphore at zero.
-/
module

public import proofs.«01_k».proof.Proof.SmallBody

@[expose] public section

set_option Elab.async false

noncomputable section

namespace Cert.SmallRun

open Cert.SmallIdeal Cert.SmallIdeal.Gen

open Idealize.ShloMosaic hiding piece
open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.Copies Cert.Slabs Cert.Relay

variable {F : FTy → Type} [FloatOps F]

local notation "𝕄" => MT nD τ sig Unit (Elt F) ℕ (UU nD τ sig) ℕ

variable (m : (ℓ : Loc nD τ sig) → Buf (Elt F) ℓ)

theorem bufs_eq (c : Dev nD) (V : (b : Ref sig .tc) → Buf (Elt F) ((c.tc : Thread nD τ).loc b)) :
    (unscopedBufs c V : sProp 𝕄)
      = iprop((((c : Thread nD τ).loc main_arg0) ↦{fullShare} V main_arg0) ∗ (((c : Thread nD τ).loc main_v1) ↦{fullShare} V main_v1)) :=
  bigSep_eq_bigSepL_of_eq [main_arg0, main_v1] (by decide) (by decide) _

/-- The two arrays of a device. -/
def held (c : Dev nD) (g : Buf (Elt F) (out0.view.loc (c.tc : Thread nD τ))) : sProp 𝕄 :=
  iprop(((in0.view.loc (c.tc : Thread nD τ)) ↦{fullShare} m (in0.view.loc (c.tc : Thread nD τ))) ∗ ((out0.view.loc (c.tc : Thread nD τ)) ↦{fullShare} g))

theorem one {R : Type} [URA R] (Φ : Fin 1 → sProp R) : bigSep Finset.univ Φ = Φ 0 := bigSep_univ_of_subsingleton (0 : Fin 1)

theorem dealt (c : Dev nD) : (unscopedBufs c (fun b => m ((c.tc : Thread nD τ).loc b)) : sProp 𝕄)
    ⊢ iprop((bigSep Finset.univ fun a => bigSep Finset.univ fun k => S m a k c) ∗ bigSep Finset.univ fun a => bigSep Finset.univ fun p => O a c p) := by
  have h : (unscopedBufs c (fun b => m ((c.tc : Thread nD τ).loc b)) : sProp 𝕄) = held m c (m (out0.view.loc (c.tc : Thread nD τ))) := bufs_eq c _
  rw [h, one, one, ← (arr0 m).shares (View.set_whole _) c]
  unfold held
  iintro ⟨H0, H1⟩
  isplitl [H0]; · iexact H0
  iapply ((arr0 m).spread (View.set_whole _) c _); iexact H1

theorem collected (c : Dev nD) : (Back (S m) (O' m) c : sProp 𝕄) ⊢ held m c (got0 m c) := by
  refine (Relay.collect (S m) (O' m) c).trans ?_
  rw [one, one, ← (arr0 m).shares (View.set_whole _) c, ← (arr0 m).whole (View.set_whole _) c]
  exact BI.Entails.refl _

/-- What device `c` ends with. -/
def Ends (c : Dev nD) (s : MemSt nD τ sig (Elt F)) : Prop :=
  s.mem ((c.tc : Thread nD τ).loc main_arg0) = m ((c.tc : Thread nD τ).loc main_arg0) ∧ s.mem ((c.tc : Thread nD τ).loc main_v1) = got0 m c

theorem read (c : Dev nD) (s' : Phys nD τ sig (Elt F)) :
    iprop(held m c (got0 m c) ∗ SI s') ⊢ (|={Set.univ}=> iprop(⌜Ends m c s'.mem⌝ ∗ SI s') : sProp 𝕄) := by
  unfold held
  iintro ⟨⟨H0, H1⟩, HSI⟩
  icombine HSI H0 gives %h0
  icombine HSI H1 gives %h1
  imodintro
  isplitr
  · ipureintro
    exact ⟨funext fun i => h0 i (Finset.mem_univ i), funext fun i => h1 i (Finset.mem_univ i)⟩
  · iexact HSI

theorem ownSems : Pipeline.OwnSemFacts (cfg0.spec) plan.osem := by decide +kernel

theorem run_main (g : Dev nD → PrngReg) : θ_run (defs (F := F)) (onTc (τ := τ) (main (F := F))) ⟨m, fun _ => 0, g⟩
    fun r => (∀ c, Ends m c r.2) ∧ r.2.sem = fun _ => 0 :=
  θ_run_copies (fun p => (cfgs p).toPCfg) (fun p => (cfgs p).toPCfg_adm) plan (pay (S m) (O' m)) (sent (S m) O) (kept (S m) O) (fun c => held m c (got0 m c)) defs₀ 𝒱₀
    levelled (level plan (1 * 4)) levelled_off cellOf_inj winFacts0.to₀ ownSems (fun _ => rfl) rfl N_0 (fun c => scopedRest0_eq c) m g main (fun _ => rfl)
    (fun c t => (body m c).trans (wp_mono _ _ _ fun _ => by
      iintro ⟨⟨H, Ho⟩, HF⟩
      isplitr [HF]
      · isplitl [H]; · iapply (collected m c); iexact H
        iexact Ho
      iexact HF))
    (Relay.deal (S m) O _ (dealt m)) (Ends m) (read m) (by decide)

end Cert.SmallRun
-- ==== Proof.SmallValue.lean ====
/-
  The reference of the gather of the small parameters' parts, run on its one device over any float values: the whole array in
  eight slabs, slab `c` being what device `c` was given.
-/
module

public import proofs.«01_k».proof.Proof.SmallRun
public import proofs.«01_k».proof.Proof.Gen.SmallRefIdeal
public import Idealize.ShloMosaic.Lib.StableHlo.Run
public import Idealize.ShloMosaic.Lib.Pipeline.Value
public import Idealize.ShloMosaic.Lib.Layout
public import Idealize.ShloMosaic.Lib.Quiescent

@[expose] public section

noncomputable section

namespace Cert.SmallValue

open Cert.SmallRefIdeal Cert.SmallRefIdeal.Gen
open Idealize.ShloMosaic Idealize.ShloMosaic.TcCoe Idealize.ShloMosaic.StableHlo Idealize.SL.Sem
open Cert.Slabs (Sh0 Sh8 within)

variable {F : FTy → Type} [FloatOps F] {α : Type} {A B N : ℕ}

/-- Slab `c` of an array in eight slabs is block `c` of its rows. -/
theorem slabs_rows (h : (Sh0 N B).ShapeCasts (Sh8 A B)) (x : (Sh0 N B).Idx → α) (hT : Layout.Tiles (Sh0 A B) (Sh0 N B) 0 8) (y : (Sh8 A B).Idx) :
    Layout.block (Sh0 A B) (Sh0 N B) 0 8 (y 0) x hT (within y) = shapeCast (Sh8 A B) x h y := by
  have e0 : (hT.idx (y 0) (within y) 0).val = (y 0).val * A + (y 1).val := rfl
  have e1 : (hT.idx (y 0) (within y) 1).val = (y 2).val := rfl
  refine (shapeCast_apply x h y (hT.idx (y 0) (within y)) ?_).symm
  rw [Shape.rowMajor_val_two, Shape.rowMajor_val_three, e0, e1]; rfl

/-! ## The reference's run -/

def out0 (x : FVec F S18624x128 .f32) : FVec F S8x2328x128 .f32 := shapeCast S8x2328x128 x shapeCasts_S18624x128_S8x2328x128

abbrev ops : List (HloOp τ sig (Elt F)) :=
  [ StableHlo.reshape main_arg0 main_v0 (rfl : (.f32 : EltTy) = .f32) shapeCasts_S18624x128_S8x2328x128 ]

theorem main_eq (c : Dev nD) : main (F := F) c = seq ops := rfl

theorem out0_eq (V : Valuation τ sig (Elt F)) : after ops V (main_v0 : DevRef τ sig) = out0 (F := F) (V (main_arg0 : DevRef τ sig)) := by
  after_results
  rfl
theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- The reference runs: its result is the array in slabs, its argument is unchanged, its semaphores are at zero. -/
theorem run_ref (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v0) = out0 (F := F) (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out0_eq _), (h c main_arg0).trans (arg0_eq _)⟩, sem_eq_zero_of_no_sems rfl r.2⟩)
    (run_seq scopedRefs_eq scopedSems_eq defs main (fun _ => ops) main_eq (fun _ => ops_sub) m g)

/-! ## The gather leaves the reference's result on every device -/

open Cert.SmallRun (got0)

theorem got0_eq (m : (ℓ : Loc Cert.SmallIdeal.nD Cert.SmallIdeal.τ Cert.SmallIdeal.sig) → Buf (Elt F) ℓ) (x : FVec F S18624x128 .f32)
    (hT : Layout.Tiles (Sh0 2328 128) (Sh0 18624 128) 0 8)
    (h : ∀ c : Dev Cert.SmallIdeal.nD, m ((c.tc : Thread Cert.SmallIdeal.nD Cert.SmallIdeal.τ).loc Cert.SmallIdeal.main_arg0) = Layout.block (Sh0 2328 128) (Sh0 18624 128) 0 8 c x hT)
    (c : Dev Cert.SmallIdeal.nD) : got0 m c = out0 x :=
  funext fun y => (congrFun (h (show Fin 8 from y 0)) (within y)).trans (slabs_rows shapeCasts_S18624x128_S8x2328x128 x hT y)

end Cert.SmallValue
-- ==== Proof.GatherValue.lean ====
/-
  The reference of the gather of the weights' parts, run on its one device over any float values: the whole arrays in eight
  slabs, slab `c` being what device `c` was given. Two of the arrays lie on the devices by their columns, one by its rows.
-/
module

public import proofs.«01_k».proof.Proof.GatherRun
public import proofs.«01_k».proof.Proof.SmallValue
public import proofs.«01_k».proof.Proof.Gen.GatherRefIdeal
public import Idealize.ShloMosaic.Lib.StableHlo.Run
public import Idealize.ShloMosaic.Lib.Pipeline.Value
public import Idealize.ShloMosaic.Lib.Layout
public import Idealize.ShloMosaic.Lib.Quiescent

@[expose] public section

noncomputable section

namespace Cert.GatherValue

open Cert.GatherRefIdeal Cert.GatherRefIdeal.Gen
open Idealize.ShloMosaic Idealize.ShloMosaic.TcCoe Idealize.ShloMosaic.StableHlo Idealize.SL.Sem
open Cert.Slabs (Sh0 Sh8 within)

variable {F : FTy → Type} [FloatOps F] {α : Type} {A B N : ℕ}

/-- The columns of an array as eight groups, the group first. -/
def columns (h₁ : (Sh0 A N).ShapeCasts ⟨3, ![A, 8, B]⟩) (h₂ : Shape.Transposes ⟨3, ![A, 8, B]⟩ [1, 0, 2] (Sh8 A B)) (x : (Sh0 A N).Idx → α) : (Sh8 A B).Idx → α :=
  transpose (Sh8 A B) [1, 0, 2] (shapeCast ⟨3, ![A, 8, B]⟩ x h₁) h₂

/-- Slab `c` of it is block `c` of the columns. -/
theorem slabs_columns (hN : N = 8 * B) (h₁ : (Sh0 A N).ShapeCasts ⟨3, ![A, 8, B]⟩) (h₂ : Shape.Transposes ⟨3, ![A, 8, B]⟩ [1, 0, 2] (Sh8 A B))
    (x : (Sh0 A N).Idx → α) (hT : Layout.Tiles (Sh0 A B) (Sh0 A N) 1 8) (y : (Sh8 A B).Idx) :
    Layout.block (Sh0 A B) (Sh0 A N) 1 8 (y 0) x hT (within y) = columns h₁ h₂ x y := by
  have e0 : (hT.idx (y 0) (within y) 0).val = (y 1).val := rfl
  have e1 : (hT.idx (y 0) (within y) 1).val = (y 0).val * B + (y 2).val := rfl
  let k : (⟨3, ![A, 8, B]⟩ : Shape).Idx := fun a => match a with
    | 0 => y 1
    | 1 => y 0
    | 2 => y 2
  refine ((transpose_apply [1, 0, 2] _ h₂ y k ?_).trans (shapeCast_apply x h₁ k (hT.idx (y 0) (within y)) ?_)).symm
  · intro b; fin_cases b <;> rfl
  · rw [Shape.rowMajor_val_two, Shape.rowMajor_val_three, e0, e1]
    show (y 1).val * N + ((y 0).val * B + (y 2).val) = ((y 1).val * 8 + (y 0).val) * B + (y 2).val
    rw [hN, Nat.add_mul, Nat.mul_assoc, Nat.add_assoc]

/-! ## The reference's run -/

def out0 (x : FVec F S2048x15392 .bf16) : FVec F S8x2048x1924 .bf16 :=
  columns shapeCasts_S2048x15392_S2048x8x1924 transposes_S2048x8x1924_S8x2048x1924_1_0_2 x
def out1 (x : FVec F S2048x2048 .bf16) : FVec F S8x256x2048 .bf16 := shapeCast S8x256x2048 x shapeCasts_S2048x2048_S8x256x2048
def out2 (x : FVec F S4x3072 .f32) : FVec F S8x4x384 .f32 :=
  columns shapeCasts_S4x3072_S4x8x384 transposes_S4x8x384_S8x4x384_1_0_2 x

abbrev ops : List (HloOp τ sig (Elt F)) :=
  [ StableHlo.reshape main_arg0 main_v0 (rfl : (.bf16 : EltTy) = .bf16) shapeCasts_S2048x15392_S2048x8x1924,
    StableHlo.unary main_v0 main_v1 (transpose S8x2048x1924 [1, 0, 2] · transposes_S2048x8x1924_S8x2048x1924_1_0_2),
    StableHlo.reshape main_arg1 main_v2 (rfl : (.bf16 : EltTy) = .bf16) shapeCasts_S2048x2048_S8x256x2048,
    StableHlo.reshape main_arg2 main_v3 (rfl : (.f32 : EltTy) = .f32) shapeCasts_S4x3072_S4x8x384,
    StableHlo.unary main_v3 main_v4 (transpose S8x4x384 [1, 0, 2] · transposes_S4x8x384_S8x4x384_1_0_2) ]

theorem main_eq (c : Dev nD) : main (F := F) c = seq ops := rfl

theorem out0_eq (V : Valuation τ sig (Elt F)) : after ops V (main_v1 : DevRef τ sig) = out0 (F := F) (V (main_arg0 : DevRef τ sig)) := by
  after_results
  rfl
theorem out1_eq (V : Valuation τ sig (Elt F)) : after ops V (main_v2 : DevRef τ sig) = out1 (F := F) (V (main_arg1 : DevRef τ sig)) := by
  after_results
  rfl
theorem out2_eq (V : Valuation τ sig (Elt F)) : after ops V (main_v4 : DevRef τ sig) = out2 (F := F) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., reshape_bufs_sub .., unary_bufs_sub ..⟩

/-- The reference runs: its results are the three arrays in slabs, its arguments are unchanged, its semaphores are at zero. -/
theorem run_ref (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v1) = out0 (F := F) (m ((c.tc : Thread nD τ).loc main_arg0))
        ∧ r.2.mem ((c.tc : Thread nD τ).loc main_v2) = out1 (F := F) (m ((c.tc : Thread nD τ).loc main_arg1))
        ∧ r.2.mem ((c.tc : Thread nD τ).loc main_v4) = out2 (F := F) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => ⟨(h c main_v1).trans (out0_eq _), (h c main_v2).trans (out1_eq _), (h c main_v4).trans (out2_eq _),
      (h c main_arg0).trans (arg0_eq _), (h c main_arg1).trans (arg1_eq _), (h c main_arg2).trans (arg2_eq _)⟩, sem_eq_zero_of_no_sems rfl r.2⟩)
    (run_seq scopedRefs_eq scopedSems_eq defs main (fun _ => ops) main_eq (fun _ => ops_sub) m g)

/-! ## The gather leaves the reference's results on every device -/

open Cert.GatherRun (got0 got1 got2)
open Cert.SmallValue (slabs_rows)

theorem got0_eq (m : (ℓ : Loc Cert.GatherIdeal.nD Cert.GatherIdeal.τ Cert.GatherIdeal.sig) → Buf (Elt F) ℓ) (x : FVec F S2048x15392 .bf16)
    (hT : Layout.Tiles (Sh0 2048 1924) (Sh0 2048 15392) 1 8)
    (h : ∀ c : Dev Cert.GatherIdeal.nD, m ((c.tc : Thread Cert.GatherIdeal.nD Cert.GatherIdeal.τ).loc Cert.GatherIdeal.main_arg0) = Layout.block (Sh0 2048 1924) (Sh0 2048 15392) 1 8 c x hT)
    (c : Dev Cert.GatherIdeal.nD) : got0 m c = out0 x :=
  funext fun y => (congrFun (h (show Fin 8 from y 0)) (within y)).trans (slabs_columns rfl _ _ x hT y)

theorem got1_eq (m : (ℓ : Loc Cert.GatherIdeal.nD Cert.GatherIdeal.τ Cert.GatherIdeal.sig) → Buf (Elt F) ℓ) (x : FVec F S2048x2048 .bf16)
    (hT : Layout.Tiles (Sh0 256 2048) (Sh0 2048 2048) 0 8)
    (h : ∀ c : Dev Cert.GatherIdeal.nD, m ((c.tc : Thread Cert.GatherIdeal.nD Cert.GatherIdeal.τ).loc Cert.GatherIdeal.main_arg1) = Layout.block (Sh0 256 2048) (Sh0 2048 2048) 0 8 c x hT)
    (c : Dev Cert.GatherIdeal.nD) : got1 m c = out1 x :=
  funext fun y => (congrFun (h (show Fin 8 from y 0)) (within y)).trans (slabs_rows _ x hT y)

theorem got2_eq (m : (ℓ : Loc Cert.GatherIdeal.nD Cert.GatherIdeal.τ Cert.GatherIdeal.sig) → Buf (Elt F) ℓ) (x : FVec F S4x3072 .f32)
    (hT : Layout.Tiles (Sh0 4 384) (Sh0 4 3072) 1 8)
    (h : ∀ c : Dev Cert.GatherIdeal.nD, m ((c.tc : Thread Cert.GatherIdeal.nD Cert.GatherIdeal.τ).loc Cert.GatherIdeal.main_arg2) = Layout.block (Sh0 4 384) (Sh0 4 3072) 1 8 c x hT)
    (c : Dev Cert.GatherIdeal.nD) : got2 m c = out2 x :=
  funext fun y => (congrFun (h (show Fin 8 from y 0)) (within y)).trans (slabs_columns rfl _ _ x hT y)

end Cert.GatherValue
-- ==== Proof.Adam.lean ====
/-
  One AdamW step of one weight over the extended reals, from the sum of eight devices' gradients: the four numbers that the
  update calls write.
-/
module

public import Idealize.ShloMosaic.Lib.Pointwise
public import Idealize.ShloMosaic.Lib.Pipeline.Value

@[expose] public section

noncomputable section

namespace Cert.Adam

open Idealize.ShloMosaic

/-- The number that a float word is. -/
abbrev lit (w : BitVec 32) : Ideal .f32 := Scalar.ofBits .f32 w

/-- The new first moment: nine tenths of the old one and a tenth of the gradient. -/
def newM (g m : Ideal .f32) : Ideal .f32 := FloatOps.addf (FloatOps.mulf (lit 0x3F666666#32) m) (FloatOps.mulf (lit 0x3DCCCCCD#32) g)

/-- The new second moment. -/
def newV (g v : Ideal .f32) : Ideal .f32 :=
  FloatOps.addf (FloatOps.mulf (lit 0x3F7FBE77#32) v) (FloatOps.mulf (lit 0x3A83126F#32) (FloatOps.mulf g g))

/-- What is added to the weight. -/
def delta (g w m v : Ideal .f32) : Ideal .f32 :=
  FloatOps.mulf (lit 0xBA83126F#32) (FloatOps.addf
    (FloatOps.divf (FloatOps.divf (newM g m) (lit 0x3F26BD02#32))
      (FloatOps.addf (FloatOps.sqrt (FloatOps.divf (newV g v) (lit 0x3C231ACC#32))) (lit 0x322BCC77#32)))
    (FloatOps.mulf (lit 0x3C23D70A#32) w))

/-- The new first moment, element by element. -/
def stepM {S : Shape} (g m : FVec Ideal S .f32) : FVec Ideal S .f32 := fun i => newM (g i) (m i)

/-- The new second moment, element by element. -/
def stepV {S : Shape} (g v : FVec Ideal S .f32) : FVec Ideal S .f32 := fun i => newV (g i) (v i)

/-- What is added to the weight, element by element. -/
def stepD {S : Shape} (g w m v : FVec Ideal S .f32) : FVec Ideal S .f32 := fun i => delta (g i) (w i) (m i) (v i)

/-- The sum of eight numbers. -/
def total (p : Fin 8 → EReal) : EReal := ∑ k, p k

/-- The sum taken from the first on, as a device takes it. -/
theorem total_eq (p : Fin 8 → EReal) : ((((((p 0 + p 1) + p 2) + p 3) + p 4) + p 5) + p 6) + p 7 = total p := by
  unfold total; rw [Fin.sum_univ_eight]

end Cert.Adam

end
-- ==== Proof.AdamInValue.lean ====
/-
  The AdamW call of the input projection's weight: what its grid leaves in the four results, block by block, is the step of the sum of the
  eight devices' gradients, and so is what the reference computes.
-/
module

public import proofs.«01_k».proof.Proof.Adam
public import proofs.«01_k».proof.Proof.Gen.AdamInIdeal.Value
public import proofs.«01_k».proof.Proof.Gen.AdamInRefIdeal.Run
public import Idealize.ShloMosaic.Lib.Pipeline.ValueKit

@[expose] public section

noncomputable section

namespace Cert.AdamInValue

open Cert.Adam (stepM stepV stepD total_eq)
open Idealize.ShloMosaic Idealize.ShloMosaic.TcCoe Idealize.SL.Sem

section Kernel

open Cert.AdamInIdeal Cert.AdamInIdeal.Gen

variable (m : (ℓ : Loc nD τ sig) → Buf (Elt Ideal) ℓ) (ρ : Dev nD → PrngReg)

/-- The gradient: the sum of the devices' parts. -/
def grad (p : Vec Ideal S8x2048x1924 .bf16) : Vec Ideal S2048x1924 .f32 := fun i => Cert.Adam.total fun k => p (ix3 k (i 0) (i 1))

/-- Every window moves down by a block at a point. -/
theorem moved : ∀ t : Fin cfg0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] :=
  (by decide +kernel : ∀ t : Fin grid0.N, _)

/-- Where an element of a point's block lies in the whole array. -/
def place (t : Fin cfg0.N) (y : S128x1924.Idx) : S2048x1924.Idx := (win0_4.blk t).view.emb y

theorem part_block (c : Dev nD) (t : Fin cfg0.N) (y : S128x1924.Idx) (k : Fin 8) :
    iblk m c 0 t (ix3 k (y 0) (y 1)) = m ((c : Thread nD τ).loc main_arg0) (ix3 k (place t y 0) (place t y 1)) := by
  obtain ⟨e0, -, -, -, e4, -⟩ := moved t
  unfold place
  blk_simp [iblk, e0, e4]
  blk_ext [e0, e4]

theorem blocks (c : Dev nD) (t : Fin cfg0.N) (y : S128x1924.Idx) :
    iblk m c 1 t y = m ((c : Thread nD τ).loc main_arg1) (place t y) ∧ iblk m c 2 t y = m ((c : Thread nD τ).loc main_arg2) (place t y)
    ∧ iblk m c 3 t y = m ((c : Thread nD τ).loc main_arg3) (place t y) := by
  obtain ⟨-, e1, e2, e3, e4, -⟩ := moved t
  unfold place
  refine ⟨?_, ?_, ?_⟩ <;> (blk_simp [iblk, e1, e2, e3, e4]; blk_ext [e1, e2, e3, e4])

theorem places (t : Fin cfg0.N) (y : S128x1924.Idx) : (win0_5.blk t).view.emb y = place t y ∧ (win0_6.blk t).view.emb y = place t y
    ∧ (win0_7.blk t).view.emb y = place t y := by
  obtain ⟨-, -, -, -, e4, e5, e6, e7⟩ := moved t
  unfold place
  refine ⟨?_, ?_, ?_⟩ <;> blk_ext [e4, e5, e6, e7]

/-- A point's sum of the parts' blocks is the block of the gradient. -/
theorem sum_block (c : Dev nD) (t : Fin cfg0.N) (y : S128x1924.Idx) :
    k0_pay5 (iblk m c 0 t) (iblk m c 1 t) (iblk m c 2 t) (iblk m c 3 t) y = grad (m ((c : Thread nD τ).loc main_arg0)) (place t y) := by
  unfold k0_pay5 k0_pay4 grad
  rw [← total_eq]
  simp only [← part_block]
  pointwise

theorem final4 (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  exact sum_block m c t y

theorem final5 (c : Dev nD) : (dats m 0 c).arrAt 5 cfg0.N = stepD (grad (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨h1, h2, h3⟩ := blocks m c t y
  refine Eq.trans ?_ (congrArg (stepD _ _ _ _) (places t y).1.symm)
  rw [stepD, ← sum_block m c t y, ← h1, ← h2, ← h3]
  rfl

theorem final6 (c : Dev nD) : (dats m 0 c).arrAt 6 cfg0.N = stepM (grad (m ((c : Thread nD τ).loc main_arg0)))
    (m ((c : Thread nD τ).loc main_arg2)) := by
  refine (dats m 0 c).arrAt_eq_of_covers 6 _ (by decide +kernel) fun t hf y => ?_
  blk_simp
  rw [after0_6]
  frame_out
  refine Eq.trans ?_ (congrArg (stepM _ _) (places t y).2.1.symm)
  show _ = Cert.Adam.newM _ _
  rw [← sum_block m c t y, ← (blocks m c t y).2.1]
  rfl

theorem final7 (c : Dev nD) : (dats m 0 c).arrAt 7 cfg0.N = stepV (grad (m ((c : Thread nD τ).loc main_arg0)))
    (m ((c : Thread nD τ).loc main_arg3)) := by
  refine (dats m 0 c).arrAt_eq_of_covers 7 _ (by decide +kernel) fun t hf y => ?_
  blk_simp
  rw [after0_7]
  frame_out
  refine Eq.trans ?_ (congrArg (stepV _ _) (places t y).2.2.symm)
  rw [stepV, ← sum_block m c t y, ← (blocks m c t y).2.2]
  rfl

/-- The call runs: its results are the gradient, the change, the new moments; its arguments are unchanged. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v0_2) = stepM (grad (m ((c : Thread nD τ).loc main_arg0))) (m ((c : Thread nD τ).loc main_arg2))
      ∧ r.2.mem ((c : Thread nD τ).loc main_v0_3) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
      (h c).2.2.2.1.trans (final7 m c), (h c).2.2.2.2⟩)
    (Cert.AdamInIdeal.Value.run_blocks m ρ)

end Kernel

section Reference

open Cert.AdamInRefIdeal Cert.AdamInRefIdeal.Gen

variable (m : (ℓ : Loc nD τ sig) → Buf (Elt Ideal) ℓ) (ρ : Dev nD → PrngReg)

/-- The reference's sum over the devices' parts. -/
theorem ref_grad (p : Vec Ideal S8x2048x1924 .bf16) :
    Host.reduceAdd (F := Ideal) (extf .f32 p bitsLt_bf16_f32) (constant S_ .f32 0x00000000#32) reducesTo_S8x2048x1924_S2048x1924_d0 h_S_ = grad p := by
  funext i
  pointwise
  rfl

/-- The reference runs and leaves the same step. -/
theorem run_ref : θ_run defs (onTc (τ := τ) (main (F := Ideal))) ⟨m, fun _ => 0, ρ⟩ fun r => ∀ c : Dev nD,
      r.2.mem ((c : Thread nD τ).loc main_v1) = grad (m ((c : Thread nD τ).loc main_arg0))
      ∧ r.2.mem ((c : Thread nD τ).loc main_v25) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v6) = stepM (grad (m ((c : Thread nD τ).loc main_arg0))) (m ((c : Thread nD τ).loc main_arg2))
      ∧ r.2.mem ((c : Thread nD τ).loc main_v12) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_grad _), (h c).2.1.trans (congrArg (stepD · _ _ _) (ref_grad _)),
      (h c).2.2.1.trans (congrArg (stepM · _) (ref_grad _)), (h c).2.2.2.1.trans (congrArg (stepV · _) (ref_grad _)), (h c).2.2.2.2⟩)
    (Value.run m ρ)

end Reference

end Cert.AdamInValue

end
-- ==== Proof.AdamOutValue.lean ====
/-
  The AdamW call of the output projection's weight: what its grid leaves in the four results, block by block, is the step of the sum of the
  eight devices' gradients, and so is what the reference computes.
-/
module

public import proofs.«01_k».proof.Proof.Adam
public import proofs.«01_k».proof.Proof.Gen.AdamOutIdeal.Value
public import proofs.«01_k».proof.Proof.Gen.AdamOutRefIdeal.Run
public import Idealize.ShloMosaic.Lib.Pipeline.ValueKit

@[expose] public section

noncomputable section

namespace Cert.AdamOutValue

open Cert.Adam (stepM stepV stepD total_eq)
open Idealize.ShloMosaic Idealize.ShloMosaic.TcCoe Idealize.SL.Sem

section Kernel

open Cert.AdamOutIdeal Cert.AdamOutIdeal.Gen

variable (m : (ℓ : Loc nD τ sig) → Buf (Elt Ideal) ℓ) (ρ : Dev nD → PrngReg)

/-- The gradient: the sum of the devices' parts. -/
def grad (p : Vec Ideal S8x256x2048 .bf16) : Vec Ideal S256x2048 .f32 := fun i => Cert.Adam.total fun k => p (ix3 k (i 0) (i 1))

/-- Every window moves down by a block at a point. -/
theorem moved : ∀ t : Fin cfg0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] :=
  (by decide +kernel : ∀ t : Fin grid0.N, _)

/-- Where an element of a point's block lies in the whole array. -/
def place (t : Fin cfg0.N) (y : S128x2048.Idx) : S256x2048.Idx := (win0_4.blk t).view.emb y

theorem part_block (c : Dev nD) (t : Fin cfg0.N) (y : S128x2048.Idx) (k : Fin 8) :
    iblk m c 0 t (ix3 k (y 0) (y 1)) = m ((c : Thread nD τ).loc main_arg0) (ix3 k (place t y 0) (place t y 1)) := by
  obtain ⟨e0, -, -, -, e4, -⟩ := moved t
  unfold place
  blk_simp [iblk, e0, e4]
  blk_ext [e0, e4]

theorem blocks (c : Dev nD) (t : Fin cfg0.N) (y : S128x2048.Idx) :
    iblk m c 1 t y = m ((c : Thread nD τ).loc main_arg1) (place t y) ∧ iblk m c 2 t y = m ((c : Thread nD τ).loc main_arg2) (place t y)
    ∧ iblk m c 3 t y = m ((c : Thread nD τ).loc main_arg3) (place t y) := by
  obtain ⟨-, e1, e2, e3, e4, -⟩ := moved t
  unfold place
  refine ⟨?_, ?_, ?_⟩ <;> (blk_simp [iblk, e1, e2, e3, e4]; blk_ext [e1, e2, e3, e4])

theorem places (t : Fin cfg0.N) (y : S128x2048.Idx) : (win0_5.blk t).view.emb y = place t y ∧ (win0_6.blk t).view.emb y = place t y
    ∧ (win0_7.blk t).view.emb y = place t y := by
  obtain ⟨-, -, -, -, e4, e5, e6, e7⟩ := moved t
  unfold place
  refine ⟨?_, ?_, ?_⟩ <;> blk_ext [e4, e5, e6, e7]

/-- A point's sum of the parts' blocks is the block of the gradient. -/
theorem sum_block (c : Dev nD) (t : Fin cfg0.N) (y : S128x2048.Idx) :
    k0_pay5 (iblk m c 0 t) (iblk m c 1 t) (iblk m c 2 t) (iblk m c 3 t) y = grad (m ((c : Thread nD τ).loc main_arg0)) (place t y) := by
  unfold k0_pay5 k0_pay4 grad
  rw [← total_eq]
  simp only [← part_block]
  pointwise

theorem final4 (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  exact sum_block m c t y

theorem final5 (c : Dev nD) : (dats m 0 c).arrAt 5 cfg0.N = stepD (grad (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨h1, h2, h3⟩ := blocks m c t y
  refine Eq.trans ?_ (congrArg (stepD _ _ _ _) (places t y).1.symm)
  rw [stepD, ← sum_block m c t y, ← h1, ← h2, ← h3]
  rfl

theorem final6 (c : Dev nD) : (dats m 0 c).arrAt 6 cfg0.N = stepM (grad (m ((c : Thread nD τ).loc main_arg0)))
    (m ((c : Thread nD τ).loc main_arg2)) := by
  refine (dats m 0 c).arrAt_eq_of_covers 6 _ (by decide +kernel) fun t hf y => ?_
  blk_simp
  rw [after0_6]
  frame_out
  refine Eq.trans ?_ (congrArg (stepM _ _) (places t y).2.1.symm)
  show _ = Cert.Adam.newM _ _
  rw [← sum_block m c t y, ← (blocks m c t y).2.1]
  rfl

theorem final7 (c : Dev nD) : (dats m 0 c).arrAt 7 cfg0.N = stepV (grad (m ((c : Thread nD τ).loc main_arg0)))
    (m ((c : Thread nD τ).loc main_arg3)) := by
  refine (dats m 0 c).arrAt_eq_of_covers 7 _ (by decide +kernel) fun t hf y => ?_
  blk_simp
  rw [after0_7]
  frame_out
  refine Eq.trans ?_ (congrArg (stepV _ _) (places t y).2.2.symm)
  rw [stepV, ← sum_block m c t y, ← (blocks m c t y).2.2]
  rfl

/-- The call runs: its results are the gradient, the change, the new moments; its arguments are unchanged. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v0_2) = stepM (grad (m ((c : Thread nD τ).loc main_arg0))) (m ((c : Thread nD τ).loc main_arg2))
      ∧ r.2.mem ((c : Thread nD τ).loc main_v0_3) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
      (h c).2.2.2.1.trans (final7 m c), (h c).2.2.2.2⟩)
    (Cert.AdamOutIdeal.Value.run_blocks m ρ)

end Kernel

section Reference

open Cert.AdamOutRefIdeal Cert.AdamOutRefIdeal.Gen

variable (m : (ℓ : Loc nD τ sig) → Buf (Elt Ideal) ℓ) (ρ : Dev nD → PrngReg)

/-- The reference's sum over the devices' parts. -/
theorem ref_grad (p : Vec Ideal S8x256x2048 .bf16) :
    Host.reduceAdd (F := Ideal) (extf .f32 p bitsLt_bf16_f32) (constant S_ .f32 0x00000000#32) reducesTo_S8x256x2048_S256x2048_d0 h_S_ = grad p := by
  funext i
  pointwise
  rfl

/-- The reference runs and leaves the same step. -/
theorem run_ref : θ_run defs (onTc (τ := τ) (main (F := Ideal))) ⟨m, fun _ => 0, ρ⟩ fun r => ∀ c : Dev nD,
      r.2.mem ((c : Thread nD τ).loc main_v1) = grad (m ((c : Thread nD τ).loc main_arg0))
      ∧ r.2.mem ((c : Thread nD τ).loc main_v25) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v6) = stepM (grad (m ((c : Thread nD τ).loc main_arg0))) (m ((c : Thread nD τ).loc main_arg2))
      ∧ r.2.mem ((c : Thread nD τ).loc main_v12) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_grad _), (h c).2.1.trans (congrArg (stepD · _ _ _) (ref_grad _)),
      (h c).2.2.1.trans (congrArg (stepM · _) (ref_grad _)), (h c).2.2.2.1.trans (congrArg (stepV · _) (ref_grad _)), (h c).2.2.2.2⟩)
    (Value.run m ρ)

end Reference

end Cert.AdamOutValue

end
-- ==== Proof.AdamSmallValue.lean ====
/-
  The AdamW call of the packed small parameters: what its grid leaves in the four results, block by block, is the step of the sum of the
  eight devices' gradients, and so is what the reference computes.
-/
module

public import proofs.«01_k».proof.Proof.Adam
public import proofs.«01_k».proof.Proof.Gen.AdamSmallIdeal.Value
public import proofs.«01_k».proof.Proof.Gen.AdamSmallRefIdeal.Run
public import Idealize.ShloMosaic.Lib.Pipeline.ValueKit

@[expose] public section

noncomputable section

namespace Cert.AdamSmallValue

open Cert.Adam (stepM stepV stepD total_eq)
open Idealize.ShloMosaic Idealize.ShloMosaic.TcCoe Idealize.SL.Sem

section Kernel

open Cert.AdamSmallIdeal Cert.AdamSmallIdeal.Gen

variable (m : (ℓ : Loc nD τ sig) → Buf (Elt Ideal) ℓ) (ρ : Dev nD → PrngReg)

/-- The gradient: the sum of the devices' parts. -/
def grad (p : Vec Ideal S8x2248x128 .f32) : Vec Ideal S2248x128 .f32 := fun i => Cert.Adam.total fun k => p (ix3 k (i 0) (i 1))

/-- Every window moves down by a block at a point. -/
theorem moved : ∀ t : Fin cfg0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] :=
  (by decide +kernel : ∀ t : Fin grid0.N, _)

/-- Where an element of a point's block lies in the whole array. -/
def place (t : Fin cfg0.N) (y : S2248x128.Idx) : S2248x128.Idx := (win0_4.blk t).view.emb y

theorem part_block (c : Dev nD) (t : Fin cfg0.N) (y : S2248x128.Idx) (k : Fin 8) :
    iblk m c 0 t (ix3 k (y 0) (y 1)) = m ((c : Thread nD τ).loc main_arg0) (ix3 k (place t y 0) (place t y 1)) := by
  obtain ⟨e0, -, -, -, e4, -⟩ := moved t
  unfold place
  blk_simp [iblk, e0, e4]
  blk_ext [e0, e4]

theorem blocks (c : Dev nD) (t : Fin cfg0.N) (y : S2248x128.Idx) :
    iblk m c 1 t y = m ((c : Thread nD τ).loc main_arg1) (place t y) ∧ iblk m c 2 t y = m ((c : Thread nD τ).loc main_arg2) (place t y)
    ∧ iblk m c 3 t y = m ((c : Thread nD τ).loc main_arg3) (place t y) := by
  obtain ⟨-, e1, e2, e3, e4, -⟩ := moved t
  unfold place
  refine ⟨?_, ?_, ?_⟩ <;> (blk_simp [iblk, e1, e2, e3, e4]; blk_ext [e1, e2, e3, e4])

theorem places (t : Fin cfg0.N) (y : S2248x128.Idx) : (win0_5.blk t).view.emb y = place t y ∧ (win0_6.blk t).view.emb y = place t y
    ∧ (win0_7.blk t).view.emb y = place t y := by
  obtain ⟨-, -, -, -, e4, e5, e6, e7⟩ := moved t
  unfold place
  refine ⟨?_, ?_, ?_⟩ <;> blk_ext [e4, e5, e6, e7]

/-- A point's sum of the parts' blocks is the block of the gradient. -/
theorem sum_block (c : Dev nD) (t : Fin cfg0.N) (y : S2248x128.Idx) :
    k0_pay5 (iblk m c 0 t) (iblk m c 1 t) (iblk m c 2 t) (iblk m c 3 t) y = grad (m ((c : Thread nD τ).loc main_arg0)) (place t y) := by
  unfold k0_pay5 k0_pay3 grad
  rw [← total_eq]
  simp only [← part_block]
  pointwise

/-- The value computed ahead is the new first moment of the gradient. -/
theorem moment (x0 : Vec Ideal S8x2248x128 .f32) (x1 x2 x3 : Vec Ideal S2248x128 .f32) : k0_pay6 x0 x1 x2 x3 = stepM (k0_pay5 x0 x1 x2 x3) x2 := by
  unfold k0_pay6 k0_pay4
  rw [View.ld_unit_zero (by funext a; fin_cases a <;> rfl)]
  rfl

theorem final4 (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  frame_out
  exact sum_block m c t y

theorem final5 (c : Dev nD) : (dats m 0 c).arrAt 5 cfg0.N = stepD (grad (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [moment]
  obtain ⟨h1, h2, h3⟩ := blocks m c t y
  refine Eq.trans ?_ (congrArg (stepD _ _ _ _) (places t y).1.symm)
  rw [stepD, ← sum_block m c t y, ← h1, ← h2, ← h3]
  rfl

theorem final6 (c : Dev nD) : (dats m 0 c).arrAt 6 cfg0.N = stepM (grad (m ((c : Thread nD τ).loc main_arg0)))
    (m ((c : Thread nD τ).loc main_arg2)) := by
  refine (dats m 0 c).arrAt_eq_of_covers 6 _ (by decide +kernel) fun t hf y => ?_
  blk_simp
  rw [after0_6]
  frame_out
  rw [moment]
  refine Eq.trans ?_ (congrArg (stepM _ _) (places t y).2.1.symm)
  show _ = Cert.Adam.newM _ _
  rw [← sum_block m c t y, ← (blocks m c t y).2.1]
  rfl

theorem final7 (c : Dev nD) : (dats m 0 c).arrAt 7 cfg0.N = stepV (grad (m ((c : Thread nD τ).loc main_arg0)))
    (m ((c : Thread nD τ).loc main_arg3)) := by
  refine (dats m 0 c).arrAt_eq_of_covers 7 _ (by decide +kernel) fun t hf y => ?_
  blk_simp
  rw [after0_7]
  frame_out
  refine Eq.trans ?_ (congrArg (stepV _ _) (places t y).2.2.symm)
  rw [stepV, ← sum_block m c t y, ← (blocks m c t y).2.2]
  rfl

/-- The call runs: its results are the gradient, the change, the new moments; its arguments are unchanged. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v0_2) = stepM (grad (m ((c : Thread nD τ).loc main_arg0))) (m ((c : Thread nD τ).loc main_arg2))
      ∧ r.2.mem ((c : Thread nD τ).loc main_v0_3) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
      (h c).2.2.2.1.trans (final7 m c), (h c).2.2.2.2⟩)
    (Cert.AdamSmallIdeal.Value.run_blocks m ρ)

end Kernel

section Reference

open Cert.AdamSmallRefIdeal Cert.AdamSmallRefIdeal.Gen

variable (m : (ℓ : Loc nD τ sig) → Buf (Elt Ideal) ℓ) (ρ : Dev nD → PrngReg)

/-- The reference's sum over the devices' parts. -/
theorem ref_grad (p : Vec Ideal S8x2248x128 .f32) :
    Host.reduceAdd (F := Ideal) (p) (constant S_ .f32 0x00000000#32) reducesTo_S8x2248x128_S2248x128_d0 h_S_ = grad p := by
  funext i
  pointwise
  rfl

/-- The reference runs and leaves the same step. -/
theorem run_ref : θ_run defs (onTc (τ := τ) (main (F := Ideal))) ⟨m, fun _ => 0, ρ⟩ fun r => ∀ c : Dev nD,
      r.2.mem ((c : Thread nD τ).loc main_v0) = grad (m ((c : Thread nD τ).loc main_arg0))
      ∧ r.2.mem ((c : Thread nD τ).loc main_v24) = stepD (grad (m ((c : Thread nD τ).loc main_arg0)))
          (m ((c : Thread nD τ).loc main_arg1)) (m ((c : Thread nD τ).loc main_arg2)) (m ((c : Thread nD τ).loc main_arg3))
      ∧ r.2.mem ((c : Thread nD τ).loc main_v5) = stepM (grad (m ((c : Thread nD τ).loc main_arg0))) (m ((c : Thread nD τ).loc main_arg2))
      ∧ r.2.mem ((c : Thread nD τ).loc main_v11) = stepV (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_grad _), (h c).2.1.trans (congrArg (stepD · _ _ _) (ref_grad _)),
      (h c).2.2.1.trans (congrArg (stepM · _) (ref_grad _)), (h c).2.2.2.1.trans (congrArg (stepV · _) (ref_grad _)), (h c).2.2.2.2⟩)
    (Value.run m ρ)

end Reference

end Cert.AdamSmallValue

end
-- ==== Proof.Norm.lean ====
/-
  The backward pass of the root-mean-square norm over the extended reals, one element of one row: the form that the kernel
  takes and the form that differentiation of the plain norm gives are one number, whatever the row holds.
-/
module

public import Idealize.ShloMosaic.Lib.Pointwise
public import Idealize.ShloMosaic.Lib.Pipeline.Value

@[expose] public section

noncomputable section

namespace Cert.Norm

open Idealize.ShloMosaic

/-- The number that a float word is. -/
abbrev lit (w : BitVec 32) : EReal := Ideal.ofBits .f32 w

/-- The row's length, its reciprocal's divisor. -/
theorem lit_length : lit 0x45000000#32 = ((2048 : ℝ) : EReal) := by
  simp [lit, Ideal.ofBits, Ideal.ieee, -EReal.coe_mul]; norm_num

theorem lit_half : lit 0xBF000000#32 = ((-(1 / 2) : ℝ) : EReal) := by
  simp [lit, Ideal.ofBits, Ideal.ieee, -EReal.coe_mul]; norm_num

/-- What is added under the root is a positive real. -/
theorem lit_eps : ∃ e : ℝ, 0 < e ∧ lit 0x3727C5AC#32 = (e : EReal) := by
  refine ⟨_, ?_, by simp [lit, Ideal.ofBits, Ideal.ieee, -EReal.coe_mul]; rfl⟩
  norm_num

/-- What stands under the root: the mean of the row's squares, and a little more. -/
def under (x : Fin 2048 → EReal) : EReal := Ideal.div (∑ k, x k * x k) (lit 0x45000000#32) + lit 0x3727C5AC#32

/-- It is infinite or a positive real. -/
theorem under_cases (x : Fin 2048 → EReal) : under x = ⊤ ∨ ∃ t : ℝ, 0 < t ∧ under x = (t : EReal) := by
  obtain ⟨e, he, hl⟩ := lit_eps
  unfold under
  rw [hl, lit_length, Ideal.div_coe (by norm_num)]
  have hs : 0 ≤ (∑ k, x k * x k) * ((1 / 2048 : ℝ) : EReal) :=
    mul_nonneg (Finset.sum_nonneg fun k _ => by
      rcases le_total 0 (x k) with h | h
      · exact mul_nonneg h h
      · rw [← neg_mul_neg]; exact mul_nonneg (EReal.neg_nonneg.mpr h) (EReal.neg_nonneg.mpr h)) (by norm_num)
  generalize (∑ k, x k * x k) * ((1 / 2048 : ℝ) : EReal) = s at hs
  induction s with
  | bot => exact absurd hs (by simp)
  | top => exact .inl rfl
  | coe r => exact .inr ⟨r + e, add_pos_of_nonneg_of_pos (by exact_mod_cast hs) he, by push_cast; rfl⟩

/-- A nonnegative real distributes over a sum. -/
theorem mul_sum_real {n : ℕ} (a : ℝ) (ha : 0 ≤ a) (f : Fin n → EReal) : (a : EReal) * ∑ k, f k = ∑ k, (a : EReal) * f k := by
  classical
  refine Finset.induction_on (motive := fun s => (a : EReal) * ∑ k ∈ s, f k = ∑ k ∈ s, (a : EReal) * f k) _ (by simp) fun k s hk ih => ?_
  rw [Finset.sum_insert hk, Finset.sum_insert hk, EReal.left_distrib_of_nonneg_of_ne_top (by exact_mod_cast ha) (EReal.coe_ne_top a), ih]

theorem add_self (a : EReal) : a + a = ((2 : ℝ) : EReal) * a := by
  induction a with
  | bot => rw [EReal.coe_mul_bot_of_pos (by norm_num)]; rfl
  | top => rw [EReal.coe_mul_top_of_pos (by norm_num)]; rfl
  | coe r => norm_cast; exact (two_mul r).symm

/-- The gradient as the kernel takes it: `x` and `d` a row of the argument and of what comes back through the weight. -/
def back (x d : Fin 2048 → EReal) (j : Fin 2048) : EReal :=
  Ideal.rsqrt (under x) * (d j - x j * Ideal.rsqrt (under x) * Ideal.div (∑ k, d k * (x k * Ideal.rsqrt (under x))) (lit 0x45000000#32))

/-- The share of the mean in the gradient as differentiation gives it. -/
def share (x d : Fin 2048 → EReal) : EReal :=
  Ideal.div ((∑ k, x k * d k) * (lit 0xBF000000#32 * Ideal.div (Ideal.rsqrt (under x)) (under x))) (lit 0x45000000#32)

theorem back_eq (x d : Fin 2048 → EReal) (j : Fin 2048) :
    d j * Ideal.rsqrt (under x) + x j * share x d + share x d * x j = back x d j := by
  unfold back share
  rcases under_cases x with h | ⟨t, ht, h⟩
  · rw [h, Ideal.rsqrt_top]
    simp [Ideal.div, lit_length]
  · have hr : Ideal.rsqrt (t : EReal) = (((Real.sqrt t)⁻¹ : ℝ) : EReal) := by
      rw [Ideal.rsqrt_coe, if_neg (not_lt.mpr ht.le), if_neg ht.ne']
    have h3 : Ideal.div (((Real.sqrt t)⁻¹ : ℝ) : EReal) (t : EReal)
        = (((Real.sqrt t)⁻¹ * ((Real.sqrt t)⁻¹ * (Real.sqrt t)⁻¹) : ℝ) : EReal) := by
      rw [Ideal.div_coe ht.ne', ← EReal.coe_mul, ← mul_inv, Real.mul_self_sqrt ht.le, one_div]
    rw [h, hr, h3, lit_length, lit_half]
    have hp : 0 ≤ (Real.sqrt t)⁻¹ := inv_nonneg.mpr (Real.sqrt_nonneg t)
    generalize (Real.sqrt t)⁻¹ = r at hp
    have hn : (2048 : ℝ) ≠ 0 := by norm_num
    have hS : ∑ k, d k * (x k * (r : EReal)) = (r : EReal) * ∑ k, x k * d k := by
      rw [mul_sum_real r hp]
      exact Finset.sum_congr rfl fun k _ => by ac_rfl
    rw [Ideal.div_coe hn, Ideal.div_coe hn, hS, sub_eq_add_neg,
      EReal.left_distrib_of_nonneg_of_ne_top (by exact_mod_cast hp) (EReal.coe_ne_top r), add_assoc]
    generalize ∑ k, x k * d k = S
    rw [mul_comm (d j), mul_comm _ (x j), add_self]
    congr 1
    have hneg : ∀ a : EReal, -a = ((-1 : ℝ) : EReal) * a := fun a => by simp
    rw [hneg]
    have e1 : ((2 : ℝ) : EReal) * (x j * (S * (((-(1 / 2) : ℝ) : EReal) * ((r * (r * r) : ℝ) : EReal)) * ((1 / 2048 : ℝ) : EReal)))
        = x j * S * ((2 * ((-(1 / 2)) * (r * (r * r)) * (1 / 2048)) : ℝ) : EReal) := by
      simp only [EReal.coe_mul]; ac_rfl
    have e2 : (r : EReal) * (((-1 : ℝ) : EReal) * (x j * (r : EReal) * ((r : EReal) * S * ((1 / 2048 : ℝ) : EReal))))
        = x j * S * ((r * (-1) * r * r * (1 / 2048) : ℝ) : EReal) := by
      simp only [EReal.coe_mul]; ac_rfl
    rw [e1, e2]
    congr 2
    ring

end Cert.Norm

end
-- ==== Proof.NormFwdValue.lean ====
/-
  The norm before the input projection: what the grid leaves, block by block, is what the reference computes.
-/
module

public import proofs.«01_k».proof.Proof.Norm
public import proofs.«01_k».proof.Proof.Gen.NormFwdIdeal.Value
public import proofs.«01_k».proof.Proof.Gen.NormFwdRefIdeal.Run
public import Idealize.ShloMosaic.Lib.Pipeline.ValueKit

@[expose] public section

noncomputable section

namespace Cert.NormFwdValue

open Cert.Norm (under)
open Idealize.ShloMosaic Idealize.ShloMosaic.TcCoe Idealize.SL.Sem

/-- The norm of the rows, times the weight. -/
def normed {n : ℕ} (x : Vec Ideal ⟨2, ![n, 2048]⟩ .f32) (w : Vec Ideal ⟨2, ![1, 2048]⟩ .f32) : Vec Ideal ⟨2, ![n, 2048]⟩ .bf16 := fun y =>
  x y * Ideal.rsqrt (under fun k => x (ix2 (y 0) k)) * w (ix2 0 (y 1))

section Kernel

open Cert.NormFwdIdeal Cert.NormFwdIdeal.Gen

variable (m : (ℓ : Loc nD τ sig) → Buf (Elt Ideal) ℓ) (ρ : Dev nD → PrngReg)

theorem pay1_eq (x : Vec Ideal S512x2048 .f32) (w : Vec Ideal S1x2048 .f32) (y : S512x2048.Idx) : k0_pay1 x w y = normed x w y := by
  unfold k0_pay1 normed under
  pointwise

/-- The rows move with the point, the weight does not. -/
theorem moved : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

theorem blocks (c : Dev nD) (t : Fin cfg0.N) (y : S512x2048.Idx) (k : Fin 2048) :
    iblk m c 0 t (ix2 (y 0) k) = m ((c : Thread nD τ).loc main_arg0) (ix2 ((win0_2.blk t).view.emb y 0) k)
    ∧ iblk m c 0 t y = m ((c : Thread nD τ).loc main_arg0) ((win0_2.blk t).view.emb y)
    ∧ iblk m c 1 t (ix2 0 (y 1)) = m ((c : Thread nD τ).loc main_arg1) (ix2 0 ((win0_2.blk t).view.emb y 1)) := by
  obtain ⟨e0, e1, e2⟩ := moved t
  refine ⟨?_, ?_, ?_⟩ <;> (blk_simp [iblk, e0, e1, e2]; blk_ext [e0, e1, e2])

theorem final2 (c : Dev nD) :
    (dats m 0 c).arrAt 2 cfg0.N = normed (n := 8192) (m ((c : Thread nD τ).loc main_arg0)) (m ((c : Thread nD τ).loc main_arg1)) := by
  refine (dats m 0 c).arrAt_eq_of_covers 2 _ (by decide +kernel) fun t hf y => ?_
  blk_simp
  rw [after0_2]; frame_out
  refine (pay1_eq _ _ _).trans ?_
  have h0 := fun k => (blocks m c t y k).1
  obtain ⟨-, h1, h2⟩ := blocks m c t y 0
  unfold normed
  simp only [h0]
  exact congrArg₂ (fun a b : EReal => a * _ * b) h1 h2

/-- The call runs and leaves the norm; its arguments are unchanged. -/
theorem run : θ_run defs (onTc (τ := τ) (main (F := Ideal))) ⟨m, fun _ => 0, ρ⟩ fun r => ∀ c : Dev nD,
      r.2.mem ((c : Thread nD τ).loc main_v0) = normed (n := 8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Cert.NormFwdIdeal.Value.run_blocks m ρ)

end Kernel

section Reference

open Cert.NormFwdRefIdeal Cert.NormFwdRefIdeal.Gen

variable (m : (ℓ : Loc nD τ sig) → Buf (Elt Ideal) ℓ) (ρ : Dev nD → PrngReg)

theorem ref_eq (x : Vec Ideal S8192x2048 .f32) (w : Vec Ideal S1x2048 .f32) :
    truncf (F := Ideal) .bf16 (mulf (F := Ideal) (φ := .f32) (mulf (F := Ideal) (φ := .f32) x (broadcastInDim S8192x2048 ![0, 1] bcast_S8192x1_S8192x2048_0_1
      (Host.rsqrt (addf (Host.divf (broadcastInDim S8192x1 ![0] bcast_S8192_S8192x1_0 (Host.reduceAdd (F := Ideal) (φ := .f32) (mulf (F := Ideal) (φ := .f32) x x)
        (constant S_ .f32 0x00000000#32) reducesTo_S8192x2048_S8192_d1 h_S_)) (broadcastInDim S8192x1 ![] bcast_S_S8192x1 (constant S_ .f32 0x45000000#32)))
        (broadcastInDim S8192x1 ![] bcast_S_S8192x1 (constant S_ .f32 0x3727C5AC#32))))))
      (broadcastInDim S8192x2048 ![0, 1] bcast_S1x2048_S8192x2048_0_1 (broadcastInDim S1x2048 ![1] bcast_S2048_S1x2048_1 (shapeCast _ w shapeCasts_S1x2048_S2048))))
      bitsLt_bf16_f32 = normed (n := 8192) x w := by
  funext y
  unfold normed under
  pointwise

/-- The reference runs and leaves the norm. -/
theorem run_ref : θ_run defs (onTc (τ := τ) (main (F := Ideal))) ⟨m, fun _ => 0, ρ⟩ fun r => ∀ c : Dev nD,
      r.2.mem ((c : Thread nD τ).loc main_v14) = normed (n := 8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.NormFwdValue

end
-- ==== Proof.NormBwdValue.lean ====
/-
  The backward pass of the norm: what the grid leaves in the gradient of the rows, block by block, and in the gradient of the
  weight, summed over the blocks, is what the reference computes.
-/
module

public import proofs.«01_k».proof.Proof.Norm
public import proofs.«01_k».proof.Proof.Gen.NormBwdIdeal.Value
public import proofs.«01_k».proof.Proof.Gen.NormBwdRefIdeal.Run
public import Idealize.ShloMosaic.Lib.Pipeline.ValueKit
public import Idealize.ShloMosaic.Lib.Pipeline.ReadBack

@[expose] public section

noncomputable section

namespace Cert.NormBwdValue

open Cert.Norm (lit under back share back_eq)
open Idealize.ShloMosaic Idealize.ShloMosaic.TcCoe Idealize.SL.Sem

section Kernel

open Cert.NormBwdIdeal Cert.NormBwdIdeal.Gen

variable (m : (ℓ : Loc nD τ sig) → Buf (Elt Ideal) ℓ) (ρ : Dev nD → PrngReg)

theorem rows_at (c : Dev nD) (t : Fin cfg0.N) :
    (outsAt0 m c t.val t.isLt).1 = k0_pay3 (iblk m c 0 t) (iblk m c 2 t) (iblk m c 1 t) (iblk m c 3 t) := by
  by_cases h0 : t.val % 32 = 0
  · rw [outsAt0_A m c t h0]; frame_out
  · rw [outsAt0_B m c t h0]; frame_out

/-- A block's part of the weight's gradient. -/
def part (x d : Vec Ideal S256x2048 .f32) (y : S8x2048.Idx) : EReal :=
  if (y 0).val = 0 then ∑ r : Fin 256, d (ix2 r (y 1)) * (x (ix2 r (y 1)) * Ideal.rsqrt (under fun k => x (ix2 r k))) else 0

theorem pay3_eq (x : Vec Ideal S256x2048 .f32) (w : Vec Ideal S1x2048 .f32) (d h : Vec Ideal S256x2048 .f32) (y : S256x2048.Idx) :
    k0_pay3 x d w h y = h y + back (fun k => x (ix2 (y 0) k)) (fun k => d (ix2 (y 0) k) * w (ix2 0 k)) (y 1) := by
  unfold k0_pay3 k0_pay2 k0_pay1 back under
  pointwise

theorem pay5_eq (x d : Vec Ideal S256x2048 .f32) (o : Vec Ideal S1x2048 .f32) (j : Fin 2048) :
    k0_pay5 x d o (ix2 0 j) = o (ix2 0 j) + ∑ r : Fin 256, d (ix2 r j) * (x (ix2 r j) * Ideal.rsqrt (under fun k => x (ix2 r k))) := by
  unfold k0_pay5 k0_pay2 k0_pay1 under
  pointwise

theorem pay4_eq (y : S8x2048.Idx) : k0_pay4 (F := Ideal) y = 0 := by
  unfold k0_pay4
  pointwise

/-- Where the first row of the weight's block lies. -/
abbrev top : Rect S8x2048 := Rect.unit (s := S8x2048) ![0, 0] ![1, 2048] inb_S8x2048_S1x2048_0_0

theorem top_hit (y : S8x2048.Idx) (h : (y 0).val = 0) : top.emb (ix2 (0 : Fin 1) (y 1)) = y :=
  funext fun a => Fin.ext (by
    fin_cases a
    · show 0 + 1 * 0 = (y 0).val
      omega
    · show 0 + 1 * (y 1).val = (y 1).val
      omega)

theorem top_miss (y : S8x2048.Idx) (h : ¬ (y 0).val = 0) : y ∉ top.set := fun hm => h (by
  have := (Rect.mem_set_unit.mp hm 0).2
  change (y 0).val < 0 + 1 at this
  omega)

theorem weight_A (c : Dev nD) (t : Fin cfg0.N) (h0 : t.val % 32 = 0) (y : S8x2048.Idx) :
    (outsAt0 m c t.val t.isLt).2 y = 0 + part (iblk m c 0 t) (iblk m c 2 t) y := by
  rw [outsAt0_A m c t h0]; frame_out
  rw [zero_add, part]
  by_cases h : (y 0).val = 0
  · rw [if_pos h]
    refine (congrArg _ (top_hit y h).symm).trans ((View.canon_cons_emb top _ _ _).trans ((pay5_eq _ _ _ (y 1)).trans ?_))
    rw [View.readCov_fill _ _ _ _ _ (fun a => by fin_cases a <;> rfl)]
    refine (congrArg (· + _) (pay4_eq _)).trans (zero_add _)
  · rw [if_neg h]
    refine (View.canon_cons_of_not_mem ⟨top, _⟩ _ (top_miss y h)).trans ?_
    exact (congrFun (View.canon_cons_unit_lit (S := S8x2048) _ _ _ (fun a => by fin_cases a <;> rfl)) y).trans (pay4_eq y)

theorem weight_B (c : Dev nD) (t : Fin cfg0.N) (h0 : ¬ t.val % 32 = 0) (y : S8x2048.Idx) :
    (outsAt0 m c t.val t.isLt).2 y = (outsAt0 m c (t.val - 1) (Nat.lt_of_le_of_lt (Nat.sub_le _ _) t.isLt)).2 y
      + part (iblk m c 0 t) (iblk m c 2 t) y := by
  rw [outsAt0_B m c t h0]; frame_out
  rw [part]
  generalize (outsAt0 m c (t.val - 1) _).2 = o
  by_cases h : (y 0).val = 0
  · rw [if_pos h]
    refine (View.read_writes_cons_hit _ _ top _ _ _ y (top_hit y h)).trans ((pay5_eq _ _ _ (y 1)).trans ?_)
    exact congrArg (· + _) (congrArg o (top_hit y h))
  · rw [if_neg h, add_zero]
    refine (View.read_writes_cons_miss _ _ ⟨top, _⟩ _ y (top_miss y h)).trans ?_
    exact congrFun ((hs0_5 t).read_unread o) y

end Kernel

section Reference

open Cert.NormBwdRefIdeal Cert.NormBwdRefIdeal.Gen

variable (m : (ℓ : Loc nD τ sig) → Buf (Elt Ideal) ℓ) (ρ : Dev nD → PrngReg)

/-- What the reference takes the root of. -/
def root (x : Vec Ideal S8192x2048 .f32) : Vec Ideal S8192x1 .f32 :=
  addf (Host.divf (broadcastInDim S8192x1 ![0] bcast_S8192_S8192x1_0 (Host.reduceAdd (F := Ideal) (φ := .f32) (mulf (F := Ideal) (φ := .f32) x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))

theorem root_apply (x : Vec Ideal S8192x2048 .f32) (i : S8192x1.Idx) : root x i = under fun k => x (ix2 (i 0) k) := by
  unfold root under
  pointwise

/-- The gradient as it goes through the weight. -/
def through (w : Vec Ideal S1x2048 .f32) (d : Vec Ideal S8192x2048 .f32) : Vec Ideal S8192x2048 .f32 :=
  mulf (F := Ideal) (φ := .f32) d (broadcastInDim S8192x2048 ![0, 1] bcast_S1x2048_S8192x2048_0_1 (broadcastInDim S1x2048 ![1] bcast_S2048_S1x2048_1 (shapeCast _ w shapeCasts_S1x2048_S2048)))

theorem through_apply (w : Vec Ideal S1x2048 .f32) (d : Vec Ideal S8192x2048 .f32) (y : S8192x2048.Idx) :
    through w d y = d y * w (ix2 0 (y 1)) := by
  unfold through
  pointwise

/-- The share of the mean, at every element of its row. -/
def shares (u : Vec Ideal S8192x1 .f32) (x g : Vec Ideal S8192x2048 .f32) : Vec Ideal S8192x2048 .f32 :=
  broadcastInDim S8192x2048 ![0] bcast_S8192_S8192x2048_0 (Host.reduceAdd (F := Ideal) (φ := .f32) (Host.divf (F := Ideal) (φ := .f32) (mulf (F := Ideal) (φ := .f32)
    (shapeCast _ (Host.reduceAdd (F := Ideal) (φ := .f32) (mulf (F := Ideal) (φ := .f32) x g) (constant S_ .f32 0x00000000#32) reducesTo_S8192x2048_S8192_d1 h_S_) shapeCasts_S8192_S8192x1)
    (mulf (broadcastInDim S8192x1 ![] bcast_S_S8192x1 (constant S_ .f32 0xBF000000#32)) (Host.divf (Host.rsqrt u) u)))
    (broadcastInDim S8192x1 ![] bcast_S_S8192x1 (constant S_ .f32 0x45000000#32))) (constant S_ .f32 0x00000000#32) reducesTo_S8192x1_S8192_d1 h_S_)

theorem shares_apply (x : Vec Ideal S8192x2048 .f32) (w : Vec Ideal S1x2048 .f32) (d : Vec Ideal S8192x2048 .f32) (y : S8192x2048.Idx) :
    shares (root x) x (through w d) y = share (fun k => x (ix2 (y 0) k)) (fun k => d (ix2 (y 0) k) * w (ix2 0 k)) := by
  unfold shares share
  pointwise
  simp only [root_apply, through_apply, Fin.sum_univ_one]
  rfl

/-- The gradient of the rows. -/
def gradX (x : Vec Ideal S8192x2048 .f32) (w : Vec Ideal S1x2048 .f32) (d h : Vec Ideal S8192x2048 .f32) : Vec Ideal S8192x2048 .f32 :=
  fun y => h y + back (fun k => x (ix2 (y 0) k)) (fun k => d (ix2 (y 0) k) * w (ix2 0 k)) (y 1)

theorem rows_eq (x : Vec Ideal S8192x2048 .f32) (w : Vec Ideal S1x2048 .f32) (d h : Vec Ideal S8192x2048 .f32) :
    addf (F := Ideal) (φ := .f32) h (addf (F := Ideal) (φ := .f32) (addf (F := Ideal) (φ := .f32)
      (mulf (F := Ideal) (φ := .f32) (through w d) (broadcastInDim S8192x2048 ![0, 1] bcast_S8192x1_S8192x2048_0_1 (Host.rsqrt (root x))))
      (mulf (F := Ideal) (φ := .f32) x (shares (root x) x (through w d)))) (mulf (F := Ideal) (φ := .f32) (shares (root x) x (through w d)) x))
      = gradX x w d h := by
  funext y
  refine Eq.trans ?_ (congrArg (h y + ·) (back_eq (fun k => x (ix2 (y 0) k)) (fun k => d (ix2 (y 0) k) * w (ix2 0 k)) (y 1)))
  pointwise
  simp only [shares_apply, root_apply, through_apply]
  rfl

theorem ref_rows (c : Dev nD) : Value.res_main_v37 m c = gradX (m ((c : Thread nD τ).loc main_arg0)) (m ((c : Thread nD τ).loc main_arg1))
    (m ((c : Thread nD τ).loc main_arg2)) (m ((c : Thread nD τ).loc main_arg3)) :=
  (show _ = _ from rfl : Value.res_main_v37 m c = _).trans (rows_eq _ _ _ _)

/-- The gradient of the weight, in the first of eight rows. -/
def gradW (x d : Vec Ideal S8192x2048 .f32) : Vec Ideal S8x2048 .f32 := fun y =>
  if (y 0).val = 0 then ∑ r : Fin 8192, d (ix2 r (y 1)) * (x (ix2 r (y 1)) * Ideal.rsqrt (under fun k => x (ix2 r k))) else 0

theorem ref_weight (x d : Vec Ideal S8192x2048 .f32) :
    concatenate S8x2048 0 [⟨S1x2048, (broadcastInDim S1x2048 ![1] bcast_S2048_S1x2048_1 (Host.reduceAdd (F := Ideal) (φ := .f32) (shapeCast _ (Host.reduceAdd (F := Ideal) (φ := .f32) (mulf (mulf (F := Ideal) (φ := .f32) x (broadcastInDim S8192x2048 ![0, 1] bcast_S8192x1_S8192x2048_0_1 (Host.rsqrt (root x)))) d) (constant S_ .f32 0x00000000#32) reducesTo_S8192x2048_S2048_d0 h_S_) shapeCasts_S2048_S1x2048) (constant S_ .f32 0x00000000#32) reducesTo_S1x2048_S2048_d0 h_S_))⟩, ⟨S7x2048, (broadcastInDim S7x2048 ![] bcast_S_S7x2048 (constant S_ .f32 0x00000000#32))⟩] concatenates_S1x2048_S7x2048_S8x2048_d0
      = gradW x d := by
  funext y
  unfold gradW
  pointwise
  simp only [root_apply, Fin.sum_univ_one]
  by_cases h : (y 0).val = 0
  · rw [if_pos h, dif_pos (by omega)]
    exact Finset.sum_congr rfl fun r _ => mul_comm _ _
  · rw [if_neg h, dif_neg (by omega)]

/-- The reference runs and leaves the two gradients. -/
theorem run_ref : θ_run defs (onTc (τ := τ) (main (F := Ideal))) ⟨m, fun _ => 0, ρ⟩ fun r => ∀ c : Dev nD,
      r.2.mem ((c : Thread nD τ).loc main_v37) = gradX (m ((c : Thread nD τ).loc main_arg0)) (m ((c : Thread nD τ).loc main_arg1))
          (m ((c : Thread nD τ).loc main_arg2)) (m ((c : Thread nD τ).loc main_arg3))
      ∧ r.2.mem ((c : Thread nD τ).loc main_v40) = gradW (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (ref_rows m c), (h c).2.1.trans (ref_weight _ _), (h c).2.2⟩) (Value.run m ρ)

end Reference

section Whole

open Cert.NormBwdIdeal Cert.NormBwdIdeal.Gen

variable (m : (ℓ : Loc nD τ sig) → Buf (Elt Ideal) ℓ) (ρ : Dev nD → PrngReg)

/-- The windows of rows move down by a block at a point; the others stay. -/
theorem moved : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0] :=
  (by decide +kernel : ∀ t : Fin grid0.N, _)

/-- Where an element of a point's block of rows lies in the whole array. -/
def place (t : Fin cfg0.N) (y : S256x2048.Idx) : S8192x2048.Idx := (win0_4.blk t).view.emb y

theorem blocks (c : Dev nD) (t : Fin cfg0.N) (y : S256x2048.Idx) (k : Fin 2048) :
    iblk m c 0 t (ix2 (y 0) k) = m ((c : Thread nD τ).loc main_arg0) (ix2 (place t y 0) k)
    ∧ iblk m c 1 t (ix2 0 k) = m ((c : Thread nD τ).loc main_arg1) (ix2 0 k)
    ∧ iblk m c 2 t (ix2 (y 0) k) = m ((c : Thread nD τ).loc main_arg2) (ix2 (place t y 0) k)
    ∧ iblk m c 3 t y = m ((c : Thread nD τ).loc main_arg3) (place t y) ∧ place t y = ix2 (place t y 0) (y 1) := by
  obtain ⟨e0, e1, e2, e3, e4, -⟩ := moved t
  unfold place
  refine ⟨?_, ?_, ?_, ?_, ?_⟩
  on_goal 5 => blk_ext [e4]
  all_goals (blk_simp [iblk, e0, e1, e2, e3, e4]; blk_ext [e0, e1, e2, e3, e4])

theorem final4 (c : Dev nD) : (dats m 0 c).arrAt 4 cfg0.N = gradX (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, rows_at]
  refine (pay3_eq _ _ _ _ _).trans ?_
  have h0 := fun k => (blocks m c t y k).1
  have h1 := fun k => (blocks m c t y k).2.1
  have h2 := fun k => (blocks m c t y k).2.2.1
  obtain ⟨-, -, -, h3, h4⟩ := blocks m c t y 0
  simp only [h0, h1, h2]
  refine (congrArg₂ (fun a b : EReal => a + b) h3 rfl).trans ?_
  unfold gradX
  exact congrArg (fun i : S8192x2048.Idx => (_ : EReal) + back _ _ (i 1)) h4.symm

/-- A block's row in the whole array. -/
theorem rows_of (c : Dev nD) (t : Fin cfg0.N) (r : Fin 256) (k : Fin 2048) (hl : t.val * 256 + r.val < 8192) :
    iblk m c 0 t (ix2 r k) = m ((c : Thread nD τ).loc main_arg0) (ix2 ⟨t.val * 256 + r.val, hl⟩ k)
    ∧ iblk m c 2 t (ix2 r k) = m ((c : Thread nD τ).loc main_arg2) (ix2 ⟨t.val * 256 + r.val, hl⟩ k) := by
  obtain ⟨e0, -, e2, -⟩ := moved t
  refine ⟨?_, ?_⟩ <;> (blk_simp [iblk, e0, e2]; blk_ext [e0, e2])

theorem final5 (c : Dev nD) : (dats m 0 c).arrAt 5 cfg0.N = gradW (m ((c : Thread nD τ).loc main_arg0)) (m ((c : Thread nD τ).loc main_arg2)) := by
  refine (dats m 0 c).arrAt_eq_of_covers 5 _ (by decide +kernel) fun t hf y => ?_
  blk_simp
  have hN : cfg0.N = 32 := N_0
  have hl : t.val + 1 = cfg0.N := by have := (flush0_5 t).mp hf; have := t.isLt; omega
  rw [after0_5, Pipeline.eq_sum_fin_of_reset_step_apply_last (fun n h => (outsAt0 m c n h).2) 32 (fun _ => 0)
    (fun t => part (iblk m c 0 t) (iblk m c 2 t)) (weight_A m c) (weight_B m c) (le_of_eq N_0) t hl, zero_add]
  have hy : (win0_5.blk t).view.emb y = y := by
    obtain ⟨-, -, -, -, -, e5⟩ := moved t
    blk_ext [e5]
  refine Eq.trans ?_ (congrArg (gradW _ _) hy.symm)
  unfold part gradW
  by_cases h : (y 0).val = 0
  · simp only [h, if_true]
    refine Fin.sum_mul_add_congr (fun t r hl => ?_) (by rw [hN])
    simp only [rows_of m c t r _ hl]
    exact congrArg₂ (fun a b : EReal => a * b) (rows_of m c t r (y 1) hl).2
      (congrArg (fun a : EReal => a * _) (rows_of m c t r (y 1) hl).1)
  · simp only [h, if_false]
    exact Finset.sum_const_zero (M := EReal)

/-- The call runs and leaves the two gradients; its arguments are unchanged. -/
theorem run : θ_run defs (onTc (τ := τ) (main (F := Ideal))) ⟨m, fun _ => 0, ρ⟩ fun r => ∀ c : Dev nD,
      r.2.mem ((c : Thread nD τ).loc main_v0_0) = gradX (m ((c : Thread nD τ).loc main_arg0)) (m ((c : Thread nD τ).loc main_arg1))
          (m ((c : Thread nD τ).loc main_arg2)) (m ((c : Thread nD τ).loc main_arg3))
      ∧ r.2.mem ((c : Thread nD τ).loc main_v0_1) = gradW (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩)
    (Cert.NormBwdIdeal.Value.run_blocks m ρ)

end Whole

end Cert.NormBwdValue

end
-- ==== Proof.Product.lean ====
/-
  The products of two matrices, as sums, that the projections' calls are stated against.
-/
module

public import Idealize.ShloMosaic.Lib.Pointwise
public import Idealize.ShloMosaic.Lib.Pipeline.ValueKit

@[expose] public section

noncomputable section

namespace Cert.Product

open Idealize.ShloMosaic

/-- The product of two matrices. -/
def product {M K N : ℕ} (a : Vec Ideal ⟨2, ![M, K]⟩ .bf16) (b : Vec Ideal ⟨2, ![K, N]⟩ .bf16) : FVec Ideal ⟨2, ![M, N]⟩ .f32 := fun y =>
  ∑ k : Fin K, a (ix2 (y 0) k) * b (ix2 k (y 1))

/-- The product of a matrix and a transposed one. -/
def productT {M K N : ℕ} (a : Vec Ideal ⟨2, ![M, K]⟩ .bf16) (b : Vec Ideal ⟨2, ![N, K]⟩ .bf16) : FVec Ideal ⟨2, ![M, N]⟩ .f32 := fun y =>
  ∑ k : Fin K, a (ix2 (y 0) k) * b (ix2 (y 1) k)

end Cert.Product

end
-- ==== Proof.InProjValue.lean ====
/-
  The input projection on one device: a point's product is its block of the whole product.
-/
module

public import proofs.«01_k».proof.Proof.Product
public import Idealize.ShloMosaic.Lib.Pipeline.ReadBack
public import proofs.«01_k».proof.Proof.Gen.InProjIdeal.Value
public import proofs.«01_k».proof.Proof.Gen.InProjRefIdeal.Run

@[expose] public section

noncomputable section

namespace Cert.InProjValue

open Cert.Product (product)
open Idealize.ShloMosaic Idealize.ShloMosaic.TcCoe Idealize.SL.Sem

section Kernel

open Cert.InProjIdeal Cert.InProjIdeal.Gen

variable (m : (ℓ : Loc nD τ sig) → Buf (Elt Ideal) ℓ) (ρ : Dev nD → PrngReg)

theorem pay2_eq (a : Vec Ideal S1024x2048 .bf16) (b : Vec Ideal S2048x1408 .bf16) (y : S1024x1408.Idx) :
    k0_pay2 a b y = product a b y := by
  unfold k0_pay2 k0_pay1 product
  pointwise

theorem out_eq (c : Dev nD) (t : Fin cfg0.N) (y : S1024x1408.Idx) : outsAt0 m c t y = product (iblk m c 0 t) (iblk m c 1 t) y := by
  unfold outsAt0; frame_out
  exact pay2_eq _ _ _

/-- Which blocks a point takes. -/
theorem moved : ∀ t : Fin cfg0.N, win0_0.index t = ![t.val / 11, 0] ∧ win0_1.index t = ![0, t.val % 11] ∧ win0_2.index t = ![t.val / 11, t.val % 11] :=
  (by decide +kernel : ∀ t : Fin grid0.N, _)

/-- The factors' blocks at a point, in the whole arrays. -/
theorem blocks (c : Dev nD) (t : Fin cfg0.N) (y : S1024x1408.Idx) (k : Fin 2048) :
    iblk m c 0 t (ix2 (y 0) k) = m ((c : Thread nD τ).loc main_arg0) (ix2 ((win0_2.blk t).view.emb y 0) k)
    ∧ iblk m c 1 t (ix2 k (y 1)) = m ((c : Thread nD τ).loc main_arg1) (ix2 k ((win0_2.blk t).view.emb y 1)) := by
  obtain ⟨e0, e1, e2⟩ := moved t
  refine ⟨?_, ?_⟩ <;> (blk_simp [iblk, e0, e1, e2]; blk_ext [e0, e1, e2])

theorem final2 (c : Dev nD) : (dats m 0 c).arrAt 2 cfg0.N
    = product (M := 8192) (K := 2048) (N := 15488) (m ((c : Thread nD τ).loc main_arg0)) (m ((c : Thread nD τ).loc main_arg1)) := by
  refine (dats m 0 c).arrAt_eq_of_covers 2 _ (by decide +kernel) fun t hf y => ?_
  blk_simp
  rw [after0_2, out_eq]
  unfold product
  exact Fin.sum_fin_congr fun k => congrArg₂ (fun a b : EReal => a * b) (blocks m c t y k).1 (blocks m c t y k).2

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = product (M := 8192) (K := 2048) (N := 15488) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Cert.InProjIdeal.Value.run_blocks m ρ)

end Kernel

section Reference

open Cert.InProjRefIdeal Cert.InProjRefIdeal.Gen

variable (m : (ℓ : Loc nD τ sig) → Buf (Elt Ideal) ℓ) (ρ : Dev nD → PrngReg)

theorem ref_eq (a : Vec Ideal S8192x2048 .bf16) (b : Vec Ideal S2048x15488 .bf16) :
    Host.dotGeneral (F := Ideal) (φ₁ := .f32) (φ₂ := .f32) dot_S8192x2048_S2048x15488_S8192x15488_1_0_0_1_n_n none (extf (F := Ideal) (φ := .bf16) .f32 a bitsLt_bf16_f32) (extf (F := Ideal) (φ := .bf16) .f32 b bitsLt_bf16_f32)
      = product (M := 8192) (K := 2048) (N := 15488) a b := by
  funext y
  unfold product
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = product (M := 8192) (K := 2048) (N := 15488) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.InProjValue

end
-- ==== Proof.DxnSguValue.lean ====
/-
  The gradient of the normed rows by way of the gated unit's columns: three partial products with the transposed weight, added up
  in a buffer that the points of a block share, are the whole product.
-/
module

public import proofs.«01_k».proof.Proof.Product
public import Idealize.ShloMosaic.Lib.Pipeline.ReadBack
public import proofs.«01_k».proof.Proof.Gen.DxnSguIdeal.Value
public import proofs.«01_k».proof.Proof.Gen.DxnSguRefIdeal.Run

@[expose] public section

noncomputable section

namespace Cert.DxnSguValue

open Cert.Product (productT)
open Idealize.ShloMosaic Idealize.ShloMosaic.TcCoe Idealize.SL.Sem

section Kernel

open Cert.DxnSguIdeal Cert.DxnSguIdeal.Gen

variable (m : (ℓ : Loc nD τ sig) → Buf (Elt Ideal) ℓ) (ρ : Dev nD → PrngReg)

theorem pay2_eq (a : Vec Ideal S512x2048 .bf16) (b : Vec Ideal S1024x2048 .bf16) (y : S512x1024.Idx) :
    k0_pay2 a b y = productT a b y := by
  unfold k0_pay2 k0_pay1 productT
  pointwise

theorem pay3_eq (a : Vec Ideal S512x2048 .bf16) (b : Vec Ideal S1024x2048 .bf16) (o : Vec Ideal S512x1024 .f32) (y : S512x1024.Idx) :
    k0_pay3 a b o y = o y + productT a b y := by
  unfold k0_pay3 k0_pay1 productT
  pointwise

/-- The first point of a block stores its partial product. -/
theorem total_A (c : Dev nD) (t : Fin cfg0.N) (h : t.val % 3 = 0) (y : S512x1024.Idx) :
    (outsAt0 m c t.val t.isLt).2 y = (fun _ => 0) y + productT (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 3 = 0) (y : S512x1024.Idx) :
    (outsAt0 m c t.val t.isLt).2 y = (outsAt0 m c (t.val - 1) (by omega)).2 y + productT (iblk m c 0 t) (iblk m c 1 t) y := by
  by_cases h2 : t.val % 3 = 2
  · rw [outsAt0_C m c t h (by omega) h2]; frame_out
    rw [pay3_eq, read_unread_whole]
  · rw [outsAt0_B m c t h (by omega) h2]; frame_out
    rw [pay3_eq, read_unread_whole]

/-- The last one writes the total out. -/
theorem out_C (c : Dev nD) (t : Fin cfg0.N) (h : t.val % 3 = 2) : (outsAt0 m c t.val t.isLt).1 = (outsAt0 m c t.val t.isLt).2 := by
  rw [outsAt0_C m c t (by omega) (by omega) h]; frame_out

/-- Which blocks a point takes. -/
theorem moved : ∀ t : Fin cfg0.N, win0_0.index t = ![t.val / 3 / 2, t.val % 3] ∧ win0_1.index t = ![t.val / 3 % 2, t.val % 3]
    ∧ win0_2.index t = ![t.val / 3 / 2, t.val / 3 % 2] :=
  (by decide +kernel : ∀ t : Fin grid0.N, _)

/-- The factors' blocks at a point, in the whole arrays. -/
theorem blocks (c : Dev nD) (t p : Fin cfg0.N) (s : Fin 3) (hp : p.val = 3 * (t.val / 3) + s.val) (y : S512x1024.Idx) (k : Fin 2048)
    (hk : s.val * 2048 + k.val < 6144) :
    iblk m c 0 p (ix2 (y 0) k) = m ((c : Thread nD τ).loc main_arg0) (ix2 ((win0_2.blk t).view.emb y 0) ⟨s.val * 2048 + k.val, hk⟩)
    ∧ iblk m c 1 p (ix2 (y 1) k) = m ((c : Thread nD τ).loc main_arg1) (ix2 ((win0_2.blk t).view.emb y 1) ⟨s.val * 2048 + k.val, hk⟩) := by
  obtain ⟨e0, e1, -⟩ := moved p
  obtain ⟨-, -, e2⟩ := moved t
  have q : p.val / 3 = t.val / 3 := by omega
  have r : p.val % 3 = s.val := by omega
  rw [q, r] at e0 e1
  refine ⟨?_, ?_⟩ <;> (blk_simp [iblk, e0, e1, e2]; blk_ext [e0, e1, e2])

theorem final2 (c : Dev nD) : (dats m 0 c).arrAt 2 cfg0.N
    = productT (M := 8192) (K := 6144) (N := 2048) (m ((c : Thread nD τ).loc main_arg0)) (m ((c : Thread nD τ).loc main_arg1)) := by
  refine (dats m 0 c).arrAt_eq_of_covers 2 _ (by decide +kernel) fun t hf y => ?_
  blk_simp
  have hl := (flush0_2 t).mp hf
  rw [after0_2, out_C m c t hl, Pipeline.eq_sum_fin_of_reset_step_apply_of_flush (fun n h => (outsAt0 m c n h).2) 3 (fun _ => 0)
    (fun t => productT (iblk m c 0 t) (iblk m c 1 t)) (total_A m c) (total_B m c) t hl, zero_add]
  unfold productT
  refine Fin.sum_mul_add_congr fun s k hk => ?_
  obtain ⟨h0, h1⟩ := blocks m c t ⟨3 * (t.val / 3) + s.val, _⟩ s rfl y k hk
  exact congrArg₂ (fun a b : EReal => a * b) h0 h1

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = productT (M := 8192) (K := 6144) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Cert.DxnSguIdeal.Value.final2 m c).symm.trans (final2 m c)), (h c).2⟩)
    (Cert.DxnSguIdeal.Value.run m ρ)

end Kernel

section Reference

open Cert.DxnSguRefIdeal Cert.DxnSguRefIdeal.Gen

variable (m : (ℓ : Loc nD τ sig) → Buf (Elt Ideal) ℓ) (ρ : Dev nD → PrngReg)

theorem ref_eq (a : Vec Ideal S8192x6144 .bf16) (b : Vec Ideal S2048x6144 .bf16) :
    Host.dotGeneral (F := Ideal) (φ₁ := .f32) (φ₂ := .f32) dot_S8192x6144_S2048x6144_S8192x2048_1_1_0_0_n_n none (extf (F := Ideal) (φ := .bf16) .f32 a bitsLt_bf16_f32) (extf (F := Ideal) (φ := .bf16) .f32 b bitsLt_bf16_f32)
      = productT (M := 8192) (K := 6144) (N := 2048) a b := by
  funext y
  unfold productT
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = productT (M := 8192) (K := 6144) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.DxnSguValue

end
-- ==== Proof.DxnGateValue.lean ====
/-
  The gradient of the normed rows by way of the gate's columns: two partial products with the transposed weight, added up in a
  buffer that the points of a block share, are the whole product, and to it the last point adds the gradient found before.
-/
module

public import proofs.«01_k».proof.Proof.Product
public import Idealize.ShloMosaic.Lib.Pipeline.ReadBack
public import proofs.«01_k».proof.Proof.Gen.DxnGateIdeal.Value
public import proofs.«01_k».proof.Proof.Gen.DxnGateRefIdeal.Run

@[expose] public section

noncomputable section

namespace Cert.DxnGateValue

open Cert.Product (productT)
open Idealize.ShloMosaic Idealize.ShloMosaic.TcCoe Idealize.SL.Sem

/-- The product and what is added to it. -/
def both (a : Vec Ideal ⟨2, ![8192, 4096]⟩ .bf16) (b : Vec Ideal ⟨2, ![2048, 4096]⟩ .bf16) (d : Vec Ideal ⟨2, ![8192, 2048]⟩ .f32) :
    Vec Ideal ⟨2, ![8192, 2048]⟩ .f32 := fun y => productT a b y + d y

section Kernel

open Cert.DxnGateIdeal Cert.DxnGateIdeal.Gen

variable (m : (ℓ : Loc nD τ sig) → Buf (Elt Ideal) ℓ) (ρ : Dev nD → PrngReg)

theorem pay2_eq (a : Vec Ideal S512x2048 .bf16) (b : Vec Ideal S1024x2048 .bf16) (y : S512x1024.Idx) :
    k0_pay2 a b y = productT a b y := by
  unfold k0_pay2 k0_pay1 productT
  pointwise

theorem pay3_eq (a : Vec Ideal S512x2048 .bf16) (b : Vec Ideal S1024x2048 .bf16) (o : Vec Ideal S512x1024 .f32) (y : S512x1024.Idx) :
    k0_pay3 a b o y = o y + productT a b y := by
  unfold k0_pay3 k0_pay1 productT
  pointwise

/-- The first point of a block stores its partial product. -/
theorem total_A (c : Dev nD) (t : Fin cfg0.N) (h : t.val % 2 = 0) (y : S512x1024.Idx) :
    (outsAt0 m c t.val t.isLt).2 y = (fun _ => 0) y + productT (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 2 = 0) (y : S512x1024.Idx) :
    (outsAt0 m c t.val t.isLt).2 y = (outsAt0 m c (t.val - 1) (by omega)).2 y + productT (iblk m c 0 t) (iblk m c 1 t) y := by
  rw [outsAt0_B m c t h (by omega) (by omega)]; frame_out
  rw [pay3_eq, read_unread_whole]

/-- The last one writes the total and the block of the third array out. -/
theorem out_B (c : Dev nD) (t : Fin cfg0.N) (h : t.val % 2 = 1) (y : S512x1024.Idx) :
    (outsAt0 m c t.val t.isLt).1 y = (outsAt0 m c t.val t.isLt).2 y + iblk m c 2 t y := by
  rw [outsAt0_B m c t (by omega) h h]; frame_out
  unfold k0_pay4
  pointwise

/-- Which blocks a point takes. -/
theorem moved : ∀ t : Fin cfg0.N, win0_0.index t = ![t.val / 2 / 2, t.val % 2] ∧ win0_1.index t = ![t.val / 2 % 2, t.val % 2]
    ∧ win0_2.index t = ![t.val / 2 / 2, t.val / 2 % 2] ∧ win0_3.index t = ![t.val / 2 / 2, t.val / 2 % 2] :=
  (by decide +kernel : ∀ t : Fin grid0.N, _)

/-- The factors' blocks at a point, in the whole arrays. -/
theorem blocks (c : Dev nD) (t p : Fin cfg0.N) (s : Fin 2) (hp : p.val = 2 * (t.val / 2) + s.val) (y : S512x1024.Idx) (k : Fin 2048)
    (hk : s.val * 2048 + k.val < 4096) :
    iblk m c 0 p (ix2 (y 0) k) = m ((c : Thread nD τ).loc main_arg0) (ix2 ((win0_3.blk t).view.emb y 0) ⟨s.val * 2048 + k.val, hk⟩)
    ∧ iblk m c 1 p (ix2 (y 1) k) = m ((c : Thread nD τ).loc main_arg1) (ix2 ((win0_3.blk t).view.emb y 1) ⟨s.val * 2048 + k.val, hk⟩) := by
  obtain ⟨e0, e1, -⟩ := moved p
  obtain ⟨-, -, -, e2⟩ := moved t
  have q : p.val / 2 = t.val / 2 := by omega
  have r : p.val % 2 = s.val := by omega
  rw [q, r] at e0 e1
  refine ⟨?_, ?_⟩ <;> (blk_simp [iblk, e0, e1, e2]; blk_ext [e0, e1, e2])

/-- The third array's block. -/
theorem added (c : Dev nD) (t : Fin cfg0.N) (y : S512x1024.Idx) :
    iblk m c 2 t y = m ((c : Thread nD τ).loc main_arg2) ((win0_3.blk t).view.emb y) := by
  obtain ⟨-, -, e2, e3⟩ := moved t
  blk_simp [iblk, e2, e3]; blk_ext [e2, e3]

theorem final3 (c : Dev nD) : (dats m 0 c).arrAt 3 cfg0.N
    = both (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hl := (flush0_3 t).mp hf
  rw [after0_3, out_B m c t hl, Pipeline.eq_sum_fin_of_reset_step_apply_of_flush (fun n h => (outsAt0 m c n h).2) 2 (fun _ => 0)
    (fun t => productT (iblk m c 0 t) (iblk m c 1 t)) (total_A m c) (total_B m c) t hl, zero_add]
  unfold both
  refine congrArg₂ (fun a b : EReal => a + b) ?_ (added m c t y)
  unfold productT
  refine Fin.sum_mul_add_congr fun s k hk => ?_
  obtain ⟨h0, h1⟩ := blocks m c t ⟨2 * (t.val / 2) + s.val, _⟩ s rfl y k hk
  exact congrArg₂ (fun a b : EReal => a * b) h0 h1

/-- The call runs and leaves the sum; its arguments are unchanged. -/
theorem run : θ_run defs (onTc (τ := τ) (main (F := Ideal))) ⟨m, fun _ => 0, ρ⟩ fun r => ∀ c : Dev nD,
      r.2.mem ((c : Thread nD τ).loc main_v0) = both (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((Cert.DxnGateIdeal.Value.final3 m c).symm.trans (final3 m c)), (h c).2⟩)
    (Cert.DxnGateIdeal.Value.run m ρ)

end Kernel

section Reference

open Cert.DxnGateRefIdeal Cert.DxnGateRefIdeal.Gen

variable (m : (ℓ : Loc nD τ sig) → Buf (Elt Ideal) ℓ) (ρ : Dev nD → PrngReg)

theorem ref_eq (a : Vec Ideal S8192x4096 .bf16) (b : Vec Ideal S2048x4096 .bf16) (d : Vec Ideal S8192x2048 .f32) :
    addf (F := Ideal) (φ := .f32) (Host.dotGeneral (F := Ideal) (φ₁ := .f32) (φ₂ := .f32) dot_S8192x4096_S2048x4096_S8192x2048_1_1_0_0_n_n none
      (extf (F := Ideal) (φ := .bf16) .f32 a bitsLt_bf16_f32) (extf (F := Ideal) (φ := .bf16) .f32 b bitsLt_bf16_f32)) d = both a b d := by
  funext y
  unfold both productT
  pointwise

/-- The reference runs and leaves the sum. -/
theorem run_ref : θ_run defs (onTc (τ := τ) (main (F := Ideal))) ⟨m, fun _ => 0, ρ⟩ fun r => ∀ c : Dev nD,
      r.2.mem ((c : Thread nD τ).loc main_v3) = both (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (ref_eq _ _ _), (h c).2⟩) (Value.run m ρ)

end Reference

end Cert.DxnGateValue

end
-- ==== Proof.DxnSsdValue.lean ====
/-
  The gradient of the normed rows by way of the scan's columns: a point's product with the transposed weight, and to it the
  gradient found before.
-/
module

public import proofs.«01_k».proof.Proof.Product
public import Idealize.ShloMosaic.Lib.Pipeline.ReadBack
public import proofs.«01_k».proof.Proof.Gen.DxnSsdIdeal.Value
public import proofs.«01_k».proof.Proof.Gen.DxnSsdRefIdeal.Run

@[expose] public section

noncomputable section

namespace Cert.DxnSsdValue

open Cert.Product (productT)
open Idealize.ShloMosaic Idealize.ShloMosaic.TcCoe Idealize.SL.Sem

/-- The product and what is added to it. -/
def both (a : Vec Ideal ⟨2, ![8192, 5248]⟩ .bf16) (b : Vec Ideal ⟨2, ![2048, 5248]⟩ .bf16) (d : Vec Ideal ⟨2, ![8192, 2048]⟩ .f32) :
    Vec Ideal ⟨2, ![8192, 2048]⟩ .f32 := fun y => productT a b y + d y

section Kernel

open Cert.DxnSsdIdeal Cert.DxnSsdIdeal.Gen

variable (m : (ℓ : Loc nD τ sig) → Buf (Elt Ideal) ℓ) (ρ : Dev nD → PrngReg)

theorem pay4_eq (a b : Vec Ideal S512x5248 .bf16) (o : Vec Ideal S512x512 .f32) (y : S512x512.Idx) :
    k0_pay4 (k0_pay2 a b) o y = productT a b y + o y := by
  unfold k0_pay4 k0_pay2 k0_pay1 productT
  pointwise

theorem out_eq (c : Dev nD) (t : Fin cfg0.N) (y : S512x512.Idx) :
    outsAt0 m c t y = productT (iblk m c 0 t) (iblk m c 1 t) y + iblk m c 2 t y := by
  unfold outsAt0; frame_out
  exact pay4_eq _ _ _ _

/-- Which blocks a point takes. -/
theorem moved : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- A point's blocks, in the whole arrays. -/
theorem blocks (c : Dev nD) (t : Fin cfg0.N) (y : S512x512.Idx) (k : Fin 5248) :
    iblk m c 0 t (ix2 (y 0) k) = m ((c : Thread nD τ).loc main_arg0) (ix2 ((win0_3.blk t).view.emb y 0) k)
    ∧ iblk m c 1 t (ix2 (y 1) k) = m ((c : Thread nD τ).loc main_arg1) (ix2 ((win0_3.blk t).view.emb y 1) k)
    ∧ iblk m c 2 t y = m ((c : Thread nD τ).loc main_arg2) ((win0_3.blk t).view.emb y) := by
  obtain ⟨e0, e1, e2, e3⟩ := moved t
  refine ⟨?_, ?_, ?_⟩ <;> (blk_simp [iblk, e0, e1, e2, e3]; blk_ext [e0, e1, e2, e3])

theorem final3 (c : Dev nD) : (dats m 0 c).arrAt 3 cfg0.N
    = both (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  unfold both
  refine congrArg₂ (fun a b : EReal => a + b) ?_ (blocks m c t y 0).2.2
  unfold productT
  exact Finset.sum_congr rfl fun k _ => congrArg₂ (fun a b : EReal => a * b) (blocks m c t y k).1 (blocks m c t y k).2.1

/-- The call runs and leaves the sum; its arguments are unchanged. -/
theorem run : θ_run defs (onTc (τ := τ) (main (F := Ideal))) ⟨m, fun _ => 0, ρ⟩ fun r => ∀ c : Dev nD,
      r.2.mem ((c : Thread nD τ).loc main_v0) = both (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Cert.DxnSsdIdeal.Value.run_blocks m ρ)

end Kernel

section Reference

open Cert.DxnSsdRefIdeal Cert.DxnSsdRefIdeal.Gen

variable (m : (ℓ : Loc nD τ sig) → Buf (Elt Ideal) ℓ) (ρ : Dev nD → PrngReg)

theorem ref_eq (a : Vec Ideal S8192x5248 .bf16) (b : Vec Ideal S2048x5248 .bf16) (d : Vec Ideal S8192x2048 .f32) :
    addf (F := Ideal) (φ := .f32) (Host.dotGeneral (F := Ideal) (φ₁ := .f32) (φ₂ := .f32) dot_S8192x5248_S2048x5248_S8192x2048_1_1_0_0_n_n none
      (extf (F := Ideal) (φ := .bf16) .f32 a bitsLt_bf16_f32) (extf (F := Ideal) (φ := .bf16) .f32 b bitsLt_bf16_f32)) d = both a b d := by
  funext y
  unfold both productT
  pointwise

/-- The reference runs and leaves the sum. -/
theorem run_ref : θ_run defs (onTc (τ := τ) (main (F := Ideal))) ⟨m, fun _ => 0, ρ⟩ fun r => ∀ c : Dev nD,
      r.2.mem ((c : Thread nD τ).loc main_v3) = both (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (ref_eq _ _ _), (h c).2⟩) (Value.run m ρ)

end Reference

end Cert.DxnSsdValue

end
-- ==== Proof.DwSguValue.lean ====
/-
  The gradient of the input projection's columns of the gated unit on one device: sixteen partial products,
  added up in a buffer that the points of a block share, are the whole product.
-/
module

public import proofs.«01_k».proof.Proof.Product
public import Idealize.ShloMosaic.Lib.Pipeline.ReadBack
public import proofs.«01_k».proof.Proof.Gen.DwSguIdeal.Value
public import proofs.«01_k».proof.Proof.Gen.DwSguRefIdeal.Run

@[expose] public section

noncomputable section

namespace Cert.DwSguValue

open Cert.Product (product)
open Idealize.ShloMosaic Idealize.ShloMosaic.TcCoe Idealize.SL.Sem

section Kernel

open Cert.DwSguIdeal Cert.DwSguIdeal.Gen

variable (m : (ℓ : Loc nD τ sig) → Buf (Elt Ideal) ℓ) (ρ : Dev nD → PrngReg)

theorem pay2_eq (a : Vec Ideal S1024x512 .bf16) (b : Vec Ideal S512x1024 .bf16) (y : S1024x1024.Idx) :
    k0_pay2 a b y = product a b y := by
  unfold k0_pay2 k0_pay1 product
  pointwise

theorem pay3_eq (a : Vec Ideal S1024x512 .bf16) (b : Vec Ideal S512x1024 .bf16) (o : Vec Ideal S1024x1024 .f32) (y : S1024x1024.Idx) :
    k0_pay3 a b o y = o y + product a b y := by
  unfold k0_pay3 k0_pay1 product
  pointwise

/-- The first point of a block stores its partial product. -/
theorem total_A (c : Dev nD) (t : Fin cfg0.N) (h : t.val % 16 = 0) (y : S1024x1024.Idx) :
    (outsAt0 m c t.val t.isLt).2 y = (fun _ => 0) y + product (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 16 = 0) (y : S1024x1024.Idx) :
    (outsAt0 m c t.val t.isLt).2 y = (outsAt0 m c (t.val - 1) (by omega)).2 y + product (iblk m c 0 t) (iblk m c 1 t) y := by
  by_cases h2 : t.val % 16 = 15
  · rw [outsAt0_C m c t h (by omega) h2]; frame_out
    rw [pay3_eq, read_unread_whole]
  · rw [outsAt0_B m c t h (by omega) h2]; frame_out
    rw [pay3_eq, read_unread_whole]

/-- The last one writes the total out. -/
theorem out_C (c : Dev nD) (t : Fin cfg0.N) (h : t.val % 16 = 15) : (outsAt0 m c t.val t.isLt).1 = (outsAt0 m c t.val t.isLt).2 := by
  rw [outsAt0_C m c t (by omega) (by omega) h]; frame_out

/-- Which blocks a point takes. -/
theorem moved : ∀ t : Fin cfg0.N, win0_0.index t = ![t.val / 16 / 6, t.val % 16] ∧ win0_1.index t = ![t.val % 16, t.val / 16 % 6]
    ∧ win0_2.index t = ![t.val / 16 / 6, t.val / 16 % 6] :=
  (by decide +kernel : ∀ t : Fin grid0.N, _)

/-- The factors' blocks at a point, in the whole arrays. -/
theorem blocks (c : Dev nD) (t p : Fin cfg0.N) (s : Fin 16) (hp : p.val = 16 * (t.val / 16) + s.val) (y : S1024x1024.Idx) (k : Fin 512)
    (hk : s.val * 512 + k.val < 8192) :
    iblk m c 0 p (ix2 (y 0) k) = m ((c : Thread nD τ).loc main_arg0) (ix2 ((win0_2.blk t).view.emb y 0) ⟨s.val * 512 + k.val, hk⟩)
    ∧ iblk m c 1 p (ix2 k (y 1)) = m ((c : Thread nD τ).loc main_arg1) (ix2 ⟨s.val * 512 + k.val, hk⟩ ((win0_2.blk t).view.emb y 1)) := by
  obtain ⟨e0, e1, -⟩ := moved p
  obtain ⟨-, -, e2⟩ := moved t
  have q : p.val / 16 = t.val / 16 := by omega
  have r : p.val % 16 = s.val := by omega
  rw [q, r] at e0 e1
  refine ⟨?_, ?_⟩ <;> (blk_simp [iblk, e0, e1, e2]; blk_ext [e0, e1, e2])

theorem final2 (c : Dev nD) : (dats m 0 c).arrAt 2 cfg0.N
    = product (M := 2048) (K := 8192) (N := 6144) (m ((c : Thread nD τ).loc main_arg0)) (m ((c : Thread nD τ).loc main_arg1)) := by
  refine (dats m 0 c).arrAt_eq_of_covers 2 _ (by decide +kernel) fun t hf y => ?_
  blk_simp
  have hl := (flush0_2 t).mp hf
  rw [after0_2, out_C m c t hl, Pipeline.eq_sum_fin_of_reset_step_apply_of_flush (fun n h => (outsAt0 m c n h).2) 16 (fun _ => 0)
    (fun t => product (iblk m c 0 t) (iblk m c 1 t)) (total_A m c) (total_B m c) t hl, zero_add]
  unfold product
  refine Fin.sum_mul_add_congr fun s k hk => ?_
  obtain ⟨h0, h1⟩ := blocks m c t ⟨16 * (t.val / 16) + s.val, _⟩ s rfl y k hk
  exact congrArg₂ (fun a b : EReal => a * b) h0 h1

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = product (M := 2048) (K := 8192) (N := 6144) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Cert.DwSguIdeal.Value.final2 m c).symm.trans (final2 m c)), (h c).2⟩)
    (Cert.DwSguIdeal.Value.run m ρ)

end Kernel

section Reference

open Cert.DwSguRefIdeal Cert.DwSguRefIdeal.Gen

variable (m : (ℓ : Loc nD τ sig) → Buf (Elt Ideal) ℓ) (ρ : Dev nD → PrngReg)

theorem ref_eq (a : Vec Ideal S2048x8192 .bf16) (b : Vec Ideal S8192x6144 .bf16) :
    Host.dotGeneral (F := Ideal) (φ₁ := .f32) (φ₂ := .f32) dot_S2048x8192_S8192x6144_S2048x6144_1_0_0_1_n_n none (extf (F := Ideal) (φ := .bf16) .f32 a bitsLt_bf16_f32) (extf (F := Ideal) (φ := .bf16) .f32 b bitsLt_bf16_f32)
      = product (M := 2048) (K := 8192) (N := 6144) a b := by
  funext y
  unfold product
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = product (M := 2048) (K := 8192) (N := 6144) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.DwSguValue

end
-- ==== Proof.DwGateValue.lean ====
/-
  The gradient of the input projection's columns of the gate on one device: sixteen partial products,
  added up in a buffer that the points of a block share, are the whole product.
-/
module

public import proofs.«01_k».proof.Proof.Product
public import Idealize.ShloMosaic.Lib.Pipeline.ReadBack
public import proofs.«01_k».proof.Proof.Gen.DwGateIdeal.Value
public import proofs.«01_k».proof.Proof.Gen.DwGateRefIdeal.Run

@[expose] public section

noncomputable section

namespace Cert.DwGateValue

open Cert.Product (product)
open Idealize.ShloMosaic Idealize.ShloMosaic.TcCoe Idealize.SL.Sem

section Kernel

open Cert.DwGateIdeal Cert.DwGateIdeal.Gen

variable (m : (ℓ : Loc nD τ sig) → Buf (Elt Ideal) ℓ) (ρ : Dev nD → PrngReg)

theorem pay2_eq (a : Vec Ideal S1024x512 .bf16) (b : Vec Ideal S512x1024 .bf16) (y : S1024x1024.Idx) :
    k0_pay2 a b y = product a b y := by
  unfold k0_pay2 k0_pay1 product
  pointwise

theorem pay3_eq (a : Vec Ideal S1024x512 .bf16) (b : Vec Ideal S512x1024 .bf16) (o : Vec Ideal S1024x1024 .f32) (y : S1024x1024.Idx) :
    k0_pay3 a b o y = o y + product a b y := by
  unfold k0_pay3 k0_pay1 product
  pointwise

/-- The first point of a block stores its partial product. -/
theorem total_A (c : Dev nD) (t : Fin cfg0.N) (h : t.val % 16 = 0) (y : S1024x1024.Idx) :
    (outsAt0 m c t.val t.isLt).2 y = (fun _ => 0) y + product (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 16 = 0) (y : S1024x1024.Idx) :
    (outsAt0 m c t.val t.isLt).2 y = (outsAt0 m c (t.val - 1) (by omega)).2 y + product (iblk m c 0 t) (iblk m c 1 t) y := by
  by_cases h2 : t.val % 16 = 15
  · rw [outsAt0_C m c t h (by omega) h2]; frame_out
    rw [pay3_eq, read_unread_whole]
  · rw [outsAt0_B m c t h (by omega) h2]; frame_out
    rw [pay3_eq, read_unread_whole]

/-- The last one writes the total out. -/
theorem out_C (c : Dev nD) (t : Fin cfg0.N) (h : t.val % 16 = 15) : (outsAt0 m c t.val t.isLt).1 = (outsAt0 m c t.val t.isLt).2 := by
  rw [outsAt0_C m c t (by omega) (by omega) h]; frame_out

/-- Which blocks a point takes. -/
theorem moved : ∀ t : Fin cfg0.N, win0_0.index t = ![t.val / 16 / 4, t.val % 16] ∧ win0_1.index t = ![t.val % 16, t.val / 16 % 4]
    ∧ win0_2.index t = ![t.val / 16 / 4, t.val / 16 % 4] :=
  (by decide +kernel : ∀ t : Fin grid0.N, _)

/-- The factors' blocks at a point, in the whole arrays. -/
theorem blocks (c : Dev nD) (t p : Fin cfg0.N) (s : Fin 16) (hp : p.val = 16 * (t.val / 16) + s.val) (y : S1024x1024.Idx) (k : Fin 512)
    (hk : s.val * 512 + k.val < 8192) :
    iblk m c 0 p (ix2 (y 0) k) = m ((c : Thread nD τ).loc main_arg0) (ix2 ((win0_2.blk t).view.emb y 0) ⟨s.val * 512 + k.val, hk⟩)
    ∧ iblk m c 1 p (ix2 k (y 1)) = m ((c : Thread nD τ).loc main_arg1) (ix2 ⟨s.val * 512 + k.val, hk⟩ ((win0_2.blk t).view.emb y 1)) := by
  obtain ⟨e0, e1, -⟩ := moved p
  obtain ⟨-, -, e2⟩ := moved t
  have q : p.val / 16 = t.val / 16 := by omega
  have r : p.val % 16 = s.val := by omega
  rw [q, r] at e0 e1
  refine ⟨?_, ?_⟩ <;> (blk_simp [iblk, e0, e1, e2]; blk_ext [e0, e1, e2])

theorem final2 (c : Dev nD) : (dats m 0 c).arrAt 2 cfg0.N
    = product (M := 2048) (K := 8192) (N := 4096) (m ((c : Thread nD τ).loc main_arg0)) (m ((c : Thread nD τ).loc main_arg1)) := by
  refine (dats m 0 c).arrAt_eq_of_covers 2 _ (by decide +kernel) fun t hf y => ?_
  blk_simp
  have hl := (flush0_2 t).mp hf
  rw [after0_2, out_C m c t hl, Pipeline.eq_sum_fin_of_reset_step_apply_of_flush (fun n h => (outsAt0 m c n h).2) 16 (fun _ => 0)
    (fun t => product (iblk m c 0 t) (iblk m c 1 t)) (total_A m c) (total_B m c) t hl, zero_add]
  unfold product
  refine Fin.sum_mul_add_congr fun s k hk => ?_
  obtain ⟨h0, h1⟩ := blocks m c t ⟨16 * (t.val / 16) + s.val, _⟩ s rfl y k hk
  exact congrArg₂ (fun a b : EReal => a * b) h0 h1

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = product (M := 2048) (K := 8192) (N := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Cert.DwGateIdeal.Value.final2 m c).symm.trans (final2 m c)), (h c).2⟩)
    (Cert.DwGateIdeal.Value.run m ρ)

end Kernel

section Reference

open Cert.DwGateRefIdeal Cert.DwGateRefIdeal.Gen

variable (m : (ℓ : Loc nD τ sig) → Buf (Elt Ideal) ℓ) (ρ : Dev nD → PrngReg)

theorem ref_eq (a : Vec Ideal S2048x8192 .bf16) (b : Vec Ideal S8192x4096 .bf16) :
    Host.dotGeneral (F := Ideal) (φ₁ := .f32) (φ₂ := .f32) dot_S2048x8192_S8192x4096_S2048x4096_1_0_0_1_n_n none (extf (F := Ideal) (φ := .bf16) .f32 a bitsLt_bf16_f32) (extf (F := Ideal) (φ := .bf16) .f32 b bitsLt_bf16_f32)
      = product (M := 2048) (K := 8192) (N := 4096) a b := by
  funext y
  unfold product
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = product (M := 2048) (K := 8192) (N := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.DwGateValue

end
-- ==== Proof.DwSsdValue.lean ====
/-
  The gradient of the input projection's columns of the scan on one device: sixteen partial products,
  added up in a buffer that the points of a block share, are the whole product.
-/
module

public import proofs.«01_k».proof.Proof.Product
public import Idealize.ShloMosaic.Lib.Pipeline.ReadBack
public import proofs.«01_k».proof.Proof.Gen.DwSsdIdeal.Value
public import proofs.«01_k».proof.Proof.Gen.DwSsdRefIdeal.Run

@[expose] public section

noncomputable section

namespace Cert.DwSsdValue

open Cert.Product (product)
open Idealize.ShloMosaic Idealize.ShloMosaic.TcCoe Idealize.SL.Sem

section Kernel

open Cert.DwSsdIdeal Cert.DwSsdIdeal.Gen

variable (m : (ℓ : Loc nD τ sig) → Buf (Elt Ideal) ℓ) (ρ : Dev nD → PrngReg)

theorem pay2_eq (a : Vec Ideal S512x512 .bf16) (b : Vec Ideal S512x5248 .bf16) (y : S512x5248.Idx) :
    k0_pay2 a b y = product a b y := by
  unfold k0_pay2 k0_pay1 product
  pointwise

theorem pay3_eq (a : Vec Ideal S512x512 .bf16) (b : Vec Ideal S512x5248 .bf16) (o : Vec Ideal S512x5248 .f32) (y : S512x5248.Idx) :
    k0_pay3 a b o y = o y + product a b y := by
  unfold k0_pay3 k0_pay1 product
  pointwise

/-- The first point of a block stores its partial product. -/
theorem total_A (c : Dev nD) (t : Fin cfg0.N) (h : t.val % 16 = 0) (y : S512x5248.Idx) :
    (outsAt0 m c t.val t.isLt).2 y = (fun _ => 0) y + product (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 16 = 0) (y : S512x5248.Idx) :
    (outsAt0 m c t.val t.isLt).2 y = (outsAt0 m c (t.val - 1) (by omega)).2 y + product (iblk m c 0 t) (iblk m c 1 t) y := by
  by_cases h2 : t.val % 16 = 15
  · rw [outsAt0_C m c t h (by omega) h2]; frame_out
    rw [pay3_eq, read_unread_whole]
  · rw [outsAt0_B m c t h (by omega) h2]; frame_out
    rw [pay3_eq, read_unread_whole]

/-- The last one writes the total out. -/
theorem out_C (c : Dev nD) (t : Fin cfg0.N) (h : t.val % 16 = 15) : (outsAt0 m c t.val t.isLt).1 = (outsAt0 m c t.val t.isLt).2 := by
  rw [outsAt0_C m c t (by omega) (by omega) h]; frame_out

/-- Which blocks a point takes. -/
theorem moved : ∀ t : Fin cfg0.N, win0_0.index t = ![t.val / 16 / 1, t.val % 16] ∧ win0_1.index t = ![t.val % 16, t.val / 16 % 1]
    ∧ win0_2.index t = ![t.val / 16 / 1, t.val / 16 % 1] :=
  (by decide +kernel : ∀ t : Fin grid0.N, _)

/-- The factors' blocks at a point, in the whole arrays. -/
theorem blocks (c : Dev nD) (t p : Fin cfg0.N) (s : Fin 16) (hp : p.val = 16 * (t.val / 16) + s.val) (y : S512x5248.Idx) (k : Fin 512)
    (hk : s.val * 512 + k.val < 8192) :
    iblk m c 0 p (ix2 (y 0) k) = m ((c : Thread nD τ).loc main_arg0) (ix2 ((win0_2.blk t).view.emb y 0) ⟨s.val * 512 + k.val, hk⟩)
    ∧ iblk m c 1 p (ix2 k (y 1)) = m ((c : Thread nD τ).loc main_arg1) (ix2 ⟨s.val * 512 + k.val, hk⟩ ((win0_2.blk t).view.emb y 1)) := by
  obtain ⟨e0, e1, -⟩ := moved p
  obtain ⟨-, -, e2⟩ := moved t
  have q : p.val / 16 = t.val / 16 := by omega
  have r : p.val % 16 = s.val := by omega
  rw [q, r] at e0 e1
  refine ⟨?_, ?_⟩ <;> (blk_simp [iblk, e0, e1, e2]; blk_ext [e0, e1, e2])

theorem final2 (c : Dev nD) : (dats m 0 c).arrAt 2 cfg0.N
    = product (M := 2048) (K := 8192) (N := 5248) (m ((c : Thread nD τ).loc main_arg0)) (m ((c : Thread nD τ).loc main_arg1)) := by
  refine (dats m 0 c).arrAt_eq_of_covers 2 _ (by decide +kernel) fun t hf y => ?_
  blk_simp
  have hl := (flush0_2 t).mp hf
  rw [after0_2, out_C m c t hl, Pipeline.eq_sum_fin_of_reset_step_apply_of_flush (fun n h => (outsAt0 m c n h).2) 16 (fun _ => 0)
    (fun t => product (iblk m c 0 t) (iblk m c 1 t)) (total_A m c) (total_B m c) t hl, zero_add]
  unfold product
  refine Fin.sum_mul_add_congr fun s k hk => ?_
  obtain ⟨h0, h1⟩ := blocks m c t ⟨16 * (t.val / 16) + s.val, _⟩ s rfl y k hk
  exact congrArg₂ (fun a b : EReal => a * b) h0 h1

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = product (M := 2048) (K := 8192) (N := 5248) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Cert.DwSsdIdeal.Value.final2 m c).symm.trans (final2 m c)), (h c).2⟩)
    (Cert.DwSsdIdeal.Value.run m ρ)

end Kernel

section Reference

open Cert.DwSsdRefIdeal Cert.DwSsdRefIdeal.Gen

variable (m : (ℓ : Loc nD τ sig) → Buf (Elt Ideal) ℓ) (ρ : Dev nD → PrngReg)

theorem ref_eq (a : Vec Ideal S2048x8192 .bf16) (b : Vec Ideal S8192x5248 .bf16) :
    Host.dotGeneral (F := Ideal) (φ₁ := .f32) (φ₂ := .f32) dot_S2048x8192_S8192x5248_S2048x5248_1_0_0_1_n_n none (extf (F := Ideal) (φ := .bf16) .f32 a bitsLt_bf16_f32) (extf (F := Ideal) (φ := .bf16) .f32 b bitsLt_bf16_f32)
      = product (M := 2048) (K := 8192) (N := 5248) a b := by
  funext y
  unfold product
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = product (M := 2048) (K := 8192) (N := 5248) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.DwSsdValue

end
-- ==== Proof.DwOutValue.lean ====
/-
  The gradient of the output projection's weight on one device: sixteen partial products, added up in a buffer that the points
  of a block share, are the whole product.
-/
module

public import proofs.«01_k».proof.Proof.Product
public import Idealize.ShloMosaic.Lib.Pipeline.ReadBack
public import proofs.«01_k».proof.Proof.Gen.DwOutIdeal.Value
public import proofs.«01_k».proof.Proof.Gen.DwOutRefIdeal.Run

@[expose] public section

noncomputable section

namespace Cert.DwOutValue

open Cert.Product (product)
open Idealize.ShloMosaic Idealize.ShloMosaic.TcCoe Idealize.SL.Sem

section Kernel

open Cert.DwOutIdeal Cert.DwOutIdeal.Gen

variable (m : (ℓ : Loc nD τ sig) → Buf (Elt Ideal) ℓ) (ρ : Dev nD → PrngReg)

theorem pay2_eq (a : Vec Ideal S1024x512 .bf16) (b : Vec Ideal S512x1024 .bf16) (y : S1024x1024.Idx) :
    k0_pay2 a b y = product a b y := by
  unfold k0_pay2 k0_pay1 product
  pointwise

theorem pay3_eq (a : Vec Ideal S1024x512 .bf16) (b : Vec Ideal S512x1024 .bf16) (o : Vec Ideal S1024x1024 .f32) (y : S1024x1024.Idx) :
    k0_pay3 a b o y = o y + product a b y := by
  unfold k0_pay3 k0_pay1 product
  pointwise

/-- The first point of a block stores its partial product. -/
theorem total_A (c : Dev nD) (t : Fin cfg0.N) (h : t.val % 16 = 0) (y : S1024x1024.Idx) :
    (outsAt0 m c t.val t.isLt).2 y = (fun _ => 0) y + product (iblk m c 0 t) (iblk m c 1 t) y := by
  rw [outsAt0_A m c t h (by omega) (by omega)]; frame_out
  rw [pay2_eq, zero_add]

/-- A later one adds its own. -/
theorem total_B (c : Dev nD) (t : Fin cfg0.N) (h : ¬t.val % 16 = 0) (y : S1024x1024.Idx) :
    (outsAt0 m c t.val t.isLt).2 y = (outsAt0 m c (t.val - 1) (by omega)).2 y + product (iblk m c 0 t) (iblk m c 1 t) y := by
  by_cases h2 : t.val % 16 = 15
  · rw [outsAt0_C m c t h (by omega) h2]; frame_out
    rw [pay3_eq, read_unread_whole]
  · rw [outsAt0_B m c t h (by omega) h2]; frame_out
    rw [pay3_eq, read_unread_whole]

/-- The last one writes the total out. -/
theorem out_C (c : Dev nD) (t : Fin cfg0.N) (h : t.val % 16 = 15) : (outsAt0 m c t.val t.isLt).1 = (outsAt0 m c t.val t.isLt).2 := by
  rw [outsAt0_C m c t (by omega) (by omega) h]; frame_out

/-- Which blocks a point takes. -/
theorem moved : ∀ t : Fin cfg0.N, win0_0.index t = ![t.val / 16 / 2, t.val % 16] ∧ win0_1.index t = ![t.val % 16, t.val / 16 % 2]
    ∧ win0_2.index t = ![t.val / 16 / 2, t.val / 16 % 2] :=
  (by decide +kernel : ∀ t : Fin grid0.N, _)

/-- The factors' blocks at a point, in the whole arrays. -/
theorem blocks (c : Dev nD) (t p : Fin cfg0.N) (s : Fin 16) (hp : p.val = 16 * (t.val / 16) + s.val) (y : S1024x1024.Idx) (k : Fin 512)
    (hk : s.val * 512 + k.val < 8192) :
    iblk m c 0 p (ix2 (y 0) k) = m ((c : Thread nD τ).loc main_arg0) (ix2 ((win0_2.blk t).view.emb y 0) ⟨s.val * 512 + k.val, hk⟩)
    ∧ iblk m c 1 p (ix2 k (y 1)) = m ((c : Thread nD τ).loc main_arg1) (ix2 ⟨s.val * 512 + k.val, hk⟩ ((win0_2.blk t).view.emb y 1)) := by
  obtain ⟨e0, e1, -⟩ := moved p
  obtain ⟨-, -, e2⟩ := moved t
  have q : p.val / 16 = t.val / 16 := by omega
  have r : p.val % 16 = s.val := by omega
  rw [q, r] at e0 e1
  refine ⟨?_, ?_⟩ <;> (blk_simp [iblk, e0, e1, e2]; blk_ext [e0, e1, e2])

theorem final2 (c : Dev nD) : (dats m 0 c).arrAt 2 cfg0.N
    = product (M := 2048) (K := 8192) (N := 2048) (m ((c : Thread nD τ).loc main_arg0)) (m ((c : Thread nD τ).loc main_arg1)) := by
  refine (dats m 0 c).arrAt_eq_of_covers 2 _ (by decide +kernel) fun t hf y => ?_
  blk_simp
  have hl := (flush0_2 t).mp hf
  rw [after0_2, out_C m c t hl, Pipeline.eq_sum_fin_of_reset_step_apply_of_flush (fun n h => (outsAt0 m c n h).2) 16 (fun _ => 0)
    (fun t => product (iblk m c 0 t) (iblk m c 1 t)) (total_A m c) (total_B m c) t hl, zero_add]
  unfold product
  refine Fin.sum_mul_add_congr fun s k hk => ?_
  obtain ⟨h0, h1⟩ := blocks m c t ⟨16 * (t.val / 16) + s.val, _⟩ s rfl y k hk
  exact congrArg₂ (fun a b : EReal => a * b) h0 h1

/-- The call runs and leaves the product; its arguments are unchanged. -/
theorem run : θ_run defs (onTc (τ := τ) (main (F := Ideal))) ⟨m, fun _ => 0, ρ⟩ fun r => ∀ c : Dev nD,
      r.2.mem ((c : Thread nD τ).loc main_v0) = product (M := 2048) (K := 8192) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Cert.DwOutIdeal.Value.final2 m c).symm.trans (final2 m c)), (h c).2⟩)
    (Cert.DwOutIdeal.Value.run m ρ)

end Kernel

section Reference

open Cert.DwOutRefIdeal Cert.DwOutRefIdeal.Gen

variable (m : (ℓ : Loc nD τ sig) → Buf (Elt Ideal) ℓ) (ρ : Dev nD → PrngReg)

theorem ref_eq (a : Vec Ideal S2048x8192 .bf16) (b : Vec Ideal S8192x2048 .bf16) :
    Host.dotGeneral (F := Ideal) (φ₁ := .f32) (φ₂ := .f32) dot_S2048x8192_S8192x2048_S2048x2048_1_0_0_1_n_n none (extf (F := Ideal) (φ := .bf16) .f32 a bitsLt_bf16_f32) (extf (F := Ideal) (φ := .bf16) .f32 b bitsLt_bf16_f32)
      = product (M := 2048) (K := 8192) (N := 2048) a b := by
  funext y
  unfold product
  pointwise

/-- The reference runs and leaves the product. -/
theorem run_ref : θ_run defs (onTc (τ := τ) (main (F := Ideal))) ⟨m, fun _ => 0, ρ⟩ fun r => ∀ c : Dev nD,
      r.2.mem ((c : Thread nD τ).loc main_v2) = product (M := 2048) (K := 8192) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _), (h c).2⟩) (Value.run m ρ)

end Reference

end Cert.DwOutValue

end
-- ==== Proof.Head.lean ====
/-
  The merge of two branches, the projection after it, the final norm and the loss, for one row over the extended reals, with the
  gradients that the loss sends back to that row.
-/
module

public import proofs.«01_k».proof.Proof.Norm

@[expose] public section

noncomputable section

namespace Cert.Head

open Cert.Norm (lit under back)
open Idealize.ShloMosaic

/-- What one row of the result is made of: the row of the residual, of the two branches, of their gates' logits and of the target,
    the gates' biases, the norm's weight and the projection's. -/
@[ext] structure Row where
  x : Fin 2048 → EReal
  ya : Fin 2048 → EReal
  yb : Fin 2048 → EReal
  la : Fin 2048 → EReal
  lb : Fin 2048 → EReal
  target : Fin 2048 → EReal
  ba : Fin 2048 → EReal
  bb : Fin 2048 → EReal
  scale : Fin 2048 → EReal
  w : Fin 2048 → Fin 2048 → EReal

/-- The logistic function. -/
def gate (z : EReal) : EReal := Ideal.div 1 (1 + Ideal.exp (-z))

namespace Row

variable (R : Row)

def gateA (k : Fin 2048) : EReal := gate (R.la k + R.ba k)
def gateB (k : Fin 2048) : EReal := gate (R.lb k + R.bb k)

def merged (k : Fin 2048) : EReal := R.gateA k * R.ya k + R.gateB k * R.yb k

def hidden (j : Fin 2048) : EReal := R.x j + ∑ k, R.merged k * R.w k j

def root : EReal := Ideal.rsqrt (under R.hidden)

def normed (j : Fin 2048) : EReal := R.hidden j * R.root

def err (j : Fin 2048) : EReal := R.normed j * R.scale j - R.target j

def loss : EReal := Ideal.div (∑ j, R.err j * R.err j) (lit 0x45000000#32)

/-- The gradient that reaches the norm's result, and through its weight. -/
def dy (j : Fin 2048) : EReal := R.err j * lit 0x3A000000#32
def dn (j : Fin 2048) : EReal := R.dy j * R.scale j

def dh (j : Fin 2048) : EReal := back R.hidden R.dn j

def dm (j : Fin 2048) : EReal := ∑ k, R.dh k * R.w j k

def dlA (j : Fin 2048) : EReal := R.dm j * R.ya j * R.gateA j * (1 - R.gateA j)
def dlB (j : Fin 2048) : EReal := R.dm j * R.yb j * R.gateB j * (1 - R.gateB j)

/-- The gradient of the two gates' logits, side by side. -/
def dl (j : Fin 4096) : EReal := if h : j.val < 2048 then R.dlA ⟨j.val, h⟩ else R.dlB ⟨j.val - 2048, by omega⟩

theorem dl_left (j : Fin 4096) (k : Fin 2048) (h : j.val = k.val) : R.dl j = R.dlA k := by
  have hj : j.val < 2048 := by omega
  rw [dl, dif_pos hj]
  exact congrArg R.dlA (Fin.ext h)

theorem dl_right (j : Fin 4096) (k : Fin 2048) (h : j.val = 2048 + k.val) : R.dl j = R.dlB k := by
  have hj : ¬ j.val < 2048 := by omega
  rw [dl, dif_neg hj]
  exact congrArg R.dlB (Fin.ext (by show j.val - 2048 = k.val; omega))

end Row

theorem lit_half : lit 0x3F000000#32 = ((1 / 2 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_part : lit 0x3A000000#32 = ((1 / 2048 : ℝ) : EReal) := by
  simp [lit, Ideal.ofBits, Ideal.ieee, -EReal.coe_mul]; norm_num

/-- The gradient of half the mean square, as differentiation gives it. -/
theorem mean_back (e : EReal) :
    Ideal.div (lit 0x3F000000#32) (lit 0x45000000#32) * (lit 0x40000000#32 * e) = e * lit 0x3A000000#32 := by
  rw [lit_half, lit_two, lit_part, Cert.Norm.lit_length, Ideal.div_coe (by norm_num), ← EReal.coe_mul,
    ← mul_assoc, ← EReal.coe_mul, mul_comm]
  congr 2
  norm_num

theorem twice (s x : EReal) : s * (lit 0x40000000#32 * x) = x * s + s * x := by
  have h : lit 0x40000000#32 = 1 + 1 := by
    rw [lit_two, ← EReal.coe_one, ← EReal.coe_add]; norm_num
  rw [h, mul_left_comm, EReal.right_distrib_of_nonneg zero_le_one zero_le_one, one_mul, mul_comm x s]

/-- The gradient that goes back through a norm whose squares are written as such. -/
theorem back_twice (x d : Fin 2048 → EReal) (j : Fin 2048) :
    d j * Ideal.rsqrt (under x) + Cert.Norm.share x d * (lit 0x40000000#32 * x j) = back x d j := by
  rw [twice, ← add_assoc]
  exact Cert.Norm.back_eq x d j

/-- Half of a sum is the sum of the halves. -/
theorem half_sum {n : ℕ} (f : Fin n → EReal) : lit 0x3F000000#32 * ∑ k, f k = ∑ k, lit 0x3F000000#32 * f k := by
  rw [lit_half]; exact Cert.Norm.mul_sum_real _ (by norm_num) f

end Cert.Head

end
-- ==== Proof.HeadPay.lean ====
/-
  What the kernel's body computes from a block of rows: every value it stores, row by row.
-/
module

public import proofs.«01_k».proof.Proof.Head
public import proofs.«01_k».proof.Proof.Gen.HeadIdeal.Skeleton
public import Idealize.ShloMosaic.Lib.Pipeline.ValueKit

@[expose] public section

noncomputable section

namespace Cert.HeadValue

open Cert.Norm (lit under back)
open Cert.Head Idealize.ShloMosaic Idealize.ShloMosaic.TcCoe Idealize.SL.Sem
open Cert.HeadIdeal Cert.HeadIdeal.Gen

/-- A row of the blocks that a point reads. -/
def rowOf (x ya yb la lb t : Vec Ideal S128x2048 .f32) (ba bb : Vec Ideal S1x2048 .f32) (w : Vec Ideal S2048x2048 .bf16)
    (s : Vec Ideal S1x2048 .f32) (r : Fin 128) : Row where
  x k := x (ix2 r k)
  ya k := ya (ix2 r k)
  yb k := yb (ix2 r k)
  la k := la (ix2 r k)
  lb k := lb (ix2 r k)
  target k := t (ix2 r k)
  ba k := ba (ix2 0 k)
  bb k := bb (ix2 0 k)
  scale k := s (ix2 0 k)
  w k j := w (ix2 k j)

variable (x ya yb la lb t : Vec Ideal S128x2048 .f32) (ba bb : Vec Ideal S1x2048 .f32) (w : Vec Ideal S2048x2048 .bf16)
    (s : Vec Ideal S1x2048 .f32) (r : Fin 128) (j : Fin 2048)

/-- Zero less a number is its negation. -/
theorem pay9_eq : k0_pay9 la ba (ix2 r j) = gate (la (ix2 r j) + ba (ix2 0 j)) := by
  unfold k0_pay9 gate
  pointwise
  rw [zero_sub]

theorem pay10_eq : k0_pay10 lb bb (ix2 r j) = gate (lb (ix2 r j) + bb (ix2 0 j)) := by
  unfold k0_pay10 gate
  pointwise
  rw [zero_sub]

theorem pay11_eq : k0_pay11 ya yb la ba lb bb (ix2 r j) = (rowOf x ya yb la lb t ba bb w s r).merged j := by
  unfold k0_pay11
  pointwise
  simp only [pay9_eq, pay10_eq]
  rfl

theorem pay12_eq : k0_pay12 (k0_pay11 ya yb la ba lb bb) x w (ix2 r j) = (rowOf x ya yb la lb t ba bb w s r).hidden j := by
  unfold k0_pay12
  pointwise
  simp only [pay11_eq x ya yb la lb t ba bb w s]
  rfl

theorem pay13_eq : k0_pay13 (k0_pay11 ya yb la ba lb bb) x w (ix2 r 0) = (rowOf x ya yb la lb t ba bb w s r).root := by
  unfold k0_pay13
  pointwise
  simp only [pay12_eq x ya yb la lb t ba bb w s]
  rfl

theorem pay14_eq : k0_pay14 (k0_pay11 ya yb la ba lb bb) x w (ix2 r j) = (rowOf x ya yb la lb t ba bb w s r).normed j := by
  unfold k0_pay14
  pointwise
  simp only [pay12_eq x ya yb la lb t ba bb w s, pay13_eq x ya yb la lb t ba bb w s]
  rfl

theorem pay15_eq : k0_pay15 (k0_pay11 ya yb la ba lb bb) x w s t (ix2 r j) = (rowOf x ya yb la lb t ba bb w s r).err j := by
  unfold k0_pay15
  pointwise
  simp only [pay14_eq x ya yb la lb t ba bb w s]
  rfl

theorem pay16_eq (o : Vec Ideal S8x128 .f32) (y : S8x128.Idx) : k0_pay16 (k0_pay11 ya yb la ba lb bb) x w s t o y
    = o y + ∑ r : Fin 128, lit 0x3F000000#32 * (rowOf x ya yb la lb t ba bb w s r).loss := by
  rw [← half_sum]
  unfold k0_pay16
  pointwise
  simp only [pay15_eq x ya yb la lb t ba bb w s, Fin.sum_univ_one]
  rfl

theorem pay17_eq : k0_pay17 (k0_pay11 ya yb la ba lb bb) x w s t (ix2 r j) = (rowOf x ya yb la lb t ba bb w s r).dy j := by
  unfold k0_pay17
  pointwise
  simp only [pay15_eq x ya yb la lb t ba bb w s]
  rfl

theorem pay20_eq (o : Vec Ideal S1x2048 .f32) : k0_pay20 (k0_pay18 o) (k0_pay19 (k0_pay11 ya yb la ba lb bb) x w s t) (ix2 0 j)
    = o (ix2 0 j) + ∑ r : Fin 128, (rowOf x ya yb la lb t ba bb w s r).dy j * (rowOf x ya yb la lb t ba bb w s r).normed j := by
  unfold k0_pay20 k0_pay18 k0_pay19
  pointwise
  simp only [pay14_eq x ya yb la lb t ba bb w s, pay17_eq x ya yb la lb t ba bb w s]

/-- The gradient of the projection's result, from what the body found before. -/
abbrev grad : FVec Ideal S128x2048 .f32 :=
  k0_pay21 (k0_pay13 (k0_pay11 ya yb la ba lb bb) x w) (k0_pay14 (k0_pay11 ya yb la ba lb bb) x w) (k0_pay17 (k0_pay11 ya yb la ba lb bb) x w s t) s

theorem pay21_eq : grad x ya yb la lb t ba bb w s (ix2 r j) = (rowOf x ya yb la lb t ba bb w s r).dh j := by
  unfold grad k0_pay21
  pointwise
  simp only [pay13_eq x ya yb la lb t ba bb w s, pay14_eq x ya yb la lb t ba bb w s, pay17_eq x ya yb la lb t ba bb w s]
  rfl

theorem pay23_eq : k0_pay23 (k0_pay13 (k0_pay11 ya yb la ba lb bb) x w) (k0_pay14 (k0_pay11 ya yb la ba lb bb) x w)
    (k0_pay17 (k0_pay11 ya yb la ba lb bb) x w s t) s w (ix2 r j) = (rowOf x ya yb la lb t ba bb w s r).dm j := by
  unfold k0_pay23 k0_pay22
  pointwise
  have h := fun k => pay21_eq x ya yb la lb t ba bb w s r k
  unfold grad at h
  simp only [h]
  rfl

theorem pay24_eq : k0_pay24 (k0_pay9 la ba) (k0_pay13 (k0_pay11 ya yb la ba lb bb) x w) (k0_pay14 (k0_pay11 ya yb la ba lb bb) x w)
    (k0_pay17 (k0_pay11 ya yb la ba lb bb) x w s t) s w (ix2 r j)
    = (rowOf x ya yb la lb t ba bb w s r).dm j * (rowOf x ya yb la lb t ba bb w s r).gateA j := by
  unfold k0_pay24
  pointwise
  simp only [pay23_eq x ya yb la lb t ba bb w s, pay9_eq]
  rfl

theorem pay25_eq : k0_pay25 (k0_pay10 lb bb) (k0_pay13 (k0_pay11 ya yb la ba lb bb) x w) (k0_pay14 (k0_pay11 ya yb la ba lb bb) x w)
    (k0_pay17 (k0_pay11 ya yb la ba lb bb) x w s t) s w (ix2 r j)
    = (rowOf x ya yb la lb t ba bb w s r).dm j * (rowOf x ya yb la lb t ba bb w s r).gateB j := by
  unfold k0_pay25
  pointwise
  simp only [pay23_eq x ya yb la lb t ba bb w s, pay10_eq]
  rfl

/-- The two halves of the gradient of the logits. -/
theorem pay26_eq : k0_pay26 ya (k0_pay9 la ba) (k0_pay13 (k0_pay11 ya yb la ba lb bb) x w) (k0_pay14 (k0_pay11 ya yb la ba lb bb) x w)
    (k0_pay17 (k0_pay11 ya yb la ba lb bb) x w s t) s w (ix2 r j)
    = (rowOf x ya yb la lb t ba bb w s r).dlA j := by
  unfold k0_pay26
  pointwise
  simp only [pay23_eq x ya yb la lb t ba bb w s, pay9_eq]
  rfl

theorem pay27_eq : k0_pay1 (k0_pay27 yb (k0_pay10 lb bb) (k0_pay13 (k0_pay11 ya yb la ba lb bb) x w) (k0_pay14 (k0_pay11 ya yb la ba lb bb) x w)
    (k0_pay17 (k0_pay11 ya yb la ba lb bb) x w s t) s w) (k0_pay28 (k0_pay10 lb bb)) (ix2 r j)
    = (rowOf x ya yb la lb t ba bb w s r).dlB j := by
  unfold k0_pay1 k0_pay27 k0_pay28
  pointwise
  simp only [pay23_eq x ya yb la lb t ba bb w s, pay10_eq]
  rfl

theorem pay4_eq (o : Vec Ideal S1x2048 .f32) : k0_pay4 (k0_pay26 ya (k0_pay9 la ba) (k0_pay13 (k0_pay11 ya yb la ba lb bb) x w) (k0_pay14 (k0_pay11 ya yb la ba lb bb) x w)
    (k0_pay17 (k0_pay11 ya yb la ba lb bb) x w s t) s w) o (ix2 0 j)
    = o (ix2 0 j) + ∑ r : Fin 128, (rowOf x ya yb la lb t ba bb w s r).dlA j := by
  unfold k0_pay4
  pointwise
  simp only [pay26_eq x ya yb la lb t ba bb w s]

theorem pay5_eq (o : Vec Ideal S1x2048 .f32) : k0_pay5 (k0_pay27 yb (k0_pay10 lb bb) (k0_pay13 (k0_pay11 ya yb la ba lb bb) x w) (k0_pay14 (k0_pay11 ya yb la ba lb bb) x w)
    (k0_pay17 (k0_pay11 ya yb la ba lb bb) x w s t) s w)
    (k0_pay28 (k0_pay10 lb bb)) o (ix2 0 j)
    = o (ix2 0 j) + ∑ r : Fin 128, (rowOf x ya yb la lb t ba bb w s r).dlB j := by
  unfold k0_pay5
  pointwise
  simp only [pay27_eq x ya yb la lb t ba bb w s]

theorem pay2_eq (v : FVec Ideal S128x2048 .f32) (y : S128x2048.Idx) : k0_pay2 v y = v y := by
  unfold k0_pay2
  pointwise

theorem pay3_eq (v u : FVec Ideal S128x2048 .f32) (y : S128x2048.Idx) : k0_pay3 v u y = k0_pay1 v u y := by
  unfold k0_pay3
  pointwise

theorem zeros_eq : (∀ y, k0_pay6 (F := Ideal) y = 0) ∧ (∀ y, k0_pay7 (F := Ideal) y = 0) ∧ ∀ y, k0_pay8 (F := Ideal) y = 0 := by
  unfold k0_pay6 k0_pay7 k0_pay8
  refine ⟨?_, ?_, ?_⟩ <;> intro y <;> pointwise

end Cert.HeadValue

end
-- ==== Proof.HeadOut.lean ====
/-
  What a point of the grid leaves in its blocks: the rows it computes, and the sums that it adds to what the point before left.
-/
module

public import proofs.«01_k».proof.Proof.HeadPay
public import proofs.«01_k».proof.Proof.Gen.HeadIdeal.Value
public import Idealize.ShloMosaic.Lib.Pipeline.ReadBack

@[expose] public section

noncomputable section

namespace Cert.HeadValue

open Cert.Norm (lit under back)
open Cert.Head Idealize.ShloMosaic Idealize.ShloMosaic.TcCoe Idealize.SL.Sem
open Cert.HeadIdeal Cert.HeadIdeal.Gen

variable (m : (ℓ : Loc nD τ sig) → Buf (Elt Ideal) ℓ) (c : Dev nD) (t : Fin cfg0.N)

/-- The two halves of the gates' biases. -/
abbrev biasA : Vec Ideal S1x2048 .f32 := View.ld (iblk m c 6 t) (Rect.unit (s := S1x4096) ![0, 0] ![1, 2048] inb_S1x4096_S1x2048_0_0)
abbrev biasB : Vec Ideal S1x2048 .f32 := View.ld (iblk m c 6 t) (Rect.unit (s := S1x4096) ![0, 2048] ![1, 2048] inb_S1x4096_S1x2048_0_2048)

/-- A row of a point's blocks. -/
abbrev blkRow (r : Fin 128) : Row :=
  rowOf (iblk m c 0 t) (iblk m c 1 t) (iblk m c 2 t) (X0_3 m c t) (X0_4 m c t) (iblk m c 5 t) (biasA m c t) (biasB m c t) (iblk m c 7 t) (iblk m c 8 t) r

section Rows

variable (r : Fin 128) (j : Fin 2048)

theorem dh_at : (outsAt0 m c t.val t.isLt).1 (ix2 r j) = (blkRow m c t r).dh j := by
  by_cases h0 : t.val % 64 = 0
  · rw [outsAt0_A m c t h0]; frame_out; exact pay21_eq _ _ _ _ _ _ _ _ _ _ r j
  · rw [outsAt0_B m c t h0]; frame_out; exact pay21_eq _ _ _ _ _ _ _ _ _ _ r j

theorem dhb_at : (outsAt0 m c t.val t.isLt).2.1 (ix2 r j) = (blkRow m c t r).dh j := by
  by_cases h0 : t.val % 64 = 0
  · rw [outsAt0_A m c t h0]; frame_out; exact pay21_eq _ _ _ _ _ _ _ _ _ _ r j
  · rw [outsAt0_B m c t h0]; frame_out; exact pay21_eq _ _ _ _ _ _ _ _ _ _ r j

theorem merged_at : (outsAt0 m c t.val t.isLt).2.2.1 (ix2 r j) = (blkRow m c t r).merged j := by
  by_cases h0 : t.val % 64 = 0
  · rw [outsAt0_A m c t h0]; frame_out; exact pay11_eq _ _ _ _ _ _ _ _ _ _ r j
  · rw [outsAt0_B m c t h0]; frame_out; exact pay11_eq _ _ _ _ _ _ _ _ _ _ r j

theorem dya_at : (outsAt0 m c t.val t.isLt).2.2.2.1 (ix2 r j) = (blkRow m c t r).dm j * (blkRow m c t r).gateA j := by
  by_cases h0 : t.val % 64 = 0
  · rw [outsAt0_A m c t h0]; frame_out; exact pay24_eq _ _ _ _ _ _ _ _ _ _ r j
  · rw [outsAt0_B m c t h0]; frame_out; exact pay24_eq _ _ _ _ _ _ _ _ _ _ r j

theorem dyb_at : (outsAt0 m c t.val t.isLt).2.2.2.2.1 (ix2 r j) = (blkRow m c t r).dm j * (blkRow m c t r).gateB j := by
  by_cases h0 : t.val % 64 = 0
  · rw [outsAt0_A m c t h0]; frame_out; exact pay25_eq _ _ _ _ _ _ _ _ _ _ r j
  · rw [outsAt0_B m c t h0]; frame_out; exact pay25_eq _ _ _ _ _ _ _ _ _ _ r j

end Rows

/-- Where a rectangle at a column, of one row or of all, places an element. -/
theorem placed {a b n k : ℕ} {o : ℕ} (inb : ∀ i, (![0, o] : Fin 2 → ℕ) i + (![n, k] : Fin 2 → ℕ) i ≤ (⟨2, ![a, b]⟩ : Shape).size i)
    (y : (⟨2, ![a, b]⟩ : Shape).Idx) (i : Fin n) (j : Fin k) (hi : (y 0).val = i.val) (hj : (y 1).val = o + j.val) :
    (Rect.unit (s := (⟨2, ![a, b]⟩ : Shape)) ![0, o] ![n, k] inb).emb (ix2 i j) = y :=
  funext fun e => Fin.ext (by
    fin_cases e
    · show 0 + 1 * i.val = (y 0).val
      omega
    · show o + 1 * j.val = (y 1).val
      omega)

theorem out_row {a b n k : ℕ} {o : ℕ} (inb : ∀ i, (![0, o] : Fin 2 → ℕ) i + (![n, k] : Fin 2 → ℕ) i ≤ (⟨2, ![a, b]⟩ : Shape).size i)
    (y : (⟨2, ![a, b]⟩ : Shape).Idx) (h : n ≤ (y 0).val) : y ∉ (Rect.unit (s := (⟨2, ![a, b]⟩ : Shape)) ![0, o] ![n, k] inb).set := fun hm => by
  have := (Rect.mem_set_unit.mp hm 0).2
  change (y 0).val < 0 + n at this
  omega

theorem out_left {a b n k : ℕ} {o : ℕ} (inb : ∀ i, (![0, o] : Fin 2 → ℕ) i + (![n, k] : Fin 2 → ℕ) i ≤ (⟨2, ![a, b]⟩ : Shape).size i)
    (y : (⟨2, ![a, b]⟩ : Shape).Idx) (h : (y 1).val < o) : y ∉ (Rect.unit (s := (⟨2, ![a, b]⟩ : Shape)) ![0, o] ![n, k] inb).set := fun hm => by
  have := (Rect.mem_set_unit.mp hm 1).1
  change o ≤ (y 1).val at this
  omega

theorem dl_at (r : Fin 128) (j : Fin 4096) : (outsAt0 m c t.val t.isLt).2.2.2.2.2.1 (ix2 r j) = (blkRow m c t r).dl j := by
  by_cases hj : j.val < 2048
  · refine Eq.trans ?_ ((blkRow m c t r).dl_left j ⟨j.val, hj⟩ rfl).symm
    have hm := out_left inb_S128x4096_S128x2048_0_2048 (ix2 r j) hj
    have he := placed inb_S128x4096_S128x2048_0_0 (ix2 r j) r ⟨j.val, hj⟩ rfl (Nat.zero_add _).symm
    by_cases h0 : t.val % 64 = 0
    · rw [outsAt0_A m c t h0]; frame_out
      refine (View.canon_cons_of_not_mem ⟨_, _⟩ _ hm).trans ?_
      refine (congrArg _ he.symm).trans ((View.canon_cons_emb _ _ _ _).trans ?_)
      exact (pay2_eq _ _).trans (pay26_eq _ _ _ _ _ _ _ _ _ _ r _)
    · rw [outsAt0_B m c t h0]; frame_out
      refine (View.canon_cons_of_not_mem ⟨_, _⟩ _ hm).trans ?_
      refine (congrArg _ he.symm).trans ((View.canon_cons_emb _ _ _ _).trans ?_)
      exact (pay2_eq _ _).trans (pay26_eq _ _ _ _ _ _ _ _ _ _ r _)
  · have hk : j.val = 2048 + (j.val - 2048) := by omega
    refine Eq.trans ?_ ((blkRow m c t r).dl_right j ⟨j.val - 2048, by omega⟩ hk).symm
    have he := placed inb_S128x4096_S128x2048_0_2048 (ix2 r j) r ⟨j.val - 2048, by omega⟩ rfl hk
    by_cases h0 : t.val % 64 = 0
    · rw [outsAt0_A m c t h0]; frame_out
      refine (congrArg _ he.symm).trans ((View.canon_cons_emb _ _ _ _).trans ?_)
      exact (pay3_eq _ _ _).trans (pay27_eq _ _ _ _ _ _ _ _ _ _ r _)
    · rw [outsAt0_B m c t h0]; frame_out
      refine (congrArg _ he.symm).trans ((View.canon_cons_emb _ _ _ _).trans ?_)
      exact (pay3_eq _ _ _).trans (pay27_eq _ _ _ _ _ _ _ _ _ _ r _)

/-- A point's parts of the loss and of the two gradients that sum over rows. -/
def lossPart (_ : S8x128.Idx) : EReal := ∑ r : Fin 128, lit 0x3F000000#32 * (blkRow m c t r).loss
def scalePart (y : S8x2048.Idx) : EReal :=
  if (y 0).val = 0 then ∑ r : Fin 128, (blkRow m c t r).dy (y 1) * (blkRow m c t r).normed (y 1) else 0
def biasPart (y : S8x4096.Idx) : EReal := if (y 0).val = 0 then ∑ r : Fin 128, (blkRow m c t r).dl (y 1) else 0

theorem loss_A (h0 : t.val % 64 = 0) (y : S8x128.Idx) :
    (outsAt0 m c t.val t.isLt).2.2.2.2.2.2.1 y = 0 + lossPart m c t y := by
  rw [outsAt0_A m c t h0]; frame_out
  refine (pay16_eq _ _ _ _ _ _ _ _ _ _ _ _).trans ?_
  exact congrArg (· + _) (zeros_eq.1 _)

theorem loss_B (h0 : ¬ t.val % 64 = 0) (y : S8x128.Idx) :
    (outsAt0 m c t.val t.isLt).2.2.2.2.2.2.1 y
      = (outsAt0 m c (t.val - 1) (Nat.lt_of_le_of_lt (Nat.sub_le _ _) t.isLt)).2.2.2.2.2.2.1 y + lossPart m c t y := by
  rw [outsAt0_B m c t h0]; frame_out
  exact pay16_eq _ _ _ _ _ _ _ _ _ _ _ _

theorem scale_A (h0 : t.val % 64 = 0) (y : S8x2048.Idx) :
    (outsAt0 m c t.val t.isLt).2.2.2.2.2.2.2.1 y = 0 + scalePart m c t y := by
  rw [outsAt0_A m c t h0]; frame_out
  rw [zero_add, scalePart]
  by_cases h : (y 0).val = 0
  · rw [if_pos h]
    refine (congrArg _ (placed inb_S8x2048_S1x2048_0_0 y 0 (y 1) h (Nat.zero_add _).symm).symm).trans ((View.canon_cons_emb _ _ _ _).trans ?_)
    refine (pay20_eq _ _ _ _ _ _ _ _ _ _ (y 1) _).trans ?_
    rw [View.readCov_fill _ _ _ _ _ (fun a => by fin_cases a <;> rfl)]
    exact (congrArg (· + _) (zeros_eq.2.1 _)).trans (zero_add _)
  · rw [if_neg h]
    refine (View.canon_cons_of_not_mem ⟨_, _⟩ _ (out_row inb_S8x2048_S1x2048_0_0 y (by omega))).trans ?_
    exact (congrFun (View.canon_cons_unit_lit (S := S8x2048) _ _ _ (fun a => by fin_cases a <;> rfl)) y).trans (zeros_eq.2.1 y)

theorem scale_B (h0 : ¬ t.val % 64 = 0) (y : S8x2048.Idx) :
    (outsAt0 m c t.val t.isLt).2.2.2.2.2.2.2.1 y
      = (outsAt0 m c (t.val - 1) (Nat.lt_of_le_of_lt (Nat.sub_le _ _) t.isLt)).2.2.2.2.2.2.2.1 y + scalePart m c t y := by
  rw [outsAt0_B m c t h0]; frame_out
  rw [scalePart]
  generalize (outsAt0 m c (t.val - 1) _).2.2.2.2.2.2.2.1 = o
  by_cases h : (y 0).val = 0
  · rw [if_pos h]
    have he := placed inb_S8x2048_S1x2048_0_0 y 0 (y 1) h (Nat.zero_add _).symm
    refine (View.read_writes_cons_hit _ _ _ _ _ _ y he).trans ((pay20_eq _ _ _ _ _ _ _ _ _ _ (y 1) _).trans ?_)
    exact congrArg (· + _) (congrArg o he)
  · rw [if_neg h, add_zero]
    refine (View.read_writes_cons_miss _ _ ⟨_, _⟩ _ y (out_row inb_S8x2048_S1x2048_0_0 y (by omega))).trans ?_
    exact congrFun ((hs0_16 t).read_unread o) y

theorem bias_A (h0 : t.val % 64 = 0) (y : S8x4096.Idx) :
    (outsAt0 m c t.val t.isLt).2.2.2.2.2.2.2.2 y = 0 + biasPart m c t y := by
  rw [outsAt0_A m c t h0]; frame_out
  rw [zero_add, biasPart]
  by_cases h : (y 0).val = 0
  · rw [if_pos h]
    by_cases hj : (y 1).val < 2048
    · simp only [fun r => (blkRow m c t r).dl_left (y 1) ⟨(y 1).val, hj⟩ rfl]
      refine (View.canon_cons_of_not_mem ⟨_, _⟩ _ (out_left inb_S8x4096_S1x2048_0_2048 y hj)).trans ?_
      refine (congrArg _ (placed inb_S8x4096_S1x2048_0_0 y 0 ⟨(y 1).val, hj⟩ h (Nat.zero_add _).symm).symm).trans ((View.canon_cons_emb _ _ _ _).trans ?_)
      refine (pay4_eq _ _ _ _ _ _ _ _ _ _ ⟨(y 1).val, hj⟩ _).trans ?_
      rw [View.readCov_fill _ _ _ _ _ (fun a => by fin_cases a <;> rfl)]
      exact (congrArg (· + _) (zeros_eq.2.2 _)).trans (zero_add _)
    · have hk : (y 1).val = 2048 + ((y 1).val - 2048) := by omega
      have hb : (y 1).val - 2048 < 2048 := by have : (y 1).val < 4096 := (y 1).isLt; omega
      simp only [fun r => (blkRow m c t r).dl_right (y 1) ⟨(y 1).val - 2048, hb⟩ hk]
      refine (congrArg _ (placed inb_S8x4096_S1x2048_0_2048 y 0 ⟨(y 1).val - 2048, hb⟩ h hk).symm).trans ((View.canon_cons_emb _ _ _ _).trans ?_)
      refine (pay5_eq _ _ _ _ _ _ _ _ _ _ ⟨(y 1).val - 2048, hb⟩ _).trans ?_
      rw [View.readCov_skip _ _ _ _ _ (by decide +kernel), View.readCov_fill _ _ _ _ _ (fun a => by fin_cases a <;> rfl)]
      exact (congrArg (· + _) (zeros_eq.2.2 _)).trans (zero_add _)
  · rw [if_neg h]
    refine (View.canon_cons_of_not_mem ⟨_, _⟩ _ (out_row inb_S8x4096_S1x2048_0_2048 y (by omega))).trans ?_
    refine (View.canon_cons_of_not_mem ⟨_, _⟩ _ (out_row inb_S8x4096_S1x2048_0_0 y (by omega))).trans ?_
    exact (congrFun (View.canon_cons_unit_lit (S := S8x4096) _ _ _ (fun a => by fin_cases a <;> rfl)) y).trans (zeros_eq.2.2 y)

theorem bias_B (h0 : ¬ t.val % 64 = 0) (y : S8x4096.Idx) :
    (outsAt0 m c t.val t.isLt).2.2.2.2.2.2.2.2 y
      = (outsAt0 m c (t.val - 1) (Nat.lt_of_le_of_lt (Nat.sub_le _ _) t.isLt)).2.2.2.2.2.2.2.2 y + biasPart m c t y := by
  rw [outsAt0_B m c t h0]; frame_out
  rw [biasPart]
  generalize (outsAt0 m c (t.val - 1) _).2.2.2.2.2.2.2.2 = o
  by_cases h : (y 0).val = 0
  · rw [if_pos h]
    by_cases hj : (y 1).val < 2048
    · simp only [fun r => (blkRow m c t r).dl_left (y 1) ⟨(y 1).val, hj⟩ rfl]
      have he := placed inb_S8x4096_S1x2048_0_0 y 0 ⟨(y 1).val, hj⟩ h (Nat.zero_add _).symm
      refine (View.read_writes_cons_miss _ _ ⟨_, _⟩ _ y (out_left inb_S8x4096_S1x2048_0_2048 y hj)).trans ?_
      refine (View.read_writes_cons_hit _ _ _ _ _ _ y he).trans ((pay4_eq _ _ _ _ _ _ _ _ _ _ ⟨(y 1).val, hj⟩ _).trans ?_)
      exact congrArg (· + _) (congrArg o he)
    · have hk : (y 1).val = 2048 + ((y 1).val - 2048) := by omega
      have hb : (y 1).val - 2048 < 2048 := by have : (y 1).val < 4096 := (y 1).isLt; omega
      simp only [fun r => (blkRow m c t r).dl_right (y 1) ⟨(y 1).val - 2048, hb⟩ hk]
      have he := placed inb_S8x4096_S1x2048_0_2048 y 0 ⟨(y 1).val - 2048, hb⟩ h hk
      refine (View.read_writes_cons_hit _ _ _ _ _ _ y he).trans ((pay5_eq _ _ _ _ _ _ _ _ _ _ ⟨(y 1).val - 2048, hb⟩ _).trans ?_)
      exact congrArg (· + _) (congrArg o he)
  · rw [if_neg h, add_zero]
    refine (View.read_writes_cons_miss _ _ ⟨_, _⟩ _ y (out_row inb_S8x4096_S1x2048_0_2048 y (by omega))).trans ?_
    refine (View.read_writes_cons_miss _ _ ⟨_, _⟩ _ y (out_row inb_S8x4096_S1x2048_0_0 y (by omega))).trans ?_
    exact congrFun ((hs0_17 t).read_unread o) y

end Cert.HeadValue

end
-- ==== Proof.HeadRef.lean ====
/-
  The reference of the merge, the projection, the final norm and the loss: its arrays, row by row.
-/
module

public import proofs.«01_k».proof.Proof.Head
public import proofs.«01_k».proof.Proof.NormBwdValue
public import proofs.«01_k».proof.Proof.Gen.HeadRefIdeal.Run
public import Idealize.ShloMosaic.Lib.Pipeline.ValueKit

@[expose] public section

noncomputable section

namespace Cert.HeadValue

open Cert.Norm (lit under back)
open Cert.NormBwdValue (root root_apply through through_apply shares shares_apply)
open Cert.Head Idealize.ShloMosaic Idealize.ShloMosaic.TcCoe Idealize.SL.Sem
open Cert.HeadRefIdeal Cert.HeadRefIdeal.Gen

variable (x ya yb t : Vec Ideal S8192x2048 .f32) (p : Vec Ideal S8192x15488 .f32) (b : Vec Ideal S1x4096 .f32)
    (w : Vec Ideal S2048x2048 .bf16) (s : Vec Ideal S1x2048 .f32)

/-- A row of the arguments; the two gates' logits are columns of the input projection. -/
def argRow (i : Fin 8192) : Row where
  x k := x (ix2 i k)
  ya k := ya (ix2 i k)
  yb k := yb (ix2 i k)
  la k := p (ix2 i ⟨6144 + k.val, by omega⟩)
  lb k := p (ix2 i ⟨8192 + k.val, by omega⟩)
  target k := t (ix2 i k)
  ba k := b (ix2 0 ⟨k.val, by omega⟩)
  bb k := b (ix2 0 ⟨2048 + k.val, by omega⟩)
  scale k := s (ix2 0 k)
  w k j := w (ix2 k j)

def gates : Vec Ideal S8192x4096 .f32 :=
  Host.divf (F := Ideal) (φ := .f32) (broadcastInDim S8192x4096 ![] bcast_S_S8192x4096 (constant S_ .f32 0x3F800000#32))
    (addf (broadcastInDim S8192x4096 ![] bcast_S_S8192x4096 (constant S_ .f32 0x3F800000#32)) (Host.exp (Host.negf
      (addf (F := Ideal) (φ := .f32) (extractStridedSlice S8192x4096 ![0, 6144] p slices_S8192x15488_S8192x4096_0_6144)
        (broadcastInDim S8192x4096 ![0, 1] bcast_S1x4096_S8192x4096_0_1 (broadcastInDim S1x4096 ![1] bcast_S4096_S1x4096_1 (shapeCast _ b shapeCasts_S1x4096_S4096)))))))

def gateA : Vec Ideal S8192x2048 .f32 := extractStridedSlice S8192x2048 ![0, 0] (gates p b) slices_S8192x4096_S8192x2048_0_0
def gateB : Vec Ideal S8192x2048 .f32 := extractStridedSlice S8192x2048 ![0, 2048] (gates p b) slices_S8192x4096_S8192x2048_0_2048

def merged : Vec Ideal S8192x2048 .f32 :=
  addf (F := Ideal) (φ := .f32) (mulf (F := Ideal) (φ := .f32) (gateA p b) ya) (mulf (F := Ideal) (φ := .f32) (gateB p b) yb)

def hidden : Vec Ideal S8192x2048 .f32 :=
  addf (F := Ideal) (φ := .f32) x (Host.dotGeneral (F := Ideal) (φ₁ := .f32) (φ₂ := .f32) dot_S8192x2048_S2048x2048_S8192x2048_1_0_0_1_n_n none (merged ya yb p b) (extf (F := Ideal) (φ := .bf16) .f32 w bitsLt_bf16_f32))

def normed : Vec Ideal S8192x2048 .f32 :=
  mulf (F := Ideal) (φ := .f32) (hidden x ya yb p b w) (broadcastInDim S8192x2048 ![0, 1] bcast_S8192x1_S8192x2048_0_1 (Host.rsqrt (root (hidden x ya yb p b w))))

def err : Vec Ideal S8192x2048 .f32 := subf (F := Ideal) (φ := .f32) (through s (normed x ya yb p b w)) t

def loss : Vec Ideal S8192 .f32 :=
  Host.divf (F := Ideal) (φ := .f32) (Host.reduceAdd (F := Ideal) (φ := .f32) (mulf (F := Ideal) (φ := .f32) (err x ya yb t p b w s) (err x ya yb t p b w s)) (constant S_ .f32 0x00000000#32) reducesTo_S8192x2048_S8192_d1 h_S_)
    (broadcastInDim S8192 ![] bcast_S_S8192 (constant S_ .f32 0x45000000#32))

def dy : Vec Ideal S8192x2048 .f32 :=
  mulf (F := Ideal) (φ := .f32) (broadcastInDim S8192x2048 ![0] bcast_S8192_S8192x2048_0 (Host.divf (F := Ideal) (φ := .f32)
    (broadcastInDim S8192 ![] bcast_S_S8192 (mulf (F := Ideal) (φ := .f32) (constant S_ .f32 0x3F000000#32) (constant S_ .f32 0x3F800000#32)))
    (broadcastInDim S8192 ![] bcast_S_S8192 (constant S_ .f32 0x45000000#32))))
    (mulf (F := Ideal) (φ := .f32) (broadcastInDim S8192x2048 ![] bcast_S_S8192x2048 (constant S_ .f32 0x40000000#32)) (err x ya yb t p b w s))

def dh : Vec Ideal S8192x2048 .f32 :=
  addf (F := Ideal) (φ := .f32)
    (mulf (F := Ideal) (φ := .f32) (through s (dy x ya yb t p b w s)) (broadcastInDim S8192x2048 ![0, 1] bcast_S8192x1_S8192x2048_0_1 (Host.rsqrt (root (hidden x ya yb p b w)))))
    (mulf (F := Ideal) (φ := .f32) (shares (root (hidden x ya yb p b w)) (hidden x ya yb p b w) (through s (dy x ya yb t p b w s)))
      (mulf (F := Ideal) (φ := .f32) (broadcastInDim S8192x2048 ![] bcast_S_S8192x2048 (constant S_ .f32 0x40000000#32)) (hidden x ya yb p b w)))

def dm : Vec Ideal S8192x2048 .f32 :=
  Host.dotGeneral (F := Ideal) (φ₁ := .f32) (φ₂ := .f32) dot_S8192x2048_S2048x2048_S8192x2048_1_1_0_0_n_n none (dh x ya yb t p b w s) (extf (F := Ideal) (φ := .bf16) .f32 w bitsLt_bf16_f32)

def dl : Vec Ideal S8192x4096 .f32 :=
  mulf (F := Ideal) (φ := .f32) (concatenate S8192x4096 1 [⟨S8192x2048, mulf (F := Ideal) (φ := .f32) (dm x ya yb t p b w s) ya⟩, ⟨S8192x2048, mulf (F := Ideal) (φ := .f32) (dm x ya yb t p b w s) yb⟩] concatenates_S8192x2048_S8192x2048_S8192x4096_d1)
    (mulf (F := Ideal) (φ := .f32) (gates p b) (subf (F := Ideal) (φ := .f32) (broadcastInDim S8192x4096 ![] bcast_S_S8192x4096 (constant S_ .f32 0x3F800000#32)) (gates p b)))

section Rows

variable (i : Fin 8192) (j : Fin 2048)

theorem gates_apply (k : Fin 4096) : gates p b (ix2 i k) = gate (p (ix2 i ⟨6144 + k.val, by omega⟩) + b (ix2 0 k)) := by
  unfold gates gate
  pointwise

/-- The gates' columns are the first branch's, then the second's. -/
theorem gates_left (k : Fin 4096) (h : k.val = j.val) : gates p b (ix2 i k) = (argRow x ya yb t p b w s i).gateA j := by
  have hk : k = ⟨j.val, by omega⟩ := Fin.ext h
  rw [gates_apply, hk]
  rfl

theorem gates_right (k : Fin 4096) (h : k.val = 2048 + j.val) : gates p b (ix2 i k) = (argRow x ya yb t p b w s i).gateB j := by
  have hk : k = ⟨2048 + j.val, by omega⟩ := Fin.ext h
  rw [gates_apply, hk]
  unfold Row.gateB argRow
  refine congrArg (fun k => gate (p (ix2 i k) + _)) (Fin.ext ?_)
  show 6144 + (2048 + j.val) = 8192 + j.val
  omega

theorem gateA_apply : gateA p b (ix2 i j) = (argRow x ya yb t p b w s i).gateA j := by
  unfold gateA
  pointwise
  exact gates_left x ya yb t p b w s i j _ rfl

theorem gateB_apply : gateB p b (ix2 i j) = (argRow x ya yb t p b w s i).gateB j := by
  unfold gateB
  pointwise
  exact gates_right x ya yb t p b w s i j _ rfl

theorem merged_apply : merged ya yb p b (ix2 i j) = (argRow x ya yb t p b w s i).merged j := by
  unfold merged
  pointwise
  simp only [gateA_apply x ya yb t p b w s, gateB_apply x ya yb t p b w s]
  rfl

theorem hidden_apply : hidden x ya yb p b w (ix2 i j) = (argRow x ya yb t p b w s i).hidden j := by
  unfold hidden
  pointwise
  simp only [merged_apply x ya yb t p b w s]
  rfl

theorem root_hidden : Ideal.rsqrt (under fun k => hidden x ya yb p b w (ix2 i k)) = (argRow x ya yb t p b w s i).root := by
  simp only [hidden_apply x ya yb t p b w s]
  rfl

theorem normed_apply : normed x ya yb p b w (ix2 i j) = (argRow x ya yb t p b w s i).normed j := by
  unfold normed
  pointwise
  simp only [root_apply]
  refine (congrArg (hidden x ya yb p b w (ix2 i j) * ·) (root_hidden x ya yb t p b w s i)).trans ?_
  rw [hidden_apply x ya yb t p b w s]
  rfl

theorem err_apply : err x ya yb t p b w s (ix2 i j) = (argRow x ya yb t p b w s i).err j := by
  unfold err
  pointwise
  simp only [through_apply, normed_apply x ya yb t p b w s]
  rfl

theorem loss_apply : loss x ya yb t p b w s (ix1 i) = (argRow x ya yb t p b w s i).loss := by
  unfold loss
  pointwise
  simp only [err_apply x ya yb t p b w s]
  rfl

theorem dy_apply : dy x ya yb t p b w s (ix2 i j) = (argRow x ya yb t p b w s i).dy j := by
  unfold dy
  pointwise
  simp only [err_apply x ya yb t p b w s]
  exact mean_back _

theorem dh_apply : dh x ya yb t p b w s (ix2 i j) = (argRow x ya yb t p b w s i).dh j := by
  unfold dh
  pointwise
  simp only [shares_apply, root_apply, through_apply]
  refine (back_twice (fun k => hidden x ya yb p b w (ix2 i k)) (fun k => dy x ya yb t p b w s (ix2 i k) * s (ix2 0 k)) j).trans ?_
  simp only [hidden_apply x ya yb t p b w s, dy_apply]
  rfl

theorem dm_apply : dm x ya yb t p b w s (ix2 i j) = (argRow x ya yb t p b w s i).dm j := by
  unfold dm
  pointwise
  simp only [dh_apply]
  rfl

theorem dl_apply (k : Fin 4096) : dl x ya yb t p b w s (ix2 i k) = (argRow x ya yb t p b w s i).dl k := by
  unfold dl
  pointwise
  simp only [dm_apply]
  by_cases h : k.val < 2048
  · rw [dif_pos h, gates_left x ya yb t p b w s i ⟨k.val, h⟩ k rfl, Row.dl_left _ k ⟨k.val, h⟩ rfl, ← mul_assoc]
    rfl
  · have hk : k.val = 2048 + (k.val - 2048) := by omega
    rw [dif_neg h, gates_right x ya yb t p b w s i ⟨k.val - 2048, by omega⟩ k hk, Row.dl_right _ k ⟨k.val - 2048, by omega⟩ hk, ← mul_assoc]
    rfl

end Rows

section Results

/-- The results as functions of the arguments: the arrays of rows, and the three sums over the rows, the loss at every element of
    its block and the others in the first of eight rows. -/
def outDh : Vec Ideal S8192x2048 .f32 := fun y => (argRow x ya yb t p b w s (y 0)).dh (y 1)
def outDhb : Vec Ideal S8192x2048 .bf16 := fun y => (argRow x ya yb t p b w s (y 0)).dh (y 1)
def outMerged : Vec Ideal S8192x2048 .bf16 := fun y => (argRow x ya yb t p b w s (y 0)).merged (y 1)
def outDya : Vec Ideal S8192x2048 .f32 := fun y => (argRow x ya yb t p b w s (y 0)).dm (y 1) * (argRow x ya yb t p b w s (y 0)).gateA (y 1)
def outDyb : Vec Ideal S8192x2048 .f32 := fun y => (argRow x ya yb t p b w s (y 0)).dm (y 1) * (argRow x ya yb t p b w s (y 0)).gateB (y 1)
def outDl : Vec Ideal S8192x4096 .bf16 := fun y => (argRow x ya yb t p b w s (y 0)).dl (y 1)
def outLoss : Vec Ideal S8x128 .f32 := fun _ => ∑ i : Fin 8192, lit 0x3F000000#32 * (argRow x ya yb t p b w s i).loss
def outScale : Vec Ideal S8x2048 .f32 := fun y =>
  if (y 0).val = 0 then ∑ i : Fin 8192, (argRow x ya yb t p b w s i).dy (y 1) * (argRow x ya yb t p b w s i).normed (y 1) else 0
def outBias : Vec Ideal S8x4096 .f32 := fun y =>
  if (y 0).val = 0 then ∑ i : Fin 8192, (argRow x ya yb t p b w s i).dl (y 1) else 0

theorem ref_dh : dh x ya yb t p b w s = outDh x ya yb t p b w s := by
  funext y
  rw [eq_ix2 y]
  exact dh_apply x ya yb t p b w s (y 0) (y 1)

theorem ref_dhb : truncf (F := Ideal) (φ := .f32) .bf16 (dh x ya yb t p b w s) bitsLt_bf16_f32 = outDhb x ya yb t p b w s := by
  funext y
  rw [eq_ix2 y]
  exact dh_apply x ya yb t p b w s (y 0) (y 1)

theorem ref_merged : truncf (F := Ideal) (φ := .f32) .bf16 (merged ya yb p b) bitsLt_bf16_f32 = outMerged x ya yb t p b w s := by
  funext y
  rw [eq_ix2 y]
  exact merged_apply x ya yb t p b w s (y 0) (y 1)

theorem ref_dya : mulf (F := Ideal) (φ := .f32) (gateA p b) (dm x ya yb t p b w s) = outDya x ya yb t p b w s := by
  funext y
  rw [eq_ix2 y]
  exact (congrArg₂ (fun a c : EReal => a * c) (gateA_apply x ya yb t p b w s (y 0) (y 1)) (dm_apply x ya yb t p b w s (y 0) (y 1))).trans (mul_comm _ _)

theorem ref_dyb : mulf (F := Ideal) (φ := .f32) (gateB p b) (dm x ya yb t p b w s) = outDyb x ya yb t p b w s := by
  funext y
  rw [eq_ix2 y]
  exact (congrArg₂ (fun a c : EReal => a * c) (gateB_apply x ya yb t p b w s (y 0) (y 1)) (dm_apply x ya yb t p b w s (y 0) (y 1))).trans (mul_comm _ _)

theorem ref_dl : truncf (F := Ideal) (φ := .f32) .bf16 (dl x ya yb t p b w s) bitsLt_bf16_f32 = outDl x ya yb t p b w s := by
  funext y
  rw [eq_ix2 y]
  exact dl_apply x ya yb t p b w s (y 0) (y 1)

theorem ref_loss : broadcastInDim S8x128 ![] bcast_S_S8x128 (mulf (F := Ideal) (φ := .f32) (constant S_ .f32 0x3F000000#32)
    (Host.reduceAdd (F := Ideal) (φ := .f32) (loss x ya yb t p b w s) (constant S_ .f32 0x00000000#32) reducesTo_S8192_S_d0 h_S_)) = outLoss x ya yb t p b w s := by
  funext y
  unfold outLoss
  rw [← half_sum]
  pointwise
  simp only [loss_apply]

theorem ref_scale : concatenate S8x2048 0 [⟨S1x2048, broadcastInDim S1x2048 ![1] bcast_S2048_S1x2048_1 (Host.reduceAdd (F := Ideal) (φ := .f32) (shapeCast _
    (Host.reduceAdd (F := Ideal) (φ := .f32) (mulf (F := Ideal) (φ := .f32) (normed x ya yb p b w) (dy x ya yb t p b w s)) (constant S_ .f32 0x00000000#32) reducesTo_S8192x2048_S2048_d0 h_S_)
    shapeCasts_S2048_S1x2048) (constant S_ .f32 0x00000000#32) reducesTo_S1x2048_S2048_d0 h_S_)⟩,
    ⟨S7x2048, broadcastInDim S7x2048 ![] bcast_S_S7x2048 (constant S_ .f32 0x00000000#32)⟩] concatenates_S1x2048_S7x2048_S8x2048_d0 = outScale x ya yb t p b w s := by
  funext y
  unfold outScale
  pointwise
  simp only [Fin.sum_univ_one]
  by_cases h : (y 0).val = 0
  · rw [if_pos h, dif_pos (by omega)]
    exact Finset.sum_congr rfl fun r _ => (congrArg₂ (fun a c : EReal => a * c) (normed_apply x ya yb t p b w s r (y 1))
      (dy_apply x ya yb t p b w s r (y 1))).trans (mul_comm _ _)
  · rw [if_neg h, dif_neg (by omega)]

theorem ref_bias : concatenate S8x4096 0 [⟨S1x4096, broadcastInDim S1x4096 ![1] bcast_S4096_S1x4096_1 (Host.reduceAdd (F := Ideal) (φ := .f32) (shapeCast _
    (Host.reduceAdd (F := Ideal) (φ := .f32) (dl x ya yb t p b w s) (constant S_ .f32 0x00000000#32) reducesTo_S8192x4096_S4096_d0 h_S_)
    shapeCasts_S4096_S1x4096) (constant S_ .f32 0x00000000#32) reducesTo_S1x4096_S4096_d0 h_S_)⟩,
    ⟨S7x4096, broadcastInDim S7x4096 ![] bcast_S_S7x4096 (constant S_ .f32 0x00000000#32)⟩] concatenates_S1x4096_S7x4096_S8x4096_d0 = outBias x ya yb t p b w s := by
  funext y
  unfold outBias
  pointwise
  simp only [Fin.sum_univ_one]
  by_cases h : (y 0).val = 0
  · rw [if_pos h, dif_pos (by omega)]
    exact Finset.sum_congr rfl fun r _ => dl_apply x ya yb t p b w s r (y 1)
  · rw [if_neg h, dif_neg (by omega)]

/-- The reference runs and leaves these results. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v73) = outDh (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v84) = outDhb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v85) = outMerged (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v77) = outDya (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v75) = outDyb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v86) = outDl (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v87) = outLoss (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v90) = outScale (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v93) = outBias (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, h1, h2, h3, h4, h5, h6, h7, h8, h9⟩ := h c
    refine ⟨h0.trans ((show _ = _ from rfl).trans (ref_dh _ _ _ _ _ _ _ _)), h1.trans ((show _ = _ from rfl).trans (ref_dhb _ _ _ _ _ _ _ _)), h2.trans ((show _ = _ from rfl).trans (ref_merged _ _ _ _ _ _ _ _)), h3.trans ((show _ = _ from rfl).trans (ref_dya _ _ _ _ _ _ _ _)), h4.trans ((show _ = _ from rfl).trans (ref_dyb _ _ _ _ _ _ _ _)), h5.trans ((show _ = _ from rfl).trans (ref_dl _ _ _ _ _ _ _ _)), h6.trans ((show _ = _ from rfl).trans (ref_loss _ _ _ _ _ _ _ _)), h7.trans ((show _ = _ from rfl).trans (ref_scale _ _ _ _ _ _ _ _)), h8.trans ((show _ = _ from rfl).trans (ref_bias _ _ _ _ _ _ _ _)), h9⟩)
    (Value.run m ρ)

end Results

end Cert.HeadValue

end
-- ==== Proof.HeadValue.lean ====
/-
  The call and its reference leave the same results: every block's rows are rows of the arguments, and the sums over the blocks are
  sums over all the rows.
-/
module

public import proofs.«01_k».proof.Proof.HeadOut
public import proofs.«01_k».proof.Proof.HeadRef

@[expose] public section

noncomputable section

namespace Cert.HeadValue

open Cert.Norm (lit under back)
open Cert.Head Idealize.ShloMosaic Idealize.ShloMosaic.TcCoe Idealize.SL.Sem
open Cert.HeadIdeal Cert.HeadIdeal.Gen

variable (m : (ℓ : Loc nD τ sig) → Buf (Elt Ideal) ℓ) (ρ : Dev nD → PrngReg)

/-- The windows of rows move down by a block at a point, the two of the logits at their columns; the others stay. -/
theorem moved : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![t.val, 0]
    ∧ win0_6.index t = ![0, 0] ∧ win0_7.index t = ![0, 0] ∧ win0_8.index t = ![0, 0] :=
  (by decide +kernel : ∀ t : Fin grid0.N, _)

theorem moved_out : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![0, 0] ∧ win0_16.index t = ![0, 0] ∧ win0_17.index t = ![0, 0] :=
  (by decide +kernel : ∀ t : Fin grid0.N, _)

/-- A row of the arguments. -/
abbrev inRow (c : Dev nD) (i : Fin 8192) : Row := argRow (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) i

theorem row_eq (c : Dev nD) (t : Fin cfg0.N) (r : Fin 128) (hl : t.val * 128 + r.val < 8192) :
    blkRow m c t r = inRow m c ⟨t.val * 128 + r.val, hl⟩ := by
  obtain ⟨e0, e1, e2, e3, e4, e5, e6, e7, e8⟩ := moved t
  refine Row.ext (funext fun k => ?_) (funext fun k => ?_) (funext fun k => ?_) (funext fun k => ?_) (funext fun k => ?_)
    (funext fun k => ?_) (funext fun k => ?_) (funext fun k => ?_) (funext fun k => ?_) (funext fun k => funext fun j => ?_)
  · show iblk m c 0 t (ix2 r k) = _
    blk_simp [iblk, e0]; blk_ext [e0]
  · show iblk m c 1 t (ix2 r k) = _
    blk_simp [iblk, e1]; blk_ext [e1]
  · show iblk m c 2 t (ix2 r k) = _
    blk_simp [iblk, e2]; blk_ext [e2]
  · show X0_3 m c t (ix2 r k) = _
    unfold X0_3 Pipeline.Window.fill
    rw [dif_pos (moved0_3 t _)]
    blk_simp [iblk, e3]; blk_ext [e3]
  · show X0_4 m c t (ix2 r k) = _
    unfold X0_4 Pipeline.Window.fill
    rw [dif_pos (moved0_4 t _)]
    blk_simp [iblk, e4]; blk_ext [e4]
  · show iblk m c 5 t (ix2 r k) = _
    blk_simp [iblk, e5]; blk_ext [e5]
  · refine (View.ld_unit_apply_of (iblk m c 6 t) ![0, 0] ![1, 2048] inb_S1x4096_S1x2048_0_0 (ix2 0 k) (ix2 0 ⟨k.val, by omega⟩) (fun a => by
      fin_cases a
      · rfl
      · exact (Nat.zero_add _).symm)).trans ?_
    blk_simp [iblk, e6]; blk_ext [e6]
  · refine (View.ld_unit_apply_of (iblk m c 6 t) ![0, 2048] ![1, 2048] inb_S1x4096_S1x2048_0_2048 (ix2 0 k) (ix2 0 ⟨2048 + k.val, by omega⟩) (fun a => by
      fin_cases a <;> rfl)).trans ?_
    blk_simp [iblk, e6]; blk_ext [e6]
  · show iblk m c 8 t (ix2 0 k) = _
    blk_simp [iblk, e8]; blk_ext [e8]
  · show iblk m c 7 t (ix2 k j) = _
    blk_simp [iblk, e7]; blk_ext [e7]

theorem row_bound (t : Fin cfg0.N) (r : Fin 128) : t.val * 128 + r.val < 8192 := by
  have := t.isLt
  have hN : cfg0.N = 64 := N_0
  omega

theorem final9 (c : Dev nD) : (dats m 0 c).arrAt 9 cfg0.N = outDh (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  have hl := row_bound t (y 0)
  have hy : (win0_9.blk t).view.emb y = ix2 ⟨t.val * 128 + (y 0).val, hl⟩ (y 1) := by
    obtain ⟨e, -, -, -, -, -, -, -, -⟩ := moved_out t
    blk_ext [e]
  refine (congrArg _ (eq_ix2 y)).trans ((dh_at m c t (y 0) (y 1)).trans ?_)
  rw [row_eq m c t (y 0) hl]
  exact (congrArg (outDh (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final10 (c : Dev nD) : (dats m 0 c).arrAt 10 cfg0.N = outDhb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  have hl := row_bound t (y 0)
  have hy : (win0_10.blk t).view.emb y = ix2 ⟨t.val * 128 + (y 0).val, hl⟩ (y 1) := by
    obtain ⟨-, e, -, -, -, -, -, -, -⟩ := moved_out t
    blk_ext [e]
  refine (congrArg _ (eq_ix2 y)).trans ((dhb_at m c t (y 0) (y 1)).trans ?_)
  rw [row_eq m c t (y 0) hl]
  exact (congrArg (outDhb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final11 (c : Dev nD) : (dats m 0 c).arrAt 11 cfg0.N = outMerged (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  have hl := row_bound t (y 0)
  have hy : (win0_11.blk t).view.emb y = ix2 ⟨t.val * 128 + (y 0).val, hl⟩ (y 1) := by
    obtain ⟨-, -, e, -, -, -, -, -, -⟩ := moved_out t
    blk_ext [e]
  refine (congrArg _ (eq_ix2 y)).trans ((merged_at m c t (y 0) (y 1)).trans ?_)
  rw [row_eq m c t (y 0) hl]
  exact (congrArg (outMerged (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final12 (c : Dev nD) : (dats m 0 c).arrAt 12 cfg0.N = outDya (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  have hl := row_bound t (y 0)
  have hy : (win0_12.blk t).view.emb y = ix2 ⟨t.val * 128 + (y 0).val, hl⟩ (y 1) := by
    obtain ⟨-, -, -, e, -, -, -, -, -⟩ := moved_out t
    blk_ext [e]
  refine (congrArg _ (eq_ix2 y)).trans ((dya_at m c t (y 0) (y 1)).trans ?_)
  rw [row_eq m c t (y 0) hl]
  exact (congrArg (outDya (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final13 (c : Dev nD) : (dats m 0 c).arrAt 13 cfg0.N = outDyb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13]
  have hl := row_bound t (y 0)
  have hy : (win0_13.blk t).view.emb y = ix2 ⟨t.val * 128 + (y 0).val, hl⟩ (y 1) := by
    obtain ⟨-, -, -, -, e, -, -, -, -⟩ := moved_out t
    blk_ext [e]
  refine (congrArg _ (eq_ix2 y)).trans ((dyb_at m c t (y 0) (y 1)).trans ?_)
  rw [row_eq m c t (y 0) hl]
  exact (congrArg (outDyb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final14 (c : Dev nD) : (dats m 0 c).arrAt 14 cfg0.N = outDl (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 14 _ (by decide +kernel) fun t hf y => ?_
  blk_simp
  rw [after0_14]
  have hl := row_bound t (y 0)
  have hy : (win0_14.blk t).view.emb y = ix2 ⟨t.val * 128 + (y 0).val, hl⟩ (y 1) := by
    obtain ⟨-, -, -, -, -, e, -, -, -⟩ := moved_out t
    blk_ext [e]
  refine (congrArg _ (eq_ix2 y)).trans ((dl_at m c t (y 0) (y 1)).trans ?_)
  rw [row_eq m c t (y 0) hl]
  exact (congrArg (outDl (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy).symm

theorem final15 (c : Dev nD) : (dats m 0 c).arrAt 15 cfg0.N = outLoss (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  have hN : cfg0.N = 64 := N_0
  have hl : t.val + 1 = cfg0.N := by have := (flush0_15 t).mp hf; have := t.isLt; omega
  rw [after0_15, Pipeline.eq_sum_fin_of_reset_step_apply_last (fun n h => (outsAt0 m c n h).2.2.2.2.2.2.1) 64 (fun _ => 0)
    (lossPart m c) (loss_A m c) (loss_B m c) (le_of_eq N_0) t hl, zero_add]
  have hy : (win0_15.blk t).view.emb y = y := by
    obtain ⟨-, -, -, -, -, -, e, -⟩ := moved_out t
    blk_ext [e]
  refine Eq.trans ?_ (congrArg (outLoss (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy.symm)
  unfold lossPart outLoss
  refine Fin.sum_mul_add_congr (fun t r hl => ?_) (by rw [hN])
  rw [row_eq m c t r hl]

theorem final16 (c : Dev nD) : (dats m 0 c).arrAt 16 cfg0.N = outScale (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 16 _ (by decide +kernel) fun t hf y => ?_
  blk_simp
  have hN : cfg0.N = 64 := N_0
  have hl : t.val + 1 = cfg0.N := by have := (flush0_16 t).mp hf; have := t.isLt; omega
  rw [after0_16, Pipeline.eq_sum_fin_of_reset_step_apply_last (fun n h => (outsAt0 m c n h).2.2.2.2.2.2.2.1) 64 (fun _ => 0)
    (scalePart m c) (scale_A m c) (scale_B m c) (le_of_eq N_0) t hl, zero_add]
  have hy : (win0_16.blk t).view.emb y = y := by
    obtain ⟨-, -, -, -, -, -, -, e, -⟩ := moved_out t
    blk_ext [e]
  refine Eq.trans ?_ (congrArg (outScale (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy.symm)
  unfold scalePart outScale
  by_cases h : (y 0).val = 0
  · simp only [h, if_true]
    refine Fin.sum_mul_add_congr (fun t r hl => ?_) (by rw [hN])
    rw [row_eq m c t r hl]
  · simp only [h, if_false]
    exact Finset.sum_const_zero (M := EReal)

theorem final17 (c : Dev nD) : (dats m 0 c).arrAt 17 cfg0.N = outBias (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) := by
  refine (dats m 0 c).arrAt_eq_of_covers 17 _ (by decide +kernel) fun t hf y => ?_
  blk_simp
  have hN : cfg0.N = 64 := N_0
  have hl : t.val + 1 = cfg0.N := by have := (flush0_17 t).mp hf; have := t.isLt; omega
  rw [after0_17, Pipeline.eq_sum_fin_of_reset_step_apply_last (fun n h => (outsAt0 m c n h).2.2.2.2.2.2.2.2) 64 (fun _ => 0)
    (biasPart m c) (bias_A m c) (bias_B m c) (le_of_eq N_0) t hl, zero_add]
  have hy : (win0_17.blk t).view.emb y = y := by
    obtain ⟨-, -, -, -, -, -, -, -, e⟩ := moved_out t
    blk_ext [e]
  refine Eq.trans ?_ (congrArg (outBias (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))) hy.symm)
  unfold biasPart outBias
  by_cases h : (y 0).val = 0
  · simp only [h, if_true]
    refine Fin.sum_mul_add_congr (fun t r hl => ?_) (by rw [hN])
    rw [row_eq m c t r hl]
  · simp only [h, if_false]
    exact Finset.sum_const_zero (M := EReal)

/-- The call runs and leaves these results; its arguments are unchanged. -/
theorem run : θ_run defs (onTc (τ := τ) (main (F := Ideal))) ⟨m, fun _ => 0, ρ⟩ fun r => ∀ c : Dev nD,
      r.2.mem ((c : Thread nD τ).loc main_v0_0) = outDh (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_1) = outDhb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_2) = outMerged (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_3) = outDya (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_4) = outDyb (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_5) = outDl (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_6) = outLoss (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_7) = outScale (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_v0_8) = outBias (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, h1, h2, h3, h4, h5, h6, h7, h8, h9⟩ := h c
    exact ⟨h0.trans (final9 m c), h1.trans (final10 m c), h2.trans (final11 m c), h3.trans (final12 m c), h4.trans (final13 m c), h5.trans (final14 m c), h6.trans (final15 m c), h7.trans (final16 m c), h8.trans (final17 m c), h9⟩)
    (Cert.HeadIdeal.Value.run_blocks m ρ)

end Cert.HeadValue

end
-- ==== Proof.SguOut.lean ====
/-
  The spatial gating unit as the kernel computes it: what a point of the grid leaves in its block.
-/
module

public import proofs.«01_k».proof.Proof.Head
public import proofs.«01_k».proof.Proof.Gen.SguIdeal.Value
public import Idealize.ShloMosaic.Lib.Pipeline.ReadBack
public import Idealize.ShloMosaic.Lib.Pipeline.ValueKit

@[expose] public section

noncomputable section

namespace Cert.SguValue

open Cert.Norm (lit under)
open Cert.Head (gate)
open Idealize.ShloMosaic Idealize.ShloMosaic.TcCoe Idealize.SL.Sem

/-- A row less its mean. -/
def centred (v : Fin 2048 → EReal) (k : Fin 2048) : EReal := v k - Ideal.div (∑ j, v j) (lit 0x45000000#32)

/-- The norm of a row, with its weight and its shift. -/
def layer (v g b : Fin 2048 → EReal) (k : Fin 2048) : EReal :=
  centred v k * Ideal.rsqrt (under (centred v)) * g k + b k

/-- What is mixed into a position is gated twice: by `u`, and by `z` times its own gate. -/
def gated (u mix z : EReal) : EReal := u * mix * (z * gate z)

section Kernel

open Cert.SguIdeal Cert.SguIdeal.Gen

theorem pay4_eq (v : Vec Ideal S256x2048 .f32) (g b : Vec Ideal S1x2048 .f32) (r : Fin 256) (k : Fin 2048) :
    k0_pay4 v g b (ix2 r k) = layer (fun k => v (ix2 r k)) (fun k => g (ix2 0 k)) (fun k => b (ix2 0 k)) k := by
  unfold k0_pay4 layer under centred
  pointwise

theorem pay3_eq (z u mix : Vec Ideal S256x2048 .f32) (y : S256x2048.Idx) : k0_pay3 z u mix y = gated (u y) (mix y) (z y) := by
  unfold k0_pay3 gated gate
  pointwise
  rw [zero_sub]

/-- One of the products that mix a group's columns over a block of positions. -/
theorem pay2_eq (w : Vec Ideal S1x128x128 .bf16) (v : Vec Ideal S128x128 .bf16) (b : Vec Ideal S128x128 .f32) (i c : Fin 128) :
    k0_pay2 w v b (ix2 i c) = (∑ j : Fin 128, w (ix3 0 i j) * v (ix2 j c)) + b (ix2 i c) := by
  unfold k0_pay2
  pointwise

/-- The mixing of one position and column: over the positions of its block, by its group's weights. -/
def mixed (W : Vec Ideal S16x128x128 .bf16) (N : Vec Ideal S256x2048 .bf16) (B : Vec Ideal S128x2048 .f32) (y : S256x2048.Idx) : EReal :=
  (∑ j : Fin 128, W (ix3 (⟨(y 1).val / 128, by have : (y 1).val < 2048 := (y 1).isLt; omega⟩ : Fin 16) (⟨(y 0).val % 128, by omega⟩ : Fin 128) j)
    * N (ix2 (⟨(y 0).val / 128 * 128 + j.val, by have : (y 0).val < 256 := (y 0).isLt; omega⟩ : Fin 256) (y 1)))
    + B (ix2 (⟨(y 0).val % 128, by omega⟩ : Fin 128) (y 1))

/-- Each of the products is a tile of the mixing. -/
theorem tile (W : Vec Ideal S16x128x128 .bf16) (N : Vec Ideal S256x2048 .bf16) (B : Vec Ideal S128x2048 .f32) (V : Vec Ideal S128x128 .bf16)
    {g ro co : ℕ} {iw : ∀ i, (![g, 0, 0] : Fin 3 → ℕ) i + (![1, 128, 128] : Fin 3 → ℕ) i ≤ S16x128x128.size i}
    {iv : ∀ i, (![ro, co] : Fin 2 → ℕ) i + (![128, 128] : Fin 2 → ℕ) i ≤ S256x2048.size i}
    {ib : ∀ i, (![0, co] : Fin 2 → ℕ) i + (![128, 128] : Fin 2 → ℕ) i ≤ S128x2048.size i}
    (hV : V = View.ld N (Rect.unit (s := S256x2048) ![ro, co] ![128, 128] iv)) (y : S256x2048.Idx) (x : S128x128.Idx)
    (h0 : (y 0).val = ro + (x 0).val) (h1 : (y 1).val = co + (x 1).val) (hr : ro % 128 = 0) (hc : co = 128 * g) :
    k0_pay2 (View.ld W (Rect.unit (s := S16x128x128) ![g, 0, 0] ![1, 128, 128] iw)) V (View.ld B (Rect.unit (s := S128x2048) ![0, co] ![128, 128] ib)) x
      = mixed W N B y := by
  have b0 : (x 0).val < 128 := (x 0).isLt
  have b1 : (x 1).val < 128 := (x 1).isLt
  refine (congrArg _ (eq_ix2 x)).trans ((pay2_eq _ _ _ (x 0) (x 1)).trans ?_)
  unfold mixed
  refine congrArg₂ (· + ·) (Finset.sum_congr rfl fun j _ => congrArg₂ (· * ·) ?_ ?_) ?_
  · refine View.ld_unit_apply_of W ![g, 0, 0] ![1, 128, 128] iw (ix3 0 (x 0) j) (ix3 _ _ j) fun a => ?_
    fin_cases a
    · show (y 1).val / 128 = g + 0
      omega
    · show (y 0).val % 128 = 0 + (x 0).val
      omega
    · exact (Nat.zero_add _).symm
  · rw [hV]
    refine View.ld_unit_apply_of N ![ro, co] ![128, 128] iv (ix2 j (x 1)) (ix2 _ (y 1)) fun a => ?_
    fin_cases a
    · show (y 0).val / 128 * 128 + j.val = ro + j.val
      omega
    · exact h1
  · refine View.ld_unit_apply_of B ![0, co] ![128, 128] ib (ix2 (x 0) (x 1)) (ix2 _ (y 1)) fun a => ?_
    fin_cases a
    · show (y 0).val % 128 = 0 + (x 0).val
      omega
    · exact h1

/-- A load of the whole buffer is what its stores left. -/
theorem read_whole (L : List (View.Piece (Elt Ideal) S256x2048 .f32)) (y : S256x2048.Idx) :
    (View.whole cc0_scratch1).readCov L (Rect.unit (s := S256x2048) ![0, 0] ![256, 2048] inb_S256x2048_S256x2048_0_0).toLoadRect y = View.canon L y := by
  rw [View.readCov_eq_canon']
  refine congrArg (View.canon L) (funext fun a => Fin.ext ?_)
  fin_cases a
  · show 0 + 1 * (y 0).val = (y 0).val
    omega
  · show 0 + 1 * (y 1).val = (y 1).val
    omega

variable (m : (ℓ : Loc nD τ sig) → Buf (Elt Ideal) ℓ) (c : Dev nD) (t : Fin cfg0.N)

theorem out_at (y : S256x2048.Idx) : outsAt0 m c t y
    = gated (X0_0 m c t y) (mixed (iblk m c 5 t) (k0_pay4 (X0_1 m c t) (iblk m c 3 t) (iblk m c 4 t)) (iblk m c 6 t) y) (X0_2 m c t y) := by
  unfold outsAt0
  frame_out
  refine (pay3_eq _ _ _ y).trans (congrArg (gated _ · _) ((read_whole _ y).trans ?_))
  canon_tiles x h <;>
    exact tile _ _ _ _ (View.readCov_fill _ _ _ _ _ (by decide)) y x (by omega) (by omega) (by decide) (by decide)

end Kernel

end Cert.SguValue

end
-- ==== Proof.SguRef.lean ====
/-
  The spatial gating unit as its reference computes it, element by element.
-/
module

public import proofs.«01_k».proof.Proof.SguOut
public import proofs.«01_k».proof.Proof.Gen.SguRefIdeal.Run

@[expose] public section

noncomputable section

namespace Cert.SguValue

open Cert.Norm (lit under)
open Cert.Head (gate)
open Idealize.ShloMosaic Idealize.ShloMosaic.TcCoe Idealize.SL.Sem
open Cert.SguRefIdeal Cert.SguRefIdeal.Gen

variable (p : Vec Ideal S8192x15488 .f32) (g b : Vec Ideal S1x2048 .f32) (w : Vec Ideal S16x128x128 .bf16) (s : Vec Ideal S128x2048 .f32)

def refV : Vec Ideal S8192x2048 .f32 :=
  extractStridedSlice S8192x2048 ![0, 2048] (extractStridedSlice S8192x6144 ![0, 0] p slices_S8192x15488_S8192x6144_0_0) slices_S8192x6144_S8192x2048_0_2048

def refCentred : Vec Ideal S8192x2048 .f32 :=
  subf (F := Ideal) (φ := .f32) (refV p) (broadcastInDim S8192x2048 ![0, 1] bcast_S8192x1_S8192x2048_0_1 (Host.divf (F := Ideal) (φ := .f32)
    (broadcastInDim S8192x1 ![0] bcast_S8192_S8192x1_0 (Host.reduceAdd (F := Ideal) (φ := .f32) (refV p) (constant S_ .f32 0x00000000#32) reducesTo_S8192x2048_S8192_d1 h_S_))
    (broadcastInDim S8192x1 ![] bcast_S_S8192x1 (constant S_ .f32 0x45000000#32))))

def refLayer : Vec Ideal S8192x2048 .f32 :=
  addf (F := Ideal) (φ := .f32) (mulf (F := Ideal) (φ := .f32) (mulf (F := Ideal) (φ := .f32) (refCentred p)
    (broadcastInDim S8192x2048 ![0, 1] bcast_S8192x1_S8192x2048_0_1 (Host.rsqrt (addf (F := Ideal) (φ := .f32) (Host.divf (F := Ideal) (φ := .f32)
      (broadcastInDim S8192x1 ![0] bcast_S8192_S8192x1_0 (Host.reduceAdd (F := Ideal) (φ := .f32) (mulf (F := Ideal) (φ := .f32) (refCentred p) (refCentred p))
        (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 (shapeCast _ g shapeCasts_S1x2048_S2048))))
    (broadcastInDim S8192x2048 ![0, 1] bcast_S1x2048_S8192x2048_0_1 (broadcastInDim S1x2048 ![1] bcast_S2048_S1x2048_1 (shapeCast _ b shapeCasts_S1x2048_S2048)))

def refMixed (N : Vec Ideal S8192x2048 .f32) : Vec Ideal S64x128x16x128 .f32 :=
  addf (F := Ideal) (φ := .f32) (transpose S64x128x16x128 [1, 3, 0, 2] (Host.dotGeneral (F := Ideal) (φ₁ := .f32) (φ₂ := .f32) dot_S64x128x16x128_S16x128x128_S16x64x128x128_1_2_03_1_2_0 none
      (shapeCast _ N shapeCasts_S8192x2048_S64x128x16x128) (extf (F := Ideal) (φ := .bf16) .f32 w bitsLt_bf16_f32)) transposes_S16x64x128x128_S64x128x16x128_1_3_0_2)
    (broadcastInDim S64x128x16x128 ![0, 1, 2, 3] bcast_S1x128x16x128_S64x128x16x128_0_1_2_3
      (broadcastInDim S1x128x16x128 ![1, 2, 3] bcast_S128x16x128_S1x128x16x128_1_2_3 (shapeCast _ s shapeCasts_S128x2048_S128x16x128)))

/-- The columns of the input projection that the norm takes. -/
abbrev rowV (i : Fin 8192) (k : Fin 2048) : EReal := p (ix2 i ⟨2048 + k.val, by omega⟩)

theorem refV_apply (i : Fin 8192) (k : Fin 2048) : refV p (ix2 i k) = rowV p i k := by
  unfold refV
  pointwise

theorem refCentred_apply (i : Fin 8192) (k : Fin 2048) : refCentred p (ix2 i k) = centred (rowV p i) k := by
  unfold refCentred centred
  pointwise
  simp only [refV_apply]

theorem refLayer_apply (i : Fin 8192) (k : Fin 2048) :
    refLayer p g b (ix2 i k) = layer (rowV p i) (fun k => g (ix2 0 k)) (fun k => b (ix2 0 k)) k := by
  unfold refLayer layer under
  pointwise
  simp only [refCentred_apply]

theorem refMixed_apply (N : Vec Ideal S8192x2048 .f32) (n : Fin 64) (i : Fin 128) (h : Fin 16) (k : Fin 128) :
    refMixed w s N (ix4 n i h k) = (∑ j : Fin 128, w (ix3 h i j) * N (ix2 ⟨n.val * 128 + j.val, by omega⟩ ⟨h.val * 128 + k.val, by omega⟩))
      + s (ix2 i ⟨h.val * 128 + k.val, by omega⟩) := by
  unfold refMixed
  pointwise
  exact congrArg (· + _) (Finset.sum_congr rfl fun j _ => mul_comm _ _)

theorem cast_apply (M : Vec Ideal S64x128x16x128 .f32) (y : S8192x2048.Idx) :
    shapeCast S8192x2048 M shapeCasts_S64x128x16x128_S8192x2048 y
      = M (ix4 ⟨(y 0).val / 128, by have : (y 0).val < 8192 := (y 0).isLt; omega⟩ ⟨(y 0).val % 128, by omega⟩
          ⟨(y 1).val / 128, by have : (y 1).val < 2048 := (y 1).isLt; omega⟩ ⟨(y 1).val % 128, by omega⟩) := by
  pointwise

/-- What the gating unit gives, of the arguments. -/
def unit : Vec Ideal S8192x2048 .f32 := fun y =>
  gated (p (ix2 (y 0) ⟨(y 1).val, by have : (y 1).val < 2048 := (y 1).isLt; omega⟩))
    ((∑ j : Fin 128, w (ix3 (⟨(y 1).val / 128, by have : (y 1).val < 2048 := (y 1).isLt; omega⟩ : Fin 16) (⟨(y 0).val % 128, by omega⟩ : Fin 128) j)
      * layer (rowV p ⟨(y 0).val / 128 * 128 + j.val, by have : (y 0).val < 8192 := (y 0).isLt; omega⟩) (fun k => g (ix2 0 k)) (fun k => b (ix2 0 k)) (y 1))
      + s (ix2 (⟨(y 0).val % 128, by omega⟩ : Fin 128) (y 1)))
    (p (ix2 (y 0) ⟨4096 + (y 1).val, by have : (y 1).val < 2048 := (y 1).isLt; omega⟩))

theorem gated_eq (M : Vec Ideal S8192x2048 .f32) (y : S8192x2048.Idx) :
    mulf (F := Ideal) (φ := .f32) (mulf (F := Ideal) (φ := .f32)
      (extractStridedSlice S8192x2048 ![0, 0] (extractStridedSlice S8192x6144 ![0, 0] p slices_S8192x15488_S8192x6144_0_0) slices_S8192x6144_S8192x2048_0_0)
      M)
      (mulf (F := Ideal) (φ := .f32) (extractStridedSlice S8192x2048 ![0, 4096] (extractStridedSlice S8192x6144 ![0, 0] p slices_S8192x15488_S8192x6144_0_0) slices_S8192x6144_S8192x2048_0_4096)
        (Host.divf (F := Ideal) (φ := .f32) (broadcastInDim S8192x2048 ![] bcast_S_S8192x2048 (constant S_ .f32 0x3F800000#32))
          (addf (F := Ideal) (φ := .f32) (broadcastInDim S8192x2048 ![] bcast_S_S8192x2048 (constant S_ .f32 0x3F800000#32)) (Host.exp (F := Ideal) (φ := .f32) (Host.negf (F := Ideal) (φ := .f32)
            (extractStridedSlice S8192x2048 ![0, 4096] (extractStridedSlice S8192x6144 ![0, 0] p slices_S8192x15488_S8192x6144_0_0) slices_S8192x6144_S8192x2048_0_4096)))))) y
      = gated (p (ix2 (y 0) ⟨(y 1).val, by have : (y 1).val < 2048 := (y 1).isLt; omega⟩)) (M y)
        (p (ix2 (y 0) ⟨4096 + (y 1).val, by have : (y 1).val < 2048 := (y 1).isLt; omega⟩)) := by
  unfold gated gate
  pointwise

theorem ref_eq :
    mulf (F := Ideal) (φ := .f32) (mulf (F := Ideal) (φ := .f32)
      (extractStridedSlice S8192x2048 ![0, 0] (extractStridedSlice S8192x6144 ![0, 0] p slices_S8192x15488_S8192x6144_0_0) slices_S8192x6144_S8192x2048_0_0)
      (shapeCast S8192x2048 (refMixed w s (refLayer p g b)) shapeCasts_S64x128x16x128_S8192x2048))
      (mulf (F := Ideal) (φ := .f32) (extractStridedSlice S8192x2048 ![0, 4096] (extractStridedSlice S8192x6144 ![0, 0] p slices_S8192x15488_S8192x6144_0_0) slices_S8192x6144_S8192x2048_0_4096)
        (Host.divf (F := Ideal) (φ := .f32) (broadcastInDim S8192x2048 ![] bcast_S_S8192x2048 (constant S_ .f32 0x3F800000#32))
          (addf (F := Ideal) (φ := .f32) (broadcastInDim S8192x2048 ![] bcast_S_S8192x2048 (constant S_ .f32 0x3F800000#32)) (Host.exp (F := Ideal) (φ := .f32) (Host.negf (F := Ideal) (φ := .f32)
            (extractStridedSlice S8192x2048 ![0, 4096] (extractStridedSlice S8192x6144 ![0, 0] p slices_S8192x15488_S8192x6144_0_0) slices_S8192x6144_S8192x2048_0_4096))))))
      = unit p g b w s := by
  funext y
  refine (gated_eq p _ y).trans (congrArg (gated _ · _) ((cast_apply _ y).trans ((refMixed_apply w s (refLayer p g b) _ _ _ _).trans ?_)))
  have hk : ∀ h, (⟨(y 1).val / 128 * 128 + (y 1).val % 128, h⟩ : Fin 2048) = y 1 := fun h => Fin.ext (Nat.div_add_mod' _ _)
  refine congrArg₂ (· + ·) (Finset.sum_congr rfl fun j _ => congrArg (_ * ·) ?_) (congrArg (fun k => s (ix2 _ k)) (hk _))
  exact (refLayer_apply p g b _ _).trans (congrArg (layer _ _ _) (hk _))

variable (m : (ℓ : Loc nD τ sig) → Buf (Elt Ideal) ℓ) (ρ : Dev nD → PrngReg)

/-- The reference runs and leaves the unit's result; its arguments are unchanged. -/
theorem run_ref : θ_run defs (onTc (τ := τ) (main (F := Ideal))) ⟨m, fun _ => 0, ρ⟩ fun r => ∀ c : Dev nD,
      r.2.mem ((c : Thread nD τ).loc main_v41) = unit (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (ref_eq _ _ _ _ _), (h c).2⟩) (Value.run m ρ)

end Cert.SguValue

end
-- ==== Proof.SguValue.lean ====
/-
  The spatial gating unit: what the grid leaves, block by block, is what the reference computes.
-/
module

public import proofs.«01_k».proof.Proof.SguRef

@[expose] public section

noncomputable section

namespace Cert.SguValue

open Idealize.ShloMosaic Idealize.ShloMosaic.TcCoe Idealize.SL.Sem
open Cert.SguIdeal Cert.SguIdeal.Gen

variable (m : (ℓ : Loc nD τ sig) → Buf (Elt Ideal) ℓ) (ρ : Dev nD → PrngReg)

/-- The windows of the projection move down by a block at a point, each at its columns; the others stay. -/
theorem moved : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0]
    ∧ win0_7.index t = ![t.val, 0] :=
  (by decide +kernel : ∀ t : Fin grid0.N, _)

theorem row_bound (t : Fin cfg0.N) (r : Fin 256) : t.val * 256 + r.val < 8192 := by
  have := t.isLt
  have hN : cfg0.N = 32 := N_0
  omega

section Blocks

variable (c : Dev nD) (t : Fin cfg0.N) (r : Fin 256) (k : Fin 2048) (hl : t.val * 256 + r.val < 8192)

theorem u_at : X0_0 m c t (ix2 r k) = m ((c : Thread nD τ).loc main_arg0) (ix2 ⟨t.val * 256 + r.val, hl⟩ ⟨k.val, by omega⟩) := by
  obtain ⟨e, -⟩ := moved t
  unfold X0_0 Pipeline.Window.fill
  rw [dif_pos (moved0_0 t _)]
  blk_simp [iblk, e]; blk_ext [e]

theorem v_at : X0_1 m c t (ix2 r k) = m ((c : Thread nD τ).loc main_arg0) (ix2 ⟨t.val * 256 + r.val, hl⟩ ⟨2048 + k.val, by omega⟩) := by
  obtain ⟨-, e, -⟩ := moved t
  unfold X0_1 Pipeline.Window.fill
  rw [dif_pos (moved0_1 t _)]
  blk_simp [iblk, e]; blk_ext [e]

theorem z_at : X0_2 m c t (ix2 r k) = m ((c : Thread nD τ).loc main_arg0) (ix2 ⟨t.val * 256 + r.val, hl⟩ ⟨4096 + k.val, by omega⟩) := by
  obtain ⟨-, -, e, -⟩ := moved t
  unfold X0_2 Pipeline.Window.fill
  rw [dif_pos (moved0_2 t _)]
  blk_simp [iblk, e]; blk_ext [e]

theorem g_at : iblk m c 3 t (ix2 0 k) = m ((c : Thread nD τ).loc main_arg1) (ix2 0 k) := by
  obtain ⟨-, -, -, e, -⟩ := moved t
  blk_simp [iblk, e]; blk_ext [e]

theorem b_at : iblk m c 4 t (ix2 0 k) = m ((c : Thread nD τ).loc main_arg2) (ix2 0 k) := by
  obtain ⟨-, -, -, -, e, -⟩ := moved t
  blk_simp [iblk, e]; blk_ext [e]

theorem w_at (h : Fin 16) (i j : Fin 128) : iblk m c 5 t (ix3 h i j) = m ((c : Thread nD τ).loc main_arg3) (ix3 h i j) := by
  obtain ⟨-, -, -, -, -, e, -⟩ := moved t
  blk_simp [iblk, e]; blk_ext [e]

theorem s_at (i : Fin 128) : iblk m c 6 t (ix2 i k) = m ((c : Thread nD τ).loc main_arg4) (ix2 i k) := by
  obtain ⟨-, -, -, -, -, -, e, -⟩ := moved t
  blk_simp [iblk, e]; blk_ext [e]

end Blocks

/-- The gating unit's result, of the call's arguments. -/
abbrev res (c : Dev nD) : Vec Ideal S8192x2048 .f32 :=
  unit (m ((c : Thread nD τ).loc main_arg0)) (m ((c : Thread nD τ).loc main_arg1)) (m ((c : Thread nD τ).loc main_arg2)) (m ((c : Thread nD τ).loc main_arg3)) (m ((c : Thread nD τ).loc main_arg4))

theorem point_eq (c : Dev nD) (t : Fin cfg0.N) (r : Fin 256) (k : Fin 2048) :
    outsAt0 m c t (ix2 r k) = res m c (ix2 ⟨t.val * 256 + r.val, row_bound t r⟩ k) := by
  rw [out_at]
  unfold res unit mixed
  refine congr (congrArg₂ gated (u_at m c t r k _) (congrArg₂ (· + ·) (Finset.sum_congr rfl fun j _ => congrArg₂ (· * ·) ?_ ?_) ?_)) (z_at m c t r k _)
  · refine (w_at m c t _ _ j).trans (congrArg (fun i => m ((c : Thread nD τ).loc main_arg3) (ix3 _ i j)) (Fin.ext ?_))
    show r.val % 128 = (t.val * 256 + r.val) % 128
    omega
  · refine (pay4_eq _ _ _ _ k).trans ?_
    simp only [g_at, b_at]
    refine congrArg (fun v => layer v _ _ k) (funext fun k' => (v_at m c t _ k' (row_bound t _)).trans ?_)
    refine congrArg (fun i => m ((c : Thread nD τ).loc main_arg0) (ix2 i _)) (Fin.ext ?_)
    show t.val * 256 + (r.val / 128 * 128 + j.val) = (t.val * 256 + r.val) / 128 * 128 + j.val
    omega
  · refine (s_at m c t k _).trans (congrArg (fun i => m ((c : Thread nD τ).loc main_arg4) (ix2 i k)) (Fin.ext ?_))
    show r.val % 128 = (t.val * 256 + r.val) % 128
    omega

theorem final7 (c : Dev nD) : (dats m 0 c).arrAt 7 cfg0.N = res m c := by
  refine (dats m 0 c).arrAt_eq_of_covers 7 _ (by decide +kernel) fun t hf y => ?_
  blk_simp
  rw [after0_7]
  have hy : (win0_7.blk t).view.emb y = ix2 ⟨t.val * 256 + (y 0).val, row_bound t (y 0)⟩ (y 1) := by
    obtain ⟨-, -, -, -, -, -, -, e⟩ := moved t
    blk_ext [e]
  refine (congrArg _ (eq_ix2 y)).trans ((point_eq m c t (y 0) (y 1)).trans ?_)
  exact (congrArg (res m c) hy).symm

/-- The call runs and leaves the unit's result; its arguments are unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final7 m c), (h c).2⟩) (Cert.SguIdeal.Value.run_blocks m ρ)

end Cert.SguValue

end
-- ==== Proof.lean ====
/-
  The three calls that exchange data over eight devices, each against the plain collective on the whole arrays: the exchange
  of the gradients' parts, the gather of the weights' parts and the gather of the small parameters' parts; the three calls
  that sum the devices' parts and take the AdamW step; the two passes of the norm; and the eight products of matrices, of the
  input projection, of its gradients and of the output projection's, each against the same computation on the arrays; the
  forward pass of the spatial gating unit; and the head, which merges the branches, projects, norms, takes the loss and the loss's gradients, against differentiation of the loss.
-/
module

public import proofs.«01_k».proof.Defs
public import proofs.«01_k».proof.Proof.Gen.Exchange
public import proofs.«01_k».proof.Proof.Gen.ExchangeIdeal
public import proofs.«01_k».proof.Proof.Gen.ExchangeRefIdeal
public import proofs.«01_k».proof.Proof.Gen.ExchangeRef
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherRef
public import proofs.«01_k».proof.Proof.Gen.GatherRefIdeal
public import proofs.«01_k».proof.Proof.Gen.Small
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallRef
public import proofs.«01_k».proof.Proof.Gen.SmallRefIdeal
public import proofs.«01_k».proof.Proof.Gen.AdamIn
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOutIdeal
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamSmall
public import proofs.«01_k».proof.Proof.Gen.AdamSmallIdeal
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.NormFwd
public import proofs.«01_k».proof.Proof.Gen.NormFwdIdeal
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormBwd
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.InProj
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.DxnSgu
public import proofs.«01_k».proof.Proof.Gen.DxnSguIdeal
public import proofs.«01_k».proof.Proof.Gen.DxnSguIdeal.Value
public import proofs.«01_k».proof.Proof.Gen.DxnSguRefIdeal
public import proofs.«01_k».proof.Proof.Gen.DxnSguRefIdeal.Run
public import proofs.«01_k».proof.Proof.Gen.DxnGate
public import proofs.«01_k».proof.Proof.Gen.DxnGateIdeal
public import proofs.«01_k».proof.Proof.Gen.DxnGateIdeal.Value
public import proofs.«01_k».proof.Proof.Gen.DxnGateRefIdeal
public import proofs.«01_k».proof.Proof.Gen.DxnGateRefIdeal.Run
public import proofs.«01_k».proof.Proof.Gen.DxnSsd
public import proofs.«01_k».proof.Proof.Gen.DxnSsdIdeal
public import proofs.«01_k».proof.Proof.Gen.DxnSsdIdeal.Value
public import proofs.«01_k».proof.Proof.Gen.DxnSsdRefIdeal
public import proofs.«01_k».proof.Proof.Gen.DxnSsdRefIdeal.Run
public import proofs.«01_k».proof.Proof.Gen.DwSgu
public import proofs.«01_k».proof.Proof.Gen.DwSguIdeal
public import proofs.«01_k».proof.Proof.Gen.DwSguIdeal.Value
public import proofs.«01_k».proof.Proof.Gen.DwSguRefIdeal
public import proofs.«01_k».proof.Proof.Gen.DwSguRefIdeal.Run
public import proofs.«01_k».proof.Proof.Gen.DwGate
public import proofs.«01_k».proof.Proof.Gen.DwGateIdeal
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwSsd
public import proofs.«01_k».proof.Proof.Gen.DwSsdIdeal
public import proofs.«01_k».proof.Proof.Gen.DwSsdIdeal.Value
public import proofs.«01_k».proof.Proof.Gen.DwSsdRefIdeal
public import proofs.«01_k».proof.Proof.Gen.DwSsdRefIdeal.Run
public import proofs.«01_k».proof.Proof.Gen.DwOut
public import proofs.«01_k».proof.Proof.Gen.DwOutIdeal
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.Head
public import proofs.«01_k».proof.Proof.Gen.HeadIdeal
public import proofs.«01_k».proof.Proof.Gen.HeadIdeal.Value
public import proofs.«01_k».proof.Proof.Gen.HeadRefIdeal
public import proofs.«01_k».proof.Proof.Gen.HeadRefIdeal.Run
public import proofs.«01_k».proof.Proof.Gen.Sgu
public import proofs.«01_k».proof.Proof.Gen.SguIdeal
public import proofs.«01_k».proof.Proof.Gen.SguIdeal.Value
public import proofs.«01_k».proof.Proof.Gen.SguRefIdeal
public import proofs.«01_k».proof.Proof.Gen.SguRefIdeal.Run
public import proofs.«01_k».proof.Proof.ExchangeRun
public import proofs.«01_k».proof.Proof.ExchangeValue
public import proofs.«01_k».proof.Proof.GatherRun
public import proofs.«01_k».proof.Proof.GatherValue
public import proofs.«01_k».proof.Proof.SmallRun
public import proofs.«01_k».proof.Proof.SmallValue
public import proofs.«01_k».proof.Proof.AdamInValue
public import proofs.«01_k».proof.Proof.AdamOutValue
public import proofs.«01_k».proof.Proof.AdamSmallValue
public import proofs.«01_k».proof.Proof.NormFwdValue
public import proofs.«01_k».proof.Proof.NormBwdValue
public import proofs.«01_k».proof.Proof.InProjValue
public import proofs.«01_k».proof.Proof.DxnSguValue
public import proofs.«01_k».proof.Proof.DxnGateValue
public import proofs.«01_k».proof.Proof.DxnSsdValue
public import proofs.«01_k».proof.Proof.DwSguValue
public import proofs.«01_k».proof.Proof.DwGateValue
public import proofs.«01_k».proof.Proof.DwSsdValue
public import proofs.«01_k».proof.Proof.DwOutValue
public import proofs.«01_k».proof.Proof.HeadValue
public import proofs.«01_k».proof.Proof.SguValue

@[expose] public section

noncomputable section

namespace Cert.Proof

open Idealize.ShloMosaic Idealize.SL.Sem

theorem frame_exchange : Cert.quiescent_Exchange := fun m g _ =>
  (θ_run Cert.ExchangeIdeal.defs _ _).mono (fun _ h => ⟨fun c => (h.1 c).1, h.2⟩) (Cert.ExchangeRun.run_main (F := Bits) m g)

theorem frame_exchangeIdeal : Cert.quiescent_ExchangeIdeal := fun m g _ =>
  (θ_run Cert.ExchangeIdeal.defs _ _).mono (fun _ h => ⟨fun c => (h.1 c).1, h.2⟩) (Cert.ExchangeRun.run_main (F := Ideal) m g)

theorem frame_exchangeRefIdeal : Cert.quiescent_ExchangeRefIdeal := fun m g _ =>
  (θ_run Cert.ExchangeRefIdeal.defs _ _).mono (fun _ h => ⟨fun c => (h.1 c).2.2, h.2⟩) (Cert.ExchangeValue.run_ref (F := Ideal) m g)

theorem frame_exchangeRef : Cert.quiescent_ExchangeRef := fun m g _ =>
  (θ_run Cert.ExchangeRefIdeal.defs _ _).mono (fun _ h => ⟨fun c => (h.1 c).2.2, h.2⟩) (Cert.ExchangeValue.run_ref (F := Bits) m g)

theorem algebraic_exchange : Cert.algebraic_ExchangeIdeal_ExchangeRefIdeal := fun m g m' g' _ hm =>
  ⟨_, _,
    (θ_run Cert.ExchangeIdeal.defs _ _).mono (fun _ h c => ⟨(h.1 c).2.1.trans (Cert.ExchangeValue.got0_block m _ (by decide) (fun c => (hm c).1) c),
      (h.1 c).2.2.trans (Cert.ExchangeValue.got1_block m _ (by decide) (fun c => (hm c).2) c), (h.1 c).1⟩) (Cert.ExchangeRun.run_main (F := Ideal) m g),
    (θ_run Cert.ExchangeRefIdeal.defs _ _).mono (fun _ h => h.1 0) (Cert.ExchangeValue.run_ref (F := Ideal) m' g')⟩

theorem bitexact_exchange : Cert.bitexact_Exchange_ExchangeRef := fun m g m' g' _ hm =>
  ⟨_, _,
    (θ_run Cert.ExchangeIdeal.defs _ _).mono (fun _ h c => ⟨(h.1 c).2.1.trans (Cert.ExchangeValue.got0_block m _ (by decide) (fun c => (hm c).1) c),
      (h.1 c).2.2.trans (Cert.ExchangeValue.got1_block m _ (by decide) (fun c => (hm c).2) c), (h.1 c).1⟩) (Cert.ExchangeRun.run_main (F := Bits) m g),
    (θ_run Cert.ExchangeRefIdeal.defs _ _).mono (fun _ h => h.1 0) (Cert.ExchangeValue.run_ref (F := Bits) m' g')⟩

theorem frame_gather : Cert.quiescent_Gather := fun m g _ =>
  (θ_run Cert.GatherIdeal.defs _ _).mono (fun _ h => ⟨fun c => (h.1 c).1, h.2⟩) (Cert.GatherRun.run_main (F := Bits) m g)

theorem frame_gatherIdeal : Cert.quiescent_GatherIdeal := fun m g _ =>
  (θ_run Cert.GatherIdeal.defs _ _).mono (fun _ h => ⟨fun c => (h.1 c).1, h.2⟩) (Cert.GatherRun.run_main (F := Ideal) m g)

theorem frame_gatherRefIdeal : Cert.quiescent_GatherRefIdeal := fun m g _ =>
  (θ_run Cert.GatherRefIdeal.defs _ _).mono (fun _ h => ⟨fun c => (h.1 c).2.2.2, h.2⟩) (Cert.GatherValue.run_ref (F := Ideal) m g)

theorem frame_gatherRef : Cert.quiescent_GatherRef := fun m g _ =>
  (θ_run Cert.GatherRefIdeal.defs _ _).mono (fun _ h => ⟨fun c => (h.1 c).2.2.2, h.2⟩) (Cert.GatherValue.run_ref (F := Bits) m g)

theorem algebraic_gather : Cert.algebraic_GatherIdeal_GatherRefIdeal := fun m g m' g' _ hm =>
  ⟨_, _, _,
    (θ_run Cert.GatherIdeal.defs _ _).mono (fun _ h c => ⟨(h.1 c).2.1.trans (Cert.GatherValue.got0_eq m _ (by decide) (fun c => (hm c).1) c),
      (h.1 c).2.2.1.trans (Cert.GatherValue.got1_eq m _ (by decide) (fun c => (hm c).2.1) c),
      (h.1 c).2.2.2.trans (Cert.GatherValue.got2_eq m _ (by decide) (fun c => (hm c).2.2) c), (h.1 c).1⟩) (Cert.GatherRun.run_main (F := Ideal) m g),
    (θ_run Cert.GatherRefIdeal.defs _ _).mono (fun _ h => h.1 0) (Cert.GatherValue.run_ref (F := Ideal) m' g')⟩

theorem bitexact_gather : Cert.bitexact_Gather_GatherRef := fun m g m' g' _ hm =>
  ⟨_, _, _,
    (θ_run Cert.GatherIdeal.defs _ _).mono (fun _ h c => ⟨(h.1 c).2.1.trans (Cert.GatherValue.got0_eq m _ (by decide) (fun c => (hm c).1) c),
      (h.1 c).2.2.1.trans (Cert.GatherValue.got1_eq m _ (by decide) (fun c => (hm c).2.1) c),
      (h.1 c).2.2.2.trans (Cert.GatherValue.got2_eq m _ (by decide) (fun c => (hm c).2.2) c), (h.1 c).1⟩) (Cert.GatherRun.run_main (F := Bits) m g),
    (θ_run Cert.GatherRefIdeal.defs _ _).mono (fun _ h => h.1 0) (Cert.GatherValue.run_ref (F := Bits) m' g')⟩

theorem frame_small : Cert.quiescent_Small := fun m g _ =>
  (θ_run Cert.SmallIdeal.defs _ _).mono (fun _ h => ⟨fun c => (h.1 c).1, h.2⟩) (Cert.SmallRun.run_main (F := Bits) m g)

theorem frame_smallIdeal : Cert.quiescent_SmallIdeal := fun m g _ =>
  (θ_run Cert.SmallIdeal.defs _ _).mono (fun _ h => ⟨fun c => (h.1 c).1, h.2⟩) (Cert.SmallRun.run_main (F := Ideal) m g)

theorem frame_smallRefIdeal : Cert.quiescent_SmallRefIdeal := fun m g _ =>
  (θ_run Cert.SmallRefIdeal.defs _ _).mono (fun _ h => ⟨fun c => (h.1 c).2, h.2⟩) (Cert.SmallValue.run_ref (F := Ideal) m g)

theorem frame_smallRef : Cert.quiescent_SmallRef := fun m g _ =>
  (θ_run Cert.SmallRefIdeal.defs _ _).mono (fun _ h => ⟨fun c => (h.1 c).2, h.2⟩) (Cert.SmallValue.run_ref (F := Bits) m g)

theorem algebraic_small : Cert.algebraic_SmallIdeal_SmallRefIdeal := fun m g m' g' _ hm =>
  ⟨_, (θ_run Cert.SmallIdeal.defs _ _).mono (fun _ h c => ⟨(h.1 c).2.trans (Cert.SmallValue.got0_eq m _ (by decide) hm c), (h.1 c).1⟩)
      (Cert.SmallRun.run_main (F := Ideal) m g),
    (θ_run Cert.SmallRefIdeal.defs _ _).mono (fun _ h => h.1 0) (Cert.SmallValue.run_ref (F := Ideal) m' g')⟩

theorem bitexact_small : Cert.bitexact_Small_SmallRef := fun m g m' g' _ hm =>
  ⟨_, (θ_run Cert.SmallIdeal.defs _ _).mono (fun _ h c => ⟨(h.1 c).2.trans (Cert.SmallValue.got0_eq m _ (by decide) hm c), (h.1 c).1⟩)
      (Cert.SmallRun.run_main (F := Bits) m g),
    (θ_run Cert.SmallRefIdeal.defs _ _).mono (fun _ h => h.1 0) (Cert.SmallValue.run_ref (F := Bits) m' g')⟩

/-- The two programs have the same kernel bodies. -/
theorem bodies_adamIn : Cert.AdamInIdeal.defs₀ (F := Bits) = Cert.AdamIn.defs₀ (F := Bits) :=
  congrArg Defs.onTc (funext fun l => funext fun a => match l, a with | 0, (_, _) => rfl)

theorem frame_adamIn : Cert.quiescent_AdamIn := fun m g _ => by
  have h := Cert.AdamInIdeal.Gen.frame (F := Bits) m g
  unfold Cert.AdamInIdeal.defs at h
  rw [bodies_adamIn] at h
  exact h

theorem frame_adamInIdeal : Cert.quiescent_AdamInIdeal := fun m g _ => Cert.AdamInIdeal.Gen.frame (F := Ideal) m g

theorem frame_adamInRefIdeal : Cert.quiescent_AdamInRefIdeal := fun m g _ =>
  (θ_run Cert.AdamInRefIdeal.defs _ _).mono (fun r h => ⟨fun c => (h c).2.2.2.2, sem_eq_zero_of_no_sems rfl r.2⟩) (Cert.AdamInValue.run_ref m g)

theorem algebraic_adamIn : Cert.algebraic_AdamInIdeal_AdamInRefIdeal := fun m g m' g' _ hm =>
  ⟨_, _, _, _, Cert.AdamInValue.run m g,
    (θ_run Cert.AdamInRefIdeal.defs _ _).mono (fun _ h c => by
      have k := h c
      obtain ⟨h0, h1, h2, h3⟩ := hm c
      rw [h0, h1, h2, h3] at k
      exact ⟨k.1, k.2.1, k.2.2.1, k.2.2.2.1, (h c).2.2.2.2⟩) (Cert.AdamInValue.run_ref m' g')⟩

/-- The two programs have the same kernel bodies. -/
theorem bodies_adamOut : Cert.AdamOutIdeal.defs₀ (F := Bits) = Cert.AdamOut.defs₀ (F := Bits) :=
  congrArg Defs.onTc (funext fun l => funext fun a => match l, a with | 0, (_, _) => rfl)

theorem frame_adamOut : Cert.quiescent_AdamOut := fun m g _ => by
  have h := Cert.AdamOutIdeal.Gen.frame (F := Bits) m g
  unfold Cert.AdamOutIdeal.defs at h
  rw [bodies_adamOut] at h
  exact h

theorem frame_adamOutIdeal : Cert.quiescent_AdamOutIdeal := fun m g _ => Cert.AdamOutIdeal.Gen.frame (F := Ideal) m g

theorem frame_adamOutRefIdeal : Cert.quiescent_AdamOutRefIdeal := fun m g _ =>
  (θ_run Cert.AdamOutRefIdeal.defs _ _).mono (fun r h => ⟨fun c => (h c).2.2.2.2, sem_eq_zero_of_no_sems rfl r.2⟩) (Cert.AdamOutValue.run_ref m g)

theorem algebraic_adamOut : Cert.algebraic_AdamOutIdeal_AdamOutRefIdeal := fun m g m' g' _ hm =>
  ⟨_, _, _, _, Cert.AdamOutValue.run m g,
    (θ_run Cert.AdamOutRefIdeal.defs _ _).mono (fun _ h c => by
      have k := h c
      obtain ⟨h0, h1, h2, h3⟩ := hm c
      rw [h0, h1, h2, h3] at k
      exact ⟨k.1, k.2.1, k.2.2.1, k.2.2.2.1, (h c).2.2.2.2⟩) (Cert.AdamOutValue.run_ref m' g')⟩

/-- The two programs have the same kernel bodies. -/
theorem bodies_adamSmall : Cert.AdamSmallIdeal.defs₀ (F := Bits) = Cert.AdamSmall.defs₀ (F := Bits) :=
  congrArg Defs.onTc (funext fun l => funext fun a => match l, a with | 0, (_, _) => rfl)

theorem frame_adamSmall : Cert.quiescent_AdamSmall := fun m g _ => by
  have h := Cert.AdamSmallIdeal.Gen.frame (F := Bits) m g
  unfold Cert.AdamSmallIdeal.defs at h
  rw [bodies_adamSmall] at h
  exact h

theorem frame_adamSmallIdeal : Cert.quiescent_AdamSmallIdeal := fun m g _ => Cert.AdamSmallIdeal.Gen.frame (F := Ideal) m g

theorem frame_adamSmallRefIdeal : Cert.quiescent_AdamSmallRefIdeal := fun m g _ =>
  (θ_run Cert.AdamSmallRefIdeal.defs _ _).mono (fun r h => ⟨fun c => (h c).2.2.2.2, sem_eq_zero_of_no_sems rfl r.2⟩) (Cert.AdamSmallValue.run_ref m g)

theorem algebraic_adamSmall : Cert.algebraic_AdamSmallIdeal_AdamSmallRefIdeal := fun m g m' g' _ hm =>
  ⟨_, _, _, _, Cert.AdamSmallValue.run m g,
    (θ_run Cert.AdamSmallRefIdeal.defs _ _).mono (fun _ h c => by
      have k := h c
      obtain ⟨h0, h1, h2, h3⟩ := hm c
      rw [h0, h1, h2, h3] at k
      exact ⟨k.1, k.2.1, k.2.2.1, k.2.2.2.1, (h c).2.2.2.2⟩) (Cert.AdamSmallValue.run_ref m' g')⟩

/-- The two programs have the same kernel bodies. -/
theorem bodies_normFwd : Cert.NormFwdIdeal.defs₀ (F := Bits) = Cert.NormFwd.defs₀ (F := Bits) :=
  congrArg Defs.onTc (funext fun l => funext fun a => match l, a with | 0, (_, _) => rfl)

theorem frame_normFwd : Cert.quiescent_NormFwd := fun m g _ => by
  have h := Cert.NormFwdIdeal.Gen.frame (F := Bits) m g
  unfold Cert.NormFwdIdeal.defs at h
  rw [bodies_normFwd] at h
  exact h

theorem frame_normFwdIdeal : Cert.quiescent_NormFwdIdeal := fun m g _ => Cert.NormFwdIdeal.Gen.frame (F := Ideal) m g

theorem frame_normFwdRefIdeal : Cert.quiescent_NormFwdRefIdeal := fun m g _ =>
  (θ_run Cert.NormFwdRefIdeal.defs _ _).mono (fun r h => ⟨fun c => (h c).2, sem_eq_zero_of_no_sems rfl r.2⟩) (Cert.NormFwdValue.run_ref m g)

theorem algebraic_normFwd : Cert.algebraic_NormFwdIdeal_NormFwdRefIdeal := fun m g m' g' _ hm =>
  ⟨_, Cert.NormFwdValue.run m g,
    (θ_run Cert.NormFwdRefIdeal.defs _ _).mono (fun _ h c => by
      have k := h c
      obtain ⟨h0, h1⟩ := hm c
      rw [h0, h1] at k
      exact ⟨k.1, (h c).2⟩) (Cert.NormFwdValue.run_ref m' g')⟩

/-- The two programs have the same kernel bodies. -/
theorem bodies_normBwd : Cert.NormBwdIdeal.defs₀ (F := Bits) = Cert.NormBwd.defs₀ (F := Bits) :=
  congrArg Defs.onTc (funext fun l => funext fun a => match l, a with | 0, (_, _) => rfl)

theorem frame_normBwd : Cert.quiescent_NormBwd := fun m g _ => by
  have h := Cert.NormBwdIdeal.Gen.frame (F := Bits) m g
  unfold Cert.NormBwdIdeal.defs at h
  rw [bodies_normBwd] at h
  exact h

theorem frame_normBwdIdeal : Cert.quiescent_NormBwdIdeal := fun m g _ => Cert.NormBwdIdeal.Gen.frame (F := Ideal) m g

theorem frame_normBwdRefIdeal : Cert.quiescent_NormBwdRefIdeal := fun m g _ =>
  (θ_run Cert.NormBwdRefIdeal.defs _ _).mono (fun r h => ⟨fun c => (h c).2.2, sem_eq_zero_of_no_sems rfl r.2⟩) (Cert.NormBwdValue.run_ref m g)

theorem algebraic_normBwd : Cert.algebraic_NormBwdIdeal_NormBwdRefIdeal := fun m g m' g' _ hm =>
  ⟨_, _, Cert.NormBwdValue.run m g,
    (θ_run Cert.NormBwdRefIdeal.defs _ _).mono (fun _ h c => by
      have k := h c
      obtain ⟨h0, h1, h2, h3⟩ := hm c
      rw [h0, h1, h2, h3] at k
      exact ⟨k.1, k.2.1, (h c).2.2⟩) (Cert.NormBwdValue.run_ref m' g')⟩

/-- The two programs have the same kernel bodies. -/
theorem bodies_inProj : Cert.InProjIdeal.defs₀ (F := Bits) = Cert.InProj.defs₀ (F := Bits) :=
  congrArg Defs.onTc (funext fun l => funext fun a => match l, a with | 0, (_, _) => rfl)

theorem frame_inProj : Cert.quiescent_InProj := fun m g _ => by
  have h := Cert.InProjIdeal.Gen.frame (F := Bits) m g
  unfold Cert.InProjIdeal.defs at h
  rw [bodies_inProj] at h
  exact h

theorem frame_inProjIdeal : Cert.quiescent_InProjIdeal := fun m g _ => Cert.InProjIdeal.Gen.frame (F := Ideal) m g

theorem frame_inProjRefIdeal : Cert.quiescent_InProjRefIdeal := fun m g _ =>
  (θ_run Cert.InProjRefIdeal.defs _ _).mono (fun r h => ⟨fun c => (h c).2, sem_eq_zero_of_no_sems rfl r.2⟩) (Cert.InProjValue.run_ref m g)

theorem algebraic_inProj : Cert.algebraic_InProjIdeal_InProjRefIdeal := fun m g m' g' _ hm =>
  ⟨_, Cert.InProjValue.run m g,
    (θ_run Cert.InProjRefIdeal.defs _ _).mono (fun _ h c => by
      have k := h c
      obtain ⟨h0, h1⟩ := hm c
      rw [h0, h1] at k
      exact ⟨k.1, (h c).2⟩) (Cert.InProjValue.run_ref m' g')⟩

/-- The two programs have the same kernel bodies. -/
theorem bodies_dxnSgu : Cert.DxnSguIdeal.defs₀ (F := Bits) = Cert.DxnSgu.defs₀ (F := Bits) :=
  congrArg Defs.onTc (funext fun l => funext fun a => match l, a with | 0, (_, _) => rfl)

theorem frame_dxnSgu : Cert.quiescent_DxnSgu := fun m g _ => by
  have h := Cert.DxnSguIdeal.Gen.frame (F := Bits) m g
  unfold Cert.DxnSguIdeal.defs at h
  rw [bodies_dxnSgu] at h
  exact h

theorem frame_dxnSguIdeal : Cert.quiescent_DxnSguIdeal := fun m g _ => Cert.DxnSguIdeal.Gen.frame (F := Ideal) m g

theorem frame_dxnSguRefIdeal : Cert.quiescent_DxnSguRefIdeal := fun m g _ =>
  (θ_run Cert.DxnSguRefIdeal.defs _ _).mono (fun r h => ⟨fun c => (h c).2, sem_eq_zero_of_no_sems rfl r.2⟩) (Cert.DxnSguValue.run_ref m g)

theorem algebraic_dxnSgu : Cert.algebraic_DxnSguIdeal_DxnSguRefIdeal := fun m g m' g' _ hm =>
  ⟨_, Cert.DxnSguValue.run m g,
    (θ_run Cert.DxnSguRefIdeal.defs _ _).mono (fun _ h c => by
      have k := h c
      obtain ⟨h0, h1⟩ := hm c
      rw [h0, h1] at k
      exact ⟨k.1, (h c).2⟩) (Cert.DxnSguValue.run_ref m' g')⟩

/-- The two programs have the same kernel bodies. -/
theorem bodies_dxnGate : Cert.DxnGateIdeal.defs₀ (F := Bits) = Cert.DxnGate.defs₀ (F := Bits) :=
  congrArg Defs.onTc (funext fun l => funext fun a => match l, a with | 0, (_, _) => rfl)

theorem frame_dxnGate : Cert.quiescent_DxnGate := fun m g _ => by
  have h := Cert.DxnGateIdeal.Gen.frame (F := Bits) m g
  unfold Cert.DxnGateIdeal.defs at h
  rw [bodies_dxnGate] at h
  exact h

theorem frame_dxnGateIdeal : Cert.quiescent_DxnGateIdeal := fun m g _ => Cert.DxnGateIdeal.Gen.frame (F := Ideal) m g

theorem frame_dxnGateRefIdeal : Cert.quiescent_DxnGateRefIdeal := fun m g _ =>
  (θ_run Cert.DxnGateRefIdeal.defs _ _).mono (fun r h => ⟨fun c => (h c).2, sem_eq_zero_of_no_sems rfl r.2⟩) (Cert.DxnGateValue.run_ref m g)

theorem algebraic_dxnGate : Cert.algebraic_DxnGateIdeal_DxnGateRefIdeal := fun m g m' g' _ hm =>
  ⟨_, Cert.DxnGateValue.run m g,
    (θ_run Cert.DxnGateRefIdeal.defs _ _).mono (fun _ h c => by
      have k := h c
      obtain ⟨h0, h1, h2⟩ := hm c
      rw [h0, h1, h2] at k
      exact ⟨k.1, (h c).2⟩) (Cert.DxnGateValue.run_ref m' g')⟩

/-- The two programs have the same kernel bodies. -/
theorem bodies_dxnSsd : Cert.DxnSsdIdeal.defs₀ (F := Bits) = Cert.DxnSsd.defs₀ (F := Bits) :=
  congrArg Defs.onTc (funext fun l => funext fun a => match l, a with | 0, (_, _) => rfl)

theorem frame_dxnSsd : Cert.quiescent_DxnSsd := fun m g _ => by
  have h := Cert.DxnSsdIdeal.Gen.frame (F := Bits) m g
  unfold Cert.DxnSsdIdeal.defs at h
  rw [bodies_dxnSsd] at h
  exact h

theorem frame_dxnSsdIdeal : Cert.quiescent_DxnSsdIdeal := fun m g _ => Cert.DxnSsdIdeal.Gen.frame (F := Ideal) m g

theorem frame_dxnSsdRefIdeal : Cert.quiescent_DxnSsdRefIdeal := fun m g _ =>
  (θ_run Cert.DxnSsdRefIdeal.defs _ _).mono (fun r h => ⟨fun c => (h c).2, sem_eq_zero_of_no_sems rfl r.2⟩) (Cert.DxnSsdValue.run_ref m g)

theorem algebraic_dxnSsd : Cert.algebraic_DxnSsdIdeal_DxnSsdRefIdeal := fun m g m' g' _ hm =>
  ⟨_, Cert.DxnSsdValue.run m g,
    (θ_run Cert.DxnSsdRefIdeal.defs _ _).mono (fun _ h c => by
      have k := h c
      obtain ⟨h0, h1, h2⟩ := hm c
      rw [h0, h1, h2] at k
      exact ⟨k.1, (h c).2⟩) (Cert.DxnSsdValue.run_ref m' g')⟩

/-- The two programs have the same kernel bodies. -/
theorem bodies_dwSgu : Cert.DwSguIdeal.defs₀ (F := Bits) = Cert.DwSgu.defs₀ (F := Bits) :=
  congrArg Defs.onTc (funext fun l => funext fun a => match l, a with | 0, (_, _) => rfl)

theorem frame_dwSgu : Cert.quiescent_DwSgu := fun m g _ => by
  have h := Cert.DwSguIdeal.Gen.frame (F := Bits) m g
  unfold Cert.DwSguIdeal.defs at h
  rw [bodies_dwSgu] at h
  exact h

theorem frame_dwSguIdeal : Cert.quiescent_DwSguIdeal := fun m g _ => Cert.DwSguIdeal.Gen.frame (F := Ideal) m g

theorem frame_dwSguRefIdeal : Cert.quiescent_DwSguRefIdeal := fun m g _ =>
  (θ_run Cert.DwSguRefIdeal.defs _ _).mono (fun r h => ⟨fun c => (h c).2, sem_eq_zero_of_no_sems rfl r.2⟩) (Cert.DwSguValue.run_ref m g)

theorem algebraic_dwSgu : Cert.algebraic_DwSguIdeal_DwSguRefIdeal := fun m g m' g' _ hm =>
  ⟨_, Cert.DwSguValue.run m g,
    (θ_run Cert.DwSguRefIdeal.defs _ _).mono (fun _ h c => by
      have k := h c
      obtain ⟨h0, h1⟩ := hm c
      rw [h0, h1] at k
      exact ⟨k.1, (h c).2⟩) (Cert.DwSguValue.run_ref m' g')⟩

/-- The two programs have the same kernel bodies. -/
theorem bodies_dwGate : Cert.DwGateIdeal.defs₀ (F := Bits) = Cert.DwGate.defs₀ (F := Bits) :=
  congrArg Defs.onTc (funext fun l => funext fun a => match l, a with | 0, (_, _) => rfl)

theorem frame_dwGate : Cert.quiescent_DwGate := fun m g _ => by
  have h := Cert.DwGateIdeal.Gen.frame (F := Bits) m g
  unfold Cert.DwGateIdeal.defs at h
  rw [bodies_dwGate] at h
  exact h

theorem frame_dwGateIdeal : Cert.quiescent_DwGateIdeal := fun m g _ => Cert.DwGateIdeal.Gen.frame (F := Ideal) m g

theorem frame_dwGateRefIdeal : Cert.quiescent_DwGateRefIdeal := fun m g _ =>
  (θ_run Cert.DwGateRefIdeal.defs _ _).mono (fun r h => ⟨fun c => (h c).2, sem_eq_zero_of_no_sems rfl r.2⟩) (Cert.DwGateValue.run_ref m g)

theorem algebraic_dwGate : Cert.algebraic_DwGateIdeal_DwGateRefIdeal := fun m g m' g' _ hm =>
  ⟨_, Cert.DwGateValue.run m g,
    (θ_run Cert.DwGateRefIdeal.defs _ _).mono (fun _ h c => by
      have k := h c
      obtain ⟨h0, h1⟩ := hm c
      rw [h0, h1] at k
      exact ⟨k.1, (h c).2⟩) (Cert.DwGateValue.run_ref m' g')⟩

/-- The two programs have the same kernel bodies. -/
theorem bodies_dwSsd : Cert.DwSsdIdeal.defs₀ (F := Bits) = Cert.DwSsd.defs₀ (F := Bits) :=
  congrArg Defs.onTc (funext fun l => funext fun a => match l, a with | 0, (_, _) => rfl)

theorem frame_dwSsd : Cert.quiescent_DwSsd := fun m g _ => by
  have h := Cert.DwSsdIdeal.Gen.frame (F := Bits) m g
  unfold Cert.DwSsdIdeal.defs at h
  rw [bodies_dwSsd] at h
  exact h

theorem frame_dwSsdIdeal : Cert.quiescent_DwSsdIdeal := fun m g _ => Cert.DwSsdIdeal.Gen.frame (F := Ideal) m g

theorem frame_dwSsdRefIdeal : Cert.quiescent_DwSsdRefIdeal := fun m g _ =>
  (θ_run Cert.DwSsdRefIdeal.defs _ _).mono (fun r h => ⟨fun c => (h c).2, sem_eq_zero_of_no_sems rfl r.2⟩) (Cert.DwSsdValue.run_ref m g)

theorem algebraic_dwSsd : Cert.algebraic_DwSsdIdeal_DwSsdRefIdeal := fun m g m' g' _ hm =>
  ⟨_, Cert.DwSsdValue.run m g,
    (θ_run Cert.DwSsdRefIdeal.defs _ _).mono (fun _ h c => by
      have k := h c
      obtain ⟨h0, h1⟩ := hm c
      rw [h0, h1] at k
      exact ⟨k.1, (h c).2⟩) (Cert.DwSsdValue.run_ref m' g')⟩

/-- The two programs have the same kernel bodies. -/
theorem bodies_dwOut : Cert.DwOutIdeal.defs₀ (F := Bits) = Cert.DwOut.defs₀ (F := Bits) :=
  congrArg Defs.onTc (funext fun l => funext fun a => match l, a with | 0, (_, _) => rfl)

theorem frame_dwOut : Cert.quiescent_DwOut := fun m g _ => by
  have h := Cert.DwOutIdeal.Gen.frame (F := Bits) m g
  unfold Cert.DwOutIdeal.defs at h
  rw [bodies_dwOut] at h
  exact h

theorem frame_dwOutIdeal : Cert.quiescent_DwOutIdeal := fun m g _ => Cert.DwOutIdeal.Gen.frame (F := Ideal) m g

theorem frame_dwOutRefIdeal : Cert.quiescent_DwOutRefIdeal := fun m g _ =>
  (θ_run Cert.DwOutRefIdeal.defs _ _).mono (fun r h => ⟨fun c => (h c).2, sem_eq_zero_of_no_sems rfl r.2⟩) (Cert.DwOutValue.run_ref m g)

theorem algebraic_dwOut : Cert.algebraic_DwOutIdeal_DwOutRefIdeal := fun m g m' g' _ hm =>
  ⟨_, Cert.DwOutValue.run m g,
    (θ_run Cert.DwOutRefIdeal.defs _ _).mono (fun _ h c => by
      have k := h c
      obtain ⟨h0, h1⟩ := hm c
      rw [h0, h1] at k
      exact ⟨k.1, (h c).2⟩) (Cert.DwOutValue.run_ref m' g')⟩

/-- The two programs have the same kernel bodies. -/
theorem bodies_head : Cert.HeadIdeal.defs₀ (F := Bits) = Cert.Head.defs₀ (F := Bits) :=
  congrArg Defs.onTc (funext fun l => funext fun a => match l, a with | 0, (_, _) => rfl)

theorem frame_head : Cert.quiescent_Head := fun m g _ => by
  have h := Cert.HeadIdeal.Gen.frame (F := Bits) m g
  unfold Cert.HeadIdeal.defs at h
  rw [bodies_head] at h
  exact h

theorem frame_headIdeal : Cert.quiescent_HeadIdeal := fun m g _ => Cert.HeadIdeal.Gen.frame (F := Ideal) m g

theorem frame_headRefIdeal : Cert.quiescent_HeadRefIdeal := fun m g _ =>
  (θ_run Cert.HeadRefIdeal.defs _ _).mono (fun r h => ⟨fun c => (h c).2.2.2.2.2.2.2.2.2, sem_eq_zero_of_no_sems rfl r.2⟩) (Cert.HeadValue.run_ref m g)

theorem algebraic_head : Cert.algebraic_HeadIdeal_HeadRefIdeal := fun m g m' g' _ hm =>
  ⟨_, _, _, _, _, _, _, _, _, Cert.HeadValue.run m g,
    (θ_run Cert.HeadRefIdeal.defs _ _).mono (fun _ h c => by
      have k := h c
      obtain ⟨h0, h1, h2, h3, h4, h5, h6, h7⟩ := hm c
      rw [h0, h1, h2, h3, h4, h5, h6, h7] at k
      exact ⟨k.1, k.2.1, k.2.2.1, k.2.2.2.1, k.2.2.2.2.1, k.2.2.2.2.2.1, k.2.2.2.2.2.2.1, k.2.2.2.2.2.2.2.1, k.2.2.2.2.2.2.2.2.1, (h c).2.2.2.2.2.2.2.2.2⟩) (Cert.HeadValue.run_ref m' g')⟩

theorem bodies_sgu : Cert.SguIdeal.defs₀ (F := Bits) = Cert.Sgu.defs₀ (F := Bits) :=
  congrArg Defs.onTc (funext fun l => funext fun a => match l, a with | 0, (_, _) => rfl)

theorem frame_sgu : Cert.quiescent_Sgu := fun m g _ => by
  have h := Cert.SguIdeal.Gen.frame (F := Bits) m g
  unfold Cert.SguIdeal.defs at h
  rw [bodies_sgu] at h
  exact h

theorem frame_sguIdeal : Cert.quiescent_SguIdeal := fun m g _ => Cert.SguIdeal.Gen.frame (F := Ideal) m g

theorem frame_sguRefIdeal : Cert.quiescent_SguRefIdeal := fun m g _ =>
  (θ_run Cert.SguRefIdeal.defs _ _).mono (fun r h => ⟨fun c => (h c).2, sem_eq_zero_of_no_sems rfl r.2⟩) (Cert.SguValue.run_ref m g)

theorem algebraic_sgu : Cert.algebraic_SguIdeal_SguRefIdeal := fun m g m' g' _ hm =>
  ⟨_, Cert.SguValue.run m g,
    (θ_run Cert.SguRefIdeal.defs _ _).mono (fun _ h c => by
      have k := (h c).1
      obtain ⟨h0, h1, h2, h3, h4⟩ := hm c
      rw [h0, h1, h2, h3, h4] at k
      exact ⟨k, (h c).2⟩) (Cert.SguValue.run_ref m' g')⟩

theorem claim : Cert.Claim := ⟨Cert.Exchange.Gen.facts, Cert.ExchangeIdeal.Gen.facts, Cert.ExchangeRefIdeal.Gen.facts, Cert.ExchangeRef.Gen.facts,
  Cert.Gather.Gen.facts, Cert.GatherIdeal.Gen.facts, Cert.GatherRefIdeal.Gen.facts, Cert.GatherRef.Gen.facts,
  Cert.Small.Gen.facts, Cert.SmallIdeal.Gen.facts, Cert.SmallRefIdeal.Gen.facts, Cert.SmallRef.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.NormFwd.Gen.facts, Cert.NormFwdIdeal.Gen.facts, Cert.NormFwdRefIdeal.Gen.facts,
  Cert.NormBwd.Gen.facts, Cert.NormBwdIdeal.Gen.facts, Cert.NormBwdRefIdeal.Gen.facts,
  Cert.InProj.Gen.facts, Cert.InProjIdeal.Gen.facts, Cert.InProjRefIdeal.Gen.facts,
  Cert.DxnSgu.Gen.facts, Cert.DxnSguIdeal.Gen.facts, Cert.DxnSguRefIdeal.Gen.facts,
  Cert.DxnGate.Gen.facts, Cert.DxnGateIdeal.Gen.facts, Cert.DxnGateRefIdeal.Gen.facts,
  Cert.DxnSsd.Gen.facts, Cert.DxnSsdIdeal.Gen.facts, Cert.DxnSsdRefIdeal.Gen.facts,
  Cert.DwSgu.Gen.facts, Cert.DwSguIdeal.Gen.facts, Cert.DwSguRefIdeal.Gen.facts,
  Cert.DwGate.Gen.facts, Cert.DwGateIdeal.Gen.facts, Cert.DwGateRefIdeal.Gen.facts,
  Cert.DwSsd.Gen.facts, Cert.DwSsdIdeal.Gen.facts, Cert.DwSsdRefIdeal.Gen.facts,
  Cert.DwOut.Gen.facts, Cert.DwOutIdeal.Gen.facts, Cert.DwOutRefIdeal.Gen.facts,
  Cert.Head.Gen.facts, Cert.HeadIdeal.Gen.facts, Cert.HeadRefIdeal.Gen.facts,
  Cert.Sgu.Gen.facts, Cert.SguIdeal.Gen.facts, Cert.SguRefIdeal.Gen.facts,
  frame_exchange, frame_exchangeIdeal, frame_exchangeRefIdeal, frame_exchangeRef, frame_gather, frame_gatherIdeal, frame_gatherRefIdeal, frame_gatherRef,
  frame_small, frame_smallIdeal, frame_smallRefIdeal, frame_smallRef,
  frame_adamIn, frame_adamInIdeal, frame_adamInRefIdeal,
  frame_adamOut, frame_adamOutIdeal, frame_adamOutRefIdeal,
  frame_adamSmall, frame_adamSmallIdeal, frame_adamSmallRefIdeal,
  frame_normFwd, frame_normFwdIdeal, frame_normFwdRefIdeal,
  frame_normBwd, frame_normBwdIdeal, frame_normBwdRefIdeal,
  frame_inProj, frame_inProjIdeal, frame_inProjRefIdeal,
  frame_dxnSgu, frame_dxnSguIdeal, frame_dxnSguRefIdeal,
  frame_dxnGate, frame_dxnGateIdeal, frame_dxnGateRefIdeal,
  frame_dxnSsd, frame_dxnSsdIdeal, frame_dxnSsdRefIdeal,
  frame_dwSgu, frame_dwSguIdeal, frame_dwSguRefIdeal,
  frame_dwGate, frame_dwGateIdeal, frame_dwGateRefIdeal,
  frame_dwSsd, frame_dwSsdIdeal, frame_dwSsdRefIdeal,
  frame_dwOut, frame_dwOutIdeal, frame_dwOutRefIdeal,
  frame_head, frame_headIdeal, frame_headRefIdeal,
  frame_sgu, frame_sguIdeal, frame_sguRefIdeal,
  trivial, algebraic_exchange, bitexact_exchange, trivial, algebraic_gather, bitexact_gather, trivial, algebraic_small, bitexact_small,
  trivial, algebraic_adamIn, trivial, algebraic_adamOut, trivial, algebraic_adamSmall,
  trivial, algebraic_normFwd, trivial, algebraic_normBwd, trivial, algebraic_inProj, trivial, algebraic_dxnSgu,
  trivial, algebraic_dxnGate, trivial, algebraic_dxnSsd, trivial, algebraic_dwSgu, trivial, algebraic_dwGate,
  trivial, algebraic_dwSsd, trivial, algebraic_dwOut,
  trivial, algebraic_head, trivial, algebraic_sgu⟩

end Cert.Proof

end
